-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ffn0 [hPre_finite_ffn0 : Cert.Pre_finite_ffn0.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ffn0.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ffn0 [hPre_finite_ffn0 : Cert.Pre_finite_ffn0.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ffn0.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_ffn0 [hKernel4Ideal : Cert.Kernel4Ideal.Facts] [hPre_finite_ffn0 : Cert.Pre_finite_ffn0.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ffn0 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_ffn0 [hReference4Ideal : Cert.Reference4Ideal.Facts] [hPre_finite_ffn0 : Cert.Pre_finite_ffn0.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ffn0 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "inv96" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v151_0)) (v1 : (c : Dev Cert.Kernel3Ideal.nD) → Buf (Elt Ideal) ((c.tc : Thread Cert.Kernel3Ideal.nD Cert.Kernel3Ideal.τ).loc Cert.Kernel3Ideal.main_v151_1)) (v2 : (c : Dev Cert.Kernel3Ideal.nD) → Buf (Elt Ideal) ((c.tc : Thread Cert.Kernel3Ideal.nD Cert.Kernel3Ideal.τ).loc Cert.Kernel3Ideal.main_v151_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v151_0) = v0 c
          ∧ r.2.mem ((c.tc : Thread Cert.Kernel3Ideal.nD Cert.Kernel3Ideal.τ).loc Cert.Kernel3Ideal.main_v151_1) = v1 c
          ∧ r.2.mem ((c.tc : Thread Cert.Kernel3Ideal.nD Cert.Kernel3Ideal.τ).loc Cert.Kernel3Ideal.main_v151_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v176) = v0 c
          ∧ r.2.mem ((c.tc : Thread Cert.Reference3Ideal.nD Cert.Reference3Ideal.τ).loc Cert.Reference3Ideal.main_v178) = v1 c
          ∧ r.2.mem ((c.tc : Thread Cert.Reference3Ideal.nD Cert.Reference3Ideal.τ).loc Cert.Reference3Ideal.main_v180) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_ffn0 [hKernel4Ideal : Cert.Kernel4Ideal.Facts] [hReference4Ideal : Cert.Reference4Ideal.Facts] [hPre_finite_ffn0 : Cert.Pre_finite_ffn0.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ffn0 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite_ffn : Cert.Pre_finite_ffn.Facts) (hPre_finite_ffn0 : Cert.Pre_finite_ffn0.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_ffn0 (hKernel4Ideal := hKernel4Ideal) (hPre_finite_ffn0 := hPre_finite_ffn0)
    ∧ quiescent_Reference4Ideal (hReference4Ideal := hReference4Ideal)
    ∧ quiescent_Reference4Ideal_pre_finite_ffn0 (hReference4Ideal := hReference4Ideal) (hPre_finite_ffn0 := hPre_finite_ffn0)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_ffn0 (hKernel4Ideal := hKernel4Ideal) (hReference4Ideal := hReference4Ideal) (hPre_finite_ffn0 := hPre_finite_ffn0)
-- ==== Pre_finite_ffn.lean ====
abbrev S16x2048x1024 : Shape := ⟨3, ![16, 2048, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x5632_S1x1024x2816_1_0_0 : S2x1024x5632.Slices ![1, 0, 0] S1x1024x2816
  shapeCasts_S1x1024x2816_S1024x2816 : S1x1024x2816.ShapeCasts S1024x2816
  bcast_S_S1024x2816 : S_.BroadcastsInDim S1024x2816 (![] : Fin 0 → Fin S1024x2816.rank)
  reducesTo_S1024x2816_S_d0_1 : S1024x2816.ReducesTo [0, 1] S_
  slices_S2x3x5632_S1x3x2816_1_0_0 : S2x3x5632.Slices ![1, 0, 0] S1x3x2816
  shapeCasts_S1x3x2816_S3x2816 : S1x3x2816.ShapeCasts S3x2816
  bcast_S_S3x2816 : S_.BroadcastsInDim S3x2816 (![] : Fin 0 → Fin S3x2816.rank)
  reducesTo_S3x2816_S_d0_1 : S3x2816.ReducesTo [0, 1] S_
  slices_S2x5632_S1x2816_1_0 : S2x5632.Slices ![1, 0] S1x2816
  shapeCasts_S1x2816_S2816 : S1x2816.ShapeCasts S2816
  bcast_S_S2816 : S_.BroadcastsInDim S2816 (![] : Fin 0 → Fin S2816.rank)
  reducesTo_S2816_S_d0 : S2816.ReducesTo [0] S_

variable [Facts]

def fn_part1 {F : FTy → Type} [FloatOps F] (main_arg6 : FVec F S2x5632 .f32) (main_v12 : IVec S_ 1) (main_v17 : IVec S3x2816 1) (main_c_3 : IVec S_ 1) : IVec S_ 1 :=
  let main_v18 : IVec S_ 1 := (fun x v => Host.reduce IntOp.andi x v reducesTo_S3x2816_S_d0_1 h_S_) main_v17 main_c_3
  let main_v19 : IVec S_ 1 := andi main_v12 main_v18
  let main_v20 : FVec F S1x2816 .f32 := (extractStridedSlice S1x2816 ![1, 0] · slices_S2x5632_S1x2816_1_0) main_arg6
  let main_v21 : FVec F S2816 .f32 := shapeCast S2816 main_v20 shapeCasts_S1x2816_S2816
  let main_v22 : FVec F S2816 .f32 := Host.absf main_v21
  let main_cst_4 : FVec F S_ .f32 := constant S_ .f32 0x7F800000#32
  let main_v23 : FVec F S2816 .f32 := broadcastInDim S2816 ![] bcast_S_S2816 main_cst_4
  let main_v24 : IVec S2816 1 := cmpf .olt main_v22 main_v23
  let main_c_5 : IVec S_ 1 := constantI S_ 1 1#1
  let main_v25 : IVec S_ 1 := (fun x v => Host.reduce IntOp.andi x v reducesTo_S2816_S_d0 h_S_) main_v24 main_c_5
  let main_v26 : IVec S_ 1 := andi main_v19 main_v25
  main_v26

def fn {F : FTy → Type} [FloatOps F] (main_arg0 : FVec F S16x2048x1024 .f32) (main_arg1 : FVec F S16x2048x1024 .f32) (main_arg2 : FVec F S2x1024 .f32) (main_arg3 : FVec F S1x1024x1024 .f32) (main_arg4 : FVec F S2x1024x5632 .f32) (main_arg5 : FVec F S2x3x5632 .f32) (main_arg6 : FVec F S2x5632 .f32) (main_arg7 : FVec F S2x2816x1024 .f32) : IVec S_ 1 :=
  let main_v0 : FVec F S1x1024 .f32 := (extractStridedSlice S1x1024 ![1, 0] · slices_S2x1024_S1x1024_1_0) main_arg2
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x2816 .f32 := (extractStridedSlice S1x1024x2816 ![1, 0, 0] · slices_S2x1024x5632_S1x1024x2816_1_0_0) main_arg4
  let main_v7 : FVec F S1024x2816 .f32 := shapeCast S1024x2816 main_v6 shapeCasts_S1x1024x2816_S1024x2816
  let main_v8 : FVec F S1024x2816 .f32 := Host.absf main_v7
  let main_cst_0 : FVec F S_ .f32 := constant S_ .f32 0x7F800000#32
  let main_v9 : FVec F S1024x2816 .f32 := broadcastInDim S1024x2816 ![] bcast_S_S1024x2816 main_cst_0
  let main_v10 : IVec S1024x2816 1 := cmpf .olt main_v8 main_v9
  let main_c_1 : IVec S_ 1 := constantI S_ 1 1#1
  let main_v11 : IVec S_ 1 := (fun x v => Host.reduce IntOp.andi x v reducesTo_S1024x2816_S_d0_1 h_S_) main_v10 main_c_1
  let main_v12 : IVec S_ 1 := andi main_v5 main_v11
  let main_v13 : FVec F S1x3x2816 .f32 := (extractStridedSlice S1x3x2816 ![1, 0, 0] · slices_S2x3x5632_S1x3x2816_1_0_0) main_arg5
  let main_v14 : FVec F S3x2816 .f32 := shapeCast S3x2816 main_v13 shapeCasts_S1x3x2816_S3x2816
  let main_v15 : FVec F S3x2816 .f32 := Host.absf main_v14
  let main_cst_2 : FVec F S_ .f32 := constant S_ .f32 0x7F800000#32
  let main_v16 : FVec F S3x2816 .f32 := broadcastInDim S3x2816 ![] bcast_S_S3x2816 main_cst_2
  let main_v17 : IVec S3x2816 1 := cmpf .olt main_v15 main_v16
  let main_c_3 : IVec S_ 1 := constantI S_ 1 1#1
  fn_part1 (F := F) main_arg6 main_v12 main_v17 main_c_3
-- ==== Pre_finite_ffn0.lean ====
abbrev S16x2048x512 : Shape := ⟨3, ![16, 2048, 512]⟩
abbrev S16x2048x1024 : Shape := ⟨3, ![16, 2048, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x5632_S1x1024x2816_0_0_0 : S2x1024x5632.Slices ![0, 0, 0] S1x1024x2816
  shapeCasts_S1x1024x2816_S1024x2816 : S1x1024x2816.ShapeCasts S1024x2816
  bcast_S_S1024x2816 : S_.BroadcastsInDim S1024x2816 (![] : Fin 0 → Fin S1024x2816.rank)
  reducesTo_S1024x2816_S_d0_1 : S1024x2816.ReducesTo [0, 1] S_
  slices_S2x3x5632_S1x3x2816_0_0_0 : S2x3x5632.Slices ![0, 0, 0] S1x3x2816
  shapeCasts_S1x3x2816_S3x2816 : S1x3x2816.ShapeCasts S3x2816
  bcast_S_S3x2816 : S_.BroadcastsInDim S3x2816 (![] : Fin 0 → Fin S3x2816.rank)
  reducesTo_S3x2816_S_d0_1 : S3x2816.ReducesTo [0, 1] S_
  slices_S2x5632_S1x2816_0_0 : S2x5632.Slices ![0, 0] S1x2816
  shapeCasts_S1x2816_S2816 : S1x2816.ShapeCasts S2816
  bcast_S_S2816 : S_.BroadcastsInDim S2816 (![] : Fin 0 → Fin S2816.rank)
  reducesTo_S2816_S_d0 : S2816.ReducesTo [0] S_

variable [Facts]

def fn_part1 {F : FTy → Type} [FloatOps F] (main_arg7 : FVec F S2x5632 .f32) (main_v12 : IVec S_ 1) (main_v17 : IVec S3x2816 1) (main_c_3 : IVec S_ 1) : IVec S_ 1 :=
  let main_v18 : IVec S_ 1 := (fun x v => Host.reduce IntOp.andi x v reducesTo_S3x2816_S_d0_1 h_S_) main_v17 main_c_3
  let main_v19 : IVec S_ 1 := andi main_v12 main_v18
  let main_v20 : FVec F S1x2816 .f32 := (extractStridedSlice S1x2816 ![0, 0] · slices_S2x5632_S1x2816_0_0) main_arg7
  let main_v21 : FVec F S2816 .f32 := shapeCast S2816 main_v20 shapeCasts_S1x2816_S2816
  let main_v22 : FVec F S2816 .f32 := Host.absf main_v21
  let main_cst_4 : FVec F S_ .f32 := constant S_ .f32 0x7F800000#32
  let main_v23 : FVec F S2816 .f32 := broadcastInDim S2816 ![] bcast_S_S2816 main_cst_4
  let main_v24 : IVec S2816 1 := cmpf .olt main_v22 main_v23
  let main_c_5 : IVec S_ 1 := constantI S_ 1 1#1
  let main_v25 : IVec S_ 1 := (fun x v => Host.reduce IntOp.andi x v reducesTo_S2816_S_d0 h_S_) main_v24 main_c_5
  let main_v26 : IVec S_ 1 := andi main_v19 main_v25
  main_v26

def fn {F : FTy → Type} [FloatOps F] (main_arg0 : FVec F S16x2048x512 .f32) (main_arg1 : FVec F S16x2048x512 .f32) (main_arg2 : FVec F S16x2048x1024 .f32) (main_arg3 : FVec F S2x1024 .f32) (main_arg4 : FVec F S1x1024x1024 .f32) (main_arg5 : FVec F S2x1024x5632 .f32) (main_arg6 : FVec F S2x3x5632 .f32) (main_arg7 : FVec F S2x5632 .f32) (main_arg8 : FVec F S2x2816x1024 .f32) : IVec S_ 1 :=
  let main_v0 : FVec F S1x1024 .f32 := (extractStridedSlice S1x1024 ![0, 0] · slices_S2x1024_S1x1024_0_0) main_arg3
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x2816 .f32 := (extractStridedSlice S1x1024x2816 ![0, 0, 0] · slices_S2x1024x5632_S1x1024x2816_0_0_0) main_arg5
  let main_v7 : FVec F S1024x2816 .f32 := shapeCast S1024x2816 main_v6 shapeCasts_S1x1024x2816_S1024x2816
  let main_v8 : FVec F S1024x2816 .f32 := Host.absf main_v7
  let main_cst_0 : FVec F S_ .f32 := constant S_ .f32 0x7F800000#32
  let main_v9 : FVec F S1024x2816 .f32 := broadcastInDim S1024x2816 ![] bcast_S_S1024x2816 main_cst_0
  let main_v10 : IVec S1024x2816 1 := cmpf .olt main_v8 main_v9
  let main_c_1 : IVec S_ 1 := constantI S_ 1 1#1
  let main_v11 : IVec S_ 1 := (fun x v => Host.reduce IntOp.andi x v reducesTo_S1024x2816_S_d0_1 h_S_) main_v10 main_c_1
  let main_v12 : IVec S_ 1 := andi main_v5 main_v11
  let main_v13 : FVec F S1x3x2816 .f32 := (extractStridedSlice S1x3x2816 ![0, 0, 0] · slices_S2x3x5632_S1x3x2816_0_0_0) main_arg6
  let main_v14 : FVec F S3x2816 .f32 := shapeCast S3x2816 main_v13 shapeCasts_S1x3x2816_S3x2816
  let main_v15 : FVec F S3x2816 .f32 := Host.absf main_v14
  let main_cst_2 : FVec F S_ .f32 := constant S_ .f32 0x7F800000#32
  let main_v16 : FVec F S3x2816 .f32 := broadcastInDim S3x2816 ![] bcast_S_S3x2816 main_cst_2
  let main_v17 : IVec S3x2816 1 := cmpf .olt main_v15 main_v16
  let main_c_3 : IVec S_ 1 := constantI S_ 1 1#1
  fn_part1 (F := F) main_arg7 main_v12 main_v17 main_c_3
-- ==== Pre_finite_qk.lean ====
abbrev S16x2048x16x96 : Shape := ⟨4, ![16, 2048, 16, 96]⟩
abbrev S16x2048x16x64 : Shape := ⟨4, ![16, 2048, 16, 64]⟩
abbrev S_ : Shape := ⟨0, ![]⟩

class Facts : Prop where
  bcast_S_S16x2048x16x96 : S_.BroadcastsInDim S16x2048x16x96 (![] : Fin 0 → Fin S16x2048x16x96.rank)
  reducesTo_S16x2048x16x96_S_d0_1_2_3 : S16x2048x16x96.ReducesTo [0, 1, 2, 3] S_
  h_S_ : 0 < S_.numel

variable [Facts]

def fn {F : FTy → Type} [FloatOps F] (main_arg0 : FVec F S16x2048x16x96 .f32) (main_arg1 : FVec F S16x2048x16x96 .f32) (main_arg2 : FVec F S16x2048x16x64 .f32) : IVec S_ 1 :=
  let main_v0 : FVec F S16x2048x16x96 .f32 := Host.absf main_arg0
  let main_cst : FVec F S_ .f32 := constant S_ .f32 0x7F800000#32
  let main_v1 : FVec F S16x2048x16x96 .f32 := broadcastInDim S16x2048x16x96 ![] bcast_S_S16x2048x16x96 main_cst
  let main_v2 : IVec S16x2048x16x96 1 := cmpf .olt main_v0 main_v1
  let main_c : IVec S_ 1 := constantI S_ 1 1#1
  let main_v3 : IVec S_ 1 := (fun x v => Host.reduce IntOp.andi x v reducesTo_S16x2048x16x96_S_d0_1_2_3 h_S_) main_v2 main_c
  let main_v4 : FVec F S16x2048x16x96 .f32 := Host.absf main_arg1
  let main_cst_0 : FVec F S_ .f32 := constant S_ .f32 0x7F800000#32
  let main_v5 : FVec F S16x2048x16x96 .f32 := broadcastInDim S16x2048x16x96 ![] bcast_S_S16x2048x16x96 main_cst_0
  let main_v6 : IVec S16x2048x16x96 1 := cmpf .olt main_v4 main_v5
  let main_c_1 : IVec S_ 1 := constantI S_ 1 1#1
  let main_v7 : IVec S_ 1 := (fun x v => Host.reduce IntOp.andi x v reducesTo_S16x2048x16x96_S_d0_1_2_3 h_S_) main_v6 main_c_1
  let main_v8 : IVec S_ 1 := andi main_v3 main_v7
  main_v8
-- ==== Kernel.lean ====
abbrev S16x2048x16x96 : Shape := ⟨4, ![16, 2048, 16, 96]⟩
abbrev S16x2048x16x64 : Shape := ⟨4, ![16, 2048, 16, 64]⟩
abbrev S_ : Shape := ⟨0, ![]⟩
abbrev S16x2048x16x16 : Shape := ⟨4, ![16, 2048, 16, 16]⟩
abbrev S16x2048x16x48 : Shape := ⟨4, ![16, 2048, 16, 48]⟩
abbrev S16x2048x16x32 : Shape := ⟨4, ![16, 2048, 16, 32]⟩
abbrev S16x2048x16x128 : Shape := ⟨4, ![16, 2048, 16, 128]⟩
abbrev S32768x2048 : Shape := ⟨2, ![32768, 2048]⟩
abbrev S2048x32768 : Shape := ⟨2, ![2048, 32768]⟩
abbrev S16x2048x2048 : Shape := ⟨3, ![16, 2048, 2048]⟩
abbrev S16x2048x1024 : Shape := ⟨3, ![16, 2048, 1024]⟩
abbrev S256x2048 : Shape := ⟨2, ![256, 2048]⟩
abbrev S1x2048x256 : Shape := ⟨3, ![1, 2048, 256]⟩
abbrev S1x2048x128 : Shape := ⟨3, ![1, 2048, 128]⟩
abbrev S128x2048 : Shape := ⟨2, ![128, 2048]⟩
abbrev S5x2048x256 : Shape := ⟨3, ![5, 2048, 256]⟩
abbrev S256x256 : Shape := ⟨2, ![256, 256]⟩
abbrev S2048x128 : Shape := ⟨2, ![2048, 128]⟩
abbrev S128x256 : Shape := ⟨2, ![128, 256]⟩
abbrev S2048x256 : Shape := ⟨2, ![2048, 256]⟩
abbrev S1x1792x128 : Shape := ⟨3, ![1, 1792, 128]⟩
abbrev S1792x128 : Shape := ⟨2, ![1792, 128]⟩
abbrev S1792x256 : Shape := ⟨2, ![1792, 256]⟩
abbrev S16x8x256 : Shape := ⟨3, ![16, 8, 256]⟩
abbrev S8x256 : Shape := ⟨2, ![8, 256]⟩
abbrev S256 : Shape := ⟨1, ![256]⟩
abbrev S1x256 : Shape := ⟨2, ![1, 256]⟩
abbrev S1x128x256 : Shape := ⟨3, ![1, 128, 256]⟩
abbrev S1x1536x128 : Shape := ⟨3, ![1, 1536, 128]⟩
abbrev S1536x128 : Shape := ⟨2, ![1536, 128]⟩
abbrev S1536x256 : Shape := ⟨2, ![1536, 256]⟩
abbrev S64x2048 : Shape := ⟨2, ![64, 2048]⟩
abbrev S64x256 : Shape := ⟨2, ![64, 256]⟩
abbrev S256x128 : Shape := ⟨2, ![256, 128]⟩
abbrev S1x256x128 : Shape := ⟨3, ![1, 256, 128]⟩
abbrev S1x1280x128 : Shape := ⟨3, ![1, 1280, 128]⟩
abbrev S1280x128 : Shape := ⟨2, ![1280, 128]⟩
abbrev S1280x256 : Shape := ⟨2, ![1280, 256]⟩
abbrev S64x1792 : Shape := ⟨2, ![64, 1792]⟩
abbrev S1x1792x256 : Shape := ⟨3, ![1, 1792, 256]⟩
abbrev S1x1024x128 : Shape := ⟨3, ![1, 1024, 128]⟩
abbrev S1024x128 : Shape := ⟨2, ![1024, 128]⟩
abbrev S1024x256 : Shape := ⟨2, ![1024, 256]⟩
abbrev S64x1536 : Shape := ⟨2, ![64, 1536]⟩
abbrev S1x1536x256 : Shape := ⟨3, ![1, 1536, 256]⟩
abbrev S1x768x128 : Shape := ⟨3, ![1, 768, 128]⟩
abbrev S768x128 : Shape := ⟨2, ![768, 128]⟩
abbrev S768x256 : Shape := ⟨2, ![768, 256]⟩
abbrev S64x1280 : Shape := ⟨2, ![64, 1280]⟩
abbrev S1x1280x256 : Shape := ⟨3, ![1, 1280, 256]⟩
abbrev S1x512x128 : Shape := ⟨3, ![1, 512, 128]⟩
abbrev S512x128 : Shape := ⟨2, ![512, 128]⟩
abbrev S512x256 : Shape := ⟨2, ![512, 256]⟩
abbrev S64x1024 : Shape := ⟨2, ![64, 1024]⟩
abbrev S1x1024x256 : Shape := ⟨3, ![1, 1024, 256]⟩
abbrev S64x768 : Shape := ⟨2, ![64, 768]⟩
abbrev S1x768x256 : Shape := ⟨3, ![1, 768, 256]⟩
abbrev S64x512 : Shape := ⟨2, ![64, 512]⟩
abbrev S1x512x256 : Shape := ⟨3, ![1, 512, 256]⟩
abbrev S1x256x256 : Shape := ⟨3, ![1, 256, 256]⟩

abbrev nBuf : Space → Nat
  | .hbm => 34
  | .vmem => 11
  | .smem => 0
  | _ => 0

abbrev bufTy : (tb : Table) → Fin (tcTables nBuf tb) → BufTy
  | .hbm, ⟨0, _⟩ => ⟨S16x2048x16x96, .f32⟩
  | .hbm, ⟨1, _⟩ => ⟨S16x2048x16x96, .f32⟩
  | .hbm, ⟨2, _⟩ => ⟨S16x2048x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x16x96, .f32⟩
  | .hbm, ⟨11, _⟩ => ⟨S16x2048x16x96, .f32⟩
  | .hbm, ⟨12, _⟩ => ⟨S16x2048x16x16, .f32⟩
  | .hbm, ⟨13, _⟩ => ⟨S16x2048x16x48, .f32⟩
  | .hbm, ⟨14, _⟩ => ⟨S16x2048x16x16, .f32⟩
  | .hbm, ⟨15, _⟩ => ⟨S16x2048x16x16, .f32⟩
  | .hbm, ⟨16, _⟩ => ⟨S_, .f32⟩
  | .hbm, ⟨17, _⟩ => ⟨S16x2048x16x32, .f32⟩
  | .hbm, ⟨18, _⟩ => ⟨S16x2048x16x128, .f32⟩
  | .hbm, ⟨19, _⟩ => ⟨S32768x2048, .f32⟩
  | .hbm, ⟨20, _⟩ => ⟨S2048x32768, .f32⟩
  | .hbm, ⟨21, _⟩ => ⟨S2048x32768, .bf16⟩
  | .hbm, ⟨22, _⟩ => ⟨S16x2048x16x16, .f32⟩
  | .hbm, ⟨23, _⟩ => ⟨S16x2048x16x48, .f32⟩
  | .hbm, ⟨24, _⟩ => ⟨S16x2048x16x16, .f32⟩
  | .hbm, ⟨25, _⟩ => ⟨S16x2048x16x16, .f32⟩
  | .hbm, ⟨26, _⟩ => ⟨S_, .f32⟩
  | .hbm, ⟨27, _⟩ => ⟨S16x2048x16x32, .f32⟩
  | .hbm, ⟨28, _⟩ => ⟨S16x2048x16x128, .f32⟩
  | .hbm, ⟨29, _⟩ => ⟨S16x2048x2048, .f32⟩
  | .hbm, ⟨30, _⟩ => ⟨S16x2048x2048, .bf16⟩
  | .hbm, ⟨31, _⟩ => ⟨S16x2048x1024, .f32⟩
  | .hbm, ⟨32, _⟩ => ⟨S16x2048x1024, .bf16⟩
  | .hbm, ⟨33, _⟩ => ⟨S16x2048x1024, .bf16⟩
  | .local _ .vmem, ⟨0, _⟩ => ⟨S256x2048, .bf16⟩
  | .local _ .vmem, ⟨1, _⟩ => ⟨S256x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S128x2048, .bf16⟩
  | .local _ .vmem, ⟨9, _⟩ => ⟨S5x2048x256, .f32⟩
  | .local _ .vmem, ⟨10, _⟩ => ⟨S5x2048x256, .bf16⟩
  | _, _ => ⟨S16x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x16x96 : Shape := ⟨4, ![16, 2048, 16, 96]⟩
abbrev S16x2048x16x64 : Shape := ⟨4, ![16, 2048, 16, 64]⟩
abbrev S16x16x2048x2048 : Shape := ⟨4, ![16, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048x1024 : Shape := ⟨3, ![16, 2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x16x96, .f32⟩
  | .hbm, ⟨1, _⟩ => ⟨S16x2048x16x96, .f32⟩
  | .hbm, ⟨2, _⟩ => ⟨S16x2048x16x64, .f32⟩
  | .hbm, ⟨3, _⟩ => ⟨S16x16x2048x2048, .f32⟩
  | .hbm, ⟨4, _⟩ => ⟨S_, .f32⟩
  | .hbm, ⟨5, _⟩ => ⟨S_, .f32⟩
  | .hbm, ⟨6, _⟩ => ⟨S16x16x2048x2048, .f32⟩
  | .hbm, ⟨7, _⟩ => ⟨S16x16x2048x2048, .f32⟩
  | .hbm, ⟨8, _⟩ => ⟨S2048, .i32⟩
  | .hbm, ⟨9, _⟩ => ⟨S1x2048, .i32⟩
  | .hbm, ⟨10, _⟩ => ⟨S2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S16x16x2048x2048, .i1⟩
  | .hbm, ⟨18, _⟩ => ⟨S16x16x2048x2048, .f32⟩
  | .hbm, ⟨19, _⟩ => ⟨S16x16x2048x2048, .f32⟩
  | .hbm, ⟨20, _⟩ => ⟨S_, .f32⟩
  | .hbm, ⟨21, _⟩ => ⟨S16x16x2048, .f32⟩
  | .hbm, ⟨22, _⟩ => ⟨S_, .f32⟩
  | .hbm, ⟨23, _⟩ => ⟨S16x16x2048, .f32⟩
  | .hbm, ⟨24, _⟩ => ⟨S16x16x2048, .f32⟩
  | .hbm, ⟨25, _⟩ => ⟨S16x16x2048x1, .f32⟩
  | .hbm, ⟨26, _⟩ => ⟨S16x16x2048x2048, .f32⟩
  | .hbm, ⟨27, _⟩ => ⟨S16x16x2048x2048, .f32⟩
  | .hbm, ⟨28, _⟩ => ⟨S16x16x2048x2048, .f32⟩
  | .hbm, ⟨29, _⟩ => ⟨S_, .f32⟩
  | .hbm, ⟨30, _⟩ => ⟨S16x16x2048, .f32⟩
  | .hbm, ⟨31, _⟩ => ⟨S16x16x2048x1, .f32⟩
  | .hbm, ⟨32, _⟩ => ⟨S16x16x2048x2048, .f32⟩
  | .hbm, ⟨33, _⟩ => ⟨S16x16x2048x2048, .f32⟩
  | .hbm, ⟨34, _⟩ => ⟨S16x16x64x2048, .f32⟩
  | .hbm, ⟨35, _⟩ => ⟨S16x2048x16x64, .f32⟩
  | .hbm, ⟨36, _⟩ => ⟨S16x2048x1024, .f32⟩
  | .hbm, ⟨37, _⟩ => ⟨S16x2048x1024, .bf16⟩
  | _, _ => ⟨S16x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x1024 : Shape := ⟨3, ![2, 1, 1024]⟩
abbrev S2x1x5632 : Shape := ⟨3, ![2, 1, 5632]⟩
abbrev S32768x1024 : Shape := ⟨2, ![32768, 1024]⟩
abbrev S1024x1024 : Shape := ⟨2, ![1024, 1024]⟩
abbrev S512x512 : Shape := ⟨2, ![512, 512]⟩
abbrev S512x1024 : Shape := ⟨2, ![512, 1024]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S8x5632 : Shape := ⟨2, ![8, 5632]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S504x256 : Shape := ⟨2, ![504, 256]⟩
abbrev S2816x1024 : Shape := ⟨2, ![2816, 1024]⟩

abbrev nBuf : Space → Nat
  | .hbm => 18
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x1024, .f32⟩
  | .hbm, ⟨3, _⟩ => ⟨S1x1024x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1x1024, .f32⟩
  | .hbm, ⟨9, _⟩ => ⟨S2x1024x5632, .bf16⟩
  | .hbm, ⟨10, _⟩ => ⟨S2x1x5632, .f32⟩
  | .hbm, ⟨11, _⟩ => ⟨S2x2816x1024, .bf16⟩
  | .hbm, ⟨12, _⟩ => ⟨S32768x1024, .f32⟩
  | .hbm, ⟨13, _⟩ => ⟨S32768x1024, .bf16⟩
  | .hbm, ⟨14, _⟩ => ⟨S32768x1024, .f32⟩
  | .hbm, ⟨15, _⟩ => ⟨S1024x1024, .f32⟩
  | .hbm, ⟨16, _⟩ => ⟨S1024x1024, .bf16⟩
  | .hbm, ⟨17, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S1x1x5632, .f32⟩
  | .local _ .vmem, ⟨11, _⟩ => ⟨S1x2816x1024, .bf16⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | .local _ .vmem, ⟨15, _⟩ => ⟨S8x5632, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2048x1024 : Shape := ⟨3, ![16, 2048, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S16x2050x5632 : Shape := ⟨3, ![16, 2050, 5632]⟩
abbrev S1x1x5632 : Shape := ⟨3, ![1, 1, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S2x1024, .f32⟩
  | .hbm, ⟨3, _⟩ => ⟨S1x1024x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S1024x1024, .f32⟩
  | .hbm, ⟨9, _⟩ => ⟨S16x2048x1024, .f32⟩
  | .hbm, ⟨10, _⟩ => ⟨S16x2048x1024, .f32⟩
  | .hbm, ⟨11, _⟩ => ⟨S1x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S1x1024x5632, .f32⟩
  | .hbm, ⟨30, _⟩ => ⟨S1024x5632, .f32⟩
  | .hbm, ⟨31, _⟩ => ⟨S16x2048x5632, .f32⟩
  | .hbm, ⟨32, _⟩ => ⟨S1x3x5632, .f32⟩
  | .hbm, ⟨33, _⟩ => ⟨S3x5632, .f32⟩
  | .hbm, ⟨34, _⟩ => ⟨S1x5632, .f32⟩
  | .hbm, ⟨35, _⟩ => ⟨S5632, .f32⟩
  | .hbm, ⟨36, _⟩ => ⟨S_, .i32⟩
  | .hbm, ⟨37, _⟩ => ⟨S_, .f32⟩
  | .hbm, ⟨38, _⟩ => ⟨S16x2050x5632, .f32⟩
  | .hbm, ⟨39, _⟩ => ⟨S16x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S16x2048x5632, .f32⟩
  | .hbm, ⟨44, _⟩ => ⟨S16x2048x5632, .f32⟩
  | .hbm, ⟨45, _⟩ => ⟨S1x1x5632, .f32⟩
  | .hbm, ⟨46, _⟩ => ⟨S16x2048x5632, .f32⟩
  | .hbm, ⟨47, _⟩ => ⟨S16x2048x5632, .f32⟩
  | .hbm, ⟨48, _⟩ => ⟨S16x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S16x2048x5632, .f32⟩
  | .hbm, ⟨53, _⟩ => ⟨S16x2048x5632, .f32⟩
  | .hbm, ⟨54, _⟩ => ⟨S16x2048x5632, .f32⟩
  | .hbm, ⟨55, _⟩ => ⟨S16x2048x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S16x2048x5632, .f32⟩
  | .hbm, ⟨60, _⟩ => ⟨S16x2048x5632, .f32⟩
  | .hbm, ⟨61, _⟩ => ⟨S16x2048x5632, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S1x2816x1024, .f32⟩
  | .hbm, ⟨75, _⟩ => ⟨S2816x1024, .f32⟩
  | .hbm, ⟨76, _⟩ => ⟨S16x2048x1024, .f32⟩
  | .hbm, ⟨77, _⟩ => ⟨S16x2048x1024, .f32⟩
  | .hbm, ⟨78, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x1024 : Shape := ⟨2, ![2, 1024]⟩
abbrev S1x1024x800 : Shape := ⟨3, ![1, 1024, 800]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S1x96 : Shape := ⟨2, ![1, 96]⟩
abbrev S32768x1024 : Shape := ⟨2, ![32768, 1024]⟩
abbrev S1024x800 : Shape := ⟨2, ![1024, 800]⟩
abbrev S1024x768 : Shape := ⟨2, ![1024, 768]⟩
abbrev S1024x32 : Shape := ⟨2, ![1024, 32]⟩
abbrev S1024x16 : Shape := ⟨2, ![1024, 16]⟩
abbrev S_ : Shape := ⟨0, ![]⟩
abbrev S1024x48 : Shape := ⟨2, ![1024, 48]⟩
abbrev S1024x128 : Shape := ⟨2, ![1024, 128]⟩
abbrev S1024x896 : Shape := ⟨2, ![1024, 896]⟩
abbrev S512x1536 : Shape := ⟨2, ![512, 1536]⟩
abbrev S512x16x96 : Shape := ⟨3, ![512, 16, 96]⟩
abbrev S512x16x16 : Shape := ⟨3, ![512, 16, 16]⟩
abbrev S512x16x48 : Shape := ⟨3, ![512, 16, 48]⟩
abbrev S512x16x32 : Shape := ⟨3, ![512, 16, 32]⟩
abbrev S512x16x128 : Shape := ⟨3, ![512, 16, 128]⟩
abbrev S512x2048 : Shape := ⟨2, ![512, 2048]⟩
abbrev S2048x512 : Shape := ⟨2, ![2048, 512]⟩
abbrev S256x2048 : Shape := ⟨2, ![256, 2048]⟩
abbrev S256x16x128 : Shape := ⟨3, ![256, 16, 128]⟩
abbrev S256x16x64 : Shape := ⟨3, ![256, 16, 64]⟩
abbrev S256x16x16 : Shape := ⟨3, ![256, 16, 16]⟩
abbrev S256x16x48 : Shape := ⟨3, ![256, 16, 48]⟩
abbrev S256x16x32 : Shape := ⟨3, ![256, 16, 32]⟩
abbrev S256x1024 : Shape := ⟨2, ![256, 1024]⟩
abbrev S256x3072 : Shape := ⟨2, ![256, 3072]⟩
abbrev S96 : Shape := ⟨1, ![96]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x96 : Shape := ⟨2, ![2048, 96]⟩
abbrev S64 : Shape := ⟨1, ![64]⟩
abbrev S2048x48 : Shape := ⟨2, ![2048, 48]⟩
abbrev S2048x32 : Shape := ⟨2, ![2048, 32]⟩
abbrev S2048x128 : Shape := ⟨2, ![2048, 128]⟩
abbrev S1x1024 : Shape := ⟨2, ![1, 1024]⟩
abbrev S1024 : Shape := ⟨1, ![1024]⟩
abbrev S512 : Shape := ⟨1, ![512]⟩
abbrev S256 : Shape := ⟨1, ![256]⟩
abbrev S128x2048 : Shape := ⟨2, ![128, 2048]⟩
abbrev S2048x32768 : Shape := ⟨2, ![2048, 32768]⟩
abbrev S32768x2048 : Shape := ⟨2, ![32768, 2048]⟩
abbrev S512x1024 : Shape := ⟨2, ![512, 1024]⟩
abbrev S128x512 : Shape := ⟨2, ![128, 512]⟩
abbrev S512x128 : Shape := ⟨2, ![512, 128]⟩
abbrev S512x1 : Shape := ⟨2, ![512, 1]⟩
abbrev S512x896 : Shape := ⟨2, ![512, 896]⟩
abbrev S512x512 : Shape := ⟨2, ![512, 512]⟩
abbrev S512x256 : Shape := ⟨2, ![512, 256]⟩
abbrev S256x256 : Shape := ⟨2, ![256, 256]⟩
abbrev S64x512 : Shape := ⟨2, ![64, 512]⟩

abbrev nBuf : Space → Nat
  | .hbm => 191
  | .vmem => 22
  | .smem => 0
  | _ => 0

abbrev hbmTy0_0 (i : Nat) : BufTy := match i % 128 with
  | 0 => ⟨S16x2048x1024, .f32⟩
  | 1 => ⟨S2x1024, .f32⟩
  | 2 => ⟨S1x1024x800, .f32⟩
  | 3 => ⟨S1x512, .f32⟩
  | 4 => ⟨S1x512x1536, .f32⟩
  | 5 => ⟨S1x256, .f32⟩
  | 6 => ⟨S1x256x2048, .f32⟩
  | 7 => ⟨S1x96, .f32⟩
  | 8 => ⟨S1x96, .f32⟩
  | 9 => ⟨S32768x1024, .f32⟩
  | 10 => ⟨S1024x800, .f32⟩
  | 11 => ⟨S1024x768, .f32⟩
  | 12 => ⟨S1024x32, .f32⟩
  | 13 => ⟨S1024x16, .f32⟩
  | 14 => ⟨S_, .f32⟩
  | 15 => ⟨S1024x48, .f32⟩
  | 16 => ⟨S1024x16, .f32⟩
  | 17 => ⟨S_, .f32⟩
  | 18 => ⟨S1024x48, .f32⟩
  | 19 => ⟨S1024x128, .f32⟩
  | 20 => ⟨S1024x896, .f32⟩
  | 21 => ⟨S1024x896, .bf16⟩
  | 22 => ⟨S512x1536, .f32⟩
  | 23 => ⟨S512x16x96, .f32⟩
  | 24 => ⟨S512x16x16, .f32⟩
  | 25 => ⟨S512x16x48, .f32⟩
  | 26 => ⟨S512x16x16, .f32⟩
  | 27 => ⟨S512x16x16, .f32⟩
  | 28 => ⟨S_, .f32⟩
  | 29 => ⟨S512x16x32, .f32⟩
  | 30 => ⟨S512x16x128, .f32⟩
  | 31 => ⟨S512x2048, .f32⟩
  | 32 => ⟨S2048x512, .f32⟩
  | 33 => ⟨S2048x512, .bf16⟩
  | 34 => ⟨S256x2048, .f32⟩
  | 35 => ⟨S256x16x128, .f32⟩
  | 36 => ⟨S256x16x64, .f32⟩
  | 37 => ⟨S_, .f32⟩
  | 38 => ⟨S256x16x16, .f32⟩
  | 39 => ⟨S256x16x48, .f32⟩
  | 40 => ⟨S_, .f32⟩
  | 41 => ⟨S256x16x16, .f32⟩
  | 42 => ⟨S256x16x16, .f32⟩
  | 43 => ⟨S_, .f32⟩
  | 44 => ⟨S256x16x32, .f32⟩
  | 45 => ⟨S256x16x128, .f32⟩
  | 46 => ⟨S256x2048, .f32⟩
  | 47 => ⟨S256x16x64, .f32⟩
  | 48 => ⟨S256x1024, .f32⟩
  | 49 => ⟨S256x3072, .f32⟩
  | 50 => ⟨S256x3072, .bf16⟩
  | 51 => ⟨S96, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S2048, .f32⟩
  | 69 => ⟨S2048x1, .f32⟩
  | 70 => ⟨S1x16, .f32⟩
  | 71 => ⟨S2048x16, .f32⟩
  | 72 => ⟨S2048x16, .f32⟩
  | 73 => ⟨S2048x16, .f32⟩
  | 74 => ⟨S_, .f32⟩
  | 75 => ⟨S2048x64, .f32⟩
  | 76 => ⟨S2048x16, .f32⟩
  | 77 => ⟨S2048x16, .f32⟩
  | 78 => ⟨S2048x96, .f32⟩
  | 79 => ⟨S_, .f32⟩
  | 80 => ⟨S2048x64, .f32⟩
  | 81 => ⟨S2048x16, .f32⟩
  | 82 => ⟨S2048x16, .f32⟩
  | 83 => ⟨S2048x16, .f32⟩
  | 84 => ⟨S2048x96, .f32⟩
  | 85 => ⟨S64, .f32⟩
  | 86 => ⟨S16, .f32⟩
  | 87 => ⟨S16, .f32⟩
  | 88 => ⟨S96, .f32⟩
  | 89 => ⟨S1x96, .f32⟩
  | 90 => ⟨S2048x96, .f32⟩
  | 91 => ⟨S2048x96, .f32⟩
  | 92 => ⟨S_, .f32⟩
  | 93 => ⟨S2048x96, .f32⟩
  | 94 => ⟨S2048x96, .f32⟩
  | 95 => ⟨S2048x16, .f32⟩
  | 96 => ⟨S2048x48, .f32⟩
  | 97 => ⟨S2048x16, .f32⟩
  | 98 => ⟨S2048x16, .f32⟩
  | 99 => ⟨S_, .f32⟩
  | 100 => ⟨S2048x32, .f32⟩
  | 101 => ⟨S2048x128, .f32⟩
  | 102 => ⟨S1x96, .f32⟩
  | 103 => ⟨S2048x96, .f32⟩
  | 104 => ⟨S2048x96, .f32⟩
  | 105 => ⟨S_, .f32⟩
  | 106 => ⟨S2048x96, .f32⟩
  | 107 => ⟨S2048x96, .f32⟩
  | 108 => ⟨S2048x16, .f32⟩
  | 109 => ⟨S2048x48, .f32⟩
  | 110 => ⟨S2048x16, .f32⟩
  | 111 => ⟨S2048x16, .f32⟩
  | 112 => ⟨S_, .f32⟩
  | 113 => ⟨S2048x32, .f32⟩
  | 114 => ⟨S2048x128, .f32⟩
  | 115 => ⟨S96, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S16x2048x1024, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S2048, .f32⟩
  | 5 => ⟨S2048x1, .f32⟩
  | 6 => ⟨S1x16, .f32⟩
  | 7 => ⟨S2048x16, .f32⟩
  | 8 => ⟨S2048x16, .f32⟩
  | 9 => ⟨S2048x16, .f32⟩
  | 10 => ⟨S_, .f32⟩
  | 11 => ⟨S2048x64, .f32⟩
  | 12 => ⟨S2048x16, .f32⟩
  | 13 => ⟨S2048x16, .f32⟩
  | 14 => ⟨S2048x96, .f32⟩
  | 15 => ⟨S_, .f32⟩
  | 16 => ⟨S2048x64, .f32⟩
  | 17 => ⟨S2048x16, .f32⟩
  | 18 => ⟨S2048x16, .f32⟩
  | 19 => ⟨S2048x16, .f32⟩
  | 20 => ⟨S2048x96, .f32⟩
  | 21 => ⟨S64, .f32⟩
  | 22 => ⟨S16, .f32⟩
  | 23 => ⟨S16, .f32⟩
  | 24 => ⟨S96, .f32⟩
  | 25 => ⟨S1x96, .f32⟩
  | 26 => ⟨S2048x96, .f32⟩
  | 27 => ⟨S2048x96, .f32⟩
  | 28 => ⟨S_, .f32⟩
  | 29 => ⟨S2048x96, .f32⟩
  | 30 => ⟨S2048x96, .f32⟩
  | 31 => ⟨S2048x16, .f32⟩
  | 32 => ⟨S2048x48, .f32⟩
  | 33 => ⟨S2048x16, .f32⟩
  | 34 => ⟨S2048x16, .f32⟩
  | 35 => ⟨S_, .f32⟩
  | 36 => ⟨S2048x32, .f32⟩
  | 37 => ⟨S2048x128, .f32⟩
  | 38 => ⟨S1x96, .f32⟩
  | 39 => ⟨S2048x96, .f32⟩
  | 40 => ⟨S2048x96, .f32⟩
  | 41 => ⟨S_, .f32⟩
  | 42 => ⟨S2048x96, .f32⟩
  | 43 => ⟨S2048x96, .f32⟩
  | 44 => ⟨S2048x16, .f32⟩
  | 45 => ⟨S2048x48, .f32⟩
  | 46 => ⟨S2048x16, .f32⟩
  | 47 => ⟨S2048x16, .f32⟩
  | 48 => ⟨S_, .f32⟩
  | 49 => ⟨S2048x32, .f32⟩
  | 50 => ⟨S2048x128, .f32⟩
  | 51 => ⟨S1x1024, .f32⟩
  | 52 => ⟨S1024, .f32⟩
  | 53 => ⟨S1x1024, .f32⟩
  | 54 => ⟨S512, .f32⟩
  | 55 => ⟨S1x512, .f32⟩
  | 56 => ⟨S256, .f32⟩
  | 57 => ⟨S1x256, .f32⟩
  | 58 => ⟨S128x2048, .f32⟩
  | 59 => ⟨S128x2048, .f32⟩
  | 60 => ⟨S2048x32768, .bf16⟩
  | 61 => ⟨S32768x2048, .bf16⟩
  | 62 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x896, .bf16⟩
  | .local _ .vmem, ⟨4, _⟩ => ⟨S1x512, .f32⟩
  | .local _ .vmem, ⟨5, _⟩ => ⟨S1x256, .f32⟩
  | .local _ .vmem, ⟨6, _⟩ => ⟨S2048x512, .bf16⟩
  | .local _ .vmem, ⟨7, _⟩ => ⟨S256x3072, .bf16⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S2048x512, .bf16⟩
  | .local _ .vmem, ⟨17, _⟩ => ⟨S2048x512, .bf16⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_v92 : Ref sig .tc := ⟨.hbm, 119, rfl⟩
abbrev main_cst_17 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_22 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_23 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_24 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_25 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_26 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151_0 : Ref sig .tc := ⟨.hbm, 188, rfl⟩
abbrev main_v151_1 : Ref sig .tc := ⟨.hbm, 189, rfl⟩
abbrev main_v151_2 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "inv96" => some ((1 / 96 : ℝ) : EReal)
  | _ => none
-- ==== Reference3Ideal.lean ====
abbrev S16x2048x1024 : Shape := ⟨3, ![16, 2048, 1024]⟩
abbrev S2x1024 : Shape := ⟨2, ![2, 1024]⟩
abbrev S1x1024x800 : Shape := ⟨3, ![1, 1024, 800]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S1x96 : Shape := ⟨2, ![1, 96]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x800 : Shape := ⟨2, ![1024, 800]⟩
abbrev S16x2048x800 : Shape := ⟨3, ![16, 2048, 800]⟩
abbrev S16x2048x512 : Shape := ⟨3, ![16, 2048, 512]⟩
abbrev S16x2048x256 : Shape := ⟨3, ![16, 2048, 256]⟩
abbrev S16x2048x32 : Shape := ⟨3, ![16, 2048, 32]⟩
abbrev S512 : Shape := ⟨1, ![512]⟩
abbrev S1x1x512 : Shape := ⟨3, ![1, 1, 512]⟩
abbrev S512x1536 : Shape := ⟨2, ![512, 1536]⟩
abbrev S16x2048x1536 : Shape := ⟨3, ![16, 2048, 1536]⟩
abbrev S16x2048x16x96 : Shape := ⟨4, ![16, 2048, 16, 96]⟩
abbrev S256 : Shape := ⟨1, ![256]⟩
abbrev S1x1x256 : Shape := ⟨3, ![1, 1, 256]⟩
abbrev S256x2048 : Shape := ⟨2, ![256, 2048]⟩
abbrev S16x2048x2048 : Shape := ⟨3, ![16, 2048, 2048]⟩
abbrev S16x2048x16x128 : Shape := ⟨4, ![16, 2048, 16, 128]⟩
abbrev S16x2048x16x64 : Shape := ⟨4, ![16, 2048, 16, 64]⟩
abbrev S16x2048x1x32 : Shape := ⟨4, ![16, 2048, 1, 32]⟩
abbrev S16x2048x16x32 : Shape := ⟨4, ![16, 2048, 16, 32]⟩
abbrev S96 : Shape := ⟨1, ![96]⟩
abbrev S16x2048x16 : Shape := ⟨3, ![16, 2048, 16]⟩
abbrev S16x2048x16x1 : Shape := ⟨4, ![16, 2048, 16, 1]⟩
abbrev S1x1x1x96 : Shape := ⟨4, ![1, 1, 1, 96]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S16x2048x16x16 : Shape := ⟨4, ![16, 2048, 16, 16]⟩
abbrev S16x2048x16x48 : Shape := ⟨4, ![16, 2048, 16, 48]⟩
abbrev S32768x2048 : Shape := ⟨2, ![32768, 2048]⟩
abbrev S2048x32768 : Shape := ⟨2, ![2048, 32768]⟩
abbrev S32768x1024 : Shape := ⟨2, ![32768, 1024]⟩

abbrev nBuf : Space → Nat
  | .hbm => 217
  | .vmem => 0
  | .smem => 0
  | _ => 0

abbrev hbmTy0_0 (i : Nat) : BufTy := match i % 128 with
  | 0 => ⟨S16x2048x1024, .f32⟩
  | 1 => ⟨S2x1024, .f32⟩
  | 2 => ⟨S1x1024x800, .f32⟩
  | 3 => ⟨S1x512, .f32⟩
  | 4 => ⟨S1x512x1536, .f32⟩
  | 5 => ⟨S1x256, .f32⟩
  | 6 => ⟨S1x256x2048, .f32⟩
  | 7 => ⟨S1x96, .f32⟩
  | 8 => ⟨S1x96, .f32⟩
  | 9 => ⟨S1x1024, .f32⟩
  | 10 => ⟨S1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S1024x800, .f32⟩
  | 28 => ⟨S16x2048x800, .f32⟩
  | 29 => ⟨S16x2048x512, .f32⟩
  | 30 => ⟨S16x2048x256, .f32⟩
  | 31 => ⟨S16x2048x32, .f32⟩
  | 32 => ⟨S512, .f32⟩
  | 33 => ⟨S16x2048x512, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S_, .f32⟩
  | 41 => ⟨S16x2048x1, .f32⟩
  | 42 => ⟨S16x2048x1, .f32⟩
  | 43 => ⟨S16x2048x1, .f32⟩
  | 44 => ⟨S16x2048x512, .f32⟩
  | 45 => ⟨S16x2048x512, .f32⟩
  | 46 => ⟨S1x1x512, .f32⟩
  | 47 => ⟨S16x2048x512, .f32⟩
  | 48 => ⟨S16x2048x512, .f32⟩
  | 49 => ⟨S512x1536, .f32⟩
  | 50 => ⟨S16x2048x1536, .f32⟩
  | 51 => ⟨S16x2048x16x96, .f32⟩
  | 52 => ⟨S256, .f32⟩
  | 53 => ⟨S16x2048x256, .f32⟩
  | 54 => ⟨S_, .f32⟩
  | 55 => ⟨S16x2048, .f32⟩
  | 56 => ⟨S16x2048x1, .f32⟩
  | 57 => ⟨S_, .f32⟩
  | 58 => ⟨S16x2048x1, .f32⟩
  | 59 => ⟨S16x2048x1, .f32⟩
  | 60 => ⟨S_, .f32⟩
  | 61 => ⟨S16x2048x1, .f32⟩
  | 62 => ⟨S16x2048x1, .f32⟩
  | 63 => ⟨S16x2048x1, .f32⟩
  | 64 => ⟨S16x2048x256, .f32⟩
  | 65 => ⟨S16x2048x256, .f32⟩
  | 66 => ⟨S1x1x256, .f32⟩
  | 67 => ⟨S16x2048x256, .f32⟩
  | 68 => ⟨S16x2048x256, .f32⟩
  | 69 => ⟨S256x2048, .f32⟩
  | 70 => ⟨S16x2048x2048, .f32⟩
  | 71 => ⟨S16x2048x16x128, .f32⟩
  | 72 => ⟨S16x2048x16x64, .f32⟩
  | 73 => ⟨S16x2048x16x64, .f32⟩
  | 74 => ⟨S16x2048x1x32, .f32⟩
  | 75 => ⟨S16x2048x16x32, .f32⟩
  | 76 => ⟨S16x2048x16x96, .f32⟩
  | 77 => ⟨S96, .f32⟩
  | 78 => ⟨S16x2048x16x96, .f32⟩
  | 79 => ⟨S_, .f32⟩
  | 80 => ⟨S16x2048x16, .f32⟩
  | 81 => ⟨S16x2048x16x1, .f32⟩
  | 82 => ⟨S_, .f32⟩
  | 83 => ⟨S16x2048x16x1, .f32⟩
  | 84 => ⟨S16x2048x16x1, .f32⟩
  | 85 => ⟨S_, .f32⟩
  | 86 => ⟨S16x2048x16x1, .f32⟩
  | 87 => ⟨S16x2048x16x1, .f32⟩
  | 88 => ⟨S16x2048x16x1, .f32⟩
  | 89 => ⟨S16x2048x16x96, .f32⟩
  | 90 => ⟨S16x2048x16x96, .f32⟩
  | 91 => ⟨S1x1x1x96, .f32⟩
  | 92 => ⟨S16x2048x16x96, .f32⟩
  | 93 => ⟨S16x2048x16x96, .f32⟩
  | 94 => ⟨S96, .f32⟩
  | 95 => ⟨S16x2048x16x96, .f32⟩
  | 96 => ⟨S_, .f32⟩
  | 97 => ⟨S16x2048x16, .f32⟩
  | 98 => ⟨S16x2048x16x1, .f32⟩
  | 99 => ⟨S_, .f32⟩
  | 100 => ⟨S16x2048x16x1, .f32⟩
  | 101 => ⟨S16x2048x16x1, .f32⟩
  | 102 => ⟨S_, .f32⟩
  | 103 => ⟨S16x2048x16x1, .f32⟩
  | 104 => ⟨S16x2048x16x1, .f32⟩
  | 105 => ⟨S16x2048x16x1, .f32⟩
  | 106 => ⟨S16x2048x16x96, .f32⟩
  | 107 => ⟨S16x2048x16x96, .f32⟩
  | 108 => ⟨S1x1x1x96, .f32⟩
  | 109 => ⟨S16x2048x16x96, .f32⟩
  | 110 => ⟨S16x2048x16x96, .f32⟩
  | 111 => ⟨S16x2048x16x64, .f32⟩
  | 112 => ⟨S16x2048x16x32, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S16x2048x1024, .f32⟩

abbrev hbmTy0_1 (i : Nat) : BufTy := match i % 128 with
  | 0 => ⟨S16, .f32⟩
  | 1 => ⟨S2048, .f32⟩
  | 2 => ⟨S2048x1, .f32⟩
  | 3 => ⟨S1x16, .f32⟩
  | 4 => ⟨S2048x16, .f32⟩
  | 5 => ⟨S2048x16, .f32⟩
  | 6 => ⟨S2048x16, .f32⟩
  | 7 => ⟨S2048x16, .f32⟩
  | 8 => ⟨S1x2048x1x16, .f32⟩
  | 9 => ⟨S2048x16, .f32⟩
  | 10 => ⟨S1x2048x1x16, .f32⟩
  | 11 => ⟨S16x2048x16x16, .f32⟩
  | 12 => ⟨S16x2048x16x16, .f32⟩
  | 13 => ⟨S16x2048x16x16, .f32⟩
  | 14 => ⟨S16x2048x16x16, .f32⟩
  | 15 => ⟨S16x2048x16x16, .f32⟩
  | 16 => ⟨S16x2048x16x16, .f32⟩
  | 17 => ⟨S16x2048x16x16, .f32⟩
  | 18 => ⟨S16x2048x16x16, .f32⟩
  | 19 => ⟨S16x2048x16x16, .f32⟩
  | 20 => ⟨S16x2048x16x16, .f32⟩
  | 21 => ⟨S16x2048x16x16, .f32⟩
  | 22 => ⟨S16x2048x16x16, .f32⟩
  | 23 => ⟨S16x2048x16x32, .f32⟩
  | 24 => ⟨S16x2048x16x96, .f32⟩
  | 25 => ⟨S16x2048x16x64, .f32⟩
  | 26 => ⟨S16x2048x16x32, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S2048, .f32⟩
  | 44 => ⟨S2048x1, .f32⟩
  | 45 => ⟨S1x16, .f32⟩
  | 46 => ⟨S2048x16, .f32⟩
  | 47 => ⟨S2048x16, .f32⟩
  | 48 => ⟨S2048x16, .f32⟩
  | 49 => ⟨S2048x16, .f32⟩
  | 50 => ⟨S1x2048x1x16, .f32⟩
  | 51 => ⟨S2048x16, .f32⟩
  | 52 => ⟨S1x2048x1x16, .f32⟩
  | 53 => ⟨S16x2048x16x16, .f32⟩
  | 54 => ⟨S16x2048x16x16, .f32⟩
  | 55 => ⟨S16x2048x16x16, .f32⟩
  | 56 => ⟨S16x2048x16x16, .f32⟩
  | 57 => ⟨S16x2048x16x16, .f32⟩
  | 58 => ⟨S16x2048x16x16, .f32⟩
  | 59 => ⟨S16x2048x16x16, .f32⟩
  | 60 => ⟨S16x2048x16x16, .f32⟩
  | 61 => ⟨S16x2048x16x16, .f32⟩
  | 62 => ⟨S16x2048x16x16, .f32⟩
  | 63 => ⟨S16x2048x16x16, .f32⟩
  | 64 => ⟨S16x2048x16x16, .f32⟩
  | 65 => ⟨S16x2048x16x32, .f32⟩
  | 66 => ⟨S16x2048x16x96, .f32⟩
  | 67 => ⟨S_, .f32⟩
  | 68 => ⟨S16x2048x16x96, .f32⟩
  | 69 => ⟨S16x2048x16x96, .f32⟩
  | 70 => ⟨S_, .f32⟩
  | 71 => ⟨S16x2048x16x32, .f32⟩
  | 72 => ⟨S16x2048x16x16, .f32⟩
  | 73 => ⟨S16x2048x16x48, .f32⟩
  | 74 => ⟨S16x2048x16x16, .f32⟩
  | 75 => ⟨S16x2048x16x16, .f32⟩
  | 76 => ⟨S16x2048x16x128, .f32⟩
  | 77 => ⟨S16x2048x16x16, .f32⟩
  | 78 => ⟨S16x2048x16x48, .f32⟩
  | 79 => ⟨S16x2048x16x16, .f32⟩
  | 80 => ⟨S16x2048x16x16, .f32⟩
  | 81 => ⟨S16x2048x16x128, .f32⟩
  | 82 => ⟨S32768x2048, .f32⟩
  | 83 => ⟨S2048x32768, .f32⟩
  | 84 => ⟨S2048x32768, .bf16⟩
  | 85 => ⟨S32768x2048, .f32⟩
  | 86 => ⟨S32768x2048, .bf16⟩
  | 87 => ⟨S32768x1024, .f32⟩
  | 88 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_14 : Ref sig .tc := ⟨.hbm, 114, rfl⟩
abbrev main_v90 : Ref sig .tc := ⟨.hbm, 115, rfl⟩
abbrev main_v91 : Ref sig .tc := ⟨.hbm, 116, rfl⟩
abbrev main_cst_15 : Ref sig .tc := ⟨.hbm, 117, rfl⟩
abbrev main_v92 : Ref sig .tc := ⟨.hbm, 118, rfl⟩
abbrev main_v93 : Ref sig .tc := ⟨.hbm, 119, rfl⟩
abbrev main_cst_16 : Ref sig .tc := ⟨.hbm, 120, rfl⟩
abbrev main_v94 : Ref sig .tc := ⟨.hbm, 121, rfl⟩
abbrev main_v95 : Ref sig .tc := ⟨.hbm, 122, rfl⟩
abbrev main_cst_17 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_19 : Ref sig .tc := ⟨.hbm, 156, rfl⟩
abbrev main_v127 : Ref sig .tc := ⟨.hbm, 157, rfl⟩
abbrev main_v128 : Ref sig .tc := ⟨.hbm, 158, rfl⟩
abbrev main_cst_20 : Ref sig .tc := ⟨.hbm, 159, rfl⟩
abbrev main_v129 : Ref sig .tc := ⟨.hbm, 160, rfl⟩
abbrev main_v130 : Ref sig .tc := ⟨.hbm, 161, rfl⟩
abbrev main_cst_21 : Ref sig .tc := ⟨.hbm, 162, rfl⟩
abbrev main_v131 : Ref sig .tc := ⟨.hbm, 163, rfl⟩
abbrev main_v132 : Ref sig .tc := ⟨.hbm, 164, rfl⟩
abbrev main_cst_22 : Ref sig .tc := ⟨.hbm, 165, rfl⟩
abbrev main_v133 : Ref sig .tc := ⟨.hbm, 166, rfl⟩
abbrev main_v134 : Ref sig .tc := ⟨.hbm, 167, rfl⟩
abbrev main_cst_23 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_24 : Ref sig .tc := ⟨.hbm, 195, rfl⟩
abbrev main_v161 : Ref sig .tc := ⟨.hbm, 196, rfl⟩
abbrev main_v162 : Ref sig .tc := ⟨.hbm, 197, rfl⟩
abbrev main_cst_25 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩

abbrev nD : Nat := 1
abbrev τ : Topo := Topo.v7x

variable {F : FTy → Type} [FloatOps F]
-- ==== Kernel4.lean ====
abbrev S16x2048x512 : Shape := ⟨3, ![16, 2048, 512]⟩
abbrev S16x2048x1024 : Shape := ⟨3, ![16, 2048, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x1024 : Shape := ⟨3, ![2, 1, 1024]⟩
abbrev S2x1x5632 : Shape := ⟨3, ![2, 1, 5632]⟩
abbrev S32768x512 : Shape := ⟨2, ![32768, 512]⟩
abbrev S32768x1024 : Shape := ⟨2, ![32768, 1024]⟩
abbrev S1024x1024 : Shape := ⟨2, ![1024, 1024]⟩
abbrev S512x512 : Shape := ⟨2, ![512, 512]⟩
abbrev S512x1024 : Shape := ⟨2, ![512, 1024]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S8x5632 : Shape := ⟨2, ![8, 5632]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S504x256 : Shape := ⟨2, ![504, 256]⟩
abbrev S2816x1024 : Shape := ⟨2, ![2816, 1024]⟩

abbrev nBuf : Space → Nat
  | .hbm => 21
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S2x1024, .f32⟩
  | .hbm, ⟨4, _⟩ => ⟨S1x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1x1024, .f32⟩
  | .hbm, ⟨10, _⟩ => ⟨S2x1024x5632, .bf16⟩
  | .hbm, ⟨11, _⟩ => ⟨S2x1x5632, .f32⟩
  | .hbm, ⟨12, _⟩ => ⟨S2x2816x1024, .bf16⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x1024, .f32⟩
  | .hbm, ⟨18, _⟩ => ⟨S1024x1024, .f32⟩
  | .hbm, ⟨19, _⟩ => ⟨S1024x1024, .bf16⟩
  | .hbm, ⟨20, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S1x1x5632, .f32⟩
  | .local _ .vmem, ⟨11, _⟩ => ⟨S1x2816x1024, .bf16⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | .local _ .vmem, ⟨15, _⟩ => ⟨S8x5632, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16x2048x512 : Shape := ⟨3, ![16, 2048, 512]⟩
abbrev S16x2048x1024 : Shape := ⟨3, ![16, 2048, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S16x2050x5632 : Shape := ⟨3, ![16, 2050, 5632]⟩
abbrev S1x1x5632 : Shape := ⟨3, ![1, 1, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S2x1024, .f32⟩
  | .hbm, ⟨4, _⟩ => ⟨S1x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S16x2048x1024, .f32⟩
  | .hbm, ⟨10, _⟩ => ⟨S1024x1024, .f32⟩
  | .hbm, ⟨11, _⟩ => ⟨S16x2048x1024, .f32⟩
  | .hbm, ⟨12, _⟩ => ⟨S16x2048x1024, .f32⟩
  | .hbm, ⟨13, _⟩ => ⟨S1x1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S1x1024x5632, .f32⟩
  | .hbm, ⟨32, _⟩ => ⟨S1024x5632, .f32⟩
  | .hbm, ⟨33, _⟩ => ⟨S16x2048x5632, .f32⟩
  | .hbm, ⟨34, _⟩ => ⟨S1x3x5632, .f32⟩
  | .hbm, ⟨35, _⟩ => ⟨S3x5632, .f32⟩
  | .hbm, ⟨36, _⟩ => ⟨S1x5632, .f32⟩
  | .hbm, ⟨37, _⟩ => ⟨S5632, .f32⟩
  | .hbm, ⟨38, _⟩ => ⟨S_, .i32⟩
  | .hbm, ⟨39, _⟩ => ⟨S_, .f32⟩
  | .hbm, ⟨40, _⟩ => ⟨S16x2050x5632, .f32⟩
  | .hbm, ⟨41, _⟩ => ⟨S16x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S16x2048x5632, .f32⟩
  | .hbm, ⟨46, _⟩ => ⟨S16x2048x5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S16x2048x5632, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S16x2048x5632, .f32⟩
  | .hbm, ⟨62, _⟩ => ⟨S16x2048x5632, .f32⟩
  | .hbm, ⟨63, _⟩ => ⟨S16x2048x5632, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S_, .f32⟩
  | .hbm, ⟨69, _⟩ => ⟨S16x2048x2816, .f32⟩
  | .hbm, ⟨70, _⟩ => ⟨S16x2048x2816, .f32⟩
  | .hbm, ⟨71, _⟩ => ⟨S_, .f32⟩
  | .hbm, ⟨72, _⟩ => ⟨S16x2048x2816, .f32⟩
  | .hbm, ⟨73, _⟩ => ⟨S16x2048x2816, .f32⟩
  | .hbm, ⟨74, _⟩ => ⟨S16x2048x2816, .f32⟩
  | .hbm, ⟨75, _⟩ => ⟨S16x2048x2816, .f32⟩
  | .hbm, ⟨76, _⟩ => ⟨S1x2816x1024, .f32⟩
  | .hbm, ⟨77, _⟩ => ⟨S2816x1024, .f32⟩
  | .hbm, ⟨78, _⟩ => ⟨S16x2048x1024, .f32⟩
  | .hbm, ⟨79, _⟩ => ⟨S16x2048x1024, .f32⟩
  | .hbm, ⟨80, _⟩ => ⟨S32768x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.Attn.Model.lean ====
/-
  The attention body of one grid point written as a loop. The kernel unrolls sixteen units: unit `u` is the pair of a
  block of 256 queries (`8 - u / 2` blocks of keys reach it, the last one on the diagonal) and one of the two heads. Each
  unit stores its scores into a slot of a ring of five, exponentiates them chunk by chunk into the same slot of a second
  ring, and multiplies by the values. Here every step is a definition in the unit's number.
-/
module

public import proofs.«01_k».proof.Proof.Gen.KernelIdeal.Frame.RunA
public import Idealize.ShloMosaic.Lib.MatmulPlain

@[expose] public section

set_option maxRecDepth 16384

noncomputable section

namespace Cert.Attn

open Idealize.ShloMosaic Idealize.ShloMosaic.TcCoe
open Cert.KernelIdeal Cert.KernelIdeal.Gen

/-- The number of key blocks unit `u` reads. -/
def nb (u : ℕ) : ℕ := 8 - u / 2
/-- The head of unit `u`, of the two of a grid point. -/
def hd (u : ℕ) : ℕ := u % 2
/-- The ring slot of unit `u`. -/
def sl (u : ℕ) : ℕ := u % 5

theorem nb_le (u : ℕ) : nb u ≤ 8 := Nat.sub_le _ _
theorem hd_lt (u : ℕ) : hd u < 2 := Nat.mod_lt _ (by decide)
theorem sl_lt (u : ℕ) : sl u < 5 := Nat.mod_lt _ (by decide)

/-- The shapes of `r` rows of a unit: of 256 queries, and of 128 lanes. -/
abbrev Rows (r : ℕ) : Shape := ⟨2, ![r, 256]⟩
abbrev Lanes (r : ℕ) : Shape := ⟨2, ![r, 128]⟩

theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a := by
  intro a; fin_cases a; exacts [h0, h1, h2]

/-- `a` rows of a slot starting at row `r`. -/
@[implicit_reducible] def rows (r a : ℕ) (h : r + a ≤ 2048) : Rect S2048x256 :=
  Rect.unit (s := S2048x256) ![r, 0] ![a, 256] (Rect.inb₂ h (le_refl 256))

/-- Slot `b` of a ring. -/
@[implicit_reducible] def slot (b : ℕ) (hb : b < 5) : Rect S5x2048x256 :=
  Rect.unit (s := S5x2048x256) ![b, 0, 0] S1x2048x256.size (inb3 hb (le_refl 2048) (le_refl 256))

/-- The same rows with the slot's leading axis. -/
@[implicit_reducible] def lift (r a : ℕ) (h : r + a ≤ 2048) : Rect S1x2048x256 :=
  (rows r a h).consLift ![1, 2048, 256] rfl (fun i => by fin_cases i <;> rfl)

theorem numel_lift (r a : ℕ) (h : r + a ≤ 2048) : (lift r a h).shape.numel = (rows r a h).shape.numel :=
  Rect.numel_consLift _ _ _ _

/-- `a` rows of slot `b` from row `r`, as a rectangle of the ring. -/
@[implicit_reducible] def inSlot (b : ℕ) (hb : b < 5) (r a : ℕ) (h : r + a ≤ 2048) : Rect S5x2048x256 :=
  (slot b hb).within (lift r a h) (fun _ => rfl)

/-- A payload of `a` rows of 256 columns stored at row `r` of slot `b`. -/
def piece {V : EltTy → Type} {e : EltTy} (b : ℕ) (hb : b < 5) (r a : ℕ) (h : r + a ≤ 2048) (w : (Rows a).Idx → V e) :
    View.Piece V S5x2048x256 e :=
  ⟨inSlot b hb r a h, Rect.payAlong (r := rows r a h) (R := lift r a h) (numel_lift r a h) w⟩

variable {F : FTy → Type} [FloatOps F] [Named F]

variable {sig : RefSig} {kd : Kind}

/-- What a load of `a` rows from row `r` of slot `b` reads after the stores `L`. -/
def loadRows {sp : Space} {e : EltTy} (v : View sig kd sp S5x2048x256 e) (L : List (View.Piece (Elt F) S5x2048x256 e))
    (b : ℕ) (hb : b < 5) (r a : ℕ) (h : r + a ≤ 2048) : (Rows a).Idx → Elt F e :=
  LoadRect.valAlong (lr := (rows r a h).toLoadRect) (numel_lift r a h).symm
    (v.readCov L ((slot b hb).withinL (lift r a h).toLoadRect (fun _ => rfl)))

theorem unit_le (u : ℕ) : 0 + 256 * nb u ≤ 2048 := by have := nb_le u; omega
theorem diag_le (u : ℕ) : 256 * (nb u - 1) + 256 ≤ 2048 := by have := nb_le u; omega

theorem casts_keys (n : ℕ) : (⟨3, ![1, n, 128]⟩ : Shape).ShapeCasts (Lanes n) :=
  Rect.numel_consShape (n := 2) (d := ![n, 128]) ![1, n, 128] rfl (fun i => by fin_cases i <;> rfl)
theorem casts_rows (n : ℕ) : (⟨3, ![1, n, 256]⟩ : Shape).ShapeCasts (Rows n) :=
  Rect.numel_consShape (n := 2) (d := ![n, 256]) ![1, n, 256] rfl (fun i => by fin_cases i <;> rfl)

/-- The scores of `n` keys against 256 queries. -/
def scores {n : ℕ} (q : Vec F S128x256 .bf16) (k : Vec F (⟨3, ![1, n, 128]⟩ : Shape) .bf16) : FVec F (Rows n) .f32 :=
  shapeCast (Rows n) (matmul (DotDims.plain n 128 256) none (shapeCast (Lanes n) k (casts_keys n))
    (shapeCast S128x256 q rfl) (constant (Rows n) .f32 0x00000000#32)) rfl

/-- The diagonal block with the keys after the query masked. -/
def masked (x : Vec F S256x256 .f32) : FVec F S256x256 .f32 :=
  shapeCast S256x256 (select (cmpi .sle (iota .tc S256x256 32 [0] iota_S256x256_d0_w32) (iota .tc S256x256 32 [1] iota_S256x256_d1_w32)) x
    (broadcast S256x256 (Named.named κ "mask" 0xF149F2CA#32 : F .f32))) rfl

section
variable {sp7 sp8 : Space} (A7 : View sig kd sp7 S5x2048x256 .f32) (A8 : View sig kd sp8 S5x2048x256 .bf16)
variable (q : ℕ → Vec F S128x256 .bf16) (k : ∀ u, Vec F (⟨3, ![1, 256 * nb u, 128]⟩ : Shape) .bf16)
variable (v : ∀ u, Vec F (⟨2, ![64, 256 * nb u]⟩ : Shape) .bf16)

/-- The scores ring after unit `u`'s product is stored, -/
def sFirst (u : ℕ) (L : List (View.Piece (Elt F) S5x2048x256 .f32)) : List (View.Piece (Elt F) S5x2048x256 .f32) :=
  piece (sl u) (sl_lt u) 0 (256 * nb u) (unit_le u) (scores (q u) (k u)) :: L

/-- and after its diagonal block is masked. -/
def sStore (u : ℕ) (L : List (View.Piece (Elt F) S5x2048x256 .f32)) : List (View.Piece (Elt F) S5x2048x256 .f32) :=
  piece (sl u) (sl_lt u) (256 * (nb u - 1)) 256 (diag_le u)
    (masked (loadRows A7 (sFirst q k u L) (sl u) (sl_lt u) (256 * (nb u - 1)) 256 (diag_le u))) :: sFirst q k u L

/-- The scores ring after the first `n` units. -/
def SL : ℕ → List (View.Piece (Elt F) S5x2048x256 .f32)
  | 0 => []
  | u + 1 => sStore A7 q k u (SL u)

theorem chunk_le (t : ℕ) : 128 * min t 15 + 128 ≤ 2048 := by omega

variable (L : List (View.Piece (Elt F) S5x2048x256 .f32))

/-- Chunk `t` of unit `u`'s scores, loaded from the ring. -/
def X (u t : ℕ) : Vec F S128x256 .f32 := loadRows A7 L (sl u) (sl_lt u) (128 * min t 15) 128 (chunk_le t)

/-- A chunk's maxima, eight rows of them, -/
def fold8 (x : Vec F S128x256 .f32) : FVec F S8x256 .f32 :=
  multiReduction .maximumf [0] S8x256 (shapeCast S16x8x256 x shapeCasts_S128x256_S16x8x256) 0xFF800000#32 reduces_S16x8x256_S8x256 (.inl rfl) rfl
/-- and its sums. -/
def sum8 (x : Vec F S128x256 .f32) : FVec F S8x256 .f32 :=
  multiReduction .add [0] S8x256 (shapeCast S16x8x256 x shapeCasts_S128x256_S16x8x256) 0x00000000#32 reduces_S16x8x256_S8x256 (.inl rfl) rfl

/-- The maxima of chunks `0 … t`. -/
def mx (u : ℕ) : ℕ → FVec F S8x256 .f32
  | 0 => fold8 (X A7 L u 0)
  | t + 1 => maximumf (mx u t) (fold8 (X A7 L u (t + 1)))

/-- The row of maxima. -/
def mRow (u : ℕ) : FVec F S1x256 .f32 :=
  shapeCast S1x256 (multiReduction .maximumf [0] S256 (mx A7 L u (2 * nb u - 1)) 0xFF800000#32 reduces_S8x256_S256 (.inl rfl) rfl) shapeCasts_S256_S1x256

/-- Chunk `t` exponentiated. -/
def P (u t : ℕ) : FVec F S128x256 .f32 := exp2 (subf (X A7 L u t) (broadcastTo S128x256 (mRow A7 L u) broadcasts_S1x256_S128x256))

/-- The sums of chunks `0 … t`. -/
def sm (u : ℕ) : ℕ → FVec F S8x256 .f32
  | 0 => sum8 (P A7 L u 0)
  | t + 1 => addf (sm u t) (sum8 (P A7 L u (t + 1)))

/-- The row of sums. -/
def lRow (u : ℕ) : FVec F S1x256 .f32 :=
  shapeCast S1x256 (multiReduction .add [0] S256 (sm A7 L u (2 * nb u - 1)) 0x00000000#32 reduces_S8x256_S256 (.inl rfl) rfl) shapeCasts_S256_S1x256

/-- Chunk `t`'s store into the second ring. -/
def pPiece (u t : ℕ) : View.Piece (Elt F) S5x2048x256 .bf16 :=
  ⟨Rect.unit (s := S5x2048x256) ![sl u, 128 * min t 15, 0] S1x128x256.size (inb3 (sl_lt u) (chunk_le t) (le_refl 256)),
    shapeCast S1x128x256 (shapeCast S128x256 (truncf .bf16 (P A7 L u t) bitsLt_bf16_f32) shapeCasts_S128x256_S128x256) shapeCasts_S128x256_S1x128x256⟩

/-- The second ring after the first `t` chunks of unit `u`, over `L8`. -/
def pStore (u : ℕ) (L8 : List (View.Piece (Elt F) S5x2048x256 .bf16)) : ℕ → List (View.Piece (Elt F) S5x2048x256 .bf16)
  | 0 => L8
  | t + 1 => pPiece A7 L u t :: pStore u L8 t

/-- The numerators of unit `u`, loaded from the second ring. -/
def pLoad (u : ℕ) (L8 : List (View.Piece (Elt F) S5x2048x256 .bf16)) : Vec F (⟨3, ![1, 256 * nb u, 256]⟩ : Shape) .bf16 :=
  A8.readCov L8 (Rect.unit (s := S5x2048x256) ![sl u, 0, 0] ![1, 256 * nb u, 256] (inb3 (sl_lt u) (unit_le u) (le_refl 256))).toLoadRect

/-- The quotient of unit `u`, transposed. -/
def out (u : ℕ) (L8 : List (View.Piece (Elt F) S5x2048x256 .bf16)) : FVec F S64x256 .f32 :=
  divf (matmul (DotDims.plain 64 (256 * nb u) 256) none (v u) (shapeCast (Rows (256 * nb u)) (pLoad A8 u L8) (casts_rows _))
    (constant S64x256 .f32 0x00000000#32)) (broadcastTo S64x256 (lRow A7 L u) broadcasts_S1x256_S64x256)

/-- The two heads of 256 queries side by side, as stored. -/
def pair (a b : FVec F S64x256 .f32) : FVec F S1x256x128 .bf16 :=
  shapeCast S1x256x128 (truncf .bf16 (transpose S256x128 [1, 0]
    (concatenate S128x256 0 [⟨S64x256, a⟩, ⟨S64x256, b⟩] concatenates_S64x256_S64x256_S128x256_d0)
    transposes_S128x256_p1_0_S256x128) bitsLt_bf16_f32) shapeCasts_S256x128_S1x256x128

/-- The second ring after the first `n` units. -/
def PL : ℕ → List (View.Piece (Elt F) S5x2048x256 .bf16)
  | 0 => []
  | u + 1 => pStore A7 (SL A7 q k (min (u + 4) 16)) u (PL u) (2 * nb u)

/-- Unit `u`'s quotient in the body's own order. -/
def outU (u : ℕ) : FVec F S64x256 .f32 := out A7 A8 v (SL A7 q k (min (u + 4) 16)) u (PL A7 q k (u + 1))

end

end Cert.Attn

end
-- ==== Proof.Attn.Ring.lean ====
/-
  The two rings read at an index: what a store of some rows of a slot leaves, what a load of some rows reads.
-/
module

public import proofs.«01_k».proof.Proof.Attn.Model
public import Idealize.ShloMosaic.Lib.ValueLayout

@[expose] public section

set_option maxRecDepth 16384

noncomputable section

namespace Cert.Attn

open Idealize.ShloMosaic Idealize.ShloMosaic.TcCoe Idealize.ShloMosaic.ValueIdx
open Cert.KernelIdeal Cert.KernelIdeal.Gen

variable {V : EltTy → Type} [∀ e, Nonempty (V e)] {e : EltTy}
variable {b : ℕ} {hb : b < 5} {r a : ℕ} {h : r + a ≤ 2048}

/-- Inside the rows a store wrote, the ring holds the payload; -/
theorem canon_piece (w : (Rows a).Idx → V e) (L : List (View.Piece V S5x2048x256 e)) (i : Fin a) (j : Fin 256)
    (y0 : Fin 5) (y1 : Fin 2048) (h0 : y0.val = b) (h1 : y1.val = r + i.val) :
    View.canon (piece b hb r a h w :: L) (ix3 y0 y1 j) = w (ix2 i j) := by
  have hz : (ix3 y0 y1 j : S5x2048x256.Idx) = (slot b hb).emb ((lift r a h).emb (ix3 (0 : Fin 1) i j : (⟨3, ![1, a, 256]⟩ : Shape).Idx)) := by
    funext x; apply Fin.ext; fin_cases x
    · show y0.val = b + 1 * (0 + 1 * 0); omega
    · show y1.val = 0 + 1 * (r + 1 * i.val); omega
    · show j.val = 0 + 1 * (0 + 1 * j.val); omega
  rw [hz]
  refine (View.canon_cons_within_emb (slot b hb) (lift r a h) (fun _ => rfl) _ L _).trans ?_
  exact Rect.payAlong_consLift _ _ _ _ _ _ _ _ (fun x => by fin_cases x <;> rfl)

/-- elsewhere, what it held before. -/
theorem canon_piece_skip (w : (Rows a).Idx → V e) (L : List (View.Piece V S5x2048x256 e)) (j : Fin 256)
    (y0 : Fin 5) (y1 : Fin 2048) (hn : y0.val ≠ b ∨ y1.val < r ∨ r + a ≤ y1.val) :
    View.canon (piece b hb r a h w :: L) (ix3 y0 y1 j) = View.canon L (ix3 y0 y1 j) := by
  refine View.canon_cons_of_not_mem _ _ fun hm => ?_
  have hm' := (LoadRect.mem_set _).mp hm
  obtain ⟨z0, l0, e0⟩ := hm' 0
  obtain ⟨z1, l1, e1⟩ := hm' 1
  have l0' : z0 < 1 := l0
  have l1' : z1 < a := l1
  have e0' : y0.val = b + 0 + 1 * z0 := e0
  have e1' : y1.val = 0 + r + 1 * z1 := e1
  omega

/-- A load of some rows reads the ring at those rows. -/
theorem loadRows_apply {F : FTy → Type} [FloatOps F] {sig : RefSig} {kd : Kind} {sp : Space} (v : View sig kd sp S5x2048x256 e)
    (L : List (View.Piece (Elt F) S5x2048x256 e)) (i : Fin a) (j : Fin 256) (y0 : Fin 5) (y1 : Fin 2048)
    (h0 : y0.val = b) (h1 : y1.val = r + i.val) :
    loadRows v L b hb r a h (ix2 i j) = View.canon L (ix3 y0 y1 j) := by
  unfold loadRows
  rw [View.readCov_eq_canon']
  refine congrArg (View.canon L) ?_
  have hr : Shape.reshapeEquiv (numel_lift r a h).symm (ix2 i j : (Rows a).Idx) = (ix3 (0 : Fin 1) i j : (⟨3, ![1, a, 256]⟩ : Shape).Idx) :=
    reshapeEquiv_ix2_1ab _ _ _
  refine (Rect.idx_withinL _ _ _ _).trans ?_
  refine (congrArg (fun z => (slot b hb).emb ((lift r a h).toLoadRect.idx z)) hr).trans ?_
  funext x; apply Fin.ext; fin_cases x
  · show b + 1 * (0 + 1 * 0) = y0.val; omega
  · show 0 + 1 * (r + 1 * i.val) = y1.val; omega
  · show 0 + 1 * (0 + 1 * j.val) = j.val; omega

end Cert.Attn

end
-- ==== Proof.Attn.Scores.lean ====
/-
  The scores ring at the ideal values: unit `u`'s slot holds, from its store to the fifth unit after, the products of its
  keys with its queries, minus infinity where the key comes after the query.
-/
module

public import proofs.«01_k».proof.Proof.Attn.Ring
public import Idealize.ShloMosaic.Lib.WordCmp
public import Idealize.ShloMosaic.PureOps.IdealRules
public import Idealize.ShloMosaic.Lib.KernelVsHost

@[expose] public section

set_option maxRecDepth 16384

noncomputable section

namespace Cert.Attn

open Idealize.ShloMosaic Idealize.ShloMosaic.TcCoe Idealize.ShloMosaic.ValueIdx
open Cert.KernelIdeal Cert.KernelIdeal.Gen

theorem nb_pos {u : ℕ} (hu : u < 16) : 0 < nb u := by unfold nb; omega

/-- The scores of `n` keys against 256 queries are sums of 128 products. -/
theorem scores_apply {n : ℕ} (q : Vec Ideal S128x256 .bf16) (k : Vec Ideal (⟨3, ![1, n, 128]⟩ : Shape) .bf16)
    (i : Fin n) (j : Fin 256) :
    (scores (F := Ideal) q k (ix2 i j) : EReal) = ∑ d : Fin 128, (k (ix3 (0 : Fin 1) i d) : EReal) * (q (ix2 d j) : EReal) := by
  unfold scores
  rw [shapeCast_self, shapeCast_self]
  refine (Ideal.matmul_plain_apply _ _ _ _ _ _).trans ?_
  refine (congrArg (· + _) (Ideal.ofBits_zero_f32)).trans ?_
  rw [zero_add]
  refine Finset.sum_congr rfl fun d _ => ?_
  refine congrArg (· * (q (ix2 d j) : EReal)) ?_
  exact shapeCast_1ab_ab_apply _ _ _ _

/-- The masked diagonal block keeps the keys up to the query. -/
theorem masked_apply (x : Vec Ideal S256x256 .f32) (i j : Fin 256) :
    (masked (F := Ideal) x (ix2 i j) : EReal) = if i.val ≤ j.val then (x (ix2 i j) : EReal) else ⊥ := by
  unfold masked
  rw [shapeCast_self]
  have hm : (Named.named κ "mask" 0xF149F2CA#32 : Ideal .f32) = (⊥ : EReal) :=
    IdealRules.named_const.ideal_named_scalar _ _ _ _ rfl
  have h0 : iota .tc S256x256 32 [0] iota_S256x256_d0_w32 (ix2 i j) = BitVec.ofNat 32 i.val := iota_single_apply ..
  have h1 : iota .tc S256x256 32 [1] iota_S256x256_d1_w32 (ix2 i j) = BitVec.ofNat 32 j.val := iota_single_apply ..
  show (if IntOp.cmpi .sle (iota .tc S256x256 32 [0] iota_S256x256_d0_w32 (ix2 i j))
    (iota .tc S256x256 32 [1] iota_S256x256_d1_w32 (ix2 i j)) = 1#1 then x (ix2 i j) else _) = _
  rw [h0, h1]
  have hi := i.isLt
  have hj := j.isLt
  have hc := WordCmp.cmpi_sle_ofNat_eq_one_iff (w := 32) (a := i.val) (b := j.val) (by norm_num; omega) (by norm_num; omega)
  by_cases h : i.val ≤ j.val
  · rw [if_pos (hc.mpr h), if_pos h]
  · rw [if_neg (fun e => h (hc.mp e)), if_neg h]; exact hm

section
variable {sig : RefSig} {kd : Kind} {sp7 : Space} (A7 : View sig kd sp7 S5x2048x256 .f32)
variable (q : ℕ → Vec Ideal S128x256 .bf16) (k : ∀ u, Vec Ideal (⟨3, ![1, 256 * nb u, 128]⟩ : Shape) .bf16)

/-- Key `i` against query `j` of unit `u`, minus infinity if the key comes after the query. -/
def ms (u : ℕ) (i : Fin (256 * nb u)) (j : Fin 256) : EReal :=
  if i.val ≤ 256 * (nb u - 1) + j.val then ∑ d : Fin 128, (k u (ix3 (0 : Fin 1) i d) : EReal) * (q u (ix2 d j) : EReal) else ⊥

/-- The ring just after unit `u`. -/
theorem canon_sStore (u : ℕ) (hu : u < 16) (L : List (View.Piece (Elt Ideal) S5x2048x256 .f32)) (i : Fin (256 * nb u)) (j : Fin 256)
    (y0 : Fin 5) (y1 : Fin 2048) (h0 : y0.val = sl u) (h1 : y1.val = i.val) :
    (View.canon (sStore A7 q k u L) (ix3 y0 y1 j) : EReal) = ms q k u i j := by
  have hnb := nb_pos hu
  have hi := i.isLt
  have hs : (View.canon (sFirst q k u L) (ix3 y0 y1 j) : EReal) = ∑ d : Fin 128, (k u (ix3 (0 : Fin 1) i d) : EReal) * (q u (ix2 d j) : EReal) :=
    (canon_piece _ _ i j y0 y1 h0 (by omega)).trans (scores_apply _ _ _ _)
  unfold sStore ms
  by_cases hd : 256 * (nb u - 1) ≤ i.val
  · have hlt : i.val - 256 * (nb u - 1) < 256 := by omega
    refine (canon_piece _ _ ⟨i.val - 256 * (nb u - 1), hlt⟩ j y0 y1 h0 (by simp only; omega)).trans ?_
    refine (masked_apply _ _ _).trans ?_
    have hl := (loadRows_apply (hb := sl_lt u) (h := diag_le u) A7 (sFirst q k u L) ⟨i.val - 256 * (nb u - 1), hlt⟩ j y0 y1 h0 (by simp only; omega)).trans hs
    by_cases hc : i.val ≤ 256 * (nb u - 1) + j.val
    · rw [if_pos hc, if_pos (by simp only; omega)]; exact hl
    · rw [if_neg hc, if_neg (by simp only; omega)]
  · refine (canon_piece_skip _ _ j y0 y1 (by omega)).trans ?_
    rw [if_pos (by omega)]; exact hs

/-- Another slot's unit leaves it. -/
theorem canon_sStore_skip (u : ℕ) (L : List (View.Piece (Elt Ideal) S5x2048x256 .f32)) (j : Fin 256)
    (y0 : Fin 5) (y1 : Fin 2048) (h0 : y0.val ≠ sl u) :
    View.canon (sStore A7 q k u L) (ix3 y0 y1 j) = View.canon L (ix3 y0 y1 j) :=
  (canon_piece_skip _ _ j y0 y1 (.inl h0)).trans (canon_piece_skip _ _ j y0 y1 (.inl h0))

/-- The ring after up to five units from `u` on. -/
theorem canon_SL (u : ℕ) (hu : u < 16) (i : Fin (256 * nb u)) (j : Fin 256)
    (y0 : Fin 5) (y1 : Fin 2048) (h0 : y0.val = sl u) (h1 : y1.val = i.val) :
    ∀ m, m ≤ 4 → (View.canon (SL A7 q k (u + 1 + m)) (ix3 y0 y1 j) : EReal) = ms q k u i j
  | 0, _ => canon_sStore A7 q k u hu _ i j y0 y1 h0 h1
  | m + 1, hm => (canon_sStore_skip A7 q k (u + 1 + m) _ j y0 y1 (by rw [h0]; unfold sl; omega)).trans
      (canon_SL u hu i j y0 y1 h0 h1 m (by omega))

/-- A chunk of unit `u`'s scores, as the exponential reads it. -/
theorem X_apply (u : ℕ) (hu : u < 16) (t : ℕ) (ht : t < 2 * nb u) (i : Fin 128) (j : Fin 256) :
    (X A7 (SL A7 q k (min (u + 4) 16)) u t (ix2 i j) : EReal) = ms q k u ⟨128 * t + i.val, by have := i.isLt; omega⟩ j := by
  have hn := nb_le u
  have hi := i.isLt
  have hm : min (u + 4) 16 = u + 1 + (min (u + 4) 16 - (u + 1)) := by omega
  have ht' : min t 15 = t := by omega
  unfold X
  refine (loadRows_apply A7 _ i j ⟨sl u, sl_lt u⟩ ⟨128 * t + i.val, by omega⟩ rfl (by simp only; rw [ht'])).trans ?_
  rw [hm]
  exact canon_SL A7 q k u hu _ j _ _ rfl rfl _ (by omega)

end

end Cert.Attn

end
-- ==== Proof.Attn.Softmax.lean ====
/-
# A softmax column, read with two bases and two subtracted numbers

The kernel exponentiates with base two the scores divided by `log 2`, subtracts its own row maximum, sums the
values' products first and divides once; the reference exponentiates with base `e`, subtracts another maximum and
divides every weight.  On a column whose allowed scores are real and whose other weights are zero the two agree,
whatever the values are.
-/
module

public import Idealize.ShloMosaic.PureOps.Ideal.Laws

@[expose] public section

noncomputable section

namespace Cert.Attn

open Idealize.ShloMosaic

/-- A real factor that is not negative moves out of a sum of extended reals. -/
theorem sum_mul_real (s : Finset ℕ) (f : ℕ → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a),
      mul_comm (∑ i ∈ s, f i)]
    exact EReal.left_distrib_of_nonneg_of_ne_top (by exact_mod_cast hc) (EReal.coe_ne_top c) _ _

/-- A finite sum of reals, read as an extended real. -/
theorem coe_sum (s : Finset ℕ) (f : ℕ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_fin {n : ℕ} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

/-- The terms beyond the allowed ones are zero, so a sum over more of them is the sum over the allowed ones. -/
theorem sum_allowed {n Q : ℕ} (hQ : Q < n) (f : ℕ → EReal) (h0 : ∀ i, Q < i → i < n → f i = 0) :
    ∑ i ∈ Finset.range n, f i = ∑ i ∈ Finset.range (Q + 1), f i := by
  refine (Finset.sum_subset (fun i hi => Finset.mem_range.mpr ?_) ?_).symm
  · have := Finset.mem_range.mp hi; omega
  · intro i hi hi'
    exact h0 i (by by_contra h; exact hi' (Finset.mem_range.mpr (by omega))) (Finset.mem_range.mp hi)

/-- **One entry of the attention's output**: the values' products divided once by the weights' sum, the weights
taken with one subtracted number over `n` positions, are the values times the divided weights taken with another
subtracted number over `N` positions. -/
theorem softmax_col {n N Q : ℕ} (hn : Q < n) (hN : Q < N) (r : ℕ → ℝ) (m m' : ℝ) (V e e' : ℕ → EReal)
    (he : ∀ i, i ≤ Q → e i = ((Real.exp (r i - m) : ℝ) : EReal)) (he0 : ∀ i, Q < i → i < n → e i = 0)
    (he' : ∀ i, i ≤ Q → e' i = ((Real.exp (r i - m') : ℝ) : EReal)) (he0' : ∀ i, Q < i → i < N → e' i = 0) :
    Ideal.div (∑ i ∈ Finset.range n, V i * e i) (∑ i ∈ Finset.range n, e i)
      = ∑ i ∈ Finset.range N, V i * Ideal.div (e' i) (0 + ∑ k ∈ Finset.range N, e' k) := by
  have hmem : ∀ i ∈ Finset.range (Q + 1), i ≤ Q := fun i hi => by have := Finset.mem_range.mp hi; omega
  have hpos : ∀ m : ℝ, 0 < ∑ i ∈ Finset.range (Q + 1), Real.exp (r i - m) := fun m =>
    Finset.sum_pos (fun i _ => Real.exp_pos _) ⟨0, Finset.mem_range.mpr (by omega)⟩
  have hs : ∑ i ∈ Finset.range n, e i = ((∑ i ∈ Finset.range (Q + 1), Real.exp (r i - m) : ℝ) : EReal) := by
    rw [sum_allowed hn e he0, coe_sum]
    exact Finset.sum_congr rfl fun i hi => he i (hmem i hi)
  have hs' : ∑ i ∈ Finset.range N, e' i = ((∑ i ∈ Finset.range (Q + 1), Real.exp (r i - m') : ℝ) : EReal) := by
    rw [sum_allowed hN e' he0', coe_sum]
    exact Finset.sum_congr rfl fun i hi => he' i (hmem i hi)
  rw [hs, hs', zero_add, Ideal.div_coe (hpos m).ne',
    sum_allowed hn (fun i => V i * e i) (fun i h h' => by rw [he0 i h h', mul_zero]),
    sum_mul_real _ _ (by have := hpos m; positivity)]
  rw [sum_allowed hN _ (fun i h h' => by
    rw [he0' i h h', Ideal.div_coe (hpos m').ne', zero_mul, mul_zero])]
  refine Finset.sum_congr rfl fun i hi => ?_
  rw [he i (hmem i hi), he' i (hmem i hi), Ideal.div_coe (hpos m').ne', mul_assoc, ← EReal.coe_mul,
    ← EReal.coe_mul]
  congr 2
  have h1 : ∀ i, Real.exp (r i - m) = Real.exp (r i - m') * Real.exp (m' - m) := fun i => by
    rw [← Real.exp_add]; congr 1; ring
  have h2 : ∑ i ∈ Finset.range (Q + 1), Real.exp (r i - m)
      = (∑ i ∈ Finset.range (Q + 1), Real.exp (r i - m')) * Real.exp (m' - m) := by
    rw [Finset.sum_mul]; exact Finset.sum_congr rfl fun i _ => h1 i
  rw [h2, h1 i]
  have := (hpos m').ne'
  have := (Real.exp_pos (m' - m)).ne'
  field_simp

/-- The base-two weight of a score divided by `log 2` is the base-`e` weight. -/
theorem rpow_two (r M : ℝ) : Real.rpow 2 (r / Real.log 2 - M) = Real.exp (r - Real.log 2 * M) := by
  have h : Real.log 2 ≠ 0 := (Real.log_pos (by norm_num)).ne'
  show (2 : ℝ) ^ (r / Real.log 2 - M) = _
  rw [Real.rpow_def_of_pos (by norm_num)]
  congr 1
  field_simp

end Cert.Attn

end
-- ==== Proof.Attn.Unit.lean ====
/-
  One unit of the attention body at the ideal values: a real row maximum, the sum of the exponentials over all its keys,
  and the quotient of the values' products by that sum.
-/
module

public import proofs.«01_k».proof.Proof.Attn.Scores
public import proofs.«01_k».proof.Proof.Attn.Softmax

@[expose] public section

set_option maxRecDepth 16384

noncomputable section

namespace Cert.Attn

open Idealize.ShloMosaic Idealize.ShloMosaic.TcCoe Idealize.ShloMosaic.ValueIdx
open Cert.KernelIdeal Cert.KernelIdeal.Gen

/-- Row `8 a + c` of a chunk. -/
theorem row8_lt (a : Fin 16) (c : Fin 8) : a.val * 8 + c.val < 128 := by have := a.isLt; have := c.isLt; omega
def row8 (a : Fin 16) (c : Fin 8) : Fin 128 := ⟨a.val * 8 + c.val, row8_lt a c⟩

theorem cast8_apply (x : Vec Ideal S128x256 .f32) (a : Fin 16) (c : Fin 8) (j : Fin 256) :
    shapeCast S16x8x256 x shapeCasts_S128x256_S16x8x256 (ix3 a c j) = x (ix2 (row8 a c) j) :=
  shapeCast_apply x _ _ _ (by rw [Shape.rowMajor_val_two, Shape.rowMajor_val_three]; rfl)

/-- A chunk's sums add sixteen rows. -/
theorem sum8_apply (x : Vec Ideal S128x256 .f32) (c : Fin 8) (j : Fin 256) :
    (sum8 (F := Ideal) x (ix2 c j) : EReal) = ∑ a : Fin 16, (x (ix2 (row8 a c) j) : EReal) := by
  unfold sum8
  refine (Ideal.multiReduction_add_single (s := S16x8x256) (t := S8x256) (a := 0) (shapeCast S16x8x256 x shapeCasts_S128x256_S16x8x256) _ reduces_S16x8x256_S8x256 (.inl rfl) rfl (ix2 c j)).trans ?_
  refine Finset.sum_congr rfl fun a _ => ?_
  refine (congrArg (shapeCast S16x8x256 x shapeCasts_S128x256_S16x8x256) ?_).trans (cast8_apply x a c j)
  funext z; apply Fin.ext; fin_cases z <;> rfl

/-- The maximum over the sixteen rows, -/
theorem fold8_apply (x : Vec Ideal S128x256 .f32) (c : Fin 8) (j : Fin 256) :
    (fold8 (F := Ideal) x (ix2 c j) : EReal)
      = (Finset.univ : Finset (Fin 16)).fold max (⊥ : EReal) fun a => (x (ix2 (row8 a c) j) : EReal) := by
  unfold fold8
  refine (Ideal.multiReduction_maximumf_single (s := S16x8x256) (t := S8x256) (a := 0) (shapeCast S16x8x256 x shapeCasts_S128x256_S16x8x256) _ reduces_S16x8x256_S8x256 (.inl rfl) rfl (ix2 c j)).trans ?_
  have hb : (FloatOps.ofBits .f32 (FKind.maximumf.neutral .f32 (.inl rfl)) : Ideal .f32) = (⊥ : EReal) := by
    show Ideal.ofBits .f32 0xFF800000#32 = ⊥
    simp [Ideal.ofBits, Ideal.ieee]
  rw [hb]
  refine congrArg (fun f : Fin 16 → EReal => Finset.univ.fold max ⊥ f) (funext fun a => ?_)
  refine (congrArg (shapeCast S16x8x256 x shapeCasts_S128x256_S16x8x256) ?_).trans (cast8_apply x a c j)
  funext z; apply Fin.ext; fin_cases z <;> rfl

section
variable {sig : RefSig} {kd : Kind} {sp7 sp8 : Space} (A7 : View sig kd sp7 S5x2048x256 .f32) (A8 : View sig kd sp8 S5x2048x256 .bf16)
variable (L : List (View.Piece (Elt Ideal) S5x2048x256 .f32)) (u : ℕ)

theorem mx_lt (c : Fin 8) (j : Fin 256) : ∀ t, (∀ t', t' ≤ t → ∀ i, (X A7 L u t' (ix2 i j) : EReal) < ⊤) →
    (mx A7 L u t (ix2 c j) : EReal) < ⊤
  | 0, h => by
    unfold mx
    rw [fold8_apply]
    exact (Finset.fold_max_lt _).mpr ⟨bot_lt_top, fun a _ => h 0 le_rfl _⟩
  | t + 1, h => by
    unfold mx
    refine max_lt (mx_lt c j t fun t' ht => h t' (by omega)) ?_
    rw [fold8_apply]
    exact (Finset.fold_max_lt _).mpr ⟨bot_lt_top, fun a _ => h (t + 1) le_rfl _⟩

theorem le_mx (j : Fin 256) : ∀ t, (X A7 L u 0 (ix2 (0 : Fin 128) j) : EReal) ≤ (mx A7 L u t (ix2 (0 : Fin 8) j) : EReal)
  | 0 => by
    unfold mx
    rw [fold8_apply]
    exact (Finset.le_fold_max _).mpr (.inr ⟨0, Finset.mem_univ _, le_of_eq rfl⟩)
  | t + 1 => by unfold mx; exact le_max_of_le_left (le_mx j t)

/-- The row of maxima as a fold of the eight partial ones. -/
theorem mRow_apply (j : Fin 256) : (mRow A7 L u (ix2 (0 : Fin 1) j) : EReal)
    = (Finset.univ : Finset (Fin 8)).fold max (⊥ : EReal) fun c => (mx A7 L u (2 * nb u - 1) (ix2 c j) : EReal) := by
  unfold mRow
  refine (shapeCast_a_1a_apply _ _ _ _).trans ?_
  refine (Ideal.multiReduction_maximumf_single (s := S8x256) (t := S256) (a := 0) (mx A7 L u (2 * nb u - 1)) _ reduces_S8x256_S256 (.inl rfl) rfl (ix1 j)).trans ?_
  have hb : (FloatOps.ofBits .f32 (FKind.maximumf.neutral .f32 (.inl rfl)) : Ideal .f32) = (⊥ : EReal) := by
    show Ideal.ofBits .f32 0xFF800000#32 = ⊥
    simp [Ideal.ofBits, Ideal.ieee]
  rw [hb]
  refine congrArg (fun f : Fin 8 → EReal => Finset.univ.fold max ⊥ f) (funext fun c => ?_)
  refine congrArg (mx A7 L u (2 * nb u - 1)) ?_
  funext z; apply Fin.ext; fin_cases z <;> rfl

/-- The sums of the first chunks, -/
theorem sm_apply (c : Fin 8) (j : Fin 256) : ∀ t, (sm A7 L u t (ix2 c j) : EReal)
    = ∑ t' ∈ Finset.range (t + 1), ∑ a : Fin 16, (P A7 L u t' (ix2 (row8 a c) j) : EReal)
  | 0 => by unfold sm; rw [sum8_apply, Finset.sum_range_one]
  | t + 1 => by
    rw [Finset.sum_range_succ, ← sm_apply c j t, ← sum8_apply]
    rfl

/-- and the row of sums. -/
theorem lRow_apply (j : Fin 256) : (lRow A7 L u (ix2 (0 : Fin 1) j) : EReal)
    = ∑ c : Fin 8, (sm A7 L u (2 * nb u - 1) (ix2 c j) : EReal) := by
  unfold lRow
  refine (shapeCast_a_1a_apply _ _ _ _).trans ?_
  refine (Ideal.multiReduction_add_single (s := S8x256) (t := S256) (a := 0) (sm A7 L u (2 * nb u - 1)) _ reduces_S8x256_S256 (.inl rfl) rfl (ix1 j)).trans ?_
  refine Finset.sum_congr rfl fun c _ => ?_
  refine congrArg (sm A7 L u (2 * nb u - 1)) ?_
  funext z; apply Fin.ext; fin_cases z <;> rfl

theorem P_apply (t : ℕ) (i : Fin 128) (j : Fin 256) : (P A7 L u t (ix2 i j) : EReal)
    = Ideal.exp2 ((X A7 L u t (ix2 i j) : EReal) - (mRow A7 L u (ix2 (0 : Fin 1) j) : EReal)) := by
  unfold P
  refine congrArg Ideal.exp2 (congrArg ((X A7 L u t (ix2 i j) : EReal) - ·) ?_)
  exact broadcastTo_1b_ab_apply _ _ _ _

/-- A chunk stored into the second ring, read back. -/
theorem canon_pStore (j : Fin 256) (r : Fin 128) (t : ℕ) (L8 : List (View.Piece (Elt Ideal) S5x2048x256 .bf16))
    (y0 : Fin 5) (y1 : Fin 2048) (h0 : y0.val = sl u) (h1 : y1.val = 128 * t + r.val) :
    ∀ n, t < n → n ≤ 16 → (View.canon (pStore A7 L u L8 n) (ix3 y0 y1 j) : EReal) = (P A7 L u t (ix2 r j) : EReal)
  | 0, h, _ => absurd h (Nat.not_lt_zero _)
  | n + 1, h, hn => by
    have hr := r.isLt
    have hn' : min n 15 = n := by omega
    by_cases ht : t = n
    · subst ht
      have hz : (ix3 y0 y1 j : S5x2048x256.Idx) = (pPiece A7 L u t).1.emb (ix3 (0 : Fin 1) r j : S1x128x256.Idx) := by
        funext x; apply Fin.ext; fin_cases x
        · show y0.val = sl u + 1 * 0; omega
        · show y1.val = 128 * min t 15 + 1 * r.val; omega
        · show j.val = 0 + 1 * j.val; omega
      unfold pStore
      rw [hz]
      refine (View.canon_cons_emb _ _ _ _).trans ?_
      refine (shapeCast_ab_1ab_apply _ _ _ _ _).trans ?_
      rw [shapeCast_self]
      rfl
    · refine (View.canon_cons_of_not_mem _ _ fun hm => ?_).trans (canon_pStore j r t L8 y0 y1 h0 h1 n (by omega) (by omega))
      have hm' := (LoadRect.mem_set _).mp hm
      obtain ⟨z1, l1, e1⟩ := hm' 1
      have l1' : z1 < 128 := l1
      have e1' : y1.val = 128 * min n 15 + 1 * z1 := e1
      omega

/-- The quotient at an index. -/
theorem out_apply (v : ∀ u, Vec Ideal (⟨2, ![64, 256 * nb u]⟩ : Shape) .bf16) (hu : u < 16)
    (L8 : List (View.Piece (Elt Ideal) S5x2048x256 .bf16)) (d : Fin 64) (j : Fin 256) :
    (out A7 A8 v L u (pStore A7 L u L8 (2 * nb u)) (ix2 d j) : EReal)
      = Ideal.div (∑ i : Fin (256 * nb u), (v u (ix2 d i) : EReal)
          * (P A7 L u (i.val / 128) (ix2 (⟨i.val % 128, Nat.mod_lt _ (by norm_num)⟩ : Fin 128) j) : EReal))
        (lRow A7 L u (ix2 (0 : Fin 1) j) : EReal) := by
  unfold out
  refine congrArg₂ Ideal.div ?_ (broadcastTo_1b_ab_apply _ _ _ _)
  refine (Ideal.matmul_plain_apply _ _ _ _ _ _).trans ?_
  refine (congrArg (· + _) (Ideal.ofBits_zero_f32)).trans ?_
  rw [zero_add]
  refine Finset.sum_congr rfl fun i _ => ?_
  refine congrArg ((v u (ix2 d i) : EReal) * ·) ?_
  refine (shapeCast_1ab_ab_apply _ _ _ _).trans ?_
  unfold pLoad
  rw [View.readCov_eq_canon']
  have hi := i.isLt
  have hnb := nb_le u
  refine (congrArg (View.canon _) (?_ : _ = ix3 (⟨sl u, sl_lt u⟩ : Fin 5) (⟨i.val, by omega⟩ : Fin 2048) j)).trans
    (canon_pStore A7 L u j ⟨i.val % 128, Nat.mod_lt _ (by norm_num)⟩ (i.val / 128) L8 _ _ rfl (by simp only; omega) (2 * nb u) (by omega) (by omega))
  funext x; apply Fin.ext; fin_cases x
  · show sl u + 1 * 0 = sl u; omega
  · show 0 + 1 * i.val = i.val; omega
  · show 0 + 1 * j.val = j.val; omega

end

/-- A sum over `n` chunks of 128 rows, eight interleaved partial sums of sixteen rows each, is the sum over the rows. -/
theorem sum_chunks (f : ℕ → EReal) (n : ℕ) :
    ∑ c : Fin 8, ∑ t ∈ Finset.range n, ∑ a : Fin 16, f (128 * t + (a.val * 8 + c.val)) = ∑ i ∈ Finset.range (128 * n), f i := by
  rw [Finset.sum_comm]
  have h1 : ∀ t, ∑ c : Fin 8, ∑ a : Fin 16, f (128 * t + (a.val * 8 + c.val)) = ∑ r ∈ Finset.range 128, f (128 * t + r) := fun t => by
    rw [Finset.sum_comm, ← Finset.sum_product', ← Fin.sum_univ_eq_sum_range (fun r => f (128 * t + r)) 128]
    rw [← Equiv.sum_comp (finProdFinEquiv (m := 16) (n := 8)), Finset.univ_product_univ]
    refine Finset.sum_congr rfl fun p _ => ?_
    refine congrArg f ?_
    show 128 * t + (p.1.val * 8 + p.2.val) = 128 * t + (p.2.val + 8 * p.1.val)
    omega
  rw [Finset.sum_congr rfl fun t _ => h1 t]
  induction n with
  | zero => simp
  | succ n ih => rw [Finset.sum_range_succ, ih, show 128 * (n + 1) = 128 * n + 128 by ring, Finset.sum_range_add]

section
variable {sig : RefSig} {kd : Kind} {sp7 sp8 : Space} (A7 : View sig kd sp7 S5x2048x256 .f32) (A8 : View sig kd sp8 S5x2048x256 .bf16)
variable (q : ℕ → Vec Ideal S128x256 .bf16) (k : ∀ u, Vec Ideal (⟨3, ![1, 256 * nb u, 128]⟩ : Shape) .bf16)
variable (v : ∀ u, Vec Ideal (⟨2, ![64, 256 * nb u]⟩ : Shape) .bf16) (u : ℕ) (hu : u < 16) (j : Fin 256)

include hu in
/-- **A unit's output**: with no score infinite above and the first key's score real, there is a real number the unit
subtracts, and its output is the quotient of two sums over its keys. -/
theorem outU_apply (ht : ∀ i, ms q k u i j < ⊤) (z : Fin (256 * nb u)) (hz : z.val = 0) (h0 : ms q k u z j ≠ ⊥) :
    ∃ m : ℝ, ∀ d : Fin 64, (outU A7 A8 q k v u (ix2 d j) : EReal)
      = Ideal.div (∑ i : Fin (256 * nb u), (v u (ix2 d i) : EReal) * Ideal.exp2 (ms q k u i j - (m : EReal)))
        (∑ i : Fin (256 * nb u), Ideal.exp2 (ms q k u i j - (m : EReal))) := by
  have hnb := nb_pos hu
  obtain ⟨L, hL⟩ : ∃ L, L = SL A7 q k (min (u + 4) 16) := ⟨_, rfl⟩
  have hX : ∀ t, t < 2 * nb u → ∀ (i : Fin 128) (h : 128 * t + i.val < 256 * nb u), (X A7 L u t (ix2 i j) : EReal) = ms q k u ⟨128 * t + i.val, h⟩ j :=
    fun t ht i h => by rw [hL]; exact X_apply A7 q k u hu t ht i j
  have hb : ∀ t, t < 2 * nb u → ∀ i : Fin 128, 128 * t + i.val < 256 * nb u := fun t ht i => by have := i.isLt; omega
  have hmt : (mRow A7 L u (ix2 (0 : Fin 1) j) : EReal) < ⊤ := by
    rw [mRow_apply]
    refine (Finset.fold_max_lt _).mpr ⟨bot_lt_top, fun c _ => mx_lt A7 L u c j _ fun t' ht' i => ?_⟩
    rw [hX t' (by omega) i (hb t' (by omega) i)]
    exact ht _
  have hmb : (mRow A7 L u (ix2 (0 : Fin 1) j) : EReal) ≠ ⊥ := by
    have h1 : ms q k u z j ≤ (mRow A7 L u (ix2 (0 : Fin 1) j) : EReal) := by
      rw [mRow_apply]
      refine (Finset.le_fold_max _).mpr (.inr ⟨0, Finset.mem_univ _, ?_⟩)
      refine le_trans (le_of_eq ?_) (le_mx A7 L u j _)
      rw [hX 0 (by omega) 0 (hb 0 (by omega) 0)]
      exact congrArg (fun i => ms q k u i j) (Fin.ext (by rw [hz]; rfl))
    intro e
    exact h0 (le_bot_iff.mp (e ▸ h1))
  obtain ⟨m, hm⟩ : ∃ m : ℝ, (mRow A7 L u (ix2 (0 : Fin 1) j) : EReal) = (m : EReal) := ⟨_, (EReal.coe_toReal hmt.ne hmb).symm⟩
  refine ⟨m, fun d => ?_⟩
  have hP : ∀ t, t < 2 * nb u → ∀ (i : Fin 128) (h : 128 * t + i.val < 256 * nb u), (P A7 L u t (ix2 i j) : EReal)
      = Ideal.exp2 (ms q k u ⟨128 * t + i.val, h⟩ j - (m : EReal)) := fun t ht i h => by
    rw [P_apply, hX t ht i h, hm]
  have hl : (lRow A7 L u (ix2 (0 : Fin 1) j) : EReal) = ∑ i : Fin (256 * nb u), Ideal.exp2 (ms q k u i j - (m : EReal)) := by
    rw [lRow_apply]
    obtain ⟨g, hg⟩ : ∃ g : ℕ → EReal, g = fun i : ℕ => if h : i < 256 * nb u then Ideal.exp2 (ms q k u ⟨i, h⟩ j - (m : EReal)) else 0 := ⟨_, rfl⟩
    have hf : ∀ (i : ℕ) (h : i < 256 * nb u), Ideal.exp2 (ms q k u ⟨i, h⟩ j - (m : EReal)) = g i := fun i h => by
      rw [hg]; simp only [h, dite_true]
    refine Eq.trans ?_ (Finset.sum_congr rfl fun i _ => hf i.val i.isLt).symm
    rw [Fin.sum_univ_eq_sum_range g, show 256 * nb u = 128 * (2 * nb u) by ring, ← sum_chunks]
    refine Finset.sum_congr rfl fun c _ => ?_
    rw [sm_apply, show 2 * nb u - 1 + 1 = 2 * nb u by omega]
    refine Finset.sum_congr rfl fun t ht => Finset.sum_congr rfl fun a _ => ?_
    have ht' := Finset.mem_range.mp ht
    have hh : 128 * t + (row8 a c).val < 256 * nb u := hb t ht' _
    rw [hP t ht' (row8 a c) hh]
    exact hf _ hh
  have ho := out_apply A7 A8 L u v hu (PL A7 q k u) d j
  have hU : outU A7 A8 q k v u = out A7 A8 v L u (pStore A7 L u (PL A7 q k u) (2 * nb u)) := by rw [hL]; rfl
  rw [hU, ho, hl]
  refine congrArg (fun x => Ideal.div x _) ?_
  refine Finset.sum_congr rfl fun i _ => ?_
  have hi := i.isLt
  refine congrArg ((v u (ix2 d i) : EReal) * ·) ?_
  rw [hP (i.val / 128) (by omega) _ (by simp only; omega)]
  exact congrArg (fun i => Ideal.exp2 (ms q k u i j - (m : EReal))) (Fin.ext (by simp only; omega))

end

end Cert.Attn

end
-- ==== Proof.Attn.Tie.lean ====
/-
  The unrolled body is the loop: the names of the executed body at the model's values.
-/
module

public import proofs.«01_k».proof.Proof.Attn.Model

@[expose] public section

set_option maxRecDepth 100000

noncomputable section

namespace Cert.Attn

open Idealize.ShloMosaic Idealize.ShloMosaic.TcCoe
open Cert.KernelIdeal Cert.KernelIdeal.Gen
open kernelRun0_A.sl
variable {F : FTy → Type} [FloatOps F] [Named F]
variable (c : Dev nD) (arg2 : Memref sig .tc .vmem S256x2048 .bf16) (harg2 : arg2.IsWhole) (arg3 : Memref sig .tc .vmem S1x2048x256 .bf16) (harg3 : arg3.IsWhole)
  (arg4 : Memref sig .tc .vmem S1x2048x128 .bf16) (harg4 : arg4.IsWhole) (arg6 : Memref sig .tc .vmem S128x2048 .bf16)
  (arg7 : Memref sig .tc .vmem S5x2048x256 .f32) (arg8 : Memref sig .tc .vmem S5x2048x256 .bf16)
  (x0 : Vec F S256x2048 .bf16) (x1 : Vec F S1x2048x256 .bf16) (x2 : Vec F S1x2048x128 .bf16)

theorem qAt_le (u : ℕ) : 128 * hd u + 128 ≤ 256 := by have := hd_lt u; omega
theorem kAt_le (u : ℕ) : 0 + 256 * nb u ≤ 2048 := unit_le u
theorem vAt_le (u : ℕ) : 64 * hd u + 64 ≤ 128 := by have := hd_lt u; omega

/-- The queries unit `u` loads, -/
def qAt (u : ℕ) : Vec F S128x256 .bf16 :=
  View.readAt (Elt F) arg2.view (Rect.unit (s := S256x2048) ![128 * hd u, 256 * (nb u - 1)] S128x256.size
    (Rect.inb₂ (qAt_le u) (diag_le u))).toLoadRect (harg2.unread x0)
/-- its keys, -/
def kAt (u : ℕ) : Vec F (⟨3, ![1, 256 * nb u, 128]⟩ : Shape) .bf16 :=
  View.readAt (Elt F) arg3.view (Rect.unit (s := S1x2048x256) ![0, 0, 128 * hd u] ![1, 256 * nb u, 128]
    (inb3 (le_refl 1) (kAt_le u) (qAt_le u))).toLoadRect (harg3.unread x1)
/-- and its values, from the transposed copy. -/
def vAt (u : ℕ) : Vec F (⟨2, ![64, 256 * nb u]⟩ : Shape) .bf16 :=
  arg6.view.readCov (HS0_1 c arg4 harg4 x2) (Rect.unit (s := S128x2048) ![64 * hd u, 0] ![64, 256 * nb u]
    (Rect.inb₂ (vAt_le u) (kAt_le u))).toLoadRect

/-- The rows of the output window that units `2 w` and `2 w + 1` write. -/
def oRect (w : ℕ) : Rect S1x2048x128 :=
  Rect.unit (s := S1x2048x128) ![0, 256 * (7 - w), 0] S1x256x128.size (inb3 (le_refl 1) (by show 256 * (7 - w) + 256 ≤ 2048; omega) (le_refl 128))

theorem s8 : HS1_8 c arg2 harg2 arg3 harg3 arg7 x0 x1 = SL arg7.view (qAt arg2 harg2 x0) (kAt arg3 harg3 x1) 4 := rfl
theorem s10 : (HS1_10 c arg2 harg2 arg3 harg3 arg7 x0 x1)
    = SL arg7.view (qAt arg2 harg2 x0) (kAt arg3 harg3 x1) 5 :=
  (rfl : (HS1_10 c arg2 harg2 arg3 harg3 arg7 x0 x1)
    = sStore arg7.view (qAt arg2 harg2 x0) (kAt arg3 harg3 x1) 4 (HS1_8 c arg2 harg2 arg3 harg3 arg7 x0 x1)).trans
    (congrArg (sStore arg7.view (qAt arg2 harg2 x0) (kAt arg3 harg3 x1) 4) (s8 ..))
theorem s12 : (HS1_12 c arg2 harg2 arg3 harg3 arg7 x0 x1)
    = SL arg7.view (qAt arg2 harg2 x0) (kAt arg3 harg3 x1) 6 :=
  (rfl : (HS1_12 c arg2 harg2 arg3 harg3 arg7 x0 x1)
    = sStore arg7.view (qAt arg2 harg2 x0) (kAt arg3 harg3 x1) 5 (HS1_10 c arg2 harg2 arg3 harg3 arg7 x0 x1)).trans
    (congrArg (sStore arg7.view (qAt arg2 harg2 x0) (kAt arg3 harg3 x1) 5) (s10 ..))
theorem s14 : (HS1_14 c arg2 harg2 arg3 harg3 arg7 x0 x1)
    = SL arg7.view (qAt arg2 harg2 x0) (kAt arg3 harg3 x1) 7 :=
  (rfl : (HS1_14 c arg2 harg2 arg3 harg3 arg7 x0 x1)
    = sStore arg7.view (qAt arg2 harg2 x0) (kAt arg3 harg3 x1) 6 (HS1_12 c arg2 harg2 arg3 harg3 arg7 x0 x1)).trans
    (congrArg (sStore arg7.view (qAt arg2 harg2 x0) (kAt arg3 harg3 x1) 6) (s12 ..))
theorem s16 : (HS1_16 c arg2 harg2 arg3 harg3 arg7 x0 x1)
    = SL arg7.view (qAt arg2 harg2 x0) (kAt arg3 harg3 x1) 8 :=
  (rfl : (HS1_16 c arg2 harg2 arg3 harg3 arg7 x0 x1)
    = sStore arg7.view (qAt arg2 harg2 x0) (kAt arg3 harg3 x1) 7 (HS1_14 c arg2 harg2 arg3 harg3 arg7 x0 x1)).trans
    (congrArg (sStore arg7.view (qAt arg2 harg2 x0) (kAt arg3 harg3 x1) 7) (s14 ..))
theorem s18 : (HS1_18 c arg2 harg2 arg3 harg3 arg7 x0 x1)
    = SL arg7.view (qAt arg2 harg2 x0) (kAt arg3 harg3 x1) 9 :=
  (rfl : (HS1_18 c arg2 harg2 arg3 harg3 arg7 x0 x1)
    = sStore arg7.view (qAt arg2 harg2 x0) (kAt arg3 harg3 x1) 8 (HS1_16 c arg2 harg2 arg3 harg3 arg7 x0 x1)).trans
    (congrArg (sStore arg7.view (qAt arg2 harg2 x0) (kAt arg3 harg3 x1) 8) (s16 ..))
theorem s20 : (HS1_20 c arg2 harg2 arg3 harg3 arg7 x0 x1)
    = SL arg7.view (qAt arg2 harg2 x0) (kAt arg3 harg3 x1) 10 :=
  (rfl : (HS1_20 c arg2 harg2 arg3 harg3 arg7 x0 x1)
    = sStore arg7.view (qAt arg2 harg2 x0) (kAt arg3 harg3 x1) 9 (HS1_18 c arg2 harg2 arg3 harg3 arg7 x0 x1)).trans
    (congrArg (sStore arg7.view (qAt arg2 harg2 x0) (kAt arg3 harg3 x1) 9) (s18 ..))
theorem s22 : (HS1_22 c arg2 harg2 arg3 harg3 arg7 x0 x1)
    = SL arg7.view (qAt arg2 harg2 x0) (kAt arg3 harg3 x1) 11 :=
  (rfl : (HS1_22 c arg2 harg2 arg3 harg3 arg7 x0 x1)
    = sStore arg7.view (qAt arg2 harg2 x0) (kAt arg3 harg3 x1) 10 (HS1_20 c arg2 harg2 arg3 harg3 arg7 x0 x1)).trans
    (congrArg (sStore arg7.view (qAt arg2 harg2 x0) (kAt arg3 harg3 x1) 10) (s20 ..))
theorem s24 : (HS1_24 c arg2 harg2 arg3 harg3 arg7 x0 x1)
    = SL arg7.view (qAt arg2 harg2 x0) (kAt arg3 harg3 x1) 12 :=
  (rfl : (HS1_24 c arg2 harg2 arg3 harg3 arg7 x0 x1)
    = sStore arg7.view (qAt arg2 harg2 x0) (kAt arg3 harg3 x1) 11 (HS1_22 c arg2 harg2 arg3 harg3 arg7 x0 x1)).trans
    (congrArg (sStore arg7.view (qAt arg2 harg2 x0) (kAt arg3 harg3 x1) 11) (s22 ..))
theorem s26 : (HS1_26 c arg2 harg2 arg3 harg3 arg7 x0 x1)
    = SL arg7.view (qAt arg2 harg2 x0) (kAt arg3 harg3 x1) 13 :=
  (rfl : (HS1_26 c arg2 harg2 arg3 harg3 arg7 x0 x1)
    = sStore arg7.view (qAt arg2 harg2 x0) (kAt arg3 harg3 x1) 12 (HS1_24 c arg2 harg2 arg3 harg3 arg7 x0 x1)).trans
    (congrArg (sStore arg7.view (qAt arg2 harg2 x0) (kAt arg3 harg3 x1) 12) (s24 ..))
theorem s28 : (HS1_28 c arg2 harg2 arg3 harg3 arg7 x0 x1)
    = SL arg7.view (qAt arg2 harg2 x0) (kAt arg3 harg3 x1) 14 :=
  (rfl : (HS1_28 c arg2 harg2 arg3 harg3 arg7 x0 x1)
    = sStore arg7.view (qAt arg2 harg2 x0) (kAt arg3 harg3 x1) 13 (HS1_26 c arg2 harg2 arg3 harg3 arg7 x0 x1)).trans
    (congrArg (sStore arg7.view (qAt arg2 harg2 x0) (kAt arg3 harg3 x1) 13) (s26 ..))
theorem s30 : (HS1_30 c arg2 harg2 arg3 harg3 arg7 x0 x1)
    = SL arg7.view (qAt arg2 harg2 x0) (kAt arg3 harg3 x1) 15 :=
  (rfl : (HS1_30 c arg2 harg2 arg3 harg3 arg7 x0 x1)
    = sStore arg7.view (qAt arg2 harg2 x0) (kAt arg3 harg3 x1) 14 (HS1_28 c arg2 harg2 arg3 harg3 arg7 x0 x1)).trans
    (congrArg (sStore arg7.view (qAt arg2 harg2 x0) (kAt arg3 harg3 x1) 14) (s28 ..))
theorem s32 : (HS1_32 c arg2 harg2 arg3 harg3 arg7 x0 x1)
    = SL arg7.view (qAt arg2 harg2 x0) (kAt arg3 harg3 x1) 16 :=
  (rfl : (HS1_32 c arg2 harg2 arg3 harg3 arg7 x0 x1)
    = sStore arg7.view (qAt arg2 harg2 x0) (kAt arg3 harg3 x1) 15 (HS1_30 c arg2 harg2 arg3 harg3 arg7 x0 x1)).trans
    (congrArg (sStore arg7.view (qAt arg2 harg2 x0) (kAt arg3 harg3 x1) 15) (s30 ..))
theorem p16 : (HS2_16 c arg2 harg2 arg3 harg3 arg7 x0 x1) = PL arg7.view (qAt arg2 harg2 x0) (kAt arg3 harg3 x1) 1 :=
  (rfl : (HS2_16 c arg2 harg2 arg3 harg3 arg7 x0 x1)
    = pStore arg7.view (HS1_8 c arg2 harg2 arg3 harg3 arg7 x0 x1) 0 [] 16).trans
    (congrArg (fun L => pStore arg7.view L 0 [] 16) (s8 ..))
theorem p32 : (HS2_32 c arg2 harg2 arg3 harg3 arg7 x0 x1) = PL arg7.view (qAt arg2 harg2 x0) (kAt arg3 harg3 x1) 2 :=
  (rfl : (HS2_32 c arg2 harg2 arg3 harg3 arg7 x0 x1)
    = pStore arg7.view (HS1_10 c arg2 harg2 arg3 harg3 arg7 x0 x1) 1 (HS2_16 c arg2 harg2 arg3 harg3 arg7 x0 x1) 16).trans
    (congrArg₂ (fun L M => pStore arg7.view L 1 M 16) (s10 ..) (p16 ..))
theorem p46 : (HS2_46 c arg2 harg2 arg3 harg3 arg7 x0 x1) = PL arg7.view (qAt arg2 harg2 x0) (kAt arg3 harg3 x1) 3 :=
  (rfl : (HS2_46 c arg2 harg2 arg3 harg3 arg7 x0 x1)
    = pStore arg7.view (HS1_12 c arg2 harg2 arg3 harg3 arg7 x0 x1) 2 (HS2_32 c arg2 harg2 arg3 harg3 arg7 x0 x1) 14).trans
    (congrArg₂ (fun L M => pStore arg7.view L 2 M 14) (s12 ..) (p32 ..))
theorem p60 : (HS2_60 c arg2 harg2 arg3 harg3 arg7 x0 x1) = PL arg7.view (qAt arg2 harg2 x0) (kAt arg3 harg3 x1) 4 :=
  (rfl : (HS2_60 c arg2 harg2 arg3 harg3 arg7 x0 x1)
    = pStore arg7.view (HS1_14 c arg2 harg2 arg3 harg3 arg7 x0 x1) 3 (HS2_46 c arg2 harg2 arg3 harg3 arg7 x0 x1) 14).trans
    (congrArg₂ (fun L M => pStore arg7.view L 3 M 14) (s14 ..) (p46 ..))
theorem p72 : (HS2_72 c arg2 harg2 arg3 harg3 arg7 x0 x1) = PL arg7.view (qAt arg2 harg2 x0) (kAt arg3 harg3 x1) 5 :=
  (rfl : (HS2_72 c arg2 harg2 arg3 harg3 arg7 x0 x1)
    = pStore arg7.view (HS1_16 c arg2 harg2 arg3 harg3 arg7 x0 x1) 4 (HS2_60 c arg2 harg2 arg3 harg3 arg7 x0 x1) 12).trans
    (congrArg₂ (fun L M => pStore arg7.view L 4 M 12) (s16 ..) (p60 ..))
theorem p84 : (HS2_84 c arg2 harg2 arg3 harg3 arg7 x0 x1) = PL arg7.view (qAt arg2 harg2 x0) (kAt arg3 harg3 x1) 6 :=
  (rfl : (HS2_84 c arg2 harg2 arg3 harg3 arg7 x0 x1)
    = pStore arg7.view (HS1_18 c arg2 harg2 arg3 harg3 arg7 x0 x1) 5 (HS2_72 c arg2 harg2 arg3 harg3 arg7 x0 x1) 12).trans
    (congrArg₂ (fun L M => pStore arg7.view L 5 M 12) (s18 ..) (p72 ..))
theorem p94 : (HS2_94 c arg2 harg2 arg3 harg3 arg7 x0 x1) = PL arg7.view (qAt arg2 harg2 x0) (kAt arg3 harg3 x1) 7 :=
  (rfl : (HS2_94 c arg2 harg2 arg3 harg3 arg7 x0 x1)
    = pStore arg7.view (HS1_20 c arg2 harg2 arg3 harg3 arg7 x0 x1) 6 (HS2_84 c arg2 harg2 arg3 harg3 arg7 x0 x1) 10).trans
    (congrArg₂ (fun L M => pStore arg7.view L 6 M 10) (s20 ..) (p84 ..))
theorem p104 : (HS2_104 c arg2 harg2 arg3 harg3 arg7 x0 x1) = PL arg7.view (qAt arg2 harg2 x0) (kAt arg3 harg3 x1) 8 :=
  (rfl : (HS2_104 c arg2 harg2 arg3 harg3 arg7 x0 x1)
    = pStore arg7.view (HS1_22 c arg2 harg2 arg3 harg3 arg7 x0 x1) 7 (HS2_94 c arg2 harg2 arg3 harg3 arg7 x0 x1) 10).trans
    (congrArg₂ (fun L M => pStore arg7.view L 7 M 10) (s22 ..) (p94 ..))
theorem p112 : (HS2_112 c arg2 harg2 arg3 harg3 arg7 x0 x1) = PL arg7.view (qAt arg2 harg2 x0) (kAt arg3 harg3 x1) 9 :=
  (rfl : (HS2_112 c arg2 harg2 arg3 harg3 arg7 x0 x1)
    = pStore arg7.view (HS1_24 c arg2 harg2 arg3 harg3 arg7 x0 x1) 8 (HS2_104 c arg2 harg2 arg3 harg3 arg7 x0 x1) 8).trans
    (congrArg₂ (fun L M => pStore arg7.view L 8 M 8) (s24 ..) (p104 ..))
theorem p120 : (HS2_120 c arg2 harg2 arg3 harg3 arg7 x0 x1) = PL arg7.view (qAt arg2 harg2 x0) (kAt arg3 harg3 x1) 10 :=
  (rfl : (HS2_120 c arg2 harg2 arg3 harg3 arg7 x0 x1)
    = pStore arg7.view (HS1_26 c arg2 harg2 arg3 harg3 arg7 x0 x1) 9 (HS2_112 c arg2 harg2 arg3 harg3 arg7 x0 x1) 8).trans
    (congrArg₂ (fun L M => pStore arg7.view L 9 M 8) (s26 ..) (p112 ..))
theorem p126 : (HS2_126 c arg2 harg2 arg3 harg3 arg7 x0 x1) = PL arg7.view (qAt arg2 harg2 x0) (kAt arg3 harg3 x1) 11 :=
  (rfl : (HS2_126 c arg2 harg2 arg3 harg3 arg7 x0 x1)
    = pStore arg7.view (HS1_28 c arg2 harg2 arg3 harg3 arg7 x0 x1) 10 (HS2_120 c arg2 harg2 arg3 harg3 arg7 x0 x1) 6).trans
    (congrArg₂ (fun L M => pStore arg7.view L 10 M 6) (s28 ..) (p120 ..))
theorem p132 : (HS2_132 c arg2 harg2 arg3 harg3 arg7 x0 x1) = PL arg7.view (qAt arg2 harg2 x0) (kAt arg3 harg3 x1) 12 :=
  (rfl : (HS2_132 c arg2 harg2 arg3 harg3 arg7 x0 x1)
    = pStore arg7.view (HS1_30 c arg2 harg2 arg3 harg3 arg7 x0 x1) 11 (HS2_126 c arg2 harg2 arg3 harg3 arg7 x0 x1) 6).trans
    (congrArg₂ (fun L M => pStore arg7.view L 11 M 6) (s30 ..) (p126 ..))
theorem p136 : (HS2_136 c arg2 harg2 arg3 harg3 arg7 x0 x1) = PL arg7.view (qAt arg2 harg2 x0) (kAt arg3 harg3 x1) 13 :=
  (rfl : (HS2_136 c arg2 harg2 arg3 harg3 arg7 x0 x1)
    = pStore arg7.view (HS1_32 c arg2 harg2 arg3 harg3 arg7 x0 x1) 12 (HS2_132 c arg2 harg2 arg3 harg3 arg7 x0 x1) 4).trans
    (congrArg₂ (fun L M => pStore arg7.view L 12 M 4) (s32 ..) (p132 ..))
theorem p140 : (HS2_140 c arg2 harg2 arg3 harg3 arg7 x0 x1) = PL arg7.view (qAt arg2 harg2 x0) (kAt arg3 harg3 x1) 14 :=
  (rfl : (HS2_140 c arg2 harg2 arg3 harg3 arg7 x0 x1)
    = pStore arg7.view (HS1_32 c arg2 harg2 arg3 harg3 arg7 x0 x1) 13 (HS2_136 c arg2 harg2 arg3 harg3 arg7 x0 x1) 4).trans
    (congrArg₂ (fun L M => pStore arg7.view L 13 M 4) (s32 ..) (p136 ..))
theorem p142 : (HS2_142 c arg2 harg2 arg3 harg3 arg7 x0 x1) = PL arg7.view (qAt arg2 harg2 x0) (kAt arg3 harg3 x1) 15 :=
  (rfl : (HS2_142 c arg2 harg2 arg3 harg3 arg7 x0 x1)
    = pStore arg7.view (HS1_32 c arg2 harg2 arg3 harg3 arg7 x0 x1) 14 (HS2_140 c arg2 harg2 arg3 harg3 arg7 x0 x1) 2).trans
    (congrArg₂ (fun L M => pStore arg7.view L 14 M 2) (s32 ..) (p140 ..))
theorem p144 : (HS2_144 c arg2 harg2 arg3 harg3 arg7 x0 x1) = PL arg7.view (qAt arg2 harg2 x0) (kAt arg3 harg3 x1) 16 :=
  (rfl : (HS2_144 c arg2 harg2 arg3 harg3 arg7 x0 x1)
    = pStore arg7.view (HS1_32 c arg2 harg2 arg3 harg3 arg7 x0 x1) 15 (HS2_142 c arg2 harg2 arg3 harg3 arg7 x0 x1) 2).trans
    (congrArg₂ (fun L M => pStore arg7.view L 15 M 2) (s32 ..) (p142 ..))

/-- The eight stores of the output window, last first. -/
theorem stores (i : grid0.Coords) (arg5 : Memref sig .tc .vmem S1x2048x128 .bf16) (harg5 : arg5.IsWhole) (harg6 : arg6.IsWhole)
    (harg7 : arg7.IsWhole) (harg8 : arg8.IsWhole) :
    (kernelRun0_A c i arg2 harg2 arg3 harg3 arg4 harg4 arg5 harg5 arg6 harg6 arg7 harg7 arg8 harg8 x0 x1 x2).1 = [
    ⟨oRect 7, pair
      (out arg7.view arg8.view (vAt c arg4 harg4 arg6 x2) (HS1_32 c arg2 harg2 arg3 harg3 arg7 x0 x1) 14 (HS2_142 c arg2 harg2 arg3 harg3 arg7 x0 x1))
      (out arg7.view arg8.view (vAt c arg4 harg4 arg6 x2) (HS1_32 c arg2 harg2 arg3 harg3 arg7 x0 x1) 15 (HS2_144 c arg2 harg2 arg3 harg3 arg7 x0 x1))⟩,
    ⟨oRect 6, pair
      (out arg7.view arg8.view (vAt c arg4 harg4 arg6 x2) (HS1_32 c arg2 harg2 arg3 harg3 arg7 x0 x1) 12 (HS2_136 c arg2 harg2 arg3 harg3 arg7 x0 x1))
      (out arg7.view arg8.view (vAt c arg4 harg4 arg6 x2) (HS1_32 c arg2 harg2 arg3 harg3 arg7 x0 x1) 13 (HS2_140 c arg2 harg2 arg3 harg3 arg7 x0 x1))⟩,
    ⟨oRect 5, pair
      (out arg7.view arg8.view (vAt c arg4 harg4 arg6 x2) (HS1_28 c arg2 harg2 arg3 harg3 arg7 x0 x1) 10 (HS2_126 c arg2 harg2 arg3 harg3 arg7 x0 x1))
      (out arg7.view arg8.view (vAt c arg4 harg4 arg6 x2) (HS1_30 c arg2 harg2 arg3 harg3 arg7 x0 x1) 11 (HS2_132 c arg2 harg2 arg3 harg3 arg7 x0 x1))⟩,
    ⟨oRect 4, pair
      (out arg7.view arg8.view (vAt c arg4 harg4 arg6 x2) (HS1_24 c arg2 harg2 arg3 harg3 arg7 x0 x1) 8 (HS2_112 c arg2 harg2 arg3 harg3 arg7 x0 x1))
      (out arg7.view arg8.view (vAt c arg4 harg4 arg6 x2) (HS1_26 c arg2 harg2 arg3 harg3 arg7 x0 x1) 9 (HS2_120 c arg2 harg2 arg3 harg3 arg7 x0 x1))⟩,
    ⟨oRect 3, pair
      (out arg7.view arg8.view (vAt c arg4 harg4 arg6 x2) (HS1_20 c arg2 harg2 arg3 harg3 arg7 x0 x1) 6 (HS2_94 c arg2 harg2 arg3 harg3 arg7 x0 x1))
      (out arg7.view arg8.view (vAt c arg4 harg4 arg6 x2) (HS1_22 c arg2 harg2 arg3 harg3 arg7 x0 x1) 7 (HS2_104 c arg2 harg2 arg3 harg3 arg7 x0 x1))⟩,
    ⟨oRect 2, pair
      (out arg7.view arg8.view (vAt c arg4 harg4 arg6 x2) (HS1_16 c arg2 harg2 arg3 harg3 arg7 x0 x1) 4 (HS2_72 c arg2 harg2 arg3 harg3 arg7 x0 x1))
      (out arg7.view arg8.view (vAt c arg4 harg4 arg6 x2) (HS1_18 c arg2 harg2 arg3 harg3 arg7 x0 x1) 5 (HS2_84 c arg2 harg2 arg3 harg3 arg7 x0 x1))⟩,
    ⟨oRect 1, pair
      (out arg7.view arg8.view (vAt c arg4 harg4 arg6 x2) (HS1_12 c arg2 harg2 arg3 harg3 arg7 x0 x1) 2 (HS2_46 c arg2 harg2 arg3 harg3 arg7 x0 x1))
      (out arg7.view arg8.view (vAt c arg4 harg4 arg6 x2) (HS1_14 c arg2 harg2 arg3 harg3 arg7 x0 x1) 3 (HS2_60 c arg2 harg2 arg3 harg3 arg7 x0 x1))⟩,
    ⟨oRect 0, pair
      (out arg7.view arg8.view (vAt c arg4 harg4 arg6 x2) (HS1_8 c arg2 harg2 arg3 harg3 arg7 x0 x1) 0 (HS2_16 c arg2 harg2 arg3 harg3 arg7 x0 x1))
      (out arg7.view arg8.view (vAt c arg4 harg4 arg6 x2) (HS1_10 c arg2 harg2 arg3 harg3 arg7 x0 x1) 1 (HS2_32 c arg2 harg2 arg3 harg3 arg7 x0 x1))⟩]
  := rfl

/-- The stores of the first `n` pairs of units over what `g` gives for a pair. -/
def oList (g : ℕ → FVec F S1x256x128 .bf16) : ℕ → List (View.Piece (Elt F) S1x2048x128 .bf16)
  | 0 => []
  | w + 1 => ⟨oRect w, g w⟩ :: oList g w

/-- Every store writes the two quotients of its pair of units. -/
theorem stores_eq (i : grid0.Coords) (arg5 : Memref sig .tc .vmem S1x2048x128 .bf16) (harg5 : arg5.IsWhole) (harg6 : arg6.IsWhole)
    (harg7 : arg7.IsWhole) (harg8 : arg8.IsWhole) :
    (kernelRun0_A c i arg2 harg2 arg3 harg3 arg4 harg4 arg5 harg5 arg6 harg6 arg7 harg7 arg8 harg8 x0 x1 x2).1
      = oList (fun w => pair (outU arg7.view arg8.view (qAt arg2 harg2 x0) (kAt arg3 harg3 x1) (vAt c arg4 harg4 arg6 x2) (2 * w))
          (outU arg7.view arg8.view (qAt arg2 harg2 x0) (kAt arg3 harg3 x1) (vAt c arg4 harg4 arg6 x2) (2 * w + 1))) 8 := by
  rw [stores, s8, s10, s12, s14, s16, s18, s20, s22, s24, s26, s28, s30, s32, p16, p32, p46, p60, p72, p84, p94, p104, p112, p120,
    p126, p132, p136, p140, p142, p144]
  rfl

end Cert.Attn

end
-- ==== Proof.Attn.Block.lean ====
/-
  The output block of one grid point at the ideal values: row `Q`, head `h`, lane `d` is the softmax column of query `Q`
  against the block's keys, applied to the block's values.
-/
module

public import proofs.«01_k».proof.Proof.Attn.Unit
public import proofs.«01_k».proof.Proof.Attn.Tie
public import proofs.«01_k».proof.Proof.Gen.KernelIdeal.Frame
public import Idealize.ShloMosaic.Lib.WholeRead

@[expose] public section

set_option maxRecDepth 16384

noncomputable section

namespace Cert.Attn

open Idealize.ShloMosaic Idealize.ShloMosaic.TcCoe Idealize.ShloMosaic.ValueIdx
open Cert.KernelIdeal Cert.KernelIdeal.Gen

/-- Two heads side by side: the first head's lanes, -/
theorem pair_left (a b : FVec Ideal S64x256 .f32) (j : Fin 256) (d : Fin 64) (c : Fin 128) (hc : c.val = d.val) :
    (pair a b (ix3 (0 : Fin 1) j c) : EReal) = (a (ix2 d j) : EReal) := by
  unfold pair
  refine (shapeCast_ab_1ab_apply _ _ _ _ _).trans ?_
  refine Eq.trans (b := (transpose S256x128 [1, 0] (concatenate S128x256 0 [⟨S64x256, a⟩, ⟨S64x256, b⟩] concatenates_S64x256_S64x256_S128x256_d0)
    transposes_S128x256_p1_0_S256x128 (ix2 j c) : EReal)) rfl ?_
  refine (transpose_ix2_apply (a := 128) (b := 256) _ _ j c).trans ?_
  refine concatenate_pair_apply_left (t := S128x256) (s₁ := S64x256) (s₂ := S64x256) 0 _ _ _ _ rfl (ix2 d j) ?_
  intro x; fin_cases x
  · exact hc.symm
  · rfl

/-- and the second's. -/
theorem pair_right (a b : FVec Ideal S64x256 .f32) (j : Fin 256) (d : Fin 64) (c : Fin 128) (hc : c.val = 64 + d.val) :
    (pair a b (ix3 (0 : Fin 1) j c) : EReal) = (b (ix2 d j) : EReal) := by
  unfold pair
  refine (shapeCast_ab_1ab_apply _ _ _ _ _).trans ?_
  refine Eq.trans (b := (transpose S256x128 [1, 0] (concatenate S128x256 0 [⟨S64x256, a⟩, ⟨S64x256, b⟩] concatenates_S64x256_S64x256_S128x256_d0)
    transposes_S128x256_p1_0_S256x128 (ix2 j c) : EReal)) rfl ?_
  refine (transpose_ix2_apply (a := 128) (b := 256) _ _ j c).trans ?_
  refine concatenate_pair_apply_right (t := S128x256) (s₁ := S64x256) (s₂ := S64x256) 0 _ _ _ _ rfl rfl (ix2 d j) ?_ ?_
  · intro x hx; fin_cases x
    · exact absurd rfl hx
    · rfl
  · show d.val + 64 = c.val; omega

/-- The window's rows after the stores of the first `n` pairs. -/
theorem canon_oList (g : ℕ → FVec Ideal S1x256x128 .bf16) (w : ℕ) (j : Fin 256) (c : Fin 128) (y : Fin 2048)
    (hy : y.val = 256 * (7 - w) + j.val) : ∀ n, w < n → n ≤ 8 →
    (View.canon (oList g n) (ix3 (0 : Fin 1) y c : S1x2048x128.Idx) : EReal) = (g w (ix3 (0 : Fin 1) j c) : EReal)
  | 0, h, _ => absurd h (Nat.not_lt_zero _)
  | n + 1, h, hn => by
    have hj := j.isLt
    by_cases hw : w = n
    · subst hw
      have hz : (ix3 (0 : Fin 1) y c : S1x2048x128.Idx) = (oRect w).emb (ix3 (0 : Fin 1) j c : S1x256x128.Idx) := by
        funext x; apply Fin.ext; fin_cases x
        · rfl
        · show y.val = 256 * (7 - w) + 1 * j.val; omega
        · show c.val = 0 + 1 * c.val; omega
      unfold oList
      rw [hz]
      exact View.canon_cons_emb _ _ _ _
    · refine (View.canon_cons_of_not_mem _ _ fun hm => ?_).trans (canon_oList g w j c y hy n (by omega) (by omega))
      have hm' := (LoadRect.mem_set _).mp hm
      obtain ⟨z1, l1, e1⟩ := hm' 1
      have l1' : z1 < 256 := l1
      have e1' : y.val = 256 * (7 - n) + 1 * z1 := e1
      omega

section
variable (c : Dev nD) (arg2 : Memref sig .tc .vmem S256x2048 .bf16) (harg2 : arg2.IsWhole) (arg3 : Memref sig .tc .vmem S1x2048x256 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S128x2048 .bf16) (harg6 : arg6.IsWhole)
  (arg7 : Memref sig .tc .vmem S5x2048x256 .f32) (harg7 : arg7.IsWhole) (arg8 : Memref sig .tc .vmem S5x2048x256 .bf16) (harg8 : arg8.IsWhole)
  (x0 : Vec Ideal S256x2048 .bf16) (x1 : Vec Ideal S1x2048x256 .bf16) (x2 : Vec Ideal S1x2048x128 .bf16)

theorem qAt_apply (u : ℕ) (d : Fin 128) (j : Fin 256) (y0 : Fin 256) (y1 : Fin 2048) (h0 : y0.val = 128 * hd u + d.val)
    (h1 : y1.val = 256 * (nb u - 1) + j.val) : qAt arg2 harg2 x0 u (ix2 d j) = x0 (ix2 y0 y1) := by
  unfold qAt
  refine (harg2.readAt_unread _ _ _).trans (congrArg x0 ?_)
  funext x; apply Fin.ext; fin_cases x
  · show 128 * hd u + 1 * d.val = y0.val; omega
  · show 256 * (nb u - 1) + 1 * j.val = y1.val; omega

theorem kAt_apply (u : ℕ) (i : Fin (256 * nb u)) (d : Fin 128) (y1 : Fin 2048) (y2 : Fin 256) (h1 : y1.val = i.val)
    (h2 : y2.val = 128 * hd u + d.val) : kAt arg3 harg3 x1 u (ix3 (0 : Fin 1) i d) = x1 (ix3 (0 : Fin 1) y1 y2) := by
  unfold kAt
  refine (harg3.readAt_unread _ _ _).trans (congrArg x1 ?_)
  funext x; apply Fin.ext; fin_cases x
  · rfl
  · show 0 + 1 * i.val = y1.val; omega
  · show 128 * hd u + 1 * d.val = y2.val; omega

theorem pay4_apply (x : Vec Ideal S1x2048x128 .bf16) (e : Fin 128) (i : Fin 2048) :
    (k0_pay4 (F := Ideal) x (ix2 e i) : EReal) = (x (ix3 (0 : Fin 1) i e) : EReal) := by
  unfold k0_pay4
  refine (congrFun (shapeCast_self _ _) _).trans ?_
  refine Eq.trans (b := (transpose S128x2048 [1, 0] (shapeCast S2048x128 x shapeCasts_S1x2048x128_S2048x128)
    transposes_S2048x128_p1_0_S128x2048 (ix2 e i) : EReal)) rfl ?_
  refine (transpose_ix2_apply (a := 2048) (b := 128) _ _ e i).trans ?_
  exact shapeCast_1ab_ab_apply _ _ _ _

theorem vAt_apply (u : ℕ) (d : Fin 64) (i : Fin (256 * nb u)) (y1 : Fin 2048) (y2 : Fin 128) (h1 : y1.val = i.val)
    (h2 : y2.val = 64 * hd u + d.val) : (vAt c arg4 harg4 arg6 x2 u (ix2 d i) : EReal) = (x2 (ix3 (0 : Fin 1) y1 y2) : EReal) := by
  unfold vAt
  rw [View.readCov_eq_canon']
  have hz : (Rect.unit (s := S128x2048) ![64 * hd u, 0] ![64, 256 * nb u] (Rect.inb₂ (vAt_le u) (kAt_le u))).toLoadRect.idx (ix2 d i)
      = (Rect.unit (s := S128x2048) ![0, 0] S128x2048.size inb_S128x2048_S128x2048_0_0).emb (ix2 y2 y1 : S128x2048.Idx) := by
    funext x; apply Fin.ext; fin_cases x
    · show 64 * hd u + 1 * d.val = 0 + 1 * y2.val; omega
    · show 0 + 1 * i.val = 0 + 1 * y1.val; omega
  refine (congrArg (View.canon _) hz).trans ?_
  refine (View.canon_cons_emb _ _ _ _).trans ?_
  refine (pay4_apply _ _ _).trans ?_
  refine (harg4.readAt_unread _ _ _).trans (congrArg x2 ?_)
  funext x; apply Fin.ext; fin_cases x
  · rfl
  · show 0 + 1 * y1.val = y1.val; omega
  · show 0 + 1 * y2.val = y2.val; omega

/-- The number of the unit that writes row `Q` of head `h`. -/
def unitOf (Q h : ℕ) : ℕ := 2 * (7 - Q / 256) + h

theorem nb_unitOf {Q h : ℕ} (hQ : Q < 2048) (hh : h < 2) : nb (unitOf Q h) = Q / 256 + 1 := by unfold nb unitOf; omega
theorem hd_unitOf {Q h : ℕ} (hh : h < 2) : hd (unitOf Q h) = h := by unfold hd unitOf; omega
theorem unitOf_lt {Q h : ℕ} (hh : h < 2) : unitOf Q h < 16 := by unfold unitOf; omega

/-- The window's entry is its unit's. -/
theorem out_window (i : grid0.Coords) (Q : Fin 2048) (h : Fin 2) (d : Fin 64) (e : Fin 128) (he : e.val = 64 * h.val + d.val) :
    (out0_A_3 (F := Ideal) c i arg2 harg2 arg3 harg3 arg4 harg4 arg5 harg5 arg6 harg6 arg7 harg7 arg8 harg8 x0 x1 x2 (ix3 (0 : Fin 1) Q e) : EReal)
      = (outU arg7.view arg8.view (qAt arg2 harg2 x0) (kAt arg3 harg3 x1) (vAt c arg4 harg4 arg6 x2) (unitOf Q.val h.val)
          (ix2 d (⟨Q.val % 256, Nat.mod_lt _ (by norm_num)⟩ : Fin 256)) : EReal) := by
  have hQ := Q.isLt
  unfold out0_A_3
  rw [View.read_writes_junk_eq_canon, stores_eq]
  refine (canon_oList _ (7 - Q.val / 256) ⟨Q.val % 256, Nat.mod_lt _ (by norm_num)⟩ e Q (by simp only; omega) 8 (by omega) le_rfl).trans ?_
  have hh : h.val = 0 ∨ h.val = 1 := by omega
  unfold unitOf
  rcases hh with hh | hh
  · rw [hh]; exact pair_left _ _ _ d e (by omega)
  · rw [hh]; exact pair_right _ _ _ d e (by omega)

/-- **The block's entry**: with the scores of query `Q` real (given times `1 / log 2`), the window holds the softmax of
those scores over the keys up to `Q`, applied to the values; the other side's subtracted number is any real. -/
theorem block_apply (i : grid0.Coords) (Q : Fin 2048) (h : Fin 2) (d : Fin 64) (e : Fin 128) (he : e.val = 64 * h.val + d.val)
    (r : ℕ → ℝ) (hr : ∀ κ : Fin 2048, κ.val ≤ Q.val →
      ∑ a : Fin 128, (x1 (ix3 (0 : Fin 1) κ (⟨128 * h.val + a.val, by omega⟩ : Fin 256)) : EReal) * (x0 (ix2 (⟨128 * h.val + a.val, by omega⟩ : Fin 256) Q) : EReal)
        = ((r κ.val / Real.log 2 : ℝ) : EReal))
    (V : ℕ → EReal) (hV : ∀ κ : Fin 2048, V κ.val = (x2 (ix3 (0 : Fin 1) κ e) : EReal))
    (m' : ℝ) (w' : ℕ → EReal) (hw' : ∀ κ, κ ≤ Q.val → w' κ = ((Real.exp (r κ - m') : ℝ) : EReal))
    (hw0' : ∀ κ, Q.val < κ → κ < 2048 → w' κ = 0) :
    (out0_A_3 (F := Ideal) c i arg2 harg2 arg3 harg3 arg4 harg4 arg5 harg5 arg6 harg6 arg7 harg7 arg8 harg8 x0 x1 x2 (ix3 (0 : Fin 1) Q e) : EReal)
      = ∑ κ ∈ Finset.range 2048, V κ * Ideal.div (w' κ) (0 + ∑ κ ∈ Finset.range 2048, w' κ) := by
  have hQ := Q.isLt
  obtain ⟨u, hu⟩ : ∃ u, u = unitOf Q.val h.val := ⟨_, rfl⟩
  have hnb : nb u = Q.val / 256 + 1 := hu ▸ nb_unitOf Q.isLt h.isLt
  have hhd : hd u = h.val := hu ▸ hd_unitOf h.isLt
  have hu16 : u < 16 := hu ▸ unitOf_lt h.isLt
  rw [out_window c arg2 harg2 arg3 harg3 arg4 harg4 arg5 harg5 arg6 harg6 arg7 harg7 arg8 harg8 x0 x1 x2 i Q h d e he, ← hu]
  obtain ⟨j, hj⟩ : ∃ j : Fin 256, j = ⟨Q.val % 256, Nat.mod_lt _ (by norm_num)⟩ := ⟨_, rfl⟩
  have hjv : j.val = Q.val % 256 := by rw [hj]
  rw [← hj]
  have hs : ∀ κ : Fin (256 * nb u), ms (qAt arg2 harg2 x0) (kAt arg3 harg3 x1) u κ j
      = if κ.val ≤ Q.val then ((r κ.val / Real.log 2 : ℝ) : EReal) else ⊥ := fun κ => by
    have hκ := κ.isLt
    unfold ms
    by_cases hc : κ.val ≤ Q.val
    · rw [if_pos hc, if_pos (by omega), ← hr ⟨κ.val, by omega⟩ hc]
      refine Finset.sum_congr rfl fun a _ => ?_
      have ha := a.isLt
      have hh := h.isLt
      exact congrArg₂ (fun x y : EReal => x * y)
        (kAt_apply arg3 harg3 x1 u κ a ⟨κ.val, by omega⟩ ⟨128 * h.val + a.val, by omega⟩ rfl (by rw [hhd]))
        (qAt_apply arg2 harg2 x0 u a j ⟨128 * h.val + a.val, by omega⟩ Q (by rw [hhd]) (by omega))
    · rw [if_neg hc, if_neg (by omega)]
  obtain ⟨m, hm⟩ := outU_apply arg7.view arg8.view (qAt arg2 harg2 x0) (kAt arg3 harg3 x1) (vAt c arg4 harg4 arg6 x2) u hu16 j
    (fun κ => by
      rw [hs κ]
      by_cases hc : κ.val ≤ Q.val
      · rw [if_pos hc]; exact EReal.coe_lt_top _
      · rw [if_neg hc]; exact bot_lt_top)
    ⟨0, by omega⟩ rfl (by rw [hs, if_pos (Nat.zero_le _)]; exact EReal.coe_ne_bot _)
  rw [hm d]
  obtain ⟨w, hw⟩ : ∃ w : ℕ → EReal, w = fun κ => if κ ≤ Q.val then ((Real.exp (r κ - Real.log 2 * m) : ℝ) : EReal) else 0 := ⟨_, rfl⟩
  have he2 : ∀ κ : Fin (256 * nb u), Ideal.exp2 (ms (qAt arg2 harg2 x0) (kAt arg3 harg3 x1) u κ j - (m : EReal)) = w κ.val := fun κ => by
    rw [hs κ, hw]
    by_cases hc : κ.val ≤ Q.val
    · simp only [hc, if_true]
      rw [← EReal.coe_sub, Ideal.exp2_coe, rpow_two]
    · simp only [hc, if_false]
      rw [EReal.bot_sub, Ideal.exp2_bot]
  rw [Finset.sum_congr rfl fun κ _ => he2 κ]
  have hnum : ∑ κ : Fin (256 * nb u), (vAt c arg4 harg4 arg6 x2 u (ix2 d κ) : EReal) * Ideal.exp2 (ms (qAt arg2 harg2 x0) (kAt arg3 harg3 x1) u κ j - (m : EReal))
      = ∑ κ : Fin (256 * nb u), V κ.val * w κ.val := Finset.sum_congr rfl fun κ _ => by
    have hκ := κ.isLt
    rw [he2 κ]
    refine congrArg (· * w κ.val) ?_
    exact (vAt_apply c arg4 harg4 arg6 x2 u d κ ⟨κ.val, by omega⟩ e rfl (by rw [hhd]; exact he)).trans (hV ⟨κ.val, by omega⟩).symm
  refine (congrArg (fun x => Ideal.div x _) hnum).trans ?_
  rw [Fin.sum_univ_eq_sum_range (fun κ => V κ * w κ), Fin.sum_univ_eq_sum_range w]
  refine softmax_col (Q := Q.val) (by omega) hQ r (Real.log 2 * m) m' V w w' ?_ ?_ hw' hw0'
  · intro κ hκ; rw [hw]; simp only [hκ, if_true]
  · intro κ hκ _; rw [hw]; simp only [show ¬ κ ≤ Q.val by omega, if_false]

end

end Cert.Attn

end
-- ==== Proof.Attn.Host.lean ====
/-
  The arrays the attention call finds: the queries scaled and permuted into 128 lanes a head, transposed; the keys permuted
  likewise; the values flattened. A product of two permuted heads is the product of the heads.
-/
module

public import proofs.«01_k».proof.Proof.Attn.Softmax
public import proofs.«01_k».proof.Proof.Gen.KernelIdeal.Frame
public import Idealize.ShloMosaic.Lib.ValueLayout

@[expose] public section

set_option maxRecDepth 16384

noncomputable section

namespace Cert.Attn

open Idealize.ShloMosaic Idealize.ShloMosaic.TcCoe Idealize.ShloMosaic.ValueIdx
open Cert.KernelIdeal Cert.KernelIdeal.Gen

/-- The scale the queries are multiplied by, as computed. -/
def qscale : FVec Ideal S_ .f32 :=
  Host.divf (constant S_ .f32 0x3F800000#32) (mulf (Host.sqrt (constant S_ .f32 0x42C00000#32)) (Host.log (constant S_ .f32 0x40000000#32)))

/-- A head's 96 lanes permuted into 128, the last 32 zero. -/
def toBlock (x : FVec Ideal S16x2048x16x96 .f32) : FVec Ideal S16x2048x16x128 .f32 :=
  concatenate S16x2048x16x128 3
    [⟨S16x2048x16x16, extractStridedSlice S16x2048x16x16 ![0, 0, 0, 64] x slices_S16x2048x16x96_S16x2048x16x16_0_0_0_64⟩,
     ⟨S16x2048x16x48, extractStridedSlice S16x2048x16x48 ![0, 0, 0, 0] x slices_S16x2048x16x96_S16x2048x16x48_0_0_0_0⟩,
     ⟨S16x2048x16x16, extractStridedSlice S16x2048x16x16 ![0, 0, 0, 80] x slices_S16x2048x16x96_S16x2048x16x16_0_0_0_80⟩,
     ⟨S16x2048x16x16, extractStridedSlice S16x2048x16x16 ![0, 0, 0, 48] x slices_S16x2048x16x96_S16x2048x16x16_0_0_0_48⟩,
     ⟨S16x2048x16x32, broadcastInDim S16x2048x16x32 ![] bcast_S_S16x2048x16x32 (constant S_ .f32 0x00000000#32)⟩]
    concatenates_S16x2048x16x16_S16x2048x16x48_S16x2048x16x16_S16x2048x16x16_S16x2048x16x32_S16x2048x16x128_d3

/-- The queries the call reads. -/
def qArr (q : FVec Ideal S16x2048x16x96 .f32) : FVec Ideal S2048x32768 .bf16 :=
  truncf .bf16 (transpose S2048x32768 [1, 0] (shapeCast S32768x2048
    (toBlock (mulf q (broadcastInDim S16x2048x16x96 ![] bcast_S_S16x2048x16x96 qscale))) shapeCasts_S16x2048x16x128_S32768x2048)
    transposes_S32768x2048_S2048x32768_1_0) bitsLt_bf16_f32
/-- The keys the call reads. -/
def kArr (k : FVec Ideal S16x2048x16x96 .f32) : FVec Ideal S16x2048x2048 .bf16 :=
  truncf .bf16 (shapeCast S16x2048x2048 (toBlock k) shapeCasts_S16x2048x16x128_S16x2048x2048) bitsLt_bf16_f32
/-- The values the call reads. -/
def vArr (v : FVec Ideal S16x2048x16x64 .f32) : FVec Ideal S16x2048x1024 .bf16 :=
  truncf .bf16 (shapeCast S16x2048x1024 v shapeCasts_S16x2048x16x64_S16x2048x1024) bitsLt_bf16_f32

section
variable (m : (ℓ : Loc nD τ sig) → Buf (Elt Ideal) ℓ) (c : Dev nD)

theorem V_q : V m c main_v14 = qArr (m ((c : Thread nD τ).loc main_arg0)) := by
  show StableHlo.after hostOps0 _ (Proc.devRef .tc main_v14) = _
  after_results <;> rfl
theorem V_k : V m c main_v22 = kArr (m ((c : Thread nD τ).loc main_arg1)) := by
  show StableHlo.after hostOps0 _ (Proc.devRef .tc main_v22) = _
  after_results <;> rfl
theorem V_v : V m c main_v24 = vArr (m ((c : Thread nD τ).loc main_arg2)) := by
  show StableHlo.after hostOps0 _ (Proc.devRef .tc main_v24) = _
  after_results <;> rfl
end

/-- The lane of the head that lane `a` of the 128 takes. -/
def perm (a : ℕ) : ℕ := if a < 16 then 64 + a else if a < 64 then a - 16 else if a < 80 then a + 16 else a - 32

/-- The permuted head at a lane: the first 96 lanes are lanes of the head, the rest are zero. -/
theorem toBlock_apply (x : FVec Ideal S16x2048x16x96 .f32) (b : Fin 16) (s : Fin 2048) (h : Fin 16) (a : Fin 128) (p : Fin 96)
    (ha : a.val < 96) (hp : p.val = perm a.val) : (toBlock x (ix4 b s h a) : EReal) = (x (ix4 b s h p) : EReal) := by
  unfold perm at hp
  unfold toBlock
  by_cases h1 : a.val < 16
  · rw [if_pos h1] at hp
    refine (concatenate_apply_piece (t := S16x2048x16x128) 3 _ _ _ 0 (by show _ < 5; omega) S16x2048x16x16 _ rfl rfl 0 rfl
      (ix4 b s h (⟨a.val, by omega⟩ : Fin 16)) ?_ ?_).trans ?_
    · intro y hy; fin_cases y <;> first | rfl | exact absurd rfl hy
    · show 0 + a.val = a.val; omega
    · refine congrArg x ?_
      funext y; apply Fin.ext; fin_cases y
      · show 0 + b.val = b.val; omega
      · show 0 + s.val = s.val; omega
      · show 0 + h.val = h.val; omega
      · show 64 + a.val = p.val; omega
  rw [if_neg h1] at hp
  by_cases h2 : a.val < 64
  · rw [if_pos h2] at hp
    refine (concatenate_apply_piece (t := S16x2048x16x128) 3 _ _ _ 1 (by show _ < 5; omega) S16x2048x16x48 _ rfl rfl 16 rfl
      (ix4 b s h (⟨a.val - 16, by omega⟩ : Fin 48)) ?_ ?_).trans ?_
    · intro y hy; fin_cases y <;> first | rfl | exact absurd rfl hy
    · show 16 + (a.val - 16) = a.val; omega
    · refine congrArg x ?_
      funext y; apply Fin.ext; fin_cases y
      · show 0 + b.val = b.val; omega
      · show 0 + s.val = s.val; omega
      · show 0 + h.val = h.val; omega
      · show 0 + (a.val - 16) = p.val; omega
  rw [if_neg h2] at hp
  by_cases h3 : a.val < 80
  · rw [if_pos h3] at hp
    refine (concatenate_apply_piece (t := S16x2048x16x128) 3 _ _ _ 2 (by show _ < 5; omega) S16x2048x16x16 _ rfl rfl 64 rfl
      (ix4 b s h (⟨a.val - 64, by omega⟩ : Fin 16)) ?_ ?_).trans ?_
    · intro y hy; fin_cases y <;> first | rfl | exact absurd rfl hy
    · show 64 + (a.val - 64) = a.val; omega
    · refine congrArg x ?_
      funext y; apply Fin.ext; fin_cases y
      · show 0 + b.val = b.val; omega
      · show 0 + s.val = s.val; omega
      · show 0 + h.val = h.val; omega
      · show 80 + (a.val - 64) = p.val; omega
  rw [if_neg h3] at hp
  refine (concatenate_apply_piece (t := S16x2048x16x128) 3 _ _ _ 3 (by show _ < 5; omega) S16x2048x16x16 _ rfl rfl 80 rfl
    (ix4 b s h (⟨a.val - 80, by omega⟩ : Fin 16)) ?_ ?_).trans ?_
  · intro y hy; fin_cases y <;> first | rfl | exact absurd rfl hy
  · show 80 + (a.val - 80) = a.val; omega
  · refine congrArg x ?_
    funext y; apply Fin.ext; fin_cases y
    · show 0 + b.val = b.val; omega
    · show 0 + s.val = s.val; omega
    · show 0 + h.val = h.val; omega
    · show 48 + (a.val - 80) = p.val; omega

theorem toBlock_zero (x : FVec Ideal S16x2048x16x96 .f32) (b : Fin 16) (s : Fin 2048) (h : Fin 16) (a : Fin 128)
    (ha : 96 ≤ a.val) : (toBlock x (ix4 b s h a) : EReal) = 0 := by
  unfold toBlock
  refine (concatenate_apply_piece (t := S16x2048x16x128) 3 _ _ _ 4 (by show _ < 5; omega) S16x2048x16x32 _ rfl rfl 96 rfl
    (ix4 b s h (⟨a.val - 96, by omega⟩ : Fin 32)) ?_ ?_).trans ?_
  · intro y hy; fin_cases y <;> first | rfl | exact absurd rfl hy
  · show 96 + (a.val - 96) = a.val; omega
  · exact Ideal.ofBits_zero_f32

/-- A sum over the permuted lanes is the sum over the head's lanes. -/
theorem sum_perm (g : ℕ → EReal) : ∑ a ∈ Finset.range 96, g (perm a) = ∑ d ∈ Finset.range 96, g d := by
  refine Finset.sum_nbij' perm (fun d => if d < 48 then d + 16 else if d < 64 then d + 32 else if d < 80 then d - 64 else d - 16) ?_ ?_ ?_ ?_ ?_
  · intro a ha; have := Finset.mem_range.mp ha; refine Finset.mem_range.mpr ?_; unfold perm; split_ifs <;> omega
  · intro a ha; have := Finset.mem_range.mp ha; refine Finset.mem_range.mpr ?_; beta_reduce; split_ifs <;> omega
  · intro a ha; have := Finset.mem_range.mp ha; unfold perm; beta_reduce; split_ifs <;> omega
  · intro a ha; have := Finset.mem_range.mp ha; unfold perm; beta_reduce; split_ifs <;> omega
  · intro a ha; rfl

/-- The product of two permuted heads. -/
theorem dot_toBlock (x y : FVec Ideal S16x2048x16x96 .f32) (b : Fin 16) (s s' : Fin 2048) (h : Fin 16) :
    ∑ a : Fin 128, (toBlock x (ix4 b s h a) : EReal) * (toBlock y (ix4 b s' h a) : EReal)
      = ∑ d : Fin 96, (x (ix4 b s h d) : EReal) * (y (ix4 b s' h d) : EReal) := by
  obtain ⟨g, hg⟩ : ∃ g : ℕ → EReal, g = fun d => if hd : d < 96 then (x (ix4 b s h (⟨d, hd⟩ : Fin 96)) : EReal) * (y (ix4 b s' h (⟨d, hd⟩ : Fin 96)) : EReal) else 0 := ⟨_, rfl⟩
  have hr : ∀ d : Fin 96, (x (ix4 b s h d) : EReal) * (y (ix4 b s' h d) : EReal) = g d.val := fun d => by
    rw [hg]; simp only [d.isLt, dite_true]
  have hl : ∀ a : Fin 128, (toBlock x (ix4 b s h a) : EReal) * (toBlock y (ix4 b s' h a) : EReal) = (fun a => if a < 96 then g (perm a) else 0) a.val := fun a => by
    by_cases ha : a.val < 96
    · have hp : perm a.val < 96 := by unfold perm; split_ifs <;> omega
      rw [toBlock_apply x b s h a ⟨perm a.val, hp⟩ ha rfl, toBlock_apply y b s' h a ⟨perm a.val, hp⟩ ha rfl, hr]
      simp only [ha, if_true]
    · rw [toBlock_zero x b s h a (by omega), zero_mul]; simp only [ha, if_false]
  rw [Finset.sum_congr rfl fun a _ => hl a, Finset.sum_congr rfl fun d _ => hr d, Fin.sum_univ_eq_sum_range (fun a => if a < 96 then g (perm a) else 0),
    Fin.sum_univ_eq_sum_range g, ← sum_perm, show 128 = 96 + 32 by norm_num, Finset.sum_range_add]
  rw [Finset.sum_congr rfl (fun a ha => if_pos (Finset.mem_range.mp ha)),
    Finset.sum_congr (s₁ := Finset.range 32) rfl (fun a _ => if_neg (by omega)), Finset.sum_const_zero, add_zero]

theorem scale_eq : (qscale (fun a => a.elim0) : EReal) = ((1 / (Real.sqrt 96 * Real.log 2) : ℝ) : EReal) := by
  have h96 : Ideal.ofBits .f32 0x42C00000#32 = ((96 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  show Ideal.div (Ideal.ofBits .f32 0x3F800000#32) (Ideal.sqrt (Ideal.ofBits .f32 0x42C00000#32) * Ideal.log (Ideal.ofBits .f32 0x40000000#32)) = _
  rw [h96, h2, Ideal.sqrt_coe, Ideal.log_coe, if_neg (by norm_num), if_neg (by norm_num), ← EReal.coe_mul,
    Ideal.div_coe (mul_ne_zero (by positivity) (Real.log_pos (by norm_num)).ne'), show Ideal.ofBits .f32 0x3F800000#32 = ((1 : ℝ) : EReal) by (simp [Ideal.ofBits, Ideal.ieee, -EReal.coe_mul]; norm_num), EReal.coe_one, one_mul]

/-- A cast to a shorter float type keeps the extended real. -/
theorem truncf_ideal {s : Shape} {a b : FTy} (x : FVec Ideal s a) (h) (i : s.Idx) : (truncf b x h i : EReal) = (x i : EReal) := rfl

/-- The queries' array at an index. -/
theorem qArr_apply (q : FVec Ideal S16x2048x16x96 .f32) (b : Fin 16) (s : Fin 2048) (h : Fin 16) (a : Fin 128) (y0 : Fin 2048) (y1 : Fin 32768)
    (h0 : y0.val = 128 * h.val + a.val) (h1 : y1.val = 2048 * b.val + s.val) :
    (qArr q (ix2 y0 y1) : EReal) = (toBlock (mulf q (broadcastInDim S16x2048x16x96 ![] bcast_S_S16x2048x16x96 qscale)) (ix4 b s h a) : EReal) := by
  unfold qArr
  generalize toBlock (mulf q (broadcastInDim S16x2048x16x96 ![] bcast_S_S16x2048x16x96 qscale)) = T
  refine (truncf_ideal (b := .bf16) _ bitsLt_bf16_f32 _).trans ?_
  refine (transpose_ix2_apply (a := 32768) (b := 2048) _ _ y0 y1).trans ?_
  refine shapeCast_apply _ _ _ _ ?_
  rw [Shape.rowMajor_val_two, Shape.rowMajor_val_four]
  show ((b.val * 2048 + s.val) * 16 + h.val) * 128 + a.val = y1.val * 2048 + y0.val
  omega

/-- The keys' array at an index. -/
theorem kArr_apply (k : FVec Ideal S16x2048x16x96 .f32) (b : Fin 16) (s : Fin 2048) (h : Fin 16) (a : Fin 128) (y2 : Fin 2048)
    (h2 : y2.val = 128 * h.val + a.val) : (kArr k (ix3 b s y2) : EReal) = (toBlock k (ix4 b s h a) : EReal) := by
  unfold kArr
  generalize toBlock k = T
  refine (truncf_ideal (b := .bf16) _ bitsLt_bf16_f32 _).trans ?_
  refine shapeCast_apply _ _ _ _ ?_
  rw [Shape.rowMajor_val_three, Shape.rowMajor_val_four]
  show ((b.val * 2048 + s.val) * 16 + h.val) * 128 + a.val = (b.val * 2048 + s.val) * 2048 + y2.val
  omega

/-- The values' array at an index. -/
theorem vArr_apply (v : FVec Ideal S16x2048x16x64 .f32) (b : Fin 16) (s : Fin 2048) (h : Fin 16) (d : Fin 64) (y2 : Fin 1024)
    (h2 : y2.val = 64 * h.val + d.val) : (vArr v (ix3 b s y2) : EReal) = (v (ix4 b s h d) : EReal) := by
  unfold vArr
  refine (truncf_ideal (b := .bf16) _ bitsLt_bf16_f32 _).trans ?_
  refine shapeCast_apply _ _ _ _ ?_
  rw [Shape.rowMajor_val_three, Shape.rowMajor_val_four]
  show ((b.val * 2048 + s.val) * 16 + h.val) * 64 + d.val = (b.val * 2048 + s.val) * 1024 + y2.val
  omega

/-- **The scores the call computes**: real queries and keys give the reference's scores over `log 2`. -/
theorem scores_real (q k : FVec Ideal S16x2048x16x96 .f32) (q' k' : S16x2048x16x96.Idx → ℝ) (hq : ∀ i, (q i : EReal) = (q' i : EReal))
    (hk : ∀ i, (k i : EReal) = (k' i : EReal)) (b : Fin 16) (s κ : Fin 2048) (h : Fin 16) :
    ∑ a : Fin 128, (toBlock k (ix4 b κ h a) : EReal)
        * (toBlock (mulf q (broadcastInDim S16x2048x16x96 ![] bcast_S_S16x2048x16x96 qscale)) (ix4 b s h a) : EReal)
      = (((∑ d : Fin 96, q' (ix4 b s h d) * k' (ix4 b κ h d)) / Real.sqrt 96 / Real.log 2 : ℝ) : EReal) := by
  rw [dot_toBlock]
  have hs : ∀ i, (mulf q (broadcastInDim S16x2048x16x96 ![] bcast_S_S16x2048x16x96 qscale) i : EReal)
      = ((q' i * (1 / (Real.sqrt 96 * Real.log 2)) : ℝ) : EReal) := fun i => by
    rw [EReal.coe_mul, ← hq, ← scale_eq]
    refine congrArg (fun x : EReal => (q i : EReal) * x) ?_
    exact congrArg qscale (funext fun a => a.elim0)
  have h1 : ∀ d : Fin 96, (k (ix4 b κ h d) : EReal) * (mulf q (broadcastInDim S16x2048x16x96 ![] bcast_S_S16x2048x16x96 qscale) (ix4 b s h d) : EReal)
      = ((k' (ix4 b κ h d) * (q' (ix4 b s h d) * (1 / (Real.sqrt 96 * Real.log 2))) : ℝ) : EReal) := fun d => by
    rw [hk, hs, ← EReal.coe_mul]
  rw [Finset.sum_congr rfl fun d _ => h1 d, ← coe_sum_fin]
  congr 1
  rw [Finset.sum_div, Finset.sum_div]
  refine Finset.sum_congr rfl fun d _ => ?_
  have := (Real.log_pos (show (1 : ℝ) < 2 by norm_num)).ne'
  have : Real.sqrt 96 ≠ 0 := by positivity
  field_simp

end Cert.Attn

end
-- ==== Proof.Attn.Ref.lean ====
/-
  The reference's attention at an index of its result: real scores, their causal mask, the row's maximum and the weights
  `exp (score - maximum)`; the result is the values summed with the weights over their sum.
-/
module

public import proofs.«01_k».proof.Proof.Attn.Softmax
public import proofs.«01_k».proof.Proof.Gen.ReferenceIdeal.Read
public import proofs.«01_k».proof.Proof.Gen.Pre_finite_qk
public import Idealize.ShloMosaic.Lib.ValueLayout
public import Idealize.ShloMosaic.Lib.WordCmp
public import Idealize.ShloMosaic.Lib.ReduceAll

@[expose] public section

set_option maxRecDepth 16384

noncomputable section

namespace Cert.Attn

open Idealize.ShloMosaic Idealize.ShloMosaic.TcCoe Idealize.ShloMosaic.ValueIdx
open Cert.ReferenceIdeal Cert.ReferenceIdeal.Gen Cert.ReferenceIdeal.Read

/-- The reference's score of key `κ` for query `Q`. -/
def rr (q' k' : S16x2048x16x96.Idx → ℝ) (b h : Fin 16) (Q κ : Fin 2048) : ℝ :=
  (∑ d : Fin 96, q' (ix4 b Q h d) * k' (ix4 b κ h d)) / Real.sqrt 96

/-- An extended real below `⊤` in absolute value is a real. -/
theorem real_of_abs_lt {x : EReal} (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have hlt : max x (-x) < ⊤ := by
    by_contra hc
    have : Ideal.cmp .olt (max x (-x)) ⊤ = 0#1 := by
      show BitVec.ofBool (decide _) = _
      rw [decide_eq_false hc]; rfl
    rw [this] at h
    exact absurd h (by decide)
  have h1 := (max_lt_iff.mp hlt).1
  have h2 := (max_lt_iff.mp hlt).2
  refine EReal.coe_toReal h1.ne fun e => ?_
  rw [e] at h2
  exact absurd h2 (by simp)

theorem and_one {x y : BitVec 1} (h : IntOp.andi x y = 1#1) : x = 1#1 ∧ y = 1#1 := by
  revert x y; decide

instance : Subsingleton Cert.Pre_finite_qk.S_.Idx := ⟨fun _ _ => funext fun a => a.elim0⟩

/-- The precondition makes every query and key a real. -/
theorem finite_qk_real (q k : FVec Ideal S16x2048x16x96 .f32) (v : FVec Ideal S16x2048x16x64 .f32)
    (h : Cert.Pre_finite_qk.fn (F := Ideal) q k v = fun _ => 1#1) :
    (∀ i, (q i : EReal) = ((q i : EReal).toReal : EReal)) ∧ (∀ i, (k i : EReal) = ((k i : EReal).toReal : EReal)) := by
  have h0 := congrFun h (fun a => a.elim0)
  unfold Cert.Pre_finite_qk.fn at h0
  obtain ⟨hq, hk⟩ := and_one h0
  refine ⟨fun i => ?_, fun i => ?_⟩
  · have := Host.reduce_andi_all _ _ _ _ _ hq i
    exact (real_of_abs_lt this).symm
  · have := Host.reduce_andi_all _ _ _ _ _ hk i
    exact (real_of_abs_lt this).symm

section
variable (q k : FVec Ideal S16x2048x16x96 .f32) (v : FVec Ideal S16x2048x16x64 .f32) (q' k' : S16x2048x16x96.Idx → ℝ)
variable (hq : ∀ i, (q i : EReal) = (q' i : EReal)) (hk : ∀ i, (k i : EReal) = (k' i : EReal)) (b h : Fin 16) (Q : Fin 2048)

include hq hk in
theorem ref_score (κ : Fin 2048) : (val_main_v3 (F := Ideal) q k (ix4 b h Q κ) : EReal) = ((rr q' k' b h Q κ : ℝ) : EReal) := by
  have h96 : Ideal.ofBits .f32 0x42C00000#32 = ((96 : ℝ) : EReal) := by simp [Ideal.ofBits, Ideal.ieee, -EReal.coe_mul]; norm_num
  rw [val_main_v3_apply, val_main_v0_apply, val_main_v2_apply, val_main_v1_apply, val_main_cst_apply]
  show Ideal.div (∑ d : Fin 96, (q (lidx_main_v0 (ix4 b h Q κ) d) : EReal) * (k (ridx_main_v0 (ix4 b h Q κ) d) : EReal)) (Ideal.sqrt (Ideal.ofBits .f32 0x42C00000#32)) = _
  have h1 : ∀ d : Fin 96, (q (lidx_main_v0 (ix4 b h Q κ) d) : EReal) * (k (ridx_main_v0 (ix4 b h Q κ) d) : EReal)
      = ((q' (ix4 b Q h d) * k' (ix4 b κ h d) : ℝ) : EReal) := fun d => by
    rw [show lidx_main_v0 (ix4 b h Q κ) d = ix4 b Q h d by funext a; fin_cases a <;> rfl,
      show ridx_main_v0 (ix4 b h Q κ) d = ix4 b κ h d by funext a; fin_cases a <;> rfl, hq, hk, EReal.coe_mul]
  rw [Finset.sum_congr rfl fun d _ => h1 d, ← coe_sum_fin, h96, Ideal.sqrt_coe, if_neg (by norm_num), Ideal.div_coe (by positivity), ← EReal.coe_mul]
  unfold rr
  rw [mul_one_div]

theorem ref_mask (κ : Fin 2048) : val_main_call0_v1 (F := Ideal) (ix4 b h Q κ) = if κ.val ≤ Q.val then 1#1 else 0#1 := by
  rw [val_main_call0_v1_apply, val_main_v10_apply, val_main_v8_apply, val_main_v9_apply, val_main_v5_apply, val_main_v7_apply, val_main_v4_apply, val_main_v6_apply]
  show IntOp.cmpi .sle (BitVec.ofNat 32 κ.val) (BitVec.ofNat 32 Q.val) = _
  have e := WordCmp.cmpi_sle_ofNat_eq_one_iff (w := 32) (a := κ.val) (b := Q.val) (by have := κ.isLt; omega) (by have := Q.isLt; omega)
  by_cases hc : κ.val ≤ Q.val
  · rw [if_pos hc]; exact e.mpr hc
  · rw [if_neg hc]
    have : IntOp.cmpi .sle (BitVec.ofNat 32 κ.val) (BitVec.ofNat 32 Q.val) ≠ 1#1 := fun e' => hc (e.mp e')
    revert this
    generalize IntOp.cmpi .sle (BitVec.ofNat 32 κ.val) (BitVec.ofNat 32 Q.val) = z
    revert z; decide

theorem ref_bot : Ideal.ofBits .f32 0xFF800000#32 = (⊥ : EReal) := by simp [Ideal.ofBits, Ideal.ieee]

include hq hk in
theorem ref_masked (κ : Fin 2048) : (val_main_v11 (F := Ideal) q k (ix4 b h Q κ) : EReal) = if κ.val ≤ Q.val then ((rr q' k' b h Q κ : ℝ) : EReal) else ⊥ := by
  rw [val_main_v11_apply, ref_mask, ref_score q k q' k' hq hk, val_main_call0_v2_apply, val_main_call0_v0_apply, val_main_cst_0_apply]
  by_cases hc : κ.val ≤ Q.val
  · rw [if_pos hc, if_pos hc]; rfl
  · rw [if_neg hc, if_neg hc]; exact ref_bot

include hq hk in
/-- The row's maximum is a real. -/
theorem ref_max : ∃ M : ℝ, (val_main_v14 (F := Ideal) q k (ix3 b h Q) : EReal) = (M : EReal) := by
  have e : (val_main_v14 (F := Ideal) q k (ix3 b h Q) : EReal)
      = max ⊥ ((Finset.univ : Finset (Fin 2048)).fold max (⊥ : EReal) fun κ => (val_main_v11 (F := Ideal) q k (ix4 b h Q κ) : EReal)) := by
    rw [val_main_v14_apply, val_main_v13_apply, val_main_cst_2_apply]
    refine congrArg₂ (max : EReal → EReal → EReal) ref_bot ?_
    unfold val_main_v12
    refine (Host.reduce_eq_fold_single (a := 3) (max : EReal → EReal → EReal) _ _ reducesTo_S16x16x2048x2048_S16x16x2048_d3 (by decide) h_S_ (ix3 b h Q)).trans ?_
    have hb : (val_main_cst_1 (F := Ideal) (Shape.Idx.first h_S_) : EReal) = ⊥ := ref_bot
    rw [hb]
    refine congrArg (fun f => Finset.fold max (⊥ : EReal) f (Finset.univ : Finset (Fin 2048))) (funext fun κ => ?_)
    refine congrArg (val_main_v11 (F := Ideal) q k) (funext fun a => Fin.ext ?_)
    fin_cases a <;> rfl
  have hlt : (val_main_v14 (F := Ideal) q k (ix3 b h Q) : EReal) < ⊤ := by
    rw [e]
    refine max_lt bot_lt_top ((Finset.fold_max_lt _).mpr ⟨bot_lt_top, fun κ _ => ?_⟩)
    rw [ref_masked q k q' k' hq hk]
    split_ifs
    · exact EReal.coe_lt_top _
    · exact bot_lt_top
  have hle : ((rr q' k' b h Q Q : ℝ) : EReal) ≤ (val_main_v14 (F := Ideal) q k (ix3 b h Q) : EReal) := by
    rw [e]
    refine le_max_of_le_right ((Finset.le_fold_max _).mpr (.inr ⟨Q, Finset.mem_univ _, ?_⟩))
    rw [ref_masked q k q' k' hq hk, if_pos le_rfl]
  exact ⟨_, (EReal.coe_toReal hlt.ne fun e' => EReal.coe_ne_bot _ (le_bot_iff.mp (e' ▸ hle))).symm⟩

include hq hk in
/-- The weights. -/
theorem ref_weight (M : ℝ) (hM : (val_main_v14 (F := Ideal) q k (ix3 b h Q) : EReal) = (M : EReal)) (κ : Fin 2048) :
    (val_main_v18 (F := Ideal) q k (ix4 b h Q κ) : EReal) = if κ.val ≤ Q.val then ((Real.exp (rr q' k' b h Q κ - M) : ℝ) : EReal) else 0 := by
  rw [val_main_v18_apply, val_main_v17_apply, ref_masked q k q' k' hq hk, val_main_v16_apply, val_main_v15_apply,
    show idx_main_v15 (idx_main_v16 (ix4 b h Q κ)) = ix3 b h Q by funext a; fin_cases a <;> rfl, hM]
  show Ideal.exp ((if κ.val ≤ Q.val then ((rr q' k' b h Q κ : ℝ) : EReal) else ⊥) - (M : EReal)) = _
  by_cases hc : κ.val ≤ Q.val
  · rw [if_pos hc, if_pos hc, ← EReal.coe_sub]; rfl
  · rw [if_neg hc, if_neg hc, EReal.bot_sub]; rfl

/-- The reference's result at an index. -/
theorem ref_out (d : Fin 64) (C : Fin 1024) (hC : C.val = 64 * h.val + d.val) : (val_main_v26 (F := Ideal) q k v (ix3 b Q C) : EReal)
    = ∑ κ : Fin 2048, (v (ix4 b κ h d) : EReal) * Ideal.div (val_main_v18 (F := Ideal) q k (ix4 b h Q κ))
        (0 + ∑ κ : Fin 2048, (val_main_v18 (F := Ideal) q k (ix4 b h Q κ) : EReal)) := by
  rw [val_main_v26_apply]
  refine Eq.trans (b := (val_main_v25 (F := Ideal) q k v (ix3 b Q C) : EReal)) rfl ?_
  have hb := b.isLt; have hQ := Q.isLt; have hh := h.isLt; have hd := d.isLt
  rw [val_main_v25_apply, val_main_v24_apply, val_main_v23_apply]
  have hi : idx_main_v24 (idx_main_v25 (ix3 b Q C)) = ix4 b h d Q := by
    funext a; apply Fin.ext
    fin_cases a
    · show ((b.val * 2048 + Q.val) * 1024 + C.val) / 2097152 = b.val; omega
    · show ((b.val * 2048 + Q.val) * 1024 + C.val) / 64 % 16 = h.val; omega
    · show ((b.val * 2048 + Q.val) * 1024 + C.val) % 64 = d.val; omega
    · show ((b.val * 2048 + Q.val) * 1024 + C.val) / 1024 % 2048 = Q.val; omega
  rw [hi]
  refine Finset.sum_congr rfl fun κ _ => ?_
  rw [show lidx_main_v23 (ix4 b h d Q) κ = ix4 b κ h d by funext a; fin_cases a <;> rfl,
    show ridx_main_v23 (ix4 b h d Q) κ = ix4 b h Q κ by funext a; fin_cases a <;> rfl]
  refine congrArg (fun x : EReal => (v (ix4 b κ h d) : EReal) * x) ?_
  rw [val_main_v22_apply, val_main_v21_apply, val_main_v20_apply, val_main_v19_apply, val_main_cst_3_apply,
    show idx_main_v20 (idx_main_v21 (ix4 b h Q κ)) = ix3 b h Q by funext a; fin_cases a <;> rfl]
  refine congrArg (Ideal.div _) (congrArg₂ (fun x y : EReal => x + y) Ideal.ofBits_zero_f32 (Finset.sum_congr rfl fun κ' _ => ?_))
  exact congrArg (val_main_v18 (F := Ideal) q k) (by funext a; fin_cases a <;> rfl)
end

end Cert.Attn
-- ==== Proof.Attn.Final.lean ====
/-
  The attention call's whole result is the reference's: each grid point holds two heads of one batch row, its blocks are
  read off the arrays the call finds, and every index of the result lies in one point's block.
-/
module

public import proofs.«01_k».proof.Proof.Attn.Block
public import proofs.«01_k».proof.Proof.Attn.Host
public import proofs.«01_k».proof.Proof.Attn.Ref
public import proofs.«01_k».proof.Proof.Gen.KernelIdeal.Value

@[expose] public section

set_option maxRecDepth 16384

noncomputable section

namespace Cert.Attn

open Idealize.ShloMosaic Idealize.ShloMosaic.TcCoe Idealize.ShloMosaic.ValueIdx
open Cert.KernelIdeal Cert.KernelIdeal.Gen Cert.KernelIdeal.Value

/-- The block index of each window at grid point `8 * b + p`. -/
theorem index0 : ∀ t : Fin cfg0.N, win0_0.index t (0 : Fin 2) = t.val % 8 ∧ win0_0.index t (1 : Fin 2) = t.val / 8 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)
theorem index3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)

section
variable (t : Fin cfg0.N) (b : Fin 16) (p : ℕ) (ht : t.val = 8 * b.val + p) (hp : p < 8)

include ht hp in
theorem emb0 (r : Fin 256) (s : Fin 2048) (y0 : Fin 2048) (y1 : Fin 32768) (h0 : y0.val = 256 * p + r.val)
    (h1 : y1.val = 2048 * b.val + s.val) : ((cfg0.win 0).blk t).view.emb (ix2 r s) = ix2 y0 y1 := by
  obtain ⟨e0, e1⟩ := index0 t
  funext a; apply Fin.ext
  match a with
  | ⟨0, _⟩ => show win0_0.index t (0 : Fin 2) * 256 + 1 * r.val = y0.val; omega
  | ⟨1, _⟩ => show win0_0.index t (1 : Fin 2) * 2048 + 1 * s.val = y1.val; omega

include ht hp in
theorem emb1 (s : Fin 2048) (r : Fin 256) (y2 : Fin 2048) (h2 : y2.val = 256 * p + r.val) : ((cfg0.win 1).blk t).view.emb (ix3 (0 : Fin 1) s r)
    = ix3 b s y2 := by
  obtain ⟨e0, e1, e2⟩ := index1 t
  funext a; apply Fin.ext
  match a with
  | ⟨0, _⟩ => show win0_1.index t (0 : Fin 3) * 1 + 1 * 0 = b.val; omega
  | ⟨1, _⟩ => show win0_1.index t (1 : Fin 3) * 2048 + 1 * s.val = s.val; omega
  | ⟨2, _⟩ => show win0_1.index t (2 : Fin 3) * 256 + 1 * r.val = y2.val; omega

include ht hp in
theorem emb2 (s : Fin 2048) (r : Fin 128) (y2 : Fin 1024) (h2 : y2.val = 128 * p + r.val) : ((cfg0.win 2).blk t).view.emb (ix3 (0 : Fin 1) s r)
    = ix3 b s y2 := by
  obtain ⟨e0, e1, e2⟩ := index2 t
  funext a; apply Fin.ext
  match a with
  | ⟨0, _⟩ => show win0_2.index t (0 : Fin 3) * 1 + 1 * 0 = b.val; omega
  | ⟨1, _⟩ => show win0_2.index t (1 : Fin 3) * 2048 + 1 * s.val = s.val; omega
  | ⟨2, _⟩ => show win0_2.index t (2 : Fin 3) * 128 + 1 * r.val = y2.val; omega

include ht hp in
theorem emb3 (s : Fin 2048) (r : Fin 128) : ((cfg0.win 3).blk t).view.emb (ix3 (0 : Fin 1) s r)
    = ix3 b s (⟨128 * p + r.val, by omega⟩ : Fin 1024) := by
  obtain ⟨e0, e1, e2⟩ := index3 t
  funext a; apply Fin.ext
  match a with
  | ⟨0, _⟩ => show win0_3.index t (0 : Fin 3) * 1 + 1 * 0 = b.val; omega
  | ⟨1, _⟩ => show win0_3.index t (1 : Fin 3) * 2048 + 1 * s.val = s.val; omega
  | ⟨2, _⟩ => show win0_3.index t (2 : Fin 3) * 128 + 1 * r.val = 128 * p + r.val; omega
end

variable (m : (ℓ : Loc nD τ sig) → Buf (Elt Ideal) ℓ) (c : Dev nD)

/-- The queries, keys and values as launched. -/
abbrev argQ : FVec Ideal S16x2048x16x96 .f32 := m ((c : Thread nD τ).loc main_arg0)
abbrev argK : FVec Ideal S16x2048x16x96 .f32 := m ((c : Thread nD τ).loc main_arg1)
abbrev argV : FVec Ideal S16x2048x16x64 .f32 := m ((c : Thread nD τ).loc main_arg2)

section
variable (t : Fin cfg0.N) (b : Fin 16) (p : ℕ) (ht : t.val = 8 * b.val + p) (hp : p < 8)

include ht hp in
theorem iblk0 (r : Fin 256) (s : Fin 2048) (y0 : Fin 2048) (y1 : Fin 32768) (h0 : y0.val = 256 * p + r.val)
    (h1 : y1.val = 2048 * b.val + s.val) : iblk m c 0 t (ix2 r s) = qArr (argQ m c) (ix2 y0 y1) := by
  have e0 : iblk m c 0 t (ix2 r s) = V m c main_v14 (((cfg0.win 0).blk t).view.emb (ix2 r s)) := rfl
  have e1 : V m c main_v14 (((cfg0.win 0).blk t).view.emb (ix2 r s)) = V m c main_v14 (ix2 y0 y1) :=
    congrArg (V m c main_v14) (emb0 t b p ht hp r s y0 y1 h0 h1)
  exact e0.trans (e1.trans (congrFun (V_q m c) (ix2 y0 y1)))

include ht hp in
theorem iblk1 (s : Fin 2048) (r : Fin 256) (y2 : Fin 2048) (h2 : y2.val = 256 * p + r.val) :
    iblk m c 1 t (ix3 (0 : Fin 1) s r) = kArr (argK m c) (ix3 b s y2) := by
  have e : iblk m c 1 t (ix3 (0 : Fin 1) s r) = ((cfg0.win 1).blk t).view.read (Elt Ideal) (V m c main_v22) (ix3 (0 : Fin 1) s r) := rfl
  have e0 : ∀ X : FVec Ideal S16x2048x2048 .bf16, ((cfg0.win 1).blk t).view.read (Elt Ideal) X (ix3 (0 : Fin 1) s r)
      = X (((cfg0.win 1).blk t).view.emb (ix3 (0 : Fin 1) s r)) := fun X => rfl
  have e1 : V m c main_v22 (((cfg0.win 1).blk t).view.emb (ix3 (0 : Fin 1) s r)) = V m c main_v22 (ix3 b s y2) :=
    congrArg (V m c main_v22) (emb1 t b p ht hp s r y2 h2)
  exact e.trans ((e0 _).trans (e1.trans (congrFun (V_k m c) (ix3 b s y2))))

include ht hp in
theorem iblk2 (s : Fin 2048) (r : Fin 128) (y2 : Fin 1024) (h2 : y2.val = 128 * p + r.val) :
    iblk m c 2 t (ix3 (0 : Fin 1) s r) = vArr (argV m c) (ix3 b s y2) := by
  have e : iblk m c 2 t (ix3 (0 : Fin 1) s r) = ((cfg0.win 2).blk t).view.read (Elt Ideal) (V m c main_v24) (ix3 (0 : Fin 1) s r) := rfl
  have e0 : ∀ X : FVec Ideal S16x2048x1024 .bf16, ((cfg0.win 2).blk t).view.read (Elt Ideal) X (ix3 (0 : Fin 1) s r)
      = X (((cfg0.win 2).blk t).view.emb (ix3 (0 : Fin 1) s r)) := fun X => rfl
  have e1 : V m c main_v24 (((cfg0.win 2).blk t).view.emb (ix3 (0 : Fin 1) s r)) = V m c main_v24 (ix3 b s y2) :=
    congrArg (V m c main_v24) (emb2 t b p ht hp s r y2 h2)
  exact e.trans ((e0 _).trans (e1.trans (congrFun (V_v m c) (ix3 b s y2))))

end

/-- **The whole result**: real queries and keys give the reference's attention. -/
theorem final (hq : ∀ i, (argQ m c i : EReal) = ((argQ m c i : EReal).toReal : EReal)) (hk : ∀ i, (argK m c i : EReal) = ((argK m c i : EReal).toReal : EReal)) :
    (dats m 0 c).arrAt 3 cfg0.N = Cert.ReferenceIdeal.Read.val_main_v26 (F := Ideal) (argQ m c) (argK m c) (argV m c) := by
  funext y
  obtain ⟨b, Q, C, rfl⟩ : ∃ (b : Fin 16) (Q : Fin 2048) (C : Fin 1024), y = ix3 b Q C := ⟨y 0, y 1, y 2, by funext a; fin_cases a <;> rfl⟩
  have hb := b.isLt
  have hC := C.isLt
  obtain ⟨q', hq'⟩ : ∃ q' : S16x2048x16x96.Idx → ℝ, ∀ i, (argQ m c i : EReal) = (q' i : EReal) := ⟨_, hq⟩
  obtain ⟨k', hk'⟩ : ∃ k' : S16x2048x16x96.Idx → ℝ, ∀ i, (argK m c i : EReal) = (k' i : EReal) := ⟨_, hk⟩
  obtain ⟨p, hp⟩ : ∃ p, p = C.val / 128 := ⟨_, rfl⟩
  have hp8 : p < 8 := by omega
  obtain ⟨e, he⟩ : ∃ e : Fin 128, e.val = C.val % 128 := ⟨⟨C.val % 128, Nat.mod_lt _ (by norm_num)⟩, rfl⟩
  obtain ⟨h, hh⟩ : ∃ h : Fin 2, h.val = e.val / 64 := ⟨⟨e.val / 64, by omega⟩, rfl⟩
  obtain ⟨d, hd⟩ : ∃ d : Fin 64, d.val = e.val % 64 := ⟨⟨e.val % 64, Nat.mod_lt _ (by norm_num)⟩, rfl⟩
  obtain ⟨hd', hhd⟩ : ∃ hd' : Fin 16, hd'.val = 2 * p + h.val := ⟨⟨2 * p + h.val, by omega⟩, rfl⟩
  obtain ⟨t, ht⟩ : ∃ t : Fin cfg0.N, t.val = 8 * b.val + p := ⟨⟨8 * b.val + p, by show 8 * b.val + p < 128; omega⟩, rfl⟩
  have hemb : ((cfg0.win 3).blk t).view.emb (ix3 (0 : Fin 1) Q e) = ix3 b Q C := by
    rw [emb3 t b p ht hp8 Q e]
    exact congrArg (ix3 b Q) (Fin.ext (by show 128 * p + e.val = C.val; omega))
  refine Eq.trans (b := ((cfg0.win 3).blk t).view.read (Elt Ideal) ((dats m 0 c).arrAt 3 cfg0.N) (ix3 (0 : Fin 1) Q e)) ?_ ?_
  · show _ = (dats m 0 c).arrAt 3 cfg0.N (((cfg0.win 3).blk t).view.emb (ix3 (0 : Fin 1) Q e))
    rw [hemb]
  rw [blocks3 m c t (flush0_3 t), flushed3_A]
  obtain ⟨M, hM⟩ := ref_max (argQ m c) (argK m c) q' k' hq' hk' b hd' Q
  obtain ⟨W, hW⟩ : ∃ W : ℕ → EReal, ∀ κ : Fin 2048, W κ.val = (Cert.ReferenceIdeal.Read.val_main_v18 (F := Ideal) (argQ m c) (argK m c) (ix4 b hd' Q κ) : EReal) :=
    ⟨fun n => if hn : n < 2048 then Cert.ReferenceIdeal.Read.val_main_v18 (F := Ideal) (argQ m c) (argK m c) (ix4 b hd' Q (⟨n, hn⟩ : Fin 2048)) else 0,
      fun κ => by simp only [κ.isLt, dite_true]⟩
  obtain ⟨U, hU⟩ : ∃ U : ℕ → EReal, ∀ κ : Fin 2048, U κ.val = (argV m c (ix4 b κ hd' d) : EReal) :=
    ⟨fun n => if hn : n < 2048 then argV m c (ix4 b (⟨n, hn⟩ : Fin 2048) hd' d) else 0, fun κ => by simp only [κ.isLt, dite_true]⟩
  obtain ⟨r, hr⟩ : ∃ r : ℕ → ℝ, ∀ κ : Fin 2048, r κ.val = rr q' k' b hd' Q κ :=
    ⟨fun n => if hn : n < 2048 then rr q' k' b hd' Q ⟨n, hn⟩ else 0, fun κ => by simp only [κ.isLt, dite_true]⟩
  refine (block_apply c (ms0_0 t) (hs0_0 t) (ms0_1 t) (hs0_1 t) (ms0_2 t) (hs0_2 t) (ms0_3 t) (hs0_3 t) scM0_0 (Memref.isWhole_whole _)
    scM0_1 (Memref.isWhole_whole _) scM0_2 (Memref.isWhole_whole _) (iblk m c 0 t) (iblk m c 1 t) (iblk m c 2 t) (grid0.coords t)
    Q h d e (by omega) r ?_ U ?_ M W ?_ ?_).trans ?_
  · intro κ _
    rw [hr κ]
    refine Eq.trans ?_ (scores_real (argQ m c) (argK m c) q' k' hq' hk' b Q κ hd')
    refine Finset.sum_congr rfl fun a _ => ?_
    have ha := a.isLt
    have hQ := Q.isLt
    obtain ⟨y0, hy0⟩ : ∃ y0 : Fin 2048, y0.val = 256 * p + (128 * h.val + a.val) := ⟨⟨256 * p + (128 * h.val + a.val), by omega⟩, rfl⟩
    obtain ⟨y1, hy1⟩ : ∃ y1 : Fin 32768, y1.val = 2048 * b.val + Q.val := ⟨⟨2048 * b.val + Q.val, by omega⟩, rfl⟩
    rw [iblk0 m c t b p ht hp8 _ _ y0 y1 hy0 hy1, iblk1 m c t b p ht hp8 _ _ y0 hy0]
    exact congrArg₂ (fun x y : EReal => x * y)
      (kArr_apply _ b κ hd' a y0 (by omega))
      (qArr_apply _ b Q hd' a y0 y1 (by omega) hy1)
  · intro κ
    rw [hU κ, iblk2 m c t b p ht hp8 κ e C (by omega)]
    exact (vArr_apply _ b κ hd' d C (by omega)).symm
  · intro κ hκ
    have := Q.isLt
    rw [hW ⟨κ, by omega⟩, ref_weight (argQ m c) (argK m c) q' k' hq' hk' b hd' Q M hM, if_pos hκ, ← hr]
  · intro κ hκ hκ2
    rw [hW ⟨κ, hκ2⟩, ref_weight (argQ m c) (argK m c) q' k' hq' hk' b hd' Q M hM, if_neg (by show ¬ κ ≤ Q.val; omega)]
  · rw [ref_out (argQ m c) (argK m c) (argV m c) b hd' Q d C (by omega), ← Fin.sum_univ_eq_sum_range W,
      ← Fin.sum_univ_eq_sum_range (fun κ => U κ * Ideal.div (W κ) (0 + ∑ i : Fin 2048, W i.val))]
    simp only [hW, hU]

end Cert.Attn
-- ==== Proof.Attn.Claims.lean ====
/-
  The attention call's claims: the runs, the named constant, and the value.
-/
module

public import proofs.«01_k».proof.Defs
public import proofs.«01_k».proof.Proof.Attn.Final
public import proofs.«01_k».proof.Proof.Gen.Kernel
public import proofs.«01_k».proof.Proof.Gen.Kernel.Frame
public import proofs.«01_k».proof.Proof.Gen.ReferenceIdeal.Run
public import Idealize.ShloMosaic.PureOps.IdealRules
public import Idealize.ShloMosaic.Lib.Quiescent

@[expose] public section

set_option maxRecDepth 16384

noncomputable section

namespace Cert.Attn

open Idealize.ShloMosaic Idealize.ShloMosaic.TcCoe Idealize.SL.Sem

theorem frame_kernel : Cert.quiescent_Kernel := fun m g _ => Cert.Kernel.Gen.frame m g

theorem frame_ideal : Cert.quiescent_KernelIdeal := fun m g _ => Cert.KernelIdeal.Gen.frame m g

theorem frame_ideal_finite : Cert.quiescent_KernelIdeal_pre_finite_qk := fun m g _ => Cert.KernelIdeal.Gen.frame m g

/-- The reference declares no semaphore, so its counters read zero. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem frame_reference_finite : Cert.quiescent_ReferenceIdeal_pre_finite_qk := fun m g _ => frame_reference m g trivial

/-- The mask's named constant. -/
theorem mask_named : Cert.preserves_Kernel_KernelIdeal :=
  IdealRules.named_const.statement Cert.KernelIdeal.κ "mask" .f32 0xF149F2CA#32 ⊥ rfl

/-- **The value**: from finite queries and keys the call's result is the reference's. -/
theorem value : Cert.algebraic_KernelIdeal_ReferenceIdeal_pre_finite_qk := by
  intro m g m' g' hpre hag
  refine ⟨fun c => Cert.ReferenceIdeal.Read.val_main_v26 (F := Ideal) (argQ m c) (argK m c) (argV m c), ?_, ?_⟩
  · refine (θ_run Cert.KernelIdeal.defs _ _).mono (fun r h c => ⟨(h c).1.trans ?_, (h c).2⟩) (Cert.KernelIdeal.Value.run_blocks m g)
    obtain ⟨hq, hk⟩ := finite_qk_real _ _ _ (hpre c)
    exact final m c hq hk
  · refine (θ_run Cert.ReferenceIdeal.defs _ _).mono (fun r h c => ⟨(h c).1.trans ?_, (h c).2⟩) (Cert.ReferenceIdeal.Value.run m' g')
    obtain ⟨h0, h1, h2⟩ := hag c
    rw [Cert.ReferenceIdeal.Read.val_main_v26_eq, h0, h1, h2]

end Cert.Attn
-- ==== Proof.Ffn.Model.lean ====
/-
  The body of one grid point of the second call, written as a loop. The kernel unrolls eleven chunks of 256 columns of the
  hidden width; for each chunk it takes the gate's columns and then the value's, so twenty-two pieces of columns in all. A piece
  is up-projected, its last eight rows are kept for the next grid point, and it is convolved along the rows with the eight rows
  that the grid point before kept. Here every step is a definition in the piece's number.
-/
module

public import proofs.«01_k».proof.Proof.Gen.Kernel2Ideal.Frame

@[expose] public section

set_option maxRecDepth 16384

noncomputable section

namespace Cert.Ffn

open Idealize.ShloMosaic Idealize.ShloMosaic.TcCoe
open Cert.Kernel2Ideal Cert.Kernel2Ideal.Gen

/-- The first column of piece `n`: gates are the even pieces, values the odd ones. -/
def lo (n : ℕ) : ℕ := 256 * min (n / 2) 10 + 2816 * (n % 2)
/-- The first column of chunk `c` of the products of gates and values. -/
def co (c : ℕ) : ℕ := 256 * min c 10

theorem lo_le (n : ℕ) : lo n + 256 ≤ 5632 := by unfold lo; omega
theorem co_le (c : ℕ) : co c + 256 ≤ 2816 := by unfold co; omega

theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a := by
  intro a; fin_cases a; exacts [h0, h1, h2]

variable {F : FTy → Type} [FloatOps F]

/-- The residual after the output projection, -/
def resid (a : Vec F S512x512 .bf16) (wa : Vec F S512x1024 .bf16) (b : Vec F S512x512 .bf16) (wb : Vec F S512x1024 .bf16)
    (x : Vec F S512x1024 .f32) : FVec F S512x1024 .f32 := k0_pay4 a wa b wb x
/-- and its norm. -/
def normed (a : Vec F S512x512 .bf16) (wa : Vec F S512x1024 .bf16) (b : Vec F S512x512 .bf16) (wb : Vec F S512x1024 .bf16)
    (x : Vec F S512x1024 .f32) (g : Vec F S1x1x1024 .f32) : FVec F S512x1024 .bf16 :=
  k0_pay8 (k0_pay4 a wa b wb x) (k0_pay5 g) (k0_pay6 a wa b wb x) k0_pay7

/-- The up-projection onto 256 columns. -/
def up (h : FVec F S512x1024 .bf16) (w : Vec F S1x1024x256 .bf16) : FVec F S512x256 .f32 := k0_pay15 h w

/-- The last eight rows, which the next grid point needs. -/
def keep (u : FVec F S512x256 .f32) : FVec F S8x256 .f32 :=
  shapeCast S8x256 (extractStridedSlice S8x256 ![504, 0] u slices_S512x256_o504_0_S8x256) shapeCasts_S8x256_S8x256

/-- The rows `k` before, the first `k` of them taken from the rows kept by the grid point before. -/
def shift (k : BitVec 32) (u : FVec F S512x256 .f32) (tl : Vec F S8x256 .f32) : FVec F S512x256 .f32 :=
  concatenate S512x256 0
    [⟨S8x256, select (cmpi .slt (iota .tc S8x256 32 [0] iota_S8x256_d0_w32) (broadcast S8x256 k))
        (dynamicRotate 0 k none tl rotates_S8x256_d0)
        (extractStridedSlice S8x256 ![0, 0] (dynamicRotate 0 k none u rotates_S512x256_d0) slices_S512x256_o0_0_S8x256)⟩,
      ⟨S504x256, extractStridedSlice S504x256 ![8, 0] (dynamicRotate 0 k none u rotates_S512x256_d0) slices_S512x256_o8_0_S504x256⟩]
    concatenates_S8x256_S504x256_S512x256_d0

/-- The convolution of a piece along its rows. -/
def conv (u : FVec F S512x256 .f32) (tl : Vec F S8x256 .f32) (cw : Vec F S1x3x256 .f32) (cb : Vec F S1x1x256 .f32) : FVec F S512x256 .f32 :=
  addf (addf (addf (broadcastTo S512x256 (shapeCast S1x256 cb shapeCasts_S1x1x256_S1x256) broadcasts_S1x256_S512x256)
      (mulf (broadcastTo S512x256 (extractStridedSlice S1x256 ![2, 0] (shapeCast S3x256 cw shapeCasts_S1x3x256_S3x256) slices_S3x256_o2_0_S1x256)
        broadcasts_S1x256_S512x256) u))
    (mulf (broadcastTo S512x256 (extractStridedSlice S1x256 ![1, 0] (shapeCast S3x256 cw shapeCasts_S1x3x256_S3x256) slices_S3x256_o1_0_S1x256)
        broadcasts_S1x256_S512x256) (shift 1#32 u tl)))
    (mulf (broadcastTo S512x256 (extractStridedSlice S1x256 ![0, 0] (shapeCast S3x256 cw shapeCasts_S1x3x256_S3x256) slices_S3x256_o0_0_S1x256)
        broadcasts_S1x256_S512x256) (shift 2#32 u tl))

/-- The gated product. -/
def act (g v : FVec F S512x256 .f32) : FVec F S512x256 .bf16 :=
  k0_pay1 g v (broadcast S512x256 (Scalar.ofBits .f32 0x3F000000#32 : F .f32))

/-- The columns of piece `n` in the kept rows, -/
@[implicit_reducible] def cRect (n : ℕ) : Rect S8x5632 :=
  Rect.unit (s := S8x5632) ![0, lo n] S8x256.size (Rect.inb₂ (le_refl 8) (lo_le n))
/-- and the columns of chunk `c` in the products. -/
@[implicit_reducible] def aRect (c : ℕ) : Rect S512x2816 :=
  Rect.unit (s := S512x2816) ![0, co c] S512x256.size (Rect.inb₂ (le_refl 512) (co_le c))

section
variable (h : FVec F S512x1024 .bf16) (w : ℕ → Vec F S1x1024x256 .bf16)

/-- The kept rows after the first `n` pieces, over what was there before. -/
def kept (L : List (View.Piece (Elt F) S8x5632 .f32)) : ℕ → List (View.Piece (Elt F) S8x5632 .f32)
  | 0 => L
  | n + 1 => ⟨cRect n, keep (up h (w n))⟩ :: kept L n

variable (tl : ℕ → Vec F S8x256 .f32) (cw : ℕ → Vec F S1x3x256 .f32) (cb : ℕ → Vec F S1x1x256 .f32)

/-- Piece `n` convolved. -/
def branch (n : ℕ) : FVec F S512x256 .f32 := conv (up h (w n)) (tl n) (cw n) (cb n)

/-- The products of the first `n` chunks. -/
def acts : ℕ → List (View.Piece (Elt F) S512x2816 .bf16)
  | 0 => []
  | n + 1 => ⟨aRect n, act (branch h w tl cw cb (2 * n)) (branch h w tl cw cb (2 * n + 1))⟩ :: acts n

end

end Cert.Ffn

end
-- ==== Proof.Ffn.Tie.lean ====
/-
  The unrolled body is the loop.
-/
module

public import proofs.«01_k».proof.Proof.Ffn.Model

@[expose] public section

set_option maxRecDepth 100000

noncomputable section

namespace Cert.Ffn

open Idealize.ShloMosaic Idealize.ShloMosaic.TcCoe
open Cert.Kernel2Ideal Cert.Kernel2Ideal.Gen

variable {F : FTy → Type} [FloatOps F]
variable (c : Dev nD) (i : grid0.Coords)
variable (arg1 : Memref sig .tc .vmem S512x512 .bf16) (harg1 : arg1.IsWhole)
variable (arg2 : Memref sig .tc .vmem S512x512 .bf16) (harg2 : arg2.IsWhole)
variable (arg3 : Memref sig .tc .vmem S512x1024 .f32) (harg3 : arg3.IsWhole)
variable (arg4 : Memref sig .tc .vmem S1024x1024 .bf16) (harg4 : arg4.IsWhole)
variable (arg5 : Memref sig .tc .vmem S1x1x1024 .f32) (harg5 : arg5.IsWhole)
variable (arg6 : Memref sig .tc .vmem S1x1024x5632 .bf16) (harg6 : arg6.IsWhole)
variable (arg7 : Memref sig .tc .vmem S1x3x5632 .f32) (harg7 : arg7.IsWhole)
variable (arg8 : Memref sig .tc .vmem S1x1x5632 .f32) (harg8 : arg8.IsWhole)
variable (arg9 : Memref sig .tc .vmem S1x2816x1024 .bf16) (harg9 : arg9.IsWhole)
variable (arg10 : Memref sig .tc .vmem S512x1024 .f32) (harg10 : arg10.IsWhole)
variable (arg11 : Memref sig .tc .vmem S512x2816 .bf16) (harg11 : arg11.IsWhole)
variable (arg12 : Memref sig .tc .vmem S8x5632 .f32) (harg12 : arg12.IsWhole)
variable (x0 : Vec F S512x512 .bf16) (x1 : Vec F S512x512 .bf16) (x2 : Vec F S512x1024 .f32) (x3 : Vec F S1024x1024 .bf16) (x4 : Vec F S1x1x1024 .f32) (x5 : Vec F S1x1024x5632 .bf16) (x6 : Vec F S1x3x5632 .f32) (x7 : Vec F S1x1x5632 .f32) (x8 : Vec F S1x2816x1024 .bf16)
  (xs1 : Vec F S8x5632 .f32)

/-- What the body loads: the two halves of the mixer's output and of the projection, the residual, the gain, -/
def a0 : Vec F S512x512 .bf16 := View.readAt (Elt F) arg1.view (Rect.unit ![0, 0] S512x512.size inb_S512x512_S512x512_0_0).toLoadRect (harg1.unread x0)
def b0 : Vec F S512x512 .bf16 := View.readAt (Elt F) arg2.view (Rect.unit ![0, 0] S512x512.size inb_S512x512_S512x512_0_0).toLoadRect (harg2.unread x1)
def wa : Vec F S512x1024 .bf16 := View.readAt (Elt F) arg4.view (Rect.unit (s := S1024x1024) ![0, 0] S512x1024.size inb_S1024x1024_S512x1024_0_0).toLoadRect (harg4.unread x3)
def wb : Vec F S512x1024 .bf16 := View.readAt (Elt F) arg4.view (Rect.unit (s := S1024x1024) ![512, 0] S512x1024.size inb_S1024x1024_S512x1024_512_0).toLoadRect (harg4.unread x3)
def r0 : Vec F S512x1024 .f32 := View.readAt (Elt F) arg3.view (Rect.unit ![0, 0] S512x1024.size inb_S512x1024_S512x1024_0_0).toLoadRect (harg3.unread x2)
def g0 : Vec F S1x1x1024 .f32 := View.readAt (Elt F) arg5.view (Rect.unit ![0, 0, 0] S1x1x1024.size inb_S1x1x1024_S1x1x1024_0_0_0).toLoadRect (harg5.unread x4)
/-- and of piece `n` the up-projection, the taps, the bias and the kept rows; -/
def wAt (n : ℕ) : Vec F S1x1024x256 .bf16 := View.readAt (Elt F) arg6.view
  (Rect.unit (s := S1x1024x5632) ![0, 0, lo n] S1x1024x256.size (inb3 (le_refl 1) (le_refl 1024) (lo_le n))).toLoadRect (harg6.unread x5)
def cwAt (n : ℕ) : Vec F S1x3x256 .f32 := View.readAt (Elt F) arg7.view
  (Rect.unit (s := S1x3x5632) ![0, 0, lo n] S1x3x256.size (inb3 (le_refl 1) (le_refl 3) (lo_le n))).toLoadRect (harg7.unread x6)
def cbAt (n : ℕ) : Vec F S1x1x256 .f32 := View.readAt (Elt F) arg8.view
  (Rect.unit (s := S1x1x5632) ![0, 0, lo n] S1x1x256.size (inb3 (le_refl 1) (le_refl 1) (lo_le n))).toLoadRect (harg8.unread x7)
def tlAt (n : ℕ) : Vec F S8x256 .f32 := View.readAt (Elt F) arg12.view (cRect n).toLoadRect (harg12.unread xs1)
def wd : Vec F S1x2816x1024 .bf16 := View.readAt (Elt F) arg9.view (Rect.unit ![0, 0, 0] S1x2816x1024.size inb_S1x2816x1024_S1x2816x1024_0_0_0).toLoadRect (harg9.unread x8)

/-- the residual and the norm of them. -/
def xAt : FVec F S512x1024 .f32 := resid (a0 arg1 harg1 x0) (wa arg4 harg4 x3) (b0 arg2 harg2 x1) (wb arg4 harg4 x3) (r0 arg3 harg3 x2)
def hAt : FVec F S512x1024 .bf16 := normed (a0 arg1 harg1 x0) (wa arg4 harg4 x3) (b0 arg2 harg2 x1) (wb arg4 harg4 x3) (r0 arg3 harg3 x2) (g0 arg5 harg5 x4)

/-- The zeros that the first grid point of a sequence starts from. -/
def zeros : List (View.Piece (Elt F) S8x5632 .f32) := [⟨Rect.unit ![0, 0] S8x5632.size inb_S8x5632_S8x5632_0_0, k0_pay3⟩]

theorem kept_A (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 = kept (hAt arg1 harg1 arg2 harg2 arg3 harg3 arg4 harg4 arg5 harg5 x0 x1 x2 x3 x4) (wAt arg6 harg6 x5) zeros 22 := rfl

theorem out_A (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 =
    [⟨Rect.unit ![0, 0] S512x1024.size inb_S512x1024_S512x1024_0_0,
      k0_pay2 (xAt arg1 harg1 arg2 harg2 arg3 harg3 arg4 harg4 x0 x1 x2 x3) (arg11.view.readCov (acts (hAt arg1 harg1 arg2 harg2 arg3 harg3 arg4 harg4 arg5 harg5 x0 x1 x2 x3 x4) (wAt arg6 harg6 x5) (fun n => arg12.view.readCov (kept (hAt arg1 harg1 arg2 harg2 arg3 harg3 arg4 harg4 arg5 harg5 x0 x1 x2 x3 x4) (wAt arg6 harg6 x5) zeros n) (cRect n).toLoadRect) (cwAt arg7 harg7 x6) (cbAt arg8 harg8 x7) 11)
        (Rect.unit ![0, 0] S512x2816.size inb_S512x2816_S512x2816_0_0).toLoadRect) (wd arg9 harg9 x8)⟩] := rfl

theorem kept_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs1).2.1 = kept (hAt arg1 harg1 arg2 harg2 arg3 harg3 arg4 harg4 arg5 harg5 x0 x1 x2 x3 x4) (wAt arg6 harg6 x5) [] 22 := rfl

theorem out_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs1).1 =
    [⟨Rect.unit ![0, 0] S512x1024.size inb_S512x1024_S512x1024_0_0,
      k0_pay2 (xAt arg1 harg1 arg2 harg2 arg3 harg3 arg4 harg4 x0 x1 x2 x3) (arg11.view.readCov (acts (hAt arg1 harg1 arg2 harg2 arg3 harg3 arg4 harg4 arg5 harg5 x0 x1 x2 x3 x4) (wAt arg6 harg6 x5) (tlAt arg12 harg12 xs1) (cwAt arg7 harg7 x6) (cbAt arg8 harg8 x7) 11)
        (Rect.unit ![0, 0] S512x2816.size inb_S512x2816_S512x2816_0_0).toLoadRect) (wd arg9 harg9 x8)⟩] := rfl

end Cert.Ffn

end
-- ==== Proof.Ffn.Ring.lean ====
/-
  What the two scratch buffers hold: each column of the kept rows comes from the piece that covers it, or is what was there
  before if that piece has not been stored; each column of the products comes from its chunk.
-/
module

public import proofs.«01_k».proof.Proof.Ffn.Model
public import Idealize.ShloMosaic.Lib.ValueIdx

@[expose] public section

set_option maxRecDepth 16384

noncomputable section

namespace Cert.Ffn

open Idealize.ShloMosaic Idealize.ShloMosaic.TcCoe Idealize.ShloMosaic.ValueIdx
open Cert.Kernel2Ideal Cert.Kernel2Ideal.Gen

variable {F : FTy → Type} [FloatOps F]

/-- Two of the twenty-two pieces share no column. -/
theorem lo_disjoint {n p : ℕ} (hn : n < 22) (hp : p < 22) (hne : n ≠ p) : lo n + 256 ≤ lo p ∨ lo p + 256 ≤ lo n := by
  unfold lo; omega

section
variable (h : FVec F S512x1024 .bf16) (w : ℕ → Vec F S1x1024x256 .bf16) (L : List (View.Piece (Elt F) S8x5632 .f32))

/-- A piece's store leaves the other pieces' columns. -/
theorem kept_skip {n p : ℕ} (hn : n < 22) (hp : p < 22) (hne : n ≠ p) (a : Fin 8) (j : Fin 256) (y : Fin 5632) (hy : y.val = lo p + j.val) :
    View.canon (kept h w L (n + 1)) (ix2 a y) = View.canon (kept h w L n) (ix2 a y) := by
  have hj := j.isLt
  refine View.canon_cons_of_not_mem _ _ ?_
  intro hm
  obtain ⟨z, hz, he⟩ := (LoadRect.mem_set _).mp hm (1 : Fin 2)
  have hz' : z < 256 := hz
  have he' : y.val = lo n + 1 * z := he
  rcases lo_disjoint hn hp hne with hd | hd <;> omega

/-- Before piece `p` its columns are what was there. -/
theorem kept_before (p : ℕ) (hp : p < 22) (a : Fin 8) (j : Fin 256) (y : Fin 5632) (hy : y.val = lo p + j.val) :
    ∀ n, n ≤ p → View.canon (kept h w L n) (ix2 a y) = View.canon L (ix2 a y)
  | 0, _ => rfl
  | n + 1, hn => (kept_skip h w L (by omega) hp (by omega) a j y hy).trans (kept_before p hp a j y hy n (by omega))

/-- After piece `p` its columns are its own. -/
theorem kept_after (p : ℕ) (hp : p < 22) (a : Fin 8) (j : Fin 256) (y : Fin 5632) (hy : y.val = lo p + j.val) :
    ∀ d, p + 1 + d ≤ 22 → View.canon (kept h w L (p + 1 + d)) (ix2 a y) = keep (up h (w p)) (ix2 a j)
  | 0, _ => by
    have he : (ix2 a y : S8x5632.Idx) = (cRect p).emb (ix2 a j) := by
      funext x; apply Fin.ext; fin_cases x
      · show a.val = 0 + 1 * a.val; omega
      · show y.val = lo p + 1 * j.val; omega
    refine (congrArg (View.canon _) he).trans ?_
    exact View.canon_cons_emb _ _ _ _
  | d + 1, hd => (kept_skip h w L (n := p + 1 + d) (by omega) hp (by omega) a j y hy).trans (kept_after p hp a j y hy d (by omega))

/-- All the kept rows after the grid point. -/
theorem kept_all (p : ℕ) (hp : p < 22) (a : Fin 8) (j : Fin 256) (y : Fin 5632) (hy : y.val = lo p + j.val) :
    View.canon (kept h w L 22) (ix2 a y) = keep (up h (w p)) (ix2 a j) := by
  have e : 22 = p + 1 + (21 - p) := by omega
  rw [e]
  exact kept_after h w L p hp a j y hy _ (by omega)

variable (tl : ℕ → Vec F S8x256 .f32) (cw : ℕ → Vec F S1x3x256 .f32) (cb : ℕ → Vec F S1x1x256 .f32)

/-- After chunk `p` its columns are its own. -/
theorem acts_after (p : ℕ) (hp : p < 11) (r : Fin 512) (j : Fin 256) (y : Fin 2816) (hy : y.val = co p + j.val) :
    ∀ d, p + 1 + d ≤ 11 → View.canon (acts h w tl cw cb (p + 1 + d)) (ix2 r y)
      = act (branch h w tl cw cb (2 * p)) (branch h w tl cw cb (2 * p + 1)) (ix2 r j)
  | 0, _ => by
    have he : (ix2 r y : S512x2816.Idx) = (aRect p).emb (ix2 r j) := by
      funext x; apply Fin.ext; fin_cases x
      · show r.val = 0 + 1 * r.val; omega
      · show y.val = co p + 1 * j.val; omega
    refine (congrArg (View.canon _) he).trans ?_
    exact View.canon_cons_emb _ _ _ _
  | d + 1, hd => by
    refine Eq.trans ?_ (acts_after p hp r j y hy d (by omega))
    have hj := j.isLt
    refine View.canon_cons_of_not_mem _ _ ?_
    intro hm
    obtain ⟨z, hz, he⟩ := (LoadRect.mem_set _).mp hm (1 : Fin 2)
    have hz' : z < 256 := hz
    have he' : y.val = co (p + 1 + d) + 1 * z := he
    unfold co at he' hy
    omega

/-- All the products. -/
theorem acts_all (p : ℕ) (hp : p < 11) (r : Fin 512) (j : Fin 256) (y : Fin 2816) (hy : y.val = co p + j.val) :
    View.canon (acts h w tl cw cb 11) (ix2 r y) = act (branch h w tl cw cb (2 * p)) (branch h w tl cw cb (2 * p + 1)) (ix2 r j) := by
  have e : 11 = p + 1 + (10 - p) := by omega
  rw [e]
  exact acts_after h w tl cw cb p hp r j y hy _ (by omega)

end

end Cert.Ffn

end
-- ==== Proof.Ffn.Spec.lean ====
/-
  The mathematics of the second call, away from any program: the root mean square norm of a row is real whatever the row is,
  and the kernel's half-argument form of the gate is `x` times the logistic of `x` on the reals.
-/
module

public import Idealize.ShloMosaic.PureOps.Ideal.Laws
public import Mathlib.Analysis.SpecialFunctions.Trigonometric.DerivHyp

@[expose] public section

noncomputable section

namespace Cert.Ffn

open Idealize.ShloMosaic

/-- An extended real that is a real. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.zero : IsR 0 := ⟨0, rfl⟩
theorem IsR.sum {n : ℕ} {f : Fin n → EReal} (h : ∀ i, IsR (f i)) : IsR (∑ i, f i) := by
  classical
  induction (Finset.univ : Finset (Fin n)) using Finset.induction_on with
  | empty => exact ⟨0, by simp⟩
  | insert a s ha ih => rw [Finset.sum_insert ha]; exact (h a).add ih

/-- The constants the two programs write out. -/
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem inv1024_eq : Ideal.ofBits .f32 0x3A800000#32 = ((1 / 1024 : ℝ) : EReal) := by
  simp [Ideal.ofBits, Ideal.ieee, -EReal.coe_mul]; norm_num
theorem c1024_eq : Ideal.ofBits .f32 0x44800000#32 = ((1024 : ℝ) : EReal) := by
  simp [Ideal.ofBits, Ideal.ieee, -EReal.coe_mul]; norm_num
/-- The small number added to the mean square is a positive real. -/
theorem eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A row over the root of its mean square, times a gain. -/
def rms (x : Fin 1024 → EReal) (g : EReal) (k : Fin 1024) : EReal :=
  x k * Ideal.rsqrt ((∑ i, x i * x i) * ((1 / 1024 : ℝ) : EReal) + Ideal.ofBits .f32 0x358637BD#32) * g

theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- The norm of a row is real if the gain is: an infinite entry makes the root infinite, and its reciprocal zero. -/
theorem rms_real (x : Fin 1024 → EReal) (g : EReal) (hg : IsR g) (k : Fin 1024) : IsR (rms x g k) := by
  obtain ⟨e, he, hee⟩ := eps_pos
  unfold rms
  rw [hee]
  by_cases hS : (∑ i, x i * x i) = ⊤
  · rw [hS, EReal.top_mul_coe_of_pos (by norm_num), EReal.top_add_coe]
    show IsR (x k * 0 * g)
    rw [mul_zero, zero_mul]; exact IsR.zero
  · have hx : ∀ i, IsR (x i) := by
      intro i
      have hle : x i * x i ≤ ∑ i, x i * x i := Finset.single_le_sum (f := fun i => x i * x i) (fun j _ => sq_nonneg' (x j)) (Finset.mem_univ i)
      have hne : x i * x i ≠ ⊤ := fun h => hS (top_le_iff.mp (h ▸ hle))
      generalize x i = y at hne
      induction y using EReal.rec with
      | bot => exact absurd EReal.bot_mul_bot hne
      | top => exact absurd EReal.top_mul_top hne
      | coe r => exact ⟨r, rfl⟩
    obtain ⟨s, hs⟩ := IsR.sum (fun i => (hx i).mul (hx i))
    have hs0 : 0 ≤ s := by
      have : (0 : EReal) ≤ (s : EReal) := hs ▸ Finset.sum_nonneg (fun i _ => sq_nonneg' (x i))
      exact_mod_cast this
    rw [hs, ← EReal.coe_mul, ← EReal.coe_add]
    have hp : 0 < s * (1 / 1024) + e := by positivity
    have hr : Ideal.rsqrt ((s * (1 / 1024) + e : ℝ) : EReal) = (((Real.sqrt (s * (1 / 1024) + e))⁻¹ : ℝ) : EReal) := by
      show (if s * (1 / 1024) + e < 0 then (⊥ : EReal) else if s * (1 / 1024) + e = 0 then ⊤ else _) = _
      rw [if_neg (not_lt.mpr hp.le), if_neg hp.ne']
    rw [hr]
    exact ((hx k).mul ⟨_, rfl⟩).mul hg

/-- The kernel's gate, -/
def gateK (g : EReal) : EReal :=
  Ideal.ofBits .f32 0x3F000000#32 * g + Ideal.ofBits .f32 0x3F000000#32 * g * Ideal.tanh (Ideal.ofBits .f32 0x3F000000#32 * g)
/-- and the reference's. -/
def gateR (g : EReal) : EReal :=
  g * Ideal.div (Ideal.ofBits .f32 0x3F800000#32) (Ideal.ofBits .f32 0x3F800000#32 + Ideal.exp (-g))

theorem tanh_half (r : ℝ) : 1 / 2 * r + 1 / 2 * r * Real.tanh (1 / 2 * r) = r * (1 * (1 / (1 + Real.exp (-r)))) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  have p1 := Real.exp_pos (1 / 2 * r)
  have p2 := Real.exp_pos (-(1 / 2 * r))
  generalize Real.exp (1 / 2 * r) = a at *
  generalize Real.exp (-(1 / 2 * r)) = b at *
  have hb : b ≠ 0 := p2.ne'
  have ha : a = 1 / b := by rw [eq_div_iff hb]; exact h2
  have q : (0 : ℝ) < 1 + b * b := by positivity
  subst ha
  field_simp
  ring

/-- The two gates are one on the reals. -/
theorem gate_eq (g : EReal) (hg : IsR g) : gateK g = gateR g := by
  obtain ⟨r, rfl⟩ := hg
  have p : (0 : ℝ) < 1 + Real.exp (-r) := by positivity
  unfold gateK gateR
  have ht : Ideal.tanh ((1 / 2 * r : ℝ) : EReal) = ((Real.tanh (1 / 2 * r) : ℝ) : EReal) := rfl
  have hx : Ideal.exp (-(r : EReal)) = ((Real.exp (-r) : ℝ) : EReal) := by rw [← EReal.coe_neg]; rfl
  rw [half_eq, one_eq, hx, ← EReal.coe_add, Ideal.div_coe p.ne', ← EReal.coe_mul, ht, ← EReal.coe_mul, ← EReal.coe_add, ← EReal.coe_mul,
    ← EReal.coe_mul, tanh_half]

end Cert.Ffn

end
-- ==== Proof.Ffn.Values.lean ====
/-
  The second call's arithmetic, read entry by entry at the ideal values.
-/
module

public import proofs.«01_k».proof.Proof.Ffn.Ring
public import proofs.«01_k».proof.Proof.Ffn.Spec
public import Idealize.ShloMosaic.Lib.WordCmp
public import Idealize.ShloMosaic.Lib.ValueLayout
public import Idealize.ShloMosaic.Lib.KernelVsHost
public import Idealize.ShloMosaic.Lib.MatmulPlain

@[expose] public section

set_option maxRecDepth 16384

noncomputable section

namespace Cert.Ffn

open Idealize.ShloMosaic Idealize.ShloMosaic.TcCoe Idealize.ShloMosaic.ValueIdx
open Cert.Kernel2Ideal Cert.Kernel2Ideal.Gen

/-- A product into a zero accumulator. -/
theorem matmul_zero {M K N : ℕ} (l : FVec Ideal ⟨2, ![M, K]⟩ .bf16) (w : FVec Ideal ⟨2, ![K, N]⟩ .bf16) (r : Fin M) (n : Fin N) :
    (FloatOps.matmul (DotDims.plain M K N) none l w (constant (⟨2, ![M, N]⟩ : Shape) .f32 0x00000000#32) (ix2 r n) : EReal)
      = ∑ k : Fin K, (l (ix2 r k) : EReal) * (w (ix2 k n) : EReal) := by
  refine (Ideal.matmul_plain_apply _ _ _ _ _ _).trans ?_
  refine (congrArg (· + _) (Ideal.ofBits_zero_f32)).trans ?_
  exact zero_add _

/-- The residual. -/
theorem resid_apply (a : Vec Ideal S512x512 .bf16) (wa : Vec Ideal S512x1024 .bf16) (b : Vec Ideal S512x512 .bf16) (wb : Vec Ideal S512x1024 .bf16)
    (x : Vec Ideal S512x1024 .f32) (r : Fin 512) (n : Fin 1024) :
    (resid (F := Ideal) a wa b wb x (ix2 r n) : EReal) = (x (ix2 r n) : EReal) + (∑ k : Fin 512, (a (ix2 r k) : EReal) * (wa (ix2 k n) : EReal)
      + ∑ k : Fin 512, (b (ix2 r k) : EReal) * (wb (ix2 k n) : EReal)) := by
  unfold resid k0_pay4
  rw [shapeCast_self, shapeCast_self, shapeCast_self, shapeCast_self, shapeCast_self]
  exact congrArg₂ (fun p q : EReal => (x (ix2 r n) : EReal) + (p + q)) (matmul_zero _ _ _ _) (matmul_zero _ _ _ _)

/-- The sum of the squares of a row. -/
theorem pay6_apply (a : Vec Ideal S512x512 .bf16) (wa : Vec Ideal S512x1024 .bf16) (b : Vec Ideal S512x512 .bf16) (wb : Vec Ideal S512x1024 .bf16)
    (x : Vec Ideal S512x1024 .f32) (r : Fin 512) :
    (k0_pay6 (F := Ideal) a wa b wb x (ix2 r (0 : Fin 1)) : EReal)
      = ∑ i : Fin 1024, (resid (F := Ideal) a wa b wb x (ix2 r i) : EReal) * (resid (F := Ideal) a wa b wb x (ix2 r i) : EReal) := by
  unfold k0_pay6
  refine (shapeCast_apply _ _ (ix2 r (0 : Fin 1)) (ix1 r) (by rw [Shape.rowMajor_val_one, Shape.rowMajor_val_two]; show r.val = r.val * 1 + 0; omega)).trans ?_
  refine (Ideal.multiReduction_add_single _ _ _ _ _ _).trans ?_
  refine Finset.sum_congr rfl fun i _ => ?_
  have e : reduces_S512x1024_S512.lift (ix1 r) i = (ix2 r i : S512x1024.Idx) := by funext y; fin_cases y <;> rfl
  rw [e]; rfl

/-- The norm. -/
theorem normed_apply (a : Vec Ideal S512x512 .bf16) (wa : Vec Ideal S512x1024 .bf16) (b : Vec Ideal S512x512 .bf16) (wb : Vec Ideal S512x1024 .bf16)
    (x : Vec Ideal S512x1024 .f32) (g : Vec Ideal S1x1x1024 .f32) (r : Fin 512) (k : Fin 1024) :
    (normed (F := Ideal) a wa b wb x g (ix2 r k) : EReal)
      = rms (fun i => (resid (F := Ideal) a wa b wb x (ix2 r i) : EReal)) (g (ix3 (0 : Fin 1) (0 : Fin 1) k)) k := by
  unfold normed k0_pay8 k0_pay7 rms
  have hms := pay6_apply a wa b wb x r
  have hg : (broadcastTo S512x1024 (k0_pay5 (F := Ideal) g) broadcasts_S1x1024_S512x1024 (ix2 r k) : EReal) = (g (ix3 (0 : Fin 1) (0 : Fin 1) k) : EReal) := by
    refine (broadcastTo_1b_ab_apply _ _ _ _).trans ?_
    unfold k0_pay5
    exact shapeCast_1ab_ab_apply _ _ _ _
  have hr : ∀ v : FVec Ideal S512x1 .f32, (broadcastTo S512x1024 v broadcasts_S512x1_S512x1024 (ix2 r k) : EReal) = (v (ix2 r (0 : Fin 1)) : EReal) := fun v =>
    broadcastTo_apply v _ _ _ (by intro y; fin_cases y <;> rfl)
  show (k0_pay4 (F := Ideal) a wa b wb x (ix2 r k) : EReal) * (broadcastTo S512x1024 _ broadcasts_S512x1_S512x1024 (ix2 r k) : EReal)
    * (broadcastTo S512x1024 (k0_pay5 (F := Ideal) g) broadcasts_S1x1024_S512x1024 (ix2 r k) : EReal) = _
  rw [hg, hr]
  show _ * Ideal.rsqrt ((k0_pay6 (F := Ideal) a wa b wb x (ix2 r (0 : Fin 1)) : EReal) * Ideal.ofBits .f32 0x3A800000#32 + _) * _ = _
  rw [hms, inv1024_eq]
  rfl

/-- The up-projection. -/
theorem up_apply (h : FVec Ideal S512x1024 .bf16) (w : Vec Ideal S1x1024x256 .bf16) (r : Fin 512) (j : Fin 256) :
    (up (F := Ideal) h w (ix2 r j) : EReal) = ∑ k : Fin 1024, (h (ix2 r k) : EReal) * (w (ix3 (0 : Fin 1) k j) : EReal) := by
  unfold up k0_pay15
  refine (matmul_zero _ _ _ _).trans ?_
  exact Finset.sum_congr rfl fun k _ => congrArg (fun q : EReal => (h (ix2 r k) : EReal) * q) (shapeCast_1ab_ab_apply _ _ _ _)

/-- The kept rows. -/
theorem keep_apply (u : FVec Ideal S512x256 .f32) (a : Fin 8) (j : Fin 256) (y : Fin 512) (hy : y.val = 504 + a.val) :
    (keep (F := Ideal) u (ix2 a j) : EReal) = (u (ix2 y j) : EReal) := by
  unfold keep
  rw [shapeCast_self]
  refine extractStridedSlice_apply _ _ _ _ _ (fun x => ?_)
  fin_cases x
  · show y.val = 504 + a.val; exact hy
  · show j.val = 0 + j.val; omega

/-- A rotation of a block of rows. -/
theorem rot_apply {n : ℕ} (k : ℕ) (hk : k < n) (hk' : k < 2 ^ 32) (u : FVec Ideal (⟨2, ![n, 256]⟩ : Shape) .f32) (h : (⟨2, ![n, 256]⟩ : Shape).Rotates 0 none)
    (i : Fin n) (j : Fin 256) (y : Fin n) (hy : y.val = if i.val < k then n + i.val - k else i.val - k) :
    dynamicRotate 0 (BitVec.ofNat 32 k) none u h (ix2 i j) = u (ix2 y j) := by
  have hi := i.isLt
  have hkn : (BitVec.ofNat 32 k).toNat = k := by simp only [BitVec.toNat_ofNat]; exact Nat.mod_eq_of_lt hk'
  refine dynamicRotate_apply _ _ _ _ _ _ (fun x => ?_)
  fin_cases x
  · show y.val = (i.val + n - (BitVec.ofNat 32 k).toNat % n) % n
    rw [hkn, Nat.mod_eq_of_lt hk]
    by_cases hc : i.val < k
    · rw [if_pos hc] at hy; rw [Nat.mod_eq_of_lt (by omega)]; omega
    · rw [if_neg hc] at hy; rw [show i.val + n - k = (i.val - k) + n by omega, Nat.add_mod_right, Nat.mod_eq_of_lt (by omega)]; omega
  · rfl

/-- Rows `k` before, for the first `k` rows, -/
theorem shift_lt (k : ℕ) (hk : k < 8) (u : FVec Ideal S512x256 .f32) (tl : Vec Ideal S8x256 .f32) (i : Fin 512) (j : Fin 256)
    (hi : i.val < k) (y : Fin 8) (hy : y.val = 8 + i.val - k) :
    (shift (F := Ideal) (BitVec.ofNat 32 k) u tl (ix2 i j) : EReal) = (tl (ix2 y j) : EReal) := by
  unfold shift
  refine (concatenate_apply_piece (t := S512x256) 0 _ _ _ 0 (by show _ < 2; omega) S8x256 _ rfl rfl 0 rfl
      (ix2 (⟨i.val, by omega⟩ : Fin 8) j) ?_ ?_).trans ?_
  · intro y hy; fin_cases y <;> first | rfl | exact absurd rfl hy
  · show 0 + i.val = i.val; omega
  have h0 : iota .tc S8x256 32 [0] iota_S8x256_d0_w32 (ix2 (⟨i.val, by omega⟩ : Fin 8) j) = BitVec.ofNat 32 i.val := iota_single_apply ..
  have hc := WordCmp.cmpi_slt_ofNat_eq_one_iff (w := 32) (a := i.val) (b := k) (by norm_num; omega) (by norm_num; omega)
  show (if IntOp.cmpi .slt (iota .tc S8x256 32 [0] iota_S8x256_d0_w32 (ix2 (⟨i.val, by omega⟩ : Fin 8) j)) (BitVec.ofNat 32 k) = 1#1 then _ else _) = _
  rw [h0, if_pos (hc.mpr hi)]
  exact rot_apply k hk (by omega) _ _ _ _ y (by simp only; rw [if_pos hi]; exact hy)

/-- and for the others. -/
theorem shift_ge (k : ℕ) (hk : k < 8) (u : FVec Ideal S512x256 .f32) (tl : Vec Ideal S8x256 .f32) (i : Fin 512) (j : Fin 256)
    (hi : k ≤ i.val) (y : Fin 512) (hy : y.val = i.val - k) :
    (shift (F := Ideal) (BitVec.ofNat 32 k) u tl (ix2 i j) : EReal) = (u (ix2 y j) : EReal) := by
  have hi' := i.isLt
  have hr := rot_apply k (n := 512) (by omega) (by omega) u rotates_S512x256_d0 i j y (by rw [if_neg (by omega)]; exact hy)
  unfold shift
  by_cases h8 : i.val < 8
  · refine (concatenate_apply_piece (t := S512x256) 0 _ _ _ 0 (by show _ < 2; omega) S8x256 _ rfl rfl 0 rfl
        (ix2 (⟨i.val, h8⟩ : Fin 8) j) ?_ ?_).trans ?_
    · intro y hy; fin_cases y <;> first | rfl | exact absurd rfl hy
    · show 0 + i.val = i.val; omega
    have h0 : iota .tc S8x256 32 [0] iota_S8x256_d0_w32 (ix2 (⟨i.val, h8⟩ : Fin 8) j) = BitVec.ofNat 32 i.val := iota_single_apply ..
    have hc := WordCmp.cmpi_slt_ofNat_eq_one_iff (w := 32) (a := i.val) (b := k) (by norm_num; omega) (by norm_num; omega)
    show (if IntOp.cmpi .slt (iota .tc S8x256 32 [0] iota_S8x256_d0_w32 (ix2 (⟨i.val, h8⟩ : Fin 8) j)) (BitVec.ofNat 32 k) = 1#1 then _ else _) = _
    rw [h0, if_neg (fun e => absurd (hc.mp e) (by omega))]
    refine (extractStridedSlice_apply _ _ _ _ (ix2 i j) (fun x => ?_)).trans hr
    fin_cases x
    · show i.val = 0 + i.val; omega
    · show j.val = 0 + j.val; omega
  · refine (concatenate_apply_piece (t := S512x256) 0 _ _ _ 1 (by show _ < 2; omega) S504x256 _ rfl rfl 8 rfl
        (ix2 (⟨i.val - 8, by omega⟩ : Fin 504) j) ?_ ?_).trans ?_
    · intro y hy; fin_cases y <;> first | rfl | exact absurd rfl hy
    · show 8 + (i.val - 8) = i.val; omega
    refine (extractStridedSlice_apply _ _ _ _ (ix2 i j) (fun x => ?_)).trans hr
    fin_cases x
    · show i.val = 8 + (i.val - 8); omega
    · show j.val = 0 + j.val; omega

/-- A tap of the convolution. -/
theorem tap_apply (o : ℕ) (ho : S3x256.Slices ![o, 0] S1x256) (cw : Vec Ideal S1x3x256 .f32) (i : Fin 512) (j : Fin 256) (y : Fin 3) (hy : y.val = o) :
    (broadcastTo S512x256 (extractStridedSlice S1x256 ![o, 0] (shapeCast S3x256 cw shapeCasts_S1x3x256_S3x256) ho)
        broadcasts_S1x256_S512x256 (ix2 i j) : EReal) = (cw (ix3 (0 : Fin 1) y j) : EReal) := by
  refine (broadcastTo_1b_ab_apply _ _ _ _).trans ?_
  refine (extractStridedSlice_apply _ _ _ _ (ix2 y j) (fun x => ?_)).trans (shapeCast_1ab_ab_apply _ _ _ _)
  fin_cases x
  · show y.val = o + 0; omega
  · show j.val = 0 + j.val; omega

/-- The convolution. -/
theorem conv_apply (u : FVec Ideal S512x256 .f32) (tl : Vec Ideal S8x256 .f32) (cw : Vec Ideal S1x3x256 .f32) (cb : Vec Ideal S1x1x256 .f32)
    (i : Fin 512) (j : Fin 256) :
    (conv (F := Ideal) u tl cw cb (ix2 i j) : EReal)
      = (((cb (ix3 (0 : Fin 1) (0 : Fin 1) j) : EReal) + (cw (ix3 (0 : Fin 1) (2 : Fin 3) j) : EReal) * (u (ix2 i j) : EReal))
        + (cw (ix3 (0 : Fin 1) (1 : Fin 3) j) : EReal) * (shift (F := Ideal) (BitVec.ofNat 32 1) u tl (ix2 i j) : EReal))
        + (cw (ix3 (0 : Fin 1) (0 : Fin 3) j) : EReal) * (shift (F := Ideal) (BitVec.ofNat 32 2) u tl (ix2 i j) : EReal) := by
  have hb : (broadcastTo S512x256 (shapeCast S1x256 cb shapeCasts_S1x1x256_S1x256) broadcasts_S1x256_S512x256 (ix2 i j) : EReal)
      = (cb (ix3 (0 : Fin 1) (0 : Fin 1) j) : EReal) := (broadcastTo_1b_ab_apply _ _ _ _).trans (shapeCast_1ab_ab_apply _ _ _ _)
  rw [← hb, ← tap_apply 2 slices_S3x256_o2_0_S1x256 cw i j 2 rfl, ← tap_apply 1 slices_S3x256_o1_0_S1x256 cw i j 1 rfl,
    ← tap_apply 0 slices_S3x256_o0_0_S1x256 cw i j 0 rfl]
  rfl

/-- The gated product. -/
theorem act_apply (g v : FVec Ideal S512x256 .f32) (i : S512x256.Idx) : (act (F := Ideal) g v i : EReal) = gateK (g i) * (v i : EReal) := by
  unfold act k0_pay1
  rw [shapeCast_self]
  rfl

/-- The block written. -/
theorem pay2_apply (x : FVec Ideal S512x1024 .f32) (a : Vec Ideal S512x2816 .bf16) (w : Vec Ideal S1x2816x1024 .bf16) (r : Fin 512) (n : Fin 1024) :
    (k0_pay2 (F := Ideal) x a w (ix2 r n) : EReal) = (x (ix2 r n) : EReal) + ∑ k : Fin 2816, (a (ix2 r k) : EReal) * (w (ix3 (0 : Fin 1) k n) : EReal) := by
  unfold k0_pay2
  refine congrArg (fun q : EReal => (x (ix2 r n) : EReal) + q) ?_
  refine (matmul_zero _ _ _ _).trans ?_
  exact Finset.sum_congr rfl fun k _ => congrArg (fun q : EReal => (a (ix2 r k) : EReal) * q) (shapeCast_1ab_ab_apply _ _ _ _)

end Cert.Ffn

end
-- ==== Proof.Ffn.Layer.lean ====
/-
  What the second call computes, as sums over the arguments: the residual after the output projection, its norm, the
  up-projection, the convolution over the positions of a sequence, and the gated product's down-projection.
-/
module

public import proofs.«01_k».proof.Proof.Gen.Kernel2Ideal
public import proofs.«01_k».proof.Proof.Ffn.Spec
public import Idealize.ShloMosaic.Lib.ValueIdx
public import Idealize.ShloMosaic.Lib.ValueLayout

@[expose] public section

noncomputable section

namespace Cert.Ffn

open Idealize.ShloMosaic Idealize.ShloMosaic.ValueIdx
open Cert.Kernel2Ideal Cert.Kernel2Ideal.Gen

variable (o x : FVec Ideal S32768x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)

/-- The residual of row `T`. -/
def X1 (T : Fin 32768) (n : Fin 1024) : EReal := (x (ix2 T n) : EReal) + ∑ k : Fin 1024, (o (ix2 T k) : EReal) * (wout (ix3 (0 : Fin 1) k n) : EReal)
/-- Its norm. -/
def HN (T : Fin 32768) (k : Fin 1024) : EReal := rms (X1 o x wout T) (nrm (ix2 (1 : Fin 2) k)) k
/-- The up-projection. -/
def U (T : Fin 32768) (col : Fin 5632) : EReal := ∑ k : Fin 1024, HN o x nrm wout T k * (wup (ix3 (1 : Fin 2) k col) : EReal)
/-- The up-projection `k` positions before, zero before the sequence's first. -/
def UB (k : ℕ) (T : Fin 32768) (col : Fin 5632) : EReal :=
  if k ≤ T.val % 2048 then U o x nrm wout wup ⟨T.val - k, lt_of_le_of_lt (Nat.sub_le _ _) T.isLt⟩ col else 0
/-- The convolution. -/
def CV (T : Fin 32768) (col : Fin 5632) : EReal :=
  (((cb (ix2 (1 : Fin 2) col) : EReal) + (cw (ix3 (1 : Fin 2) (2 : Fin 3) col) : EReal) * U o x nrm wout wup T col)
    + (cw (ix3 (1 : Fin 2) (1 : Fin 3) col) : EReal) * UB o x nrm wout wup 1 T col)
    + (cw (ix3 (1 : Fin 2) (0 : Fin 3) col) : EReal) * UB o x nrm wout wup 2 T col
/-- The gate's column and the value's. -/
def gcol (j : Fin 2816) : Fin 5632 := ⟨j.val, by omega⟩
def vcol (j : Fin 2816) : Fin 5632 := ⟨2816 + j.val, by omega⟩
/-- The result. -/
def OUT (T : Fin 32768) (n : Fin 1024) : EReal :=
  X1 o x wout T n + ∑ j : Fin 2816, gateR (CV o x nrm wout wup cw cb T (gcol j)) * CV o x nrm wout wup cw cb T (vcol j) * (wdn (ix3 (1 : Fin 2) j n) : EReal)

/-- The rows of all sequences, one after the other. -/
def flat (y : FVec Ideal S16x2048x1024 .f32) : FVec Ideal S32768x1024 .f32 := shapeCast S32768x1024 y shapeCasts_S16x2048x1024_S32768x1024
theorem flat_apply (y : FVec Ideal S16x2048x1024 .f32) (b : Fin 16) (s : Fin 2048) (T : Fin 32768) (hT : T.val = 2048 * b.val + s.val) (k : Fin 1024) :
    (flat y (ix2 T k) : EReal) = (y (ix3 b s k) : EReal) := by
  unfold flat
  refine shapeCast_apply _ _ _ _ ?_
  rw [Shape.rowMajor_val_two, Shape.rowMajor_val_three]
  show (b.val * 2048 + s.val) * 1024 + k.val = T.val * 1024 + k.val; omega

/-- What is asked of the weights: those before the gate are real. -/
structure Finite : Prop where
  hn (k : Fin 1024) : IsR (nrm (ix2 (1 : Fin 2) k))
  hu (k : Fin 1024) (j : Fin 2816) : IsR (wup (ix3 (1 : Fin 2) k (gcol j)))
  hw (k : Fin 3) (j : Fin 2816) : IsR (cw (ix3 (1 : Fin 2) k (gcol j)))
  hb (j : Fin 2816) : IsR (cb (ix2 (1 : Fin 2) (gcol j)))

section
variable (f : Finite nrm wup cw cb)

include f in
theorem U_real (T : Fin 32768) (j : Fin 2816) : IsR (U o x nrm wout wup T (gcol j)) :=
  IsR.sum fun k => (rms_real _ _ (f.hn _) _).mul (f.hu _ _)

include f in
theorem UB_real (k : ℕ) (T : Fin 32768) (j : Fin 2816) : IsR (UB o x nrm wout wup k T (gcol j)) := by
  unfold UB
  split_ifs
  · exact U_real o x nrm wout wup cw cb f _ _
  · exact IsR.zero

include f in
/-- What goes into the gate is real. -/
theorem CV_real (T : Fin 32768) (j : Fin 2816) : IsR (CV o x nrm wout wup cw cb T (gcol j)) :=
  (((f.hb _).add ((f.hw _ _).mul (U_real o x nrm wout wup cw cb f _ _))).add ((f.hw _ _).mul (UB_real o x nrm wout wup cw cb f _ _ _))).add
    ((f.hw _ _).mul (UB_real o x nrm wout wup cw cb f _ _ _))
end

end Cert.Ffn

end
-- ==== Proof.Ffn.Block.lean ====
/-
  One grid point of the second call computes its 512 rows of the result from its blocks of the arguments, given that the rows
  carried in are the up-projection's last eight rows before them, or zero at a sequence's first rows; and it carries out its own
  last eight rows of the up-projection.
-/
module

public import proofs.«01_k».proof.Proof.Ffn.Tie
public import proofs.«01_k».proof.Proof.Ffn.Values
public import proofs.«01_k».proof.Proof.Ffn.Layer
public import Idealize.ShloMosaic.Lib.WholeRead

@[expose] public section

set_option maxRecDepth 16384

noncomputable section

namespace Cert.Ffn

open Idealize.ShloMosaic Idealize.ShloMosaic.TcCoe Idealize.ShloMosaic.ValueIdx
open Cert.Kernel2Ideal Cert.Kernel2Ideal.Gen

/-- A sum over 1024 is the sum over its halves. -/
theorem sum_halves (f : Fin 1024 → EReal) : ∑ k : Fin 1024, f k
    = ∑ k : Fin 512, f ⟨k.val, by omega⟩ + ∑ k : Fin 512, f ⟨512 + k.val, by omega⟩ :=
  Fin.sum_univ_add (a := 512) (b := 512) f

section
variable (t : ℕ) (o x : FVec Ideal S32768x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)
variable (x0 : Vec Ideal S512x512 .bf16) (x1 : Vec Ideal S512x512 .bf16) (x2 : Vec Ideal S512x1024 .f32) (x3 : Vec Ideal S1024x1024 .bf16)
  (x4 : Vec Ideal S1x1x1024 .f32) (x5 : Vec Ideal S1x1024x5632 .bf16) (x6 : Vec Ideal S1x3x5632 .f32) (x7 : Vec Ideal S1x1x5632 .f32)
  (x8 : Vec Ideal S1x2816x1024 .bf16)

/-- The nine blocks of grid point `t` are the arguments' entries. -/
structure Reads : Prop where
  h0 : ∀ (r k : Fin 512) (T : Fin 32768) (k' : Fin 1024), T.val = 512 * t + r.val → k'.val = k.val → (x0 (ix2 r k) : EReal) = (o (ix2 T k') : EReal)
  h1 : ∀ (r k : Fin 512) (T : Fin 32768) (k' : Fin 1024), T.val = 512 * t + r.val → k'.val = 512 + k.val → (x1 (ix2 r k) : EReal) = (o (ix2 T k') : EReal)
  h2 : ∀ (r : Fin 512) (n : Fin 1024) (T : Fin 32768), T.val = 512 * t + r.val → (x2 (ix2 r n) : EReal) = (x (ix2 T n) : EReal)
  h3 : ∀ (k n : Fin 1024), (x3 (ix2 k n) : EReal) = (wout (ix3 (0 : Fin 1) k n) : EReal)
  h4 : ∀ (k : Fin 1024), (x4 (ix3 (0 : Fin 1) (0 : Fin 1) k) : EReal) = (nrm (ix2 (1 : Fin 2) k) : EReal)
  h5 : ∀ (k : Fin 1024) (col : Fin 5632), (x5 (ix3 (0 : Fin 1) k col) : EReal) = (wup (ix3 (1 : Fin 2) k col) : EReal)
  h6 : ∀ (y : Fin 3) (col : Fin 5632), (x6 (ix3 (0 : Fin 1) y col) : EReal) = (cw (ix3 (1 : Fin 2) y col) : EReal)
  h7 : ∀ (col : Fin 5632), (x7 (ix3 (0 : Fin 1) (0 : Fin 1) col) : EReal) = (cb (ix2 (1 : Fin 2) col) : EReal)
  h8 : ∀ (j : Fin 2816) (n : Fin 1024), (x8 (ix3 (0 : Fin 1) j n) : EReal) = (wdn (ix3 (1 : Fin 2) j n) : EReal)

/-- What the grid point finds of the rows before its own. -/
def TL (a : Fin 8) (col : Fin 5632) : EReal :=
  if t % 4 = 0 then 0 else if h : 512 * t - 8 + a.val < 32768 then U o x nrm wout wup ⟨512 * t - 8 + a.val, h⟩ col else 0
end

variable (arg1 : Memref sig .tc .vmem S512x512 .bf16) (harg1 : arg1.IsWhole)
variable (arg2 : Memref sig .tc .vmem S512x512 .bf16) (harg2 : arg2.IsWhole)
variable (arg3 : Memref sig .tc .vmem S512x1024 .f32) (harg3 : arg3.IsWhole)
variable (arg4 : Memref sig .tc .vmem S1024x1024 .bf16) (harg4 : arg4.IsWhole)
variable (arg5 : Memref sig .tc .vmem S1x1x1024 .f32) (harg5 : arg5.IsWhole)
variable (arg6 : Memref sig .tc .vmem S1x1024x5632 .bf16) (harg6 : arg6.IsWhole)
variable (arg7 : Memref sig .tc .vmem S1x3x5632 .f32) (harg7 : arg7.IsWhole)
variable (arg8 : Memref sig .tc .vmem S1x1x5632 .f32) (harg8 : arg8.IsWhole)
variable (arg9 : Memref sig .tc .vmem S1x2816x1024 .bf16) (harg9 : arg9.IsWhole)
variable (arg10 : Memref sig .tc .vmem S512x1024 .f32) (harg10 : arg10.IsWhole)
variable (arg11 : Memref sig .tc .vmem S512x2816 .bf16) (harg11 : arg11.IsWhole)
variable (arg12 : Memref sig .tc .vmem S8x5632 .f32) (harg12 : arg12.IsWhole)
variable (t : ℕ) (ht : t < 64) (o x : FVec Ideal S32768x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)
variable (x0 : Vec Ideal S512x512 .bf16) (x1 : Vec Ideal S512x512 .bf16) (x2 : Vec Ideal S512x1024 .f32) (x3 : Vec Ideal S1024x1024 .bf16)
  (x4 : Vec Ideal S1x1x1024 .f32) (x5 : Vec Ideal S1x1024x5632 .bf16) (x6 : Vec Ideal S1x3x5632 .f32) (x7 : Vec Ideal S1x1x5632 .f32)
  (x8 : Vec Ideal S1x2816x1024 .bf16)
variable (R : Reads t o x nrm wout wup cw cb wdn x0 x1 x2 x3 x4 x5 x6 x7 x8)

theorem a0_apply (r k : Fin 512) : a0 (F := Ideal) arg1 harg1 x0 (ix2 r k) = x0 (ix2 r k) := by
  unfold a0
  refine (harg1.readAt_unread _ _ _).trans (congrArg x0 ?_)
  funext y; apply Fin.ext; fin_cases y
  · show 0 + 1 * r.val = r.val; omega
  · show 0 + 1 * k.val = k.val; omega
theorem b0_apply (r k : Fin 512) : b0 (F := Ideal) arg2 harg2 x1 (ix2 r k) = x1 (ix2 r k) := by
  unfold b0
  refine (harg2.readAt_unread _ _ _).trans (congrArg x1 ?_)
  funext y; apply Fin.ext; fin_cases y
  · show 0 + 1 * r.val = r.val; omega
  · show 0 + 1 * k.val = k.val; omega
theorem r0_apply (r : Fin 512) (k : Fin 1024) : r0 (F := Ideal) arg3 harg3 x2 (ix2 r k) = x2 (ix2 r k) := by
  unfold r0
  refine (harg3.readAt_unread _ _ _).trans (congrArg x2 ?_)
  funext y; apply Fin.ext; fin_cases y
  · show 0 + 1 * r.val = r.val; omega
  · show 0 + 1 * k.val = k.val; omega
theorem wa_apply (k : Fin 512) (n k' : Fin 1024) (hk : k'.val = k.val) : wa (F := Ideal) arg4 harg4 x3 (ix2 k n) = x3 (ix2 k' n) := by
  unfold wa
  refine (harg4.readAt_unread _ _ _).trans (congrArg x3 ?_)
  funext y; apply Fin.ext; fin_cases y
  · show 0 + 1 * k.val = k'.val; omega
  · show 0 + 1 * n.val = n.val; omega
theorem wb_apply (k : Fin 512) (n k' : Fin 1024) (hk : k'.val = 512 + k.val) : wb (F := Ideal) arg4 harg4 x3 (ix2 k n) = x3 (ix2 k' n) := by
  unfold wb
  refine (harg4.readAt_unread _ _ _).trans (congrArg x3 ?_)
  funext y; apply Fin.ext; fin_cases y
  · show 512 + 1 * k.val = k'.val; omega
  · show 0 + 1 * n.val = n.val; omega
theorem g0_apply (k : Fin 1024) : g0 (F := Ideal) arg5 harg5 x4 (ix3 (0 : Fin 1) (0 : Fin 1) k) = x4 (ix3 (0 : Fin 1) (0 : Fin 1) k) := by
  unfold g0
  refine (harg5.readAt_unread _ _ _).trans (congrArg x4 ?_)
  funext y; apply Fin.ext; fin_cases y
  · rfl
  · rfl
  · show 0 + 1 * k.val = k.val; omega
theorem wAt_apply (n : ℕ) (k : Fin 1024) (j : Fin 256) (col : Fin 5632) (hc : col.val = lo n + j.val) :
    wAt (F := Ideal) arg6 harg6 x5 n (ix3 (0 : Fin 1) k j) = x5 (ix3 (0 : Fin 1) k col) := by
  unfold wAt
  refine (harg6.readAt_unread _ _ _).trans (congrArg x5 ?_)
  funext y; apply Fin.ext; fin_cases y
  · rfl
  · show 0 + 1 * k.val = k.val; omega
  · show lo n + 1 * j.val = col.val; omega
theorem cwAt_apply (n : ℕ) (k : Fin 3) (j : Fin 256) (col : Fin 5632) (hc : col.val = lo n + j.val) :
    cwAt (F := Ideal) arg7 harg7 x6 n (ix3 (0 : Fin 1) k j) = x6 (ix3 (0 : Fin 1) k col) := by
  unfold cwAt
  refine (harg7.readAt_unread _ _ _).trans (congrArg x6 ?_)
  funext y; apply Fin.ext; fin_cases y
  · rfl
  · show 0 + 1 * k.val = k.val; omega
  · show lo n + 1 * j.val = col.val; omega
theorem cbAt_apply (n : ℕ) (j : Fin 256) (col : Fin 5632) (hc : col.val = lo n + j.val) :
    cbAt (F := Ideal) arg8 harg8 x7 n (ix3 (0 : Fin 1) (0 : Fin 1) j) = x7 (ix3 (0 : Fin 1) (0 : Fin 1) col) := by
  unfold cbAt
  refine (harg8.readAt_unread _ _ _).trans (congrArg x7 ?_)
  funext y; apply Fin.ext; fin_cases y
  · rfl
  · rfl
  · show lo n + 1 * j.val = col.val; omega
theorem wd_apply (j : Fin 2816) (n : Fin 1024) : wd (F := Ideal) arg9 harg9 x8 (ix3 (0 : Fin 1) j n) = x8 (ix3 (0 : Fin 1) j n) := by
  unfold wd
  refine (harg9.readAt_unread _ _ _).trans (congrArg x8 ?_)
  funext y; apply Fin.ext; fin_cases y
  · rfl
  · show 0 + 1 * j.val = j.val; omega
  · show 0 + 1 * n.val = n.val; omega

include R in
theorem xAt_spec (r : Fin 512) (n : Fin 1024) (T : Fin 32768) (hT : T.val = 512 * t + r.val) :
    ((xAt (F := Ideal) arg1 harg1 arg2 harg2 arg3 harg3 arg4 harg4 x0 x1 x2 x3) (ix2 r n) : EReal) = X1 o x wout T n := by
  unfold xAt X1
  refine (resid_apply _ _ _ _ _ _ _).trans ?_
  rw [sum_halves]
  refine congrArg₂ (fun p q : EReal => p + q) ((r0_apply arg3 harg3 x2 r n).trans (R.h2 r n T hT)) (congrArg₂ (fun p q : EReal => p + q) ?_ ?_)
  · refine Finset.sum_congr rfl fun k _ => congrArg₂ (fun p q : EReal => p * q) ?_ ?_
    · exact (a0_apply arg1 harg1 x0 r k).trans (R.h0 r k T _ hT rfl)
    · exact (wa_apply arg4 harg4 x3 k n ⟨k.val, by omega⟩ rfl).trans (R.h3 _ _)
  · refine Finset.sum_congr rfl fun k _ => congrArg₂ (fun p q : EReal => p * q) ?_ ?_
    · exact (b0_apply arg2 harg2 x1 r k).trans (R.h1 r k T _ hT rfl)
    · exact (wb_apply arg4 harg4 x3 k n ⟨512 + k.val, by omega⟩ rfl).trans (R.h3 _ _)

include R in
theorem hAt_spec (r : Fin 512) (k : Fin 1024) (T : Fin 32768) (hT : T.val = 512 * t + r.val) :
    ((hAt (F := Ideal) arg1 harg1 arg2 harg2 arg3 harg3 arg4 harg4 arg5 harg5 x0 x1 x2 x3 x4) (ix2 r k) : EReal) = HN o x nrm wout T k := by
  unfold hAt HN
  refine (normed_apply _ _ _ _ _ _ _ _).trans ?_
  refine congrArg₂ (fun p q => rms p q k) (funext fun i => xAt_spec arg1 harg1 arg2 harg2 arg3 harg3 arg4 harg4 t o x nrm wout wup cw cb wdn x0 x1 x2 x3 x4 x5 x6 x7 x8 R r i T hT) ?_
  exact (g0_apply arg5 harg5 x4 k).trans (R.h4 k)

include R in
theorem upAt_spec (n : ℕ) (r : Fin 512) (j : Fin 256) (col : Fin 5632) (hc : col.val = lo n + j.val) (T : Fin 32768) (hT : T.val = 512 * t + r.val) :
    (up (F := Ideal) (hAt (F := Ideal) arg1 harg1 arg2 harg2 arg3 harg3 arg4 harg4 arg5 harg5 x0 x1 x2 x3 x4) ((wAt arg6 harg6 x5) n) (ix2 r j) : EReal) = U o x nrm wout wup T col := by
  unfold U
  refine (up_apply _ _ _ _).trans ?_
  refine Finset.sum_congr rfl fun k _ => congrArg₂ (fun p q : EReal => p * q) ?_ ?_
  · exact hAt_spec arg1 harg1 arg2 harg2 arg3 harg3 arg4 harg4 arg5 harg5 t o x nrm wout wup cw cb wdn x0 x1 x2 x3 x4 x5 x6 x7 x8 R r k T hT
  · exact (wAt_apply arg6 harg6 x5 n k j col hc).trans (R.h5 k col)

/-- The piece and the column in it. -/
theorem piece_of (col : Fin 5632) : ∃ n, n < 22 ∧ ∃ j : Fin 256, col.val = lo n + j.val := by
  have hc := col.isLt
  by_cases h : col.val < 2816
  · exact ⟨2 * (col.val / 256), by omega, ⟨col.val % 256, Nat.mod_lt _ (by norm_num)⟩, by unfold lo; simp only; omega⟩
  · exact ⟨2 * ((col.val - 2816) / 256) + 1, by omega, ⟨(col.val - 2816) % 256, Nat.mod_lt _ (by norm_num)⟩, by unfold lo; simp only; omega⟩

include R in
/-- **What the grid point carries out.** -/
theorem kept_spec (L : List (View.Piece (Elt Ideal) S8x5632 .f32)) (a : Fin 8) (col : Fin 5632) (T : Fin 32768) (hT : T.val = 512 * t + 504 + a.val) :
    (View.canon (kept (F := Ideal) (hAt (F := Ideal) arg1 harg1 arg2 harg2 arg3 harg3 arg4 harg4 arg5 harg5 x0 x1 x2 x3 x4) (wAt arg6 harg6 x5) L 22) (ix2 a col) : EReal) = U o x nrm wout wup T col := by
  obtain ⟨n, hn, j, hj⟩ := piece_of col
  refine (kept_all _ _ L n hn a j col hj).trans ?_
  refine (keep_apply _ a j ⟨504 + a.val, by omega⟩ rfl).trans ?_
  exact upAt_spec arg1 harg1 arg2 harg2 arg3 harg3 arg4 harg4 arg5 harg5 arg6 harg6 t o x nrm wout wup cw cb wdn x0 x1 x2 x3 x4 x5 x6 x7 x8 R n _ j col hj T (by simp only; omega)

section
variable (tl : ℕ → Vec Ideal S8x256 .f32)
  (htl : ∀ n, n < 22 → ∀ (a : Fin 8) (j : Fin 256) (col : Fin 5632), col.val = lo n + j.val → (tl n (ix2 a j) : EReal) = TL t o x nrm wout wup a col)

include R ht htl in
theorem shift_spec (k : ℕ) (hk : k < 8) (n : ℕ) (hn : n < 22) (r : Fin 512) (j : Fin 256) (col : Fin 5632) (hc : col.val = lo n + j.val) (T : Fin 32768) (hT : T.val = 512 * t + r.val) :
    (shift (F := Ideal) (BitVec.ofNat 32 k) (up (F := Ideal) (hAt (F := Ideal) arg1 harg1 arg2 harg2 arg3 harg3 arg4 harg4 arg5 harg5 x0 x1 x2 x3 x4) ((wAt arg6 harg6 x5) n)) (tl n) (ix2 r j) : EReal) = UB o x nrm wout wup k T col := by
  have hr := r.isLt
  unfold UB
  by_cases h : r.val < k
  · refine (shift_lt k hk _ _ r j h ⟨8 + r.val - k, by omega⟩ rfl).trans ((htl n hn _ j col hc).trans ?_)
    unfold TL
    by_cases h4 : t % 4 = 0
    · rw [if_pos h4, if_neg (by omega)]
    · rw [if_neg h4, if_pos (by omega), dif_pos (by simp only; omega)]
      exact congrArg (fun T => U o x nrm wout wup T col) (Fin.ext (by simp only; omega))
  · rw [if_pos (by omega)]
    refine (shift_ge k hk _ _ r j (by omega) ⟨r.val - k, by omega⟩ rfl).trans ?_
    exact upAt_spec arg1 harg1 arg2 harg2 arg3 harg3 arg4 harg4 arg5 harg5 arg6 harg6 t o x nrm wout wup cw cb wdn x0 x1 x2 x3 x4 x5 x6 x7 x8 R n _ j col hc _ (by simp only; omega)

include R ht htl in
theorem branch_spec (n : ℕ) (hn : n < 22) (r : Fin 512) (j : Fin 256) (col : Fin 5632) (hc : col.val = lo n + j.val) (T : Fin 32768) (hT : T.val = 512 * t + r.val) :
    (branch (F := Ideal) (hAt (F := Ideal) arg1 harg1 arg2 harg2 arg3 harg3 arg4 harg4 arg5 harg5 x0 x1 x2 x3 x4) (wAt arg6 harg6 x5) tl (cwAt arg7 harg7 x6) (cbAt arg8 harg8 x7) n (ix2 r j) : EReal) = CV o x nrm wout wup cw cb T col := by
  unfold branch CV
  refine (conv_apply _ _ _ _ _ _).trans ?_
  rw [shift_spec arg1 harg1 arg2 harg2 arg3 harg3 arg4 harg4 arg5 harg5 arg6 harg6 t ht o x nrm wout wup cw cb wdn x0 x1 x2 x3 x4 x5 x6 x7 x8 R tl htl 1 (by omega) n hn r j col hc T hT,
    shift_spec arg1 harg1 arg2 harg2 arg3 harg3 arg4 harg4 arg5 harg5 arg6 harg6 t ht o x nrm wout wup cw cb wdn x0 x1 x2 x3 x4 x5 x6 x7 x8 R tl htl 2 (by omega) n hn r j col hc T hT,
    upAt_spec arg1 harg1 arg2 harg2 arg3 harg3 arg4 harg4 arg5 harg5 arg6 harg6 t o x nrm wout wup cw cb wdn x0 x1 x2 x3 x4 x5 x6 x7 x8 R n r j col hc T hT,
    cwAt_apply arg7 harg7 x6 n 0 j col hc, cwAt_apply arg7 harg7 x6 n 1 j col hc, cwAt_apply arg7 harg7 x6 n 2 j col hc, cbAt_apply arg8 harg8 x7 n j col hc,
    R.h6, R.h6, R.h6, R.h7]

variable (f : Finite nrm wup cw cb)

include R ht htl f in
theorem acts_spec (r : Fin 512) (J : Fin 2816) (T : Fin 32768) (hT : T.val = 512 * t + r.val) :
    (View.canon (acts (F := Ideal) (hAt (F := Ideal) arg1 harg1 arg2 harg2 arg3 harg3 arg4 harg4 arg5 harg5 x0 x1 x2 x3 x4) (wAt arg6 harg6 x5) tl (cwAt arg7 harg7 x6) (cbAt arg8 harg8 x7) 11) (ix2 r J) : EReal)
      = gateR (CV o x nrm wout wup cw cb T (gcol J)) * CV o x nrm wout wup cw cb T (vcol J) := by
  have hJ := J.isLt
  refine (acts_all _ _ _ _ _ (J.val / 256) (by omega) r ⟨J.val % 256, Nat.mod_lt _ (by norm_num)⟩ J (by unfold co; simp only; omega)).trans ?_
  refine (act_apply _ _ _).trans ?_
  rw [branch_spec arg1 harg1 arg2 harg2 arg3 harg3 arg4 harg4 arg5 harg5 arg6 harg6 arg7 harg7 arg8 harg8 t ht o x nrm wout wup cw cb wdn x0 x1 x2 x3 x4 x5 x6 x7 x8 R tl htl (2 * (J.val / 256)) (by omega) r _ (gcol J) (by unfold lo gcol; simp only; omega) T hT,
    branch_spec arg1 harg1 arg2 harg2 arg3 harg3 arg4 harg4 arg5 harg5 arg6 harg6 arg7 harg7 arg8 harg8 t ht o x nrm wout wup cw cb wdn x0 x1 x2 x3 x4 x5 x6 x7 x8 R tl htl (2 * (J.val / 256) + 1) (by omega) r _ (vcol J) (by unfold lo vcol; simp only; omega) T hT,
    gate_eq _ (CV_real o x nrm wout wup cw cb f _ _)]

include R ht htl f in
/-- **What the grid point writes.** -/
theorem out_spec (r : Fin 512) (n : Fin 1024) (T : Fin 32768) (hT : T.val = 512 * t + r.val) :
    (k0_pay2 (F := Ideal) (xAt (F := Ideal) arg1 harg1 arg2 harg2 arg3 harg3 arg4 harg4 x0 x1 x2 x3) (arg11.view.readCov (acts (F := Ideal) (hAt (F := Ideal) arg1 harg1 arg2 harg2 arg3 harg3 arg4 harg4 arg5 harg5 x0 x1 x2 x3 x4) (wAt arg6 harg6 x5) tl (cwAt arg7 harg7 x6) (cbAt arg8 harg8 x7) 11)
        (Rect.unit ![0, 0] S512x2816.size inb_S512x2816_S512x2816_0_0).toLoadRect) (wd arg9 harg9 x8) (ix2 r n) : EReal)
      = OUT o x nrm wout wup cw cb wdn T n := by
  unfold OUT
  refine (pay2_apply _ _ _ _ _).trans ?_
  refine congrArg₂ (fun p q : EReal => p + q) (xAt_spec arg1 harg1 arg2 harg2 arg3 harg3 arg4 harg4 t o x nrm wout wup cw cb wdn x0 x1 x2 x3 x4 x5 x6 x7 x8 R r n T hT) ?_
  refine Finset.sum_congr rfl fun J _ => congrArg₂ (fun p q : EReal => p * q) ?_ ((wd_apply arg9 harg9 x8 J n).trans (R.h8 J n))
  rw [View.readCov_eq_canon']
  have he : (Rect.unit (s := S512x2816) ![0, 0] S512x2816.size inb_S512x2816_S512x2816_0_0).toLoadRect.idx (ix2 r J) = (ix2 r J : S512x2816.Idx) := by
    funext y; apply Fin.ext; fin_cases y
    · show 0 + 1 * r.val = r.val; omega
    · show 0 + 1 * J.val = J.val; omega
  refine (congrArg (View.canon _) he).trans ?_
  exact acts_spec arg1 harg1 arg2 harg2 arg3 harg3 arg4 harg4 arg5 harg5 arg6 harg6 arg7 harg7 arg8 harg8 t ht o x nrm wout wup cw cb wdn x0 x1 x2 x3 x4 x5 x6 x7 x8 R tl htl f r J T hT
end

/-- The rows carried in at a sequence's first grid point are zero, -/
theorem zeros_spec (hT : t % 4 = 0) (h : FVec Ideal S512x1024 .bf16) (w : ℕ → Vec Ideal S1x1024x256 .bf16) (n : ℕ) (hn : n < 22) (a : Fin 8) (j : Fin 256) (col : Fin 5632)
    (hc : col.val = lo n + j.val) : (arg12.view.readCov (kept (F := Ideal) h w zeros n) (cRect n).toLoadRect (ix2 a j) : EReal) = TL t o x nrm wout wup a col := by
  unfold TL
  rw [if_pos hT, View.readCov_eq_canon']
  have he : (cRect n).toLoadRect.idx (ix2 a j) = (ix2 a col : S8x5632.Idx) := by
    funext y; apply Fin.ext; fin_cases y
    · show 0 + 1 * a.val = a.val; omega
    · show lo n + 1 * j.val = col.val; omega
  refine (congrArg (View.canon _) he).trans ?_
  refine (kept_before h w zeros n hn a j col hc n le_rfl).trans ?_
  have he2 : (ix2 a col : S8x5632.Idx) = (Rect.unit (s := S8x5632) ![0, 0] S8x5632.size inb_S8x5632_S8x5632_0_0).emb (ix2 a col) := by
    funext y; apply Fin.ext; fin_cases y
    · show a.val = 0 + 1 * a.val; omega
    · show col.val = 0 + 1 * col.val; omega
  refine (congrArg (View.canon _) he2).trans ?_
  refine (View.canon_cons_emb _ _ _ _).trans ?_
  unfold k0_pay3
  rw [shapeCast_self]
  exact Ideal.ofBits_zero_f32

/-- and at the others what the grid point before left. -/
theorem tlAt_spec (xs1 : Vec Ideal S8x5632 .f32) (n : ℕ) (a : Fin 8) (j : Fin 256) (col : Fin 5632) (hc : col.val = lo n + j.val) :
    tlAt (F := Ideal) arg12 harg12 xs1 n (ix2 a j) = xs1 (ix2 a col) := by
  unfold tlAt
  refine (harg12.readAt_unread _ _ _).trans (congrArg xs1 ?_)
  funext y; apply Fin.ext; fin_cases y
  · show 0 + 1 * a.val = a.val; omega
  · show lo n + 1 * j.val = col.val; omega

end Cert.Ffn

end
-- ==== Proof.Ffn.Host.lean ====
/-
  The arrays the second call finds, and the block of each that a grid point reads: grid point `t` has rows `512 t` to
  `512 t + 511` of the mixer's output and of the residual, and the second layer's weights.
-/
module

public import proofs.«01_k».proof.Proof.Ffn.Block
public import proofs.«01_k».proof.Proof.Gen.Kernel2Ideal.Value

@[expose] public section

set_option maxRecDepth 16384

noncomputable section

namespace Cert.Ffn

open Idealize.ShloMosaic Idealize.ShloMosaic.TcCoe Idealize.ShloMosaic.ValueIdx
open Cert.Kernel2Ideal Cert.Kernel2Ideal.Gen Cert.Kernel2Ideal.Value

/-- The block index of each window at a grid point. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 1 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 3) = 1 ∧ win0_4.index t (1 : Fin 3) = 0 ∧ win0_4.index t (2 : Fin 3) = 0 := (by decide +kernel : ∀ t : Fin grid0.N, _)
theorem index5 : ∀ t : Fin cfg0.N, win0_5.index t (0 : Fin 3) = 1 ∧ win0_5.index t (1 : Fin 3) = 0 ∧ win0_5.index t (2 : Fin 3) = 0 := (by decide +kernel : ∀ t : Fin grid0.N, _)
theorem index6 : ∀ t : Fin cfg0.N, win0_6.index t (0 : Fin 3) = 1 ∧ win0_6.index t (1 : Fin 3) = 0 ∧ win0_6.index t (2 : Fin 3) = 0 := (by decide +kernel : ∀ t : Fin grid0.N, _)
theorem index7 : ∀ t : Fin cfg0.N, win0_7.index t (0 : Fin 3) = 1 ∧ win0_7.index t (1 : Fin 3) = 0 ∧ win0_7.index t (2 : Fin 3) = 0 := (by decide +kernel : ∀ t : Fin grid0.N, _)
theorem index8 : ∀ t : Fin cfg0.N, win0_8.index t (0 : Fin 3) = 1 ∧ win0_8.index t (1 : Fin 3) = 0 ∧ win0_8.index t (2 : Fin 3) = 0 := (by decide +kernel : ∀ t : Fin grid0.N, _)
theorem index9 : ∀ t : Fin cfg0.N, win0_9.index t (0 : Fin 2) = t.val ∧ win0_9.index t (1 : Fin 2) = 0 := (by decide +kernel : ∀ t : Fin grid0.N, _)

section
variable (t : Fin cfg0.N)

theorem emb0 (r k : Fin 512) (T : Fin 32768) (k' : Fin 1024) (hT : T.val = 512 * t.val + r.val) (hk : k'.val = k.val) :
    ((cfg0.win 0).blk t).view.emb (ix2 r k) = ix2 T k' := by
  obtain ⟨e0, e1⟩ := index0 t
  funext a; apply Fin.ext
  match a with
  | ⟨0, _⟩ => show win0_0.index t (0 : Fin 2) * 512 + 1 * r.val = T.val; omega
  | ⟨1, _⟩ => show win0_0.index t (1 : Fin 2) * 512 + 1 * k.val = k'.val; omega
theorem emb1 (r k : Fin 512) (T : Fin 32768) (k' : Fin 1024) (hT : T.val = 512 * t.val + r.val) (hk : k'.val = 512 + k.val) :
    ((cfg0.win 1).blk t).view.emb (ix2 r k) = ix2 T k' := by
  obtain ⟨e0, e1⟩ := index1 t
  funext a; apply Fin.ext
  match a with
  | ⟨0, _⟩ => show win0_1.index t (0 : Fin 2) * 512 + 1 * r.val = T.val; omega
  | ⟨1, _⟩ => show win0_1.index t (1 : Fin 2) * 512 + 1 * k.val = k'.val; omega
theorem emb2 (r : Fin 512) (k : Fin 1024) (T : Fin 32768) (hT : T.val = 512 * t.val + r.val) :
    ((cfg0.win 2).blk t).view.emb (ix2 r k) = ix2 T k := by
  obtain ⟨e0, e1⟩ := index2 t
  funext a; apply Fin.ext
  match a with
  | ⟨0, _⟩ => show win0_2.index t (0 : Fin 2) * 512 + 1 * r.val = T.val; omega
  | ⟨1, _⟩ => show win0_2.index t (1 : Fin 2) * 1024 + 1 * k.val = k.val; omega
theorem emb3 (k n : Fin 1024) : ((cfg0.win 3).blk t).view.emb (ix2 k n) = ix2 k n := by
  obtain ⟨e0, e1⟩ := index3 t
  funext a; apply Fin.ext
  match a with
  | ⟨0, _⟩ => show win0_3.index t (0 : Fin 2) * 1024 + 1 * k.val = k.val; omega
  | ⟨1, _⟩ => show win0_3.index t (1 : Fin 2) * 1024 + 1 * n.val = n.val; omega
theorem emb4 (k : Fin 1024) : ((cfg0.win 4).blk t).view.emb (ix3 (0 : Fin 1) (0 : Fin 1) k) = ix3 (1 : Fin 2) (0 : Fin 1) k := by
  obtain ⟨e0, e1, e2⟩ := index4 t
  funext a; apply Fin.ext
  match a with
  | ⟨0, _⟩ => show win0_4.index t (0 : Fin 3) * 1 + 1 * 0 = 1; omega
  | ⟨1, _⟩ => show win0_4.index t (1 : Fin 3) * 1 + 1 * 0 = 0; omega
  | ⟨2, _⟩ => show win0_4.index t (2 : Fin 3) * 1024 + 1 * k.val = k.val; omega
theorem emb5 (k : Fin 1024) (n : Fin 5632) : ((cfg0.win 5).blk t).view.emb (ix3 (0 : Fin 1) k n) = ix3 (1 : Fin 2) k n := by
  obtain ⟨e0, e1, e2⟩ := index5 t
  funext a; apply Fin.ext
  match a with
  | ⟨0, _⟩ => show win0_5.index t (0 : Fin 3) * 1 + 1 * 0 = 1; omega
  | ⟨1, _⟩ => show win0_5.index t (1 : Fin 3) * 1024 + 1 * k.val = k.val; omega
  | ⟨2, _⟩ => show win0_5.index t (2 : Fin 3) * 5632 + 1 * n.val = n.val; omega
theorem emb6 (k : Fin 3) (n : Fin 5632) : ((cfg0.win 6).blk t).view.emb (ix3 (0 : Fin 1) k n) = ix3 (1 : Fin 2) k n := by
  obtain ⟨e0, e1, e2⟩ := index6 t
  funext a; apply Fin.ext
  match a with
  | ⟨0, _⟩ => show win0_6.index t (0 : Fin 3) * 1 + 1 * 0 = 1; omega
  | ⟨1, _⟩ => show win0_6.index t (1 : Fin 3) * 3 + 1 * k.val = k.val; omega
  | ⟨2, _⟩ => show win0_6.index t (2 : Fin 3) * 5632 + 1 * n.val = n.val; omega
theorem emb7 (n : Fin 5632) : ((cfg0.win 7).blk t).view.emb (ix3 (0 : Fin 1) (0 : Fin 1) n) = ix3 (1 : Fin 2) (0 : Fin 1) n := by
  obtain ⟨e0, e1, e2⟩ := index7 t
  funext a; apply Fin.ext
  match a with
  | ⟨0, _⟩ => show win0_7.index t (0 : Fin 3) * 1 + 1 * 0 = 1; omega
  | ⟨1, _⟩ => show win0_7.index t (1 : Fin 3) * 1 + 1 * 0 = 0; omega
  | ⟨2, _⟩ => show win0_7.index t (2 : Fin 3) * 5632 + 1 * n.val = n.val; omega
theorem emb8 (k : Fin 2816) (n : Fin 1024) : ((cfg0.win 8).blk t).view.emb (ix3 (0 : Fin 1) k n) = ix3 (1 : Fin 2) k n := by
  obtain ⟨e0, e1, e2⟩ := index8 t
  funext a; apply Fin.ext
  match a with
  | ⟨0, _⟩ => show win0_8.index t (0 : Fin 3) * 1 + 1 * 0 = 1; omega
  | ⟨1, _⟩ => show win0_8.index t (1 : Fin 3) * 2816 + 1 * k.val = k.val; omega
  | ⟨2, _⟩ => show win0_8.index t (2 : Fin 3) * 1024 + 1 * n.val = n.val; omega
theorem emb9 (r : Fin 512) (k : Fin 1024) (T : Fin 32768) (hT : T.val = 512 * t.val + r.val) :
    ((cfg0.win 9).blk t).view.emb (ix2 r k) = ix2 T k := by
  obtain ⟨e0, e1⟩ := index9 t
  funext a; apply Fin.ext
  match a with
  | ⟨0, _⟩ => show win0_9.index t (0 : Fin 2) * 512 + 1 * r.val = T.val; omega
  | ⟨1, _⟩ => show win0_9.index t (1 : Fin 2) * 1024 + 1 * k.val = k.val; omega
end

variable (m : (ℓ : Loc nD τ sig) → Buf (Elt Ideal) ℓ) (c : Dev nD)

/-- The arguments as launched. -/
abbrev argO3 : FVec Ideal S16x2048x1024 .f32 := m ((c : Thread nD τ).loc main_arg0)
abbrev argX3 : FVec Ideal S16x2048x1024 .f32 := m ((c : Thread nD τ).loc main_arg1)
abbrev argO : FVec Ideal S32768x1024 .f32 := flat (argO3 m c)
abbrev argX : FVec Ideal S32768x1024 .f32 := flat (argX3 m c)
abbrev argN : FVec Ideal S2x1024 .f32 := m ((c : Thread nD τ).loc main_arg2)
abbrev argWo : FVec Ideal S1x1024x1024 .f32 := m ((c : Thread nD τ).loc main_arg3)
abbrev argWu : FVec Ideal S2x1024x5632 .f32 := m ((c : Thread nD τ).loc main_arg4)
abbrev argCw : FVec Ideal S2x3x5632 .f32 := m ((c : Thread nD τ).loc main_arg5)
abbrev argCb : FVec Ideal S2x5632 .f32 := m ((c : Thread nD τ).loc main_arg6)
abbrev argWd : FVec Ideal S2x2816x1024 .f32 := m ((c : Thread nD τ).loc main_arg7)

/-- The arrays the call finds. -/
def oArr (o : FVec Ideal S32768x1024 .f32) : FVec Ideal S32768x1024 .bf16 := truncf .bf16 o bitsLt_bf16_f32
def woArr (w : FVec Ideal S1x1024x1024 .f32) : FVec Ideal S1024x1024 .bf16 := truncf .bf16 (shapeCast S1024x1024 w shapeCasts_S1x1024x1024_S1024x1024) bitsLt_bf16_f32
def nArr (g : FVec Ideal S2x1024 .f32) : FVec Ideal S2x1x1024 .f32 := shapeCast S2x1x1024 g shapeCasts_S2x1024_S2x1x1024
def wuArr (w : FVec Ideal S2x1024x5632 .f32) : FVec Ideal S2x1024x5632 .bf16 := truncf .bf16 w bitsLt_bf16_f32
def cbArr (b : FVec Ideal S2x5632 .f32) : FVec Ideal S2x1x5632 .f32 := shapeCast S2x1x5632 b shapeCasts_S2x5632_S2x1x5632
def wdArr (w : FVec Ideal S2x2816x1024 .f32) : FVec Ideal S2x2816x1024 .bf16 := truncf .bf16 w bitsLt_bf16_f32

theorem V_o : V m c main_v5 = oArr (argO m c) := by
  show StableHlo.after hostOps0 _ (Proc.devRef .tc main_v5) = _
  after_results <;> rfl
theorem V_x : V m c main_v6 = argX m c := by
  show StableHlo.after hostOps0 _ (Proc.devRef .tc main_v6) = _
  after_results <;> rfl
theorem V_wo : V m c main_v8 = woArr (argWo m c) := by
  show StableHlo.after hostOps0 _ (Proc.devRef .tc main_v8) = _
  after_results <;> rfl
theorem V_n : V m c main_v0 = nArr (argN m c) := by
  show StableHlo.after hostOps0 _ (Proc.devRef .tc main_v0) = _
  after_results <;> rfl
theorem V_wu : V m c main_v1 = wuArr (argWu m c) := by
  show StableHlo.after hostOps0 _ (Proc.devRef .tc main_v1) = _
  after_results <;> rfl
theorem V_cw : V m c main_arg5 = argCw m c := by
  show StableHlo.after hostOps0 _ (Proc.devRef .tc main_arg5) = _
  after_results <;> rfl
theorem V_cb : V m c main_v2 = cbArr (argCb m c) := by
  show StableHlo.after hostOps0 _ (Proc.devRef .tc main_v2) = _
  after_results <;> rfl
theorem V_wd : V m c main_v3 = wdArr (argWd m c) := by
  show StableHlo.after hostOps0 _ (Proc.devRef .tc main_v3) = _
  after_results <;> rfl

theorem woArr_apply (w : FVec Ideal S1x1024x1024 .f32) (k n : Fin 1024) : (woArr w (ix2 k n) : EReal) = (w (ix3 (0 : Fin 1) k n) : EReal) := by
  unfold woArr
  exact shapeCast_1ab_ab_apply w _ k n
theorem nArr_apply (g : FVec Ideal S2x1024 .f32) (k : Fin 1024) : (nArr g (ix3 (1 : Fin 2) (0 : Fin 1) k) : EReal) = (g (ix2 (1 : Fin 2) k) : EReal) := by
  unfold nArr
  refine shapeCast_apply _ _ _ _ ?_
  rw [Shape.rowMajor_val_two, Shape.rowMajor_val_three]
  show 1 * 1024 + k.val = (1 * 1 + 0) * 1024 + k.val; omega
theorem cbArr_apply (g : FVec Ideal S2x5632 .f32) (k : Fin 5632) : (cbArr g (ix3 (1 : Fin 2) (0 : Fin 1) k) : EReal) = (g (ix2 (1 : Fin 2) k) : EReal) := by
  unfold cbArr
  refine shapeCast_apply _ _ _ _ ?_
  rw [Shape.rowMajor_val_two, Shape.rowMajor_val_three]
  show 1 * 5632 + k.val = (1 * 1 + 0) * 5632 + k.val; omega

section
variable (t : Fin cfg0.N)

theorem iblk0 (r k : Fin 512) (T : Fin 32768) (k' : Fin 1024) (hT : T.val = 512 * t.val + r.val) (hk : k'.val = k.val) :
    (iblk m c 0 t (ix2 r k) : EReal) = (argO m c (ix2 T k') : EReal) := by
  have e : iblk m c 0 t (ix2 r k) = ((cfg0.win 0).blk t).view.read (Elt Ideal) (V m c main_v5) (ix2 r k) := rfl
  have e0 : ∀ X : FVec Ideal S32768x1024 .bf16, ((cfg0.win 0).blk t).view.read (Elt Ideal) X (ix2 r k) = X (((cfg0.win 0).blk t).view.emb (ix2 r k)) := fun X => rfl
  exact e.trans ((e0 _).trans ((congrArg (V m c main_v5) (emb0 t r k T k' hT hk)).trans (congrFun (V_o m c) (ix2 T k'))))
theorem iblk1 (r k : Fin 512) (T : Fin 32768) (k' : Fin 1024) (hT : T.val = 512 * t.val + r.val) (hk : k'.val = 512 + k.val) :
    (iblk m c 1 t (ix2 r k) : EReal) = (argO m c (ix2 T k') : EReal) := by
  have e : iblk m c 1 t (ix2 r k) = ((cfg0.win 1).blk t).view.read (Elt Ideal) (V m c main_v5) (ix2 r k) := rfl
  have e0 : ∀ X : FVec Ideal S32768x1024 .bf16, ((cfg0.win 1).blk t).view.read (Elt Ideal) X (ix2 r k) = X (((cfg0.win 1).blk t).view.emb (ix2 r k)) := fun X => rfl
  exact e.trans ((e0 _).trans ((congrArg (V m c main_v5) (emb1 t r k T k' hT hk)).trans (congrFun (V_o m c) (ix2 T k'))))
theorem iblk2 (r : Fin 512) (k : Fin 1024) (T : Fin 32768) (hT : T.val = 512 * t.val + r.val) :
    (iblk m c 2 t (ix2 r k) : EReal) = (argX m c (ix2 T k) : EReal) := by
  have e : iblk m c 2 t (ix2 r k) = ((cfg0.win 2).blk t).view.read (Elt Ideal) (V m c main_v6) (ix2 r k) := rfl
  have e0 : ∀ X : FVec Ideal S32768x1024 .f32, ((cfg0.win 2).blk t).view.read (Elt Ideal) X (ix2 r k) = X (((cfg0.win 2).blk t).view.emb (ix2 r k)) := fun X => rfl
  exact e.trans ((e0 _).trans ((congrArg (V m c main_v6) (emb2 t r k T hT)).trans (congrFun (V_x m c) (ix2 T k))))
theorem iblk3 (k n : Fin 1024) : (iblk m c 3 t (ix2 k n) : EReal) = (argWo m c (ix3 (0 : Fin 1) k n) : EReal) := by
  have e : iblk m c 3 t (ix2 k n) = ((cfg0.win 3).blk t).view.read (Elt Ideal) (V m c main_v8) (ix2 k n) := rfl
  have e0 : ∀ X : FVec Ideal S1024x1024 .bf16, ((cfg0.win 3).blk t).view.read (Elt Ideal) X (ix2 k n) = X (((cfg0.win 3).blk t).view.emb (ix2 k n)) := fun X => rfl
  exact e.trans ((e0 _).trans ((congrArg (V m c main_v8) (emb3 t k n)).trans ((congrFun (V_wo m c) (ix2 k n)).trans (woArr_apply _ _ _))))
theorem iblk4 (k : Fin 1024) : (iblk m c 4 t (ix3 (0 : Fin 1) (0 : Fin 1) k) : EReal) = (argN m c (ix2 (1 : Fin 2) k) : EReal) := by
  have e : iblk m c 4 t (ix3 (0 : Fin 1) (0 : Fin 1) k) = ((cfg0.win 4).blk t).view.read (Elt Ideal) (V m c main_v0) (ix3 (0 : Fin 1) (0 : Fin 1) k) := rfl
  have e0 : ∀ X : FVec Ideal S2x1x1024 .f32, ((cfg0.win 4).blk t).view.read (Elt Ideal) X (ix3 (0 : Fin 1) (0 : Fin 1) k) = X (((cfg0.win 4).blk t).view.emb (ix3 (0 : Fin 1) (0 : Fin 1) k)) := fun X => rfl
  exact e.trans ((e0 _).trans ((congrArg (V m c main_v0) (emb4 t k)).trans ((congrFun (V_n m c) (ix3 (1 : Fin 2) (0 : Fin 1) k)).trans (nArr_apply _ _))))
theorem iblk5 (k : Fin 1024) (n : Fin 5632) : (iblk m c 5 t (ix3 (0 : Fin 1) k n) : EReal) = (argWu m c (ix3 (1 : Fin 2) k n) : EReal) := by
  have e : iblk m c 5 t (ix3 (0 : Fin 1) k n) = ((cfg0.win 5).blk t).view.read (Elt Ideal) (V m c main_v1) (ix3 (0 : Fin 1) k n) := rfl
  have e0 : ∀ X : FVec Ideal S2x1024x5632 .bf16, ((cfg0.win 5).blk t).view.read (Elt Ideal) X (ix3 (0 : Fin 1) k n) = X (((cfg0.win 5).blk t).view.emb (ix3 (0 : Fin 1) k n)) := fun X => rfl
  exact e.trans ((e0 _).trans ((congrArg (V m c main_v1) (emb5 t k n)).trans (congrFun (V_wu m c) (ix3 (1 : Fin 2) k n))))
theorem iblk6 (k : Fin 3) (n : Fin 5632) : (iblk m c 6 t (ix3 (0 : Fin 1) k n) : EReal) = (argCw m c (ix3 (1 : Fin 2) k n) : EReal) := by
  have e : iblk m c 6 t (ix3 (0 : Fin 1) k n) = ((cfg0.win 6).blk t).view.read (Elt Ideal) (V m c main_arg5) (ix3 (0 : Fin 1) k n) := rfl
  have e0 : ∀ X : FVec Ideal S2x3x5632 .f32, ((cfg0.win 6).blk t).view.read (Elt Ideal) X (ix3 (0 : Fin 1) k n) = X (((cfg0.win 6).blk t).view.emb (ix3 (0 : Fin 1) k n)) := fun X => rfl
  exact e.trans ((e0 _).trans ((congrArg (V m c main_arg5) (emb6 t k n)).trans (congrFun (V_cw m c) (ix3 (1 : Fin 2) k n))))
theorem iblk7 (n : Fin 5632) : (iblk m c 7 t (ix3 (0 : Fin 1) (0 : Fin 1) n) : EReal) = (argCb m c (ix2 (1 : Fin 2) n) : EReal) := by
  have e : iblk m c 7 t (ix3 (0 : Fin 1) (0 : Fin 1) n) = ((cfg0.win 7).blk t).view.read (Elt Ideal) (V m c main_v2) (ix3 (0 : Fin 1) (0 : Fin 1) n) := rfl
  have e0 : ∀ X : FVec Ideal S2x1x5632 .f32, ((cfg0.win 7).blk t).view.read (Elt Ideal) X (ix3 (0 : Fin 1) (0 : Fin 1) n) = X (((cfg0.win 7).blk t).view.emb (ix3 (0 : Fin 1) (0 : Fin 1) n)) := fun X => rfl
  exact e.trans ((e0 _).trans ((congrArg (V m c main_v2) (emb7 t n)).trans ((congrFun (V_cb m c) (ix3 (1 : Fin 2) (0 : Fin 1) n)).trans (cbArr_apply _ _))))
theorem iblk8 (k : Fin 2816) (n : Fin 1024) : (iblk m c 8 t (ix3 (0 : Fin 1) k n) : EReal) = (argWd m c (ix3 (1 : Fin 2) k n) : EReal) := by
  have e : iblk m c 8 t (ix3 (0 : Fin 1) k n) = ((cfg0.win 8).blk t).view.read (Elt Ideal) (V m c main_v3) (ix3 (0 : Fin 1) k n) := rfl
  have e0 : ∀ X : FVec Ideal S2x2816x1024 .bf16, ((cfg0.win 8).blk t).view.read (Elt Ideal) X (ix3 (0 : Fin 1) k n) = X (((cfg0.win 8).blk t).view.emb (ix3 (0 : Fin 1) k n)) := fun X => rfl
  exact e.trans ((e0 _).trans ((congrArg (V m c main_v3) (emb8 t k n)).trans (congrFun (V_wd m c) (ix3 (1 : Fin 2) k n))))

/-- **What grid point `t` reads.** -/
theorem reads : Reads t.val (argO m c) (argX m c) (argN m c) (argWo m c) (argWu m c) (argCw m c) (argCb m c) (argWd m c)
    (iblk m c 0 t) (iblk m c 1 t) (iblk m c 2 t) (iblk m c 3 t) (iblk m c 4 t) (iblk m c 5 t) (iblk m c 6 t) (iblk m c 7 t) (iblk m c 8 t) :=
  ⟨iblk0 m c t, iblk1 m c t, iblk2 m c t, iblk3 m c t, iblk4 m c t, iblk5 m c t, iblk6 m c t, iblk7 m c t, iblk8 m c t⟩
end

end Cert.Ffn

end
-- ==== Proof.Ffn.Final.lean ====
/-
  The second call's whole result: by the grid's order the rows each grid point finds kept are the up-projection of the rows
  before its own, so each point's block holds the layer's entries, and every row of the result lies in one point's block.
-/
module

public import proofs.«01_k».proof.Proof.Ffn.Host

@[expose] public section

set_option maxRecDepth 16384

noncomputable section

namespace Cert.Ffn

open Idealize.ShloMosaic Idealize.ShloMosaic.TcCoe Idealize.ShloMosaic.ValueIdx
open Cert.Kernel2Ideal Cert.Kernel2Ideal.Gen Cert.Kernel2Ideal.Value

variable (m : (ℓ : Loc nD τ sig) → Buf (Elt Ideal) ℓ) (c : Dev nD)

/-- The up-projection of the arguments. -/
abbrev argU (T : Fin 32768) (col : Fin 5632) : EReal := U (argO m c) (argX m c) (argN m c) (argWo m c) (argWu m c) T col

/-- **What a grid point leaves for the next**: the up-projection of its last eight rows. -/
theorem carry (t : Fin cfg0.N) (a : Fin 8) (col : Fin 5632) (T : Fin 32768) (hT : T.val = 512 * t.val + 504 + a.val) :
    ((outsAt0 m c t.val t.isLt).2 (ix2 a col) : EReal) = argU m c T col := by
  by_cases h0 : t.val % 4 = 0
  · rw [outsAt0_A m c t h0]
    dsimp only
    unfold sout0_A_1
    rw [View.read_writes_junk_eq_canon, kept_A]
    exact kept_spec _ _ _ _ _ _ _ _ _ _ _ _ t.val _ _ _ _ _ _ _ _ _ _ _ _ _ _ _ _ _ (reads m c t) _ a col T hT
  · rw [outsAt0_B m c t h0]
    dsimp only
    unfold sout0_B_1
    rw [View.read_writes_junk_eq_canon, kept_B]
    exact kept_spec _ _ _ _ _ _ _ _ _ _ _ _ t.val _ _ _ _ _ _ _ _ _ _ _ _ _ _ _ _ _ (reads m c t) _ a col T hT

section
variable (f : Finite (argN m c) (argWu m c) (argCw m c) (argCb m c))

/-- The layer's entry. -/
abbrev argOUT (T : Fin 32768) (n : Fin 1024) : EReal :=
  OUT (argO m c) (argX m c) (argN m c) (argWo m c) (argWu m c) (argCw m c) (argCb m c) (argWd m c) T n

include f in
/-- **What a grid point writes.** -/
theorem point (t : Fin cfg0.N) (r : Fin 512) (n : Fin 1024) (T : Fin 32768) (hT : T.val = 512 * t.val + r.val) :
    ((outsAt0 m c t.val t.isLt).1 (ix2 r n) : EReal) = argOUT m c T n := by
  have hN : t.val < 64 := lt_of_lt_of_eq t.isLt N_0
  have he : (ix2 r n : S512x1024.Idx) = (Rect.unit (s := S512x1024) ![0, 0] S512x1024.size inb_S512x1024_S512x1024_0_0).emb (ix2 r n) := by
    funext y; apply Fin.ext; fin_cases y
    · show r.val = 0 + 1 * r.val; omega
    · show n.val = 0 + 1 * n.val; omega
  by_cases h0 : t.val % 4 = 0
  · rw [outsAt0_A m c t h0]
    dsimp only
    unfold out0_A_9
    rw [View.read_writes_junk_eq_canon, out_A]
    refine (congrArg (View.canon _) he).trans ((View.canon_cons_emb _ _ _ _).trans ?_)
    exact out_spec _ _ _ _ _ _ _ _ _ _ _ _ _ _ _ _ _ _ _ t.val hN _ _ _ _ _ _ _ _ _ _ _ _ _ _ _ _ _ (reads m c t) _
      (fun p hp a j col hc => zeros_spec _ t.val _ _ _ _ _ h0 _ _ p hp a j col hc) f r n T hT
  · rw [outsAt0_B m c t h0]
    dsimp only
    unfold out0_B_9
    rw [View.read_writes_junk_eq_canon, out_B]
    refine (congrArg (View.canon _) he).trans ((View.canon_cons_emb _ _ _ _).trans ?_)
    refine out_spec _ _ _ _ _ _ _ _ _ _ _ _ _ _ _ _ _ _ _ t.val hN _ _ _ _ _ _ _ _ _ _ _ _ _ _ _ _ _ (reads m c t) _
      (fun p hp a j col hc => ?_) f r n T hT
    have ha := a.isLt
    refine (tlAt_spec _ _ _ p a j col hc).trans ?_
    unfold TL
    rw [if_neg h0, dif_pos (by omega)]
    exact carry m c ⟨t.val - 1, lt_of_le_of_lt (Nat.sub_le _ _) t.isLt⟩ a col _ (by simp only; omega)

include f in
/-- **The whole result.** -/
theorem final (T : Fin 32768) (n : Fin 1024) : ((dats m 0 c).arrAt 9 cfg0.N (ix2 T n) : EReal) = argOUT m c T n := by
  have hT := T.isLt
  obtain ⟨r, hr⟩ : ∃ r : Fin 512, r.val = T.val % 512 := ⟨⟨T.val % 512, Nat.mod_lt _ (by norm_num)⟩, rfl⟩
  obtain ⟨t, ht⟩ : ∃ t : Fin cfg0.N, t.val = T.val / 512 := ⟨⟨T.val / 512, lt_of_lt_of_eq (by omega) N_0.symm⟩, rfl⟩
  refine Eq.trans (b := ((cfg0.win 9).blk t).view.read (Elt Ideal) ((dats m 0 c).arrAt 9 cfg0.N) (ix2 r n)) ?_ ?_
  · show _ = (dats m 0 c).arrAt 9 cfg0.N (((cfg0.win 9).blk t).view.emb (ix2 r n))
    rw [emb9 t r n T (by omega)]
  rw [blocks9 m c t (flush0_9 t), flushed9]
  exact point m c f t r n T (by omega)
end

end Cert.Ffn

end
-- ==== Proof.Ffn.Ref.lean ====
/-
  The reference's second part, read as the same sums over the arguments.
-/
module

public import proofs.«01_k».proof.Proof.Ffn.Layer
public import proofs.«01_k».proof.Proof.Attn.Ref
public import proofs.«01_k».proof.Proof.Gen.Reference2Ideal.Read
public import proofs.«01_k».proof.Proof.Gen.Pre_finite_ffn
public import Idealize.ShloMosaic.Lib.KernelVsHost

@[expose] public section

set_option maxRecDepth 16384

noncomputable section

namespace Cert.Ffn

open Idealize.ShloMosaic Idealize.ShloMosaic.TcCoe Idealize.ShloMosaic.ValueIdx
open Cert.Reference2Ideal Cert.Reference2Ideal.Gen Cert.Reference2Ideal.Read

variable (o x : FVec Ideal S16x2048x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)
variable (b : Fin 16) (s : Fin 2048) (T : Fin 32768) (hT : T.val = 2048 * b.val + s.val)

include hT in
theorem ref_x1 (n : Fin 1024) : (val_main_v2 (F := Ideal) o x wout (ix3 b s n) : EReal) = X1 (flat o) (flat x) wout T n := by
  have hn := n.isLt
  have hs := s.isLt
  unfold X1
  rw [val_main_v2_apply, val_main_v1_apply, flat_apply x b s T hT n]
  refine congrArg (fun q : EReal => (x (ix3 b s n) : EReal) + q) (Finset.sum_congr rfl fun k _ => ?_)
  have hk := k.isLt
  rw [val_main_v0_apply, flat_apply o b s T hT k]
  refine congrArg₂ (fun p q : EReal => p * q) (congrArg o ?_) (congrArg wout ?_)
  · funext a; fin_cases a <;> rfl
  · funext a; apply Fin.ext; fin_cases a
    · rfl
    · show (k.val * 1024 + n.val) / 1024 % 1024 = k.val; omega
    · show (k.val * 1024 + n.val) % 1024 = n.val; omega

include hT in
theorem ref_hn (k : Fin 1024) : (val_main_v17 (F := Ideal) o x nrm wout (ix3 b s k) : EReal) = HN (flat o) (flat x) nrm wout T k := by
  have hk := k.isLt
  unfold HN rms
  rw [val_main_v17_apply, val_main_v14_apply, val_main_v13_apply, val_main_v12_apply, val_main_v11_apply, val_main_v9_apply, val_main_v7_apply,
    val_main_v6_apply, val_main_v8_apply, val_main_v10_apply, val_main_cst_apply, val_main_cst_0_apply, val_main_cst_1_apply,
    val_main_v16_apply, val_main_v15_apply, val_main_v4_apply, val_main_v3_apply, ref_x1 o x wout b s T hT k]
  have hsum : ∀ i : Fin 1024, (val_main_v5 (F := Ideal) o x wout (idx_main_v6 (idx_main_v7 (idx_main_v13 (ix3 b s k))) i) : EReal)
      = X1 (flat o) (flat x) wout T i * X1 (flat o) (flat x) wout T i := fun i => by
    have e : idx_main_v6 (idx_main_v7 (idx_main_v13 (ix3 b s k))) i = ix3 b s i := by funext a; fin_cases a <;> rfl
    rw [e, val_main_v5_apply, ref_x1 o x wout b s T hT i]; rfl
  rw [Finset.sum_congr rfl fun i _ => hsum i]
  show X1 (flat o) (flat x) wout T k * Ideal.rsqrt (Ideal.div (Ideal.ofBits .f32 0x00000000#32 + ∑ i : Fin 1024, X1 (flat o) (flat x) wout T i * X1 (flat o) (flat x) wout T i) (Ideal.ofBits .f32 0x44800000#32)
    + Ideal.ofBits .f32 0x358637BD#32) * (nrm _ : EReal) = _
  rw [Ideal.ofBits_zero_f32, zero_add, c1024_eq, Ideal.div_coe (by norm_num)]
  refine congrArg (fun q : EReal => _ * q) (congrArg nrm ?_)
  funext a; apply Fin.ext; fin_cases a
  · rfl
  · show k.val % 1024 = k.val; omega

include hT in
theorem ref_u (col : Fin 5632) : (val_main_v20 (F := Ideal) o x nrm wout wup (ix3 b s col) : EReal) = U (flat o) (flat x) nrm wout wup T col := by
  have hc := col.isLt
  unfold U
  rw [val_main_v20_apply]
  refine Finset.sum_congr rfl fun k _ => ?_
  have hk := k.isLt
  rw [val_main_v19_apply, val_main_v18_apply]
  refine congrArg₂ (fun p q : EReal => p * q) ?_ (congrArg wup ?_)
  · have e : lidx_main_v20 (ix3 b s col) k = ix3 b s k := by funext a; fin_cases a <;> rfl
    rw [e]; exact ref_hn o x nrm wout b s T hT k
  · funext a; apply Fin.ext; fin_cases a
    · rfl
    · show (k.val * 5632 + col.val) / 5632 % 1024 = k.val; omega
    · show (k.val * 5632 + col.val) % 5632 = col.val; omega

include hT in
/-- The padded up-projection at row `s + 2 - k`. -/
theorem ref_pad (k : ℕ) (hk : k ≤ 2) (col : Fin 5632) (y : Fin 2050) (hy : y.val = s.val + 2 - k) :
    (val_main_v25 (F := Ideal) o x nrm wout wup (ix3 b y col) : EReal) = UB (flat o) (flat x) nrm wout wup k T col := by
  have hs := s.isLt
  unfold val_main_v25 UB
  by_cases h : k ≤ s.val
  · rw [if_pos (by omega)]
    refine (pad_apply_of_inside _ _ _ _ _ _ _ _ (ix3 b (⟨s.val - k, by omega⟩ : Fin 2048) col) (fun a => ?_)).trans ?_
    · fin_cases a
      · show b.val = 0 + b.val * (0 + 1); omega
      · show y.val = 2 + (s.val - k) * (0 + 1); omega
      · show col.val = 0 + col.val * (0 + 1); omega
    · exact ref_u o x nrm wout wup b _ _ (by simp only; omega) col
  · rw [if_neg (by omega)]
    refine (pad_apply_of_not_inside _ _ _ _ _ _ _ _ (1 : Fin 3) (fun hin => ?_)).trans ?_
    · have : 2 ≤ y.val := hin.1
      omega
    · rw [val_main_call0_v0_apply, val_main_c_apply]
      show (((0#32 : BitVec 32).toInt : ℝ) : EReal) = 0
      simp

theorem tap_idx (k : Fin 3) (col : Fin 5632) (i : S2x3x5632.Idx) (h0 : (i 0).val = 1) (h1 : (i 1).val = k.val) (h2 : (i 2).val = col.val) :
    i = ix3 (1 : Fin 2) k col := by
  funext a; apply Fin.ext; fin_cases a
  · exact h0
  · exact h1
  · exact h2

include hT in
theorem ref_cv (col : Fin 5632) : (val_main_v48 (F := Ideal) o x nrm wout wup cw cb (ix3 b s col) : EReal) = CV (flat o) (flat x) nrm wout wup cw cb T col := by
  have hc := col.isLt
  have hs := s.isLt
  have u2 : (val_main_v26 (F := Ideal) o x nrm wout wup (ix3 b s col) : EReal) = UB (flat o) (flat x) nrm wout wup 2 T col := by
    have e : idx_main_v26 (ix3 b s col) = ix3 b (⟨s.val, by omega⟩ : Fin 2050) col := by funext a; fin_cases a <;> rfl
    rw [val_main_v26_apply, e]
    exact ref_pad o x nrm wout wup b s T hT 2 le_rfl col ⟨s.val, by omega⟩ (by simp only; omega)
  have u1 : (val_main_v35 (F := Ideal) o x nrm wout wup (ix3 b s col) : EReal) = UB (flat o) (flat x) nrm wout wup 1 T col := by
    have e : idx_main_v35 (ix3 b s col) = ix3 b (⟨1 + s.val, by omega⟩ : Fin 2050) col := by funext a; fin_cases a <;> rfl
    rw [val_main_v35_apply, e]
    exact ref_pad o x nrm wout wup b s T hT 1 (by omega) col ⟨1 + s.val, by omega⟩ (by simp only; omega)
  have u0 : (val_main_v42 (F := Ideal) o x nrm wout wup (ix3 b s col) : EReal) = U (flat o) (flat x) nrm wout wup T col := by
    have e : idx_main_v42 (ix3 b s col) = ix3 b (⟨2 + s.val, by omega⟩ : Fin 2050) col := by funext a; fin_cases a <;> rfl
    rw [val_main_v42_apply, e]
    refine (ref_pad o x nrm wout wup b s T hT 0 (by omega) col ⟨2 + s.val, by omega⟩ (by simp only; omega)).trans ?_
    unfold UB
    rw [if_pos (Nat.zero_le _)]; rfl
  have w0 : (val_main_v30 (F := Ideal) cw (ix3 b s col) : EReal) = (cw (ix3 (1 : Fin 2) (0 : Fin 3) col) : EReal) := by
    rw [val_main_v30_apply, val_main_v29_apply, val_main_v28_apply, val_main_v27_apply, val_main_v22_apply, val_main_v21_apply]
    refine congrArg cw (tap_idx _ _ _ rfl ?_ ?_)
    · show (0 * 5632 + col.val % 5632) / 5632 % 3 = 0; omega
    · show (0 * 5632 + col.val % 5632) % 5632 = col.val; omega
  have w1 : (val_main_v39 (F := Ideal) cw (ix3 b s col) : EReal) = (cw (ix3 (1 : Fin 2) (1 : Fin 3) col) : EReal) := by
    rw [val_main_v39_apply, val_main_v38_apply, val_main_v37_apply, val_main_v36_apply, val_main_v22_apply, val_main_v21_apply]
    refine congrArg cw (tap_idx _ _ _ rfl ?_ ?_)
    · show ((1 + 0) * 5632 + col.val % 5632) / 5632 % 3 = 1; omega
    · show ((1 + 0) * 5632 + col.val % 5632) % 5632 = col.val; omega
  have w2 : (val_main_v46 (F := Ideal) cw (ix3 b s col) : EReal) = (cw (ix3 (1 : Fin 2) (2 : Fin 3) col) : EReal) := by
    rw [val_main_v46_apply, val_main_v45_apply, val_main_v44_apply, val_main_v43_apply, val_main_v22_apply, val_main_v21_apply]
    refine congrArg cw (tap_idx _ _ _ rfl ?_ ?_)
    · show ((2 + 0) * 5632 + col.val % 5632) / 5632 % 3 = 2; omega
    · show ((2 + 0) * 5632 + col.val % 5632) % 5632 = col.val; omega
  have hb : (val_main_v33 (F := Ideal) cb (ix3 b s col) : EReal) = (cb (ix2 (1 : Fin 2) col) : EReal) := by
    rw [val_main_v33_apply, val_main_v32_apply, val_main_v24_apply, val_main_v23_apply]
    refine congrArg cb ?_
    funext a; apply Fin.ext; fin_cases a
    · rfl
    · show col.val % 5632 = col.val; omega
  rw [val_main_v48_apply, val_main_v41_apply, val_main_v34_apply, val_main_v31_apply, val_main_v40_apply, val_main_v47_apply, u0, u1, u2, w0, w1, w2, hb]
  unfold CV
  show ((cb (ix2 (1 : Fin 2) col) : EReal) + UB (flat o) (flat x) nrm wout wup 2 T col * (cw (ix3 (1 : Fin 2) (0 : Fin 3) col) : EReal)
    + UB (flat o) (flat x) nrm wout wup 1 T col * (cw (ix3 (1 : Fin 2) (1 : Fin 3) col) : EReal)
    + U (flat o) (flat x) nrm wout wup T col * (cw (ix3 (1 : Fin 2) (2 : Fin 3) col) : EReal)) = _
  rw [mul_comm (UB (flat o) (flat x) nrm wout wup 2 T col), mul_comm (UB (flat o) (flat x) nrm wout wup 1 T col), mul_comm (U (flat o) (flat x) nrm wout wup T col)]
  rw [add_right_comm, add_right_comm (cb (ix2 (1 : Fin 2) col) : EReal), add_right_comm _ _ ((cw (ix3 (1 : Fin 2) (1 : Fin 3) col) : EReal) * _)]

include hT in
theorem ref_act (j : Fin 2816) : (val_main_v52 (F := Ideal) o x nrm wout wup cw cb (ix3 b s j) : EReal)
    = gateR (CV (flat o) (flat x) nrm wout wup cw cb T (gcol j)) * CV (flat o) (flat x) nrm wout wup cw cb T (vcol j) := by
  have g : (val_main_v49 (F := Ideal) o x nrm wout wup cw cb (ix3 b s j) : EReal) = CV (flat o) (flat x) nrm wout wup cw cb T (gcol j) := by
    rw [val_main_v49_apply]
    have e : idx_main_v49 (ix3 b s j) = ix3 b s (gcol j) := by funext a; fin_cases a <;> rfl
    rw [e]; exact ref_cv o x nrm wout wup cw cb b s T hT _
  have v : (val_main_v50 (F := Ideal) o x nrm wout wup cw cb (ix3 b s j) : EReal) = CV (flat o) (flat x) nrm wout wup cw cb T (vcol j) := by
    rw [val_main_v50_apply]
    have e : idx_main_v50 (ix3 b s j) = ix3 b s (vcol j) := by funext a; fin_cases a <;> rfl
    rw [e]; exact ref_cv o x nrm wout wup cw cb b s T hT _
  rw [val_main_v52_apply, val_main_v51_apply, val_main_call1_v5_apply, val_main_call1_v4_apply, val_main_call1_v3_apply, val_main_call1_v2_apply,
    val_main_call1_v1_apply, val_main_call1_v0_apply, val_main_call1_cst_apply, val_main_call1_cst_0_apply, g, v]
  rfl

include hT in
theorem ref_out (n : Fin 1024) : (val_main_v57 (F := Ideal) o x nrm wout wup cw cb wdn (ix2 T n) : EReal) = OUT (flat o) (flat x) nrm wout wup cw cb wdn T n := by
  have hn := n.isLt
  have hs := s.isLt
  unfold OUT
  rw [val_main_v57_apply]
  have e : idx_main_v57 (ix2 T n) = ix3 b s n := by
    funext a; apply Fin.ext; fin_cases a
    · show (T.val * 1024 + n.val) / 2097152 = b.val; omega
    · show (T.val * 1024 + n.val) / 1024 % 2048 = s.val; omega
    · show (T.val * 1024 + n.val) % 1024 = n.val; omega
  rw [e, val_main_v56_apply, val_main_v55_apply, ref_x1 o x wout b s T hT n]
  refine congrArg (fun q : EReal => X1 (flat o) (flat x) wout T n + q) (Finset.sum_congr rfl fun j _ => ?_)
  have hj := j.isLt
  rw [val_main_v54_apply, val_main_v53_apply]
  refine congrArg₂ (fun p q : EReal => p * q) ?_ (congrArg wdn ?_)
  · have e : lidx_main_v55 (ix3 b s n) j = ix3 b s j := by funext a; fin_cases a <;> rfl
    rw [e]; exact ref_act o x nrm wout wup cw cb b s T hT j
  · funext a; apply Fin.ext; fin_cases a
    · rfl
    · show (j.val * 1024 + n.val) / 1024 % 2816 = j.val; omega
    · show (j.val * 1024 + n.val) % 1024 = n.val; omega

instance : Subsingleton Cert.Pre_finite_ffn.S_.Idx := ⟨fun _ _ => funext fun a => a.elim0⟩

/-- The precondition makes the second layer's gains, and the gate's weights, taps and biases, real. -/
theorem finite_ffn_real (h : Cert.Pre_finite_ffn.fn (F := Ideal) o x nrm wout wup cw cb wdn = fun _ => 1#1) : Finite nrm wup cw cb := by
  have h0 := congrFun h (fun a => a.elim0)
  unfold Cert.Pre_finite_ffn.fn Cert.Pre_finite_ffn.fn_part1 at h0
  obtain ⟨h1, hb⟩ := Attn.and_one h0
  obtain ⟨h2, hw⟩ := Attn.and_one h1
  obtain ⟨hn, hu⟩ := Attn.and_one h2
  refine ⟨fun k => ?_, fun k j => ?_, fun k j => ?_, fun j => ?_⟩
  · have e := (Attn.real_of_abs_lt (Host.reduce_andi_all _ _ _ _ _ hn (ix1 k))).symm
    refine ⟨_, Eq.trans (Eq.symm ?_) e⟩
    refine (shapeCast_apply _ _ _ (ix2 (0 : Fin 1) k) ?_).trans (extractStridedSlice_apply _ nrm _ _ _ fun a => ?_)
    · rw [Shape.rowMajor_val_two, Shape.rowMajor_val_one]
      show 0 * 1024 + k.val = k.val; omega
    · fin_cases a
      · rfl
      · show k.val = 0 + k.val; omega
  · have e := (Attn.real_of_abs_lt (Host.reduce_andi_all _ _ _ _ _ hu (ix2 k j))).symm
    refine ⟨_, Eq.trans (Eq.symm ?_) e⟩
    refine (shapeCast_apply _ _ _ (ix3 (0 : Fin 1) k j) ?_).trans (extractStridedSlice_apply _ wup _ _ _ fun a => ?_)
    · rw [Shape.rowMajor_val_two, Shape.rowMajor_val_three]
      show (0 * 1024 + k.val) * 2816 + j.val = k.val * 2816 + j.val; omega
    · fin_cases a
      · rfl
      · show k.val = 0 + k.val; omega
      · show j.val = 0 + j.val; omega
  · have e := (Attn.real_of_abs_lt (Host.reduce_andi_all _ _ _ _ _ hw (ix2 k j))).symm
    refine ⟨_, Eq.trans (Eq.symm ?_) e⟩
    refine (shapeCast_apply _ _ _ (ix3 (0 : Fin 1) k j) ?_).trans (extractStridedSlice_apply _ cw _ _ _ fun a => ?_)
    · rw [Shape.rowMajor_val_two, Shape.rowMajor_val_three]
      show (0 * 3 + k.val) * 2816 + j.val = k.val * 2816 + j.val; omega
    · fin_cases a
      · rfl
      · show k.val = 0 + k.val; omega
      · show j.val = 0 + j.val; omega
  · have e := (Attn.real_of_abs_lt (Host.reduce_andi_all _ _ _ _ _ hb (ix1 j))).symm
    refine ⟨_, Eq.trans (Eq.symm ?_) e⟩
    refine (shapeCast_apply _ _ _ (ix2 (0 : Fin 1) j) ?_).trans (extractStridedSlice_apply _ cb _ _ _ fun a => ?_)
    · rw [Shape.rowMajor_val_two, Shape.rowMajor_val_one]
      show 0 * 2816 + j.val = j.val; omega
    · fin_cases a
      · rfl
      · show j.val = 0 + j.val; omega

end Cert.Ffn

end
-- ==== Proof.Ffn.Claims.lean ====
/-
  The second call's claims: the runs and the value.
-/
module

public import proofs.«01_k».proof.Defs
public import proofs.«01_k».proof.Proof.Ffn.Final
public import proofs.«01_k».proof.Proof.Ffn.Ref
public import proofs.«01_k».proof.Proof.Gen.Kernel2
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Ffn

open Idealize.ShloMosaic Idealize.ShloMosaic.TcCoe Idealize.ShloMosaic.ValueIdx Idealize.SL.Sem

theorem frame_kernel : Cert.quiescent_Kernel2 := fun m g _ => Cert.Kernel2.Gen.frame m g

theorem frame_ideal : Cert.quiescent_Kernel2Ideal := fun m g _ => Cert.Kernel2Ideal.Gen.frame m g

theorem frame_ideal_finite : Cert.quiescent_Kernel2Ideal_pre_finite_ffn := fun m g _ => Cert.Kernel2Ideal.Gen.frame m g

/-- The reference declares no semaphore, so its counters read zero. -/
theorem frame_reference : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

theorem frame_reference_finite : Cert.quiescent_Reference2Ideal_pre_finite_ffn := fun m g _ => frame_reference m g trivial

/-- Nothing is rewritten. -/
theorem same_program : Cert.preserves_Kernel2_Kernel2Ideal := trivial

/-- **The value**: from finite gains, and finite gate weights, taps and biases, the call's result is the reference's. -/
theorem value : Cert.algebraic_Kernel2Ideal_Reference2Ideal_pre_finite_ffn := by
  intro m g m' g' hpre hag
  refine ⟨fun c => Cert.Reference2Ideal.Read.val_main_v57 (F := Ideal) (argO3 m c) (argX3 m c) (argN m c) (argWo m c) (argWu m c)
    (argCw m c) (argCb m c) (argWd m c), ?_, ?_⟩
  · refine (θ_run Cert.Kernel2Ideal.defs _ _).mono (fun r h c => ⟨(h c).1.trans ?_, (h c).2⟩) (Cert.Kernel2Ideal.Value.run_blocks m g)
    have f := finite_ffn_real _ _ _ _ _ _ _ _ (hpre c)
    funext i
    obtain ⟨T, n, rfl⟩ : ∃ (T : Fin 32768) (n : Fin 1024), i = ix2 T n := ⟨i 0, i 1, by funext a; fin_cases a <;> rfl⟩
    refine (final m c f T n).trans (Eq.symm ?_)
    exact ref_out _ _ _ _ _ _ _ _ (⟨T.val / 2048, by omega⟩ : Fin 16) (⟨T.val % 2048, by omega⟩ : Fin 2048) T (by simp only; omega) n
  · refine (θ_run Cert.Reference2Ideal.defs _ _).mono (fun r h c => ⟨(h c).1.trans ?_, (h c).2⟩) (Cert.Reference2Ideal.Value.run m' g')
    obtain ⟨h0, h1, h2, h3, h4, h5, h6, h7⟩ := hag c
    rw [Cert.Reference2Ideal.Read.val_main_v57_eq, h0, h1, h2, h3, h4, h5, h6, h7]

end Cert.Ffn

end
-- ==== Proof.Proj.Model.lean ====
/-
  The body of one grid point of the third call, written as a loop. The kernel unrolls the sixteen heads; here each head's block
  of queries and of keys is a definition in the head's number, and the unrolled body is shown to be the loop.
-/
module

public import proofs.«01_k».proof.Proof.Gen.Kernel3Ideal.Frame

@[expose] public section

set_option maxRecDepth 100000

noncomputable section

namespace Cert.Proj

open Idealize.ShloMosaic Idealize.ShloMosaic.TcCoe
open Cert.Kernel3Ideal Cert.Kernel3Ideal.Gen

variable {F : FTy → Type} [FloatOps F] [Named F]

/-- The first lane of head `n`, -/
def ho (n : ℕ) : ℕ := 128 * min n 15
/-- the first column of the pair of heads that head `n` is in, and the head's place in the pair. -/
def po (n : ℕ) : ℕ := 256 * min (n / 2) 7
def pp (n : ℕ) : ℕ := 128 * (n % 2)

theorem slQ (n : ℕ) : S2048x512.Slices ![ho n, 0] S128x512 := ⟨rfl, fun a => by
  fin_cases a
  · show ho n + 128 ≤ 2048; unfold ho; omega
  · show 0 + 512 ≤ 512; omega⟩
theorem slK (n : ℕ) : S512x256.Slices ![0, pp n] S512x128 := ⟨rfl, fun a => by
  fin_cases a
  · show 0 + 512 ≤ 512; omega
  · show pp n + 128 ≤ 256; unfold pp; omega⟩
theorem inbQ (n : ℕ) : ∀ a, ![ho n, 0] a + S128x512.size a ≤ S2048x512.size a := fun a => by
  fin_cases a
  · show ho n + 128 ≤ 2048; unfold ho; omega
  · show 0 + 512 ≤ 512; omega
theorem inbK (n : ℕ) : ∀ a, ![0, ho n] a + S512x128.size a ≤ S512x2048.size a := fun a => by
  fin_cases a
  · show 0 + 512 ≤ 512; omega
  · show ho n + 128 ≤ 2048; unfold ho; omega
theorem inbW (n : ℕ) : ∀ a, ![0, po n] a + S256x256.size a ≤ S256x3072.size a := fun a => by
  fin_cases a
  · show 0 + 256 ≤ 256; omega
  · show po n + 256 ≤ 3072; unfold po; omega

/-- One head of queries, all the heads given: the norm, the rotation and the gain together. -/
def qhead (n : ℕ) (q : FVec F S2048x512 .f32) (c s : Vec F S128x512 .f32) : FVec F S128x512 .bf16 :=
  let x : FVec F S128x512 .f32 := extractStridedSlice S128x512 ![ho n, 0] q (slQ n)
  let r : FVec F S1x512 .f32 := rsqrt (addf (mulf (shapeCast S1x512 (multiReduction .add [0] S512 (mulf x x) 0x00000000#32 reduces_S128x512_S512 (.inl rfl) rfl) shapeCasts_S512_S1x512)
    (broadcast S1x512 (Named.named κ "inv96" 0x3C2AAAAB#32))) (broadcast S1x512 (Scalar.ofBits .f32 0x358637BD#32)))
  let p : FVec F S128x512 .f32 := concatenate S128x512 0 [⟨S64x512, extractStridedSlice S64x512 ![64, 0] x slices_S128x512_o64_0_S64x512⟩,
    ⟨S64x512, extractStridedSlice S64x512 ![0, 0] x slices_S128x512_o0_0_S64x512⟩] concatenates_S64x512_S64x512_S128x512_d0
  truncf .bf16 (mulf (addf (mulf x (shapeCast S128x512 c shapeCasts_S128x512_S128x512)) (mulf p (shapeCast S128x512 s shapeCasts_S128x512_S128x512)))
    (broadcastTo S128x512 r broadcasts_S1x512_S128x512)) bitsLt_bf16_f32

/-- One head of keys: the part every head shares comes rotated (`pr`) and squared (`ps`). -/
def khead (n : ℕ) (pr : FVec F S512x128 .f32) (ps : FVec F S512x1 .f32) (k : FVec F S512x256 .f32) (c : Vec F S512x128 .f32) : FVec F S512x128 .bf16 :=
  let x : FVec F S512x128 .f32 := extractStridedSlice S512x128 ![0, pp n] k (slK n)
  let r : FVec F S512x1 .f32 := rsqrt (addf (mulf (addf (shapeCast S512x1 (multiReduction .add [1] S512 (mulf x x) 0x00000000#32 reduces_S512x128_S512 (.inl rfl) rfl) shapeCasts_S512_S512x1) ps)
    (broadcast S512x1 (Named.named κ "inv96" 0x3C2AAAAB#32))) (broadcast S512x1 (Scalar.ofBits .f32 0x358637BD#32)))
  truncf .bf16 (mulf (addf (mulf x (shapeCast S512x128 c shapeCasts_S512x128_S512x128)) pr) (broadcastTo S512x128 r broadcasts_S512x1_S512x128)) bitsLt_bf16_f32

/-- The rectangles the heads are stored at. -/
def qRect (n : ℕ) : Rect S2048x512 := Rect.unit (s := S2048x512) ![ho n, 0] S128x512.size (inbQ n)
def kRect (n : ℕ) : Rect S512x2048 := Rect.unit (s := S512x2048) ![0, ho n] S512x128.size (inbK n)
def wRect (n : ℕ) : Rect S256x3072 := Rect.unit (s := S256x3072) ![0, po n] S256x256.size (inbW n)

/-- The heads of queries stored before head `n`, last first, -/
def qs (q : FVec F S2048x512 .f32) (c s : Vec F S128x512 .f32) : ℕ → List (View.Piece (Elt F) S2048x512 .bf16)
  | 0 => []
  | n + 1 => ⟨qRect n, qhead n q c s⟩ :: qs q c s n
/-- and of keys. -/
def ks (pr : FVec F S512x128 .f32) (ps : FVec F S512x1 .f32) (k : ℕ → FVec F S512x256 .f32) (c : Vec F S512x128 .f32) :
    ℕ → List (View.Piece (Elt F) S512x2048 .bf16)
  | 0 => []
  | n + 1 => ⟨kRect n, khead n pr ps (k n) c⟩ :: ks pr ps k c n

section
variable (x0 : Vec F S512x1024 .f32) (x1 : Vec F S1x1024 .f32) (x2 : Vec F S1024x896 .bf16) (x3 : Vec F S1x512 .f32) (x4 : Vec F S1x256 .f32)
  (x5 : Vec F S2048x512 .bf16) (x6 : Vec F S256x3072 .bf16) (x7 x8 : Vec F S128x512 .f32) (x9 x10 : Vec F S512x128 .f32)

/-- The first projection of the normed rows, -/
def cAt : FVec F S512x896 .f32 := k0_pay2 (View.ld x0 r0_0) (View.ld x1 r0_1) (View.ld x2 r0_2)
/-- the norm of its first 512 columns and all heads of queries from it, -/
def cqAt : FVec F S512x512 .bf16 := k0_pay3 (View.ld x0 r0_0) (View.ld x1 r0_1) (View.ld x2 r0_2) (View.ld x3 r0_3)
def qAt : FVec F S2048x512 .f32 := k0_pay20 (cqAt x0 x1 x2 x3) (View.ld x5 r0_14)
/-- the norm of the next 256 columns, -/
def ckvAt : FVec F S512x256 .bf16 :=
  k0_pay7 (k0_pay4 (View.ld x0 r0_0) (View.ld x1 r0_1) (View.ld x2 r0_2)) (k0_pay5 (View.ld x4 r0_4)) (k0_pay6 (View.ld x0 r0_0) (View.ld x1 r0_1) (View.ld x2 r0_2))
/-- the two heads of keys that head `n` is one of, from it. -/
def kAt (n : ℕ) : FVec F S512x256 .f32 :=
  matmul dot_S512x256_S256x256_S512x256_1_0_0_1_n_n none (ckvAt x0 x1 x2 x4)
    (shapeCast S256x256 (View.ld x6 (wRect n)) shapeCasts_S256x256_S256x256 : FVec F S256x256 .bf16) (constant S512x256 .f32 0x00000000#32)

theorem out_q : out0_11 x0 x1 x2 x3 x4 x5 x6 x7 x8 x9 x10
    = View.canon (qs (qAt x0 x1 x2 x3 x5) (View.ld x7 r0_32) (View.ld x8 r0_32) 16) := rfl

theorem out_k : out0_12 x0 x1 x2 x3 x4 x5 x6 x7 x8 x9 x10
    = View.canon (ks (k0_pay9 (cAt x0 x1 x2) (View.ld x9 r0_5) (View.ld x10 r0_5)) (k0_pay10 (cAt x0 x1 x2)) (kAt x0 x1 x2 x4 x6) (View.ld x9 r0_5) 16) := rfl

theorem out_v : out0_13 x0 x1 x2 x3 x4 x5 x6 x7 x8 x9 x10
    = View.canon [⟨r0_0, k0_pay21 (ckvAt x0 x1 x2 x4) (View.ld x6 r0_15)⟩] := rfl
end

end Cert.Proj

end
-- ==== Proof.Proj.Spec.lean ====
/-
  The mathematics of the third call, away from any program: one head's norm and rotation, the factor taken out of the sums.
  The factor of the norm is nonnegative and not infinite whatever the head is, so multiplication by it distributes.
-/
module

public import proofs.«01_k».proof.Proof.Ffn.Spec
public import proofs.«01_k».proof.Proof.Attn.Host

@[expose] public section

noncomputable section

namespace Cert.Proj

open Idealize.ShloMosaic Cert.Attn

/-- The factor of a norm, from the sum of the squares and one over their number. -/
def rfac (S : EReal) (c : ℝ) : EReal := Ideal.rsqrt (S * (c : EReal) + Ideal.ofBits .f32 0x358637BD#32)

theorem rfac_good (S : EReal) (c : ℝ) (hc : 0 < c) (hS : 0 ≤ S) : 0 ≤ rfac S c ∧ rfac S c ≠ ⊤ := by
  obtain ⟨e, he, hee⟩ := Ffn.eps_pos
  unfold rfac
  rw [hee]
  induction S using EReal.rec with
  | bot => exact absurd hS (by simp)
  | top =>
    rw [EReal.top_mul_coe_of_pos hc, EReal.top_add_coe]
    show (0 : EReal) ≤ 0 ∧ (0 : EReal) ≠ ⊤
    exact ⟨le_rfl, EReal.zero_ne_top⟩
  | coe s =>
    have hs : 0 ≤ s := by exact_mod_cast hS
    rw [← EReal.coe_mul, ← EReal.coe_add]
    have hp : 0 < s * c + e := by positivity
    have hr : Ideal.rsqrt ((s * c + e : ℝ) : EReal) = (((Real.sqrt (s * c + e))⁻¹ : ℝ) : EReal) := by
      show (if s * c + e < 0 then (⊥ : EReal) else if s * c + e = 0 then ⊤ else _) = _
      rw [if_neg (not_lt.mpr hp.le), if_neg hp.ne']
    rw [hr]
    refine ⟨?_, EReal.coe_ne_top _⟩
    have : 0 ≤ (Real.sqrt (s * c + e))⁻¹ := by positivity
    exact_mod_cast this

/-- The other feature of a rotated pair. -/
def pt (d : ℕ) : ℕ := if d < 64 then d else if d < 80 then d + 16 else d - 16

section
variable (f g cs sn : ℕ → EReal)

/-- The sum of a head's squares, -/
def sqs : EReal := ∑ d ∈ Finset.range 96, f d * f d
/-- its norm, -/
def nf (d : ℕ) : EReal := f d * rfac (sqs f) (1 / 96) * g d
/-- and its last 32 features rotated in pairs. -/
def rot (d : ℕ) : EReal :=
  if d < 64 then nf f g d else if d < 80 then nf f g d * cs (d - 64) - nf f g (d + 16) * sn (d - 64)
  else nf f g (d - 16) * sn (d - 80) + nf f g d * cs (d - 80)
/-- What multiplies a feature, -/
def ctab (d : ℕ) : EReal := if d < 64 then 1 else if d < 80 then cs (d - 64) else cs (d - 80)
/-- and its partner. -/
def stab (d : ℕ) : EReal := if d < 64 then 0 else if d < 80 then -sn (d - 64) else sn (d - 80)

theorem sqs_nonneg : 0 ≤ sqs f := Finset.sum_nonneg fun d _ => Ffn.sq_nonneg' (f d)

/-- The norm and the rotation in one, with a factor. -/
theorem kform_eq (K : EReal) (hK : 0 ≤ K) (hK' : K ≠ ⊤) (d : ℕ) :
    (f d * (ctab cs d * g d * K) + f (pt d) * (stab sn d * g (pt d) * K)) * rfac (sqs f) (1 / 96) = rot f g cs sn d * K := by
  obtain ⟨h0, h1⟩ := rfac_good (sqs f) (1 / 96) (by norm_num) (sqs_nonneg f)
  unfold ctab stab pt rot nf
  generalize rfac (sqs f) (1 / 96) = r at h0 h1
  by_cases h : d < 64
  · simp only [if_pos h]
    rw [zero_mul, zero_mul, mul_zero, add_zero, one_mul]
    ac_rfl
  simp only [if_neg h]
  by_cases h' : d < 80
  · simp only [if_pos h']
    rw [EReal.right_distrib_of_nonneg_of_ne_top h0 h1, sub_eq_add_neg, EReal.right_distrib_of_nonneg_of_ne_top hK hK']
    refine congrArg₂ (· + ·) (by ac_rfl) ?_
    rw [neg_mul, neg_mul, neg_mul, mul_neg, neg_mul]
    refine congrArg Neg.neg ?_
    ac_rfl
  · simp only [if_neg h']
    rw [EReal.right_distrib_of_nonneg_of_ne_top h0 h1, EReal.right_distrib_of_nonneg_of_ne_top hK hK', add_comm]
    refine congrArg₂ (· + ·) (by ac_rfl) (by ac_rfl)

/-- A lane of a head: the first 96 lanes are its features, permuted, and the rest are zero. -/
def lane (l : ℕ) : EReal := if l < 96 then f (perm l) else 0
/-- The features every head shares, apart, and the head's own. -/
def own (d : ℕ) : EReal := if d < 64 then f d else 0
def shared (d : ℕ) : EReal := if d < 64 then 0 else f d

theorem perm_lt (l : ℕ) (h : l < 96) : perm l < 96 := by unfold perm; split_ifs <;> omega

theorem lane_sq : ∑ l : Fin 128, lane f l.val * lane f l.val = sqs f := by
  rw [Fin.sum_univ_eq_sum_range (fun l => lane f l * lane f l) 128]
  have h := sum_perm (fun d => f d * f d)
  unfold sqs
  rw [← h, show 128 = 96 + 32 by norm_num, Finset.sum_range_add]
  have hz : ∑ x ∈ Finset.range 32, lane f (96 + x) * lane f (96 + x) = 0 := Finset.sum_eq_zero fun x _ => by
    unfold lane; rw [if_neg (by omega), mul_zero]
  rw [hz, add_zero]
  exact Finset.sum_congr rfl fun l hl => by unfold lane; rw [if_pos (Finset.mem_range.mp hl)]

theorem own_shared_sq : sqs (own f) + sqs (shared f) = sqs f := by
  unfold sqs
  rw [← Finset.sum_add_distrib]
  refine Finset.sum_congr rfl fun d _ => ?_
  unfold own shared
  by_cases h : d < 64
  · rw [if_pos h, if_pos h, mul_zero, add_zero]
  · rw [if_neg h, if_neg h, mul_zero, zero_add]

/-- The partner's lane is 64 lanes away. -/
theorem lane_pt (l : ℕ) (h : l < 96) (hp : 64 ≤ perm l) : lane f ((l + 64) % 128) = f (pt (perm l)) := by
  have hc : l < 16 ∨ 64 ≤ l ∧ l < 80 := by unfold perm at hp; split_ifs at hp <;> omega
  rcases hc with hc | hc
  · have e1 : (l + 64) % 128 = l + 64 := by omega
    unfold lane
    rw [e1, if_pos (by omega)]
    congr 1
    have a : perm (l + 64) = l + 80 := by unfold perm; split_ifs <;> omega
    have b : perm l = l + 64 := by unfold perm; split_ifs <;> omega
    rw [a, b]; unfold pt; split_ifs <;> omega
  · have e1 : (l + 64) % 128 = l - 64 := by omega
    unfold lane
    rw [e1, if_pos (by omega)]
    congr 1
    have a : perm (l - 64) = l := by unfold perm; split_ifs <;> omega
    have b : perm l = l + 16 := by unfold perm; split_ifs <;> omega
    rw [a, b]; unfold pt; split_ifs <;> omega

/-- **A lane of a head of queries.** -/
theorem lane_q (K : EReal) (hK : 0 ≤ K) (hK' : K ≠ ⊤) (l : ℕ) :
    (lane f l * lane (fun d => ctab cs d * g d * K) l + lane f ((l + 64) % 128) * lane (fun d => stab sn d * g (pt d) * K) l) * rfac (sqs f) (1 / 96)
      = lane (fun d => rot f g cs sn d * K) l := by
  by_cases h : l < 96
  · have e : lane f ((l + 64) % 128) * lane (fun d => stab sn d * g (pt d) * K) l = f (pt (perm l)) * (stab sn (perm l) * g (pt (perm l)) * K) := by
      have e2 : lane (fun d => stab sn d * g (pt d) * K) l = stab sn (perm l) * g (pt (perm l)) * K := by unfold lane; rw [if_pos h]
      rw [e2]
      by_cases hp : 64 ≤ perm l
      · rw [lane_pt f l h hp]
      · have z : stab sn (perm l) = 0 := by unfold stab; rw [if_pos (by omega)]
        rw [z, zero_mul, zero_mul, mul_zero, mul_zero]
    rw [e]
    have e3 : ∀ q : ℕ → EReal, lane q l = q (perm l) := fun q => by unfold lane; rw [if_pos h]
    rw [e3, e3, e3]
    exact kform_eq f g cs sn K hK hK' _
  · have e3 : ∀ q : ℕ → EReal, lane q l = 0 := fun q => by unfold lane; rw [if_neg h]
    rw [e3 f, e3 (fun d => ctab cs d * g d * K), e3 (fun d => stab sn d * g (pt d) * K), e3 (fun d => rot f g cs sn d * K), mul_zero, mul_zero, add_zero, zero_mul]

/-- **A lane of a head of keys**, its own features and the shared ones apart. -/
theorem lane_k (K : EReal) (hK : 0 ≤ K) (hK' : K ≠ ⊤) (l : ℕ) :
    (lane (own f) l * lane (fun d => ctab cs d * g d * K) l
      + (lane (shared f) l * lane (fun d => ctab cs d * g d * K) l + lane (shared f) ((l + 64) % 128) * lane (fun d => stab sn d * g (pt d) * K) l))
      * rfac (sqs (own f) + sqs (shared f)) (1 / 96)
      = lane (fun d => rot f g cs sn d * K) l := by
  rw [own_shared_sq, ← lane_q f g cs sn K hK hK' l]
  refine congrArg (· * _) ?_
  rw [← add_assoc]
  refine congrArg₂ (· + ·) ?_ ?_
  · unfold lane own shared
    by_cases h : l < 96
    · simp only [if_pos h]
      by_cases hp : perm l < 64
      · simp only [if_pos hp, zero_mul, add_zero]
      · simp only [if_neg hp, zero_mul, zero_add]
    · simp only [if_neg h, zero_mul, add_zero]
  · by_cases h : l < 96
    · by_cases hp : 64 ≤ perm l
      · rw [lane_pt f l h hp, lane_pt (shared f) l h hp]
        have : ¬ pt (perm l) < 64 := by have := perm_lt l h; unfold pt; split_ifs <;> omega
        unfold shared
        rw [if_neg this]
      · have z : lane (fun d => stab sn d * g (pt d) * K) l = 0 := by
          unfold lane stab; rw [if_pos h]; beta_reduce; rw [if_pos (by omega), zero_mul, zero_mul]
        rw [z, mul_zero, mul_zero]
    · have z : lane (fun d => stab sn d * g (pt d) * K) l = 0 := by unfold lane; rw [if_neg h]
      rw [z, mul_zero, mul_zero]

end

end Cert.Proj

end
-- ==== Proof.Proj.Values.lean ====
/-
  The third call's arithmetic, read entry by entry at the ideal values.
-/
module

public import proofs.«01_k».proof.Proof.Proj.Model
public import proofs.«01_k».proof.Proof.Proj.Spec
public import proofs.«01_k».proof.Proof.Ffn.Values

@[expose] public section

set_option maxRecDepth 16384

noncomputable section

namespace Cert.Proj

open Idealize.ShloMosaic Idealize.ShloMosaic.TcCoe Idealize.ShloMosaic.ValueIdx
open Cert.Kernel3Ideal Cert.Kernel3Ideal.Gen

theorem inv512_eq : Ideal.ofBits .f32 0x3B000000#32 = ((1 / 512 : ℝ) : EReal) := by
  simp [Ideal.ofBits, Ideal.ieee, -EReal.coe_mul]; norm_num
theorem inv256_eq : Ideal.ofBits .f32 0x3B800000#32 = ((1 / 256 : ℝ) : EReal) := by
  simp [Ideal.ofBits, Ideal.ieee, -EReal.coe_mul]; norm_num
theorem inv96_eq : (Named.named κ "inv96" 0x3C2AAAAB#32 : Ideal .f32) = ((1 / 96 : ℝ) : EReal) :=
  IdealRules.named_const.ideal_named_scalar _ _ _ _ rfl

/-- A row over the root of its mean square, times a gain. -/
def nrm {n : ℕ} (x : Fin n → EReal) (c : ℝ) (g : EReal) (k : Fin n) : EReal := x k * rfac (∑ i, x i * x i) c * g

/-- The sum of the squares of a row. -/
theorem rowsq_apply {n : ℕ} (x : FVec Ideal (⟨2, ![512, n]⟩ : Shape) .f32) (h : (⟨2, ![512, n]⟩ : Shape).Reduces [1] S512) (hs : S512.ShapeCasts S512x1) (r : Fin 512) :
    (shapeCast S512x1 (multiReduction .add [1] S512 (mulf x x) 0x00000000#32 h (.inl rfl) rfl) hs (ix2 r (0 : Fin 1)) : EReal)
      = ∑ i : Fin n, (x (ix2 r i) : EReal) * (x (ix2 r i) : EReal) := by
  refine (shapeCast_apply _ _ (ix2 r (0 : Fin 1)) (ix1 r) (by rw [Shape.rowMajor_val_one, Shape.rowMajor_val_two]; show r.val = r.val * 1 + 0; omega)).trans ?_
  refine (Ideal.multiReduction_add_single _ _ _ _ _ _).trans ?_
  refine Finset.sum_congr rfl fun i _ => ?_
  have e : h.lift (ix1 r) i = (ix2 r i : (⟨2, ![512, n]⟩ : Shape).Idx) := by funext y; fin_cases y <;> rfl
  rw [e]; rfl

/-- The norm of a block of rows. -/
theorem rms_apply {n : ℕ} (x : FVec Ideal (⟨2, ![512, n]⟩ : Shape) .f32) (g : FVec Ideal (⟨2, ![1, n]⟩ : Shape) .f32) (K : BitVec 32) (c : ℝ)
    (hK : Ideal.ofBits .f32 K = (c : EReal)) (h : (⟨2, ![512, n]⟩ : Shape).Reduces [1] S512) (hs : S512.ShapeCasts S512x1)
    (hb : S512x1.Broadcasts (⟨2, ![512, n]⟩ : Shape)) (hg : (⟨2, ![1, n]⟩ : Shape).Broadcasts (⟨2, ![512, n]⟩ : Shape)) (r : Fin 512) (k : Fin n) :
    (mulf (mulf x (broadcastTo (⟨2, ![512, n]⟩ : Shape) (rsqrt (addf (mulf (shapeCast S512x1 (multiReduction .add [1] S512 (mulf x x) 0x00000000#32 h (.inl rfl) rfl) hs)
      (broadcast S512x1 (Scalar.ofBits .f32 K))) (broadcast S512x1 (Scalar.ofBits .f32 0x358637BD#32)))) hb)) (broadcastTo (⟨2, ![512, n]⟩ : Shape) g hg) (ix2 r k) : EReal)
      = nrm (fun i => (x (ix2 r i) : EReal)) c (g (ix2 (0 : Fin 1) k)) k := by
  have hr : ∀ v : FVec Ideal S512x1 .f32, (broadcastTo (⟨2, ![512, n]⟩ : Shape) v hb (ix2 r k) : EReal) = (v (ix2 r (0 : Fin 1)) : EReal) := fun v =>
    broadcastTo_apply v _ _ _ (by intro y; fin_cases y <;> rfl)
  unfold nrm rfac
  refine congrArg₂ (fun p q : EReal => p * q) (congrArg (fun p : EReal => (x (ix2 r k) : EReal) * p) ((hr _).trans ?_)) (broadcastTo_1b_ab_apply _ _ _ _)
  refine congrArg (fun p : EReal => Ideal.rsqrt (p + Ideal.ofBits .f32 0x358637BD#32)) ?_
  exact congrArg₂ (fun p q : EReal => p * q) (rowsq_apply x h hs r) hK

/-- The first projection. -/
theorem pay2_apply (x : Vec Ideal S512x1024 .f32) (g : Vec Ideal S1x1024 .f32) (w : Vec Ideal S1024x896 .bf16) (r : Fin 512) (j : Fin 896) :
    (k0_pay2 (F := Ideal) x g w (ix2 r j) : EReal)
      = ∑ k : Fin 1024, nrm (fun i => (x (ix2 r i) : EReal)) (1 / 1024) (g (ix2 (0 : Fin 1) k)) k * (w (ix2 k j) : EReal) := by
  unfold k0_pay2
  rw [shapeCast_self, shapeCast_self, shapeCast_self]
  refine (Ffn.matmul_zero _ _ _ _).trans (Finset.sum_congr rfl fun k _ => ?_)
  exact congrArg (fun p : EReal => p * (w (ix2 k j) : EReal)) (rms_apply x g _ _ Ffn.inv1024_eq _ _ _ _ r k)

/-- The queries' row, -/
theorem pay3_apply (x : Vec Ideal S512x1024 .f32) (g : Vec Ideal S1x1024 .f32) (w : Vec Ideal S1024x896 .bf16) (a : Vec Ideal S1x512 .f32) (r : Fin 512) (k : Fin 512) :
    (k0_pay3 (F := Ideal) x g w a (ix2 r k) : EReal)
      = nrm (fun i : Fin 512 => (k0_pay2 (F := Ideal) x g w (ix2 r (⟨i.val, by omega⟩ : Fin 896)) : EReal)) (1 / 512) (a (ix2 (0 : Fin 1) k)) k := by
  have e : ∀ i : Fin 512, (extractStridedSlice S512x512 ![0, 0] (k0_pay2 (F := Ideal) x g w) slices_S512x896_o0_0_S512x512 (ix2 r i) : EReal)
      = k0_pay2 (F := Ideal) x g w (ix2 r (⟨i.val, by omega⟩ : Fin 896)) := fun i =>
    extractStridedSlice_apply _ _ _ _ _ fun y => by
      fin_cases y
      · show r.val = 0 + r.val; omega
      · show i.val = 0 + i.val; omega
  unfold k0_pay3
  rw [shapeCast_self]
  generalize extractStridedSlice S512x512 ![0, 0] (k0_pay2 (F := Ideal) x g w) slices_S512x896_o0_0_S512x512 = y at e ⊢
  refine (rms_apply y a _ _ inv512_eq _ _ _ _ r k).trans ?_
  exact congrArg (fun f => nrm f (1 / 512) (a (ix2 (0 : Fin 1) k)) k) (funext e)

/-- and the keys' and values'. -/
theorem pay7_apply (x : Vec Ideal S512x1024 .f32) (g : Vec Ideal S1x1024 .f32) (w : Vec Ideal S1024x896 .bf16) (a : Vec Ideal S1x256 .f32) (r : Fin 512) (k : Fin 256) :
    (k0_pay7 (F := Ideal) (k0_pay4 x g w) (k0_pay5 a) (k0_pay6 x g w) (ix2 r k) : EReal)
      = nrm (fun i : Fin 256 => (k0_pay2 (F := Ideal) x g w (ix2 r (⟨512 + i.val, by omega⟩ : Fin 896)) : EReal)) (1 / 256) (a (ix2 (0 : Fin 1) k)) k := by
  have e : ∀ i : Fin 256, (k0_pay4 (F := Ideal) x g w (ix2 r i) : EReal)
      = k0_pay2 (F := Ideal) x g w (ix2 r (⟨512 + i.val, by omega⟩ : Fin 896)) := fun i => by
    unfold k0_pay4
    refine extractStridedSlice_apply _ _ _ _ _ fun y => ?_
    fin_cases y
    · show r.val = 0 + r.val; omega
    · rfl
  unfold k0_pay7 k0_pay5 k0_pay6
  rw [shapeCast_self]
  refine (rms_apply (k0_pay4 (F := Ideal) x g w) a _ _ inv256_eq _ _ _ _ r k).trans ?_
  exact congrArg (fun f => nrm f (1 / 256) (a (ix2 (0 : Fin 1) k)) k) (funext e)

/-- The values. -/
theorem pay21_apply (cv : FVec Ideal S512x256 .bf16) (w : Vec Ideal S256x1024 .bf16) (r : Fin 512) (j : Fin 1024) :
    (k0_pay21 (F := Ideal) cv w (ix2 r j) : EReal) = ∑ k : Fin 256, (cv (ix2 r k) : EReal) * (w (ix2 k j) : EReal) := by
  unfold k0_pay21
  rw [shapeCast_self]
  exact Ffn.matmul_zero _ _ _ _

/-- The queries, lanes down. -/
theorem pay20_apply (cq : FVec Ideal S512x512 .bf16) (w : Vec Ideal S2048x512 .bf16) (l : Fin 2048) (r : Fin 512) :
    (k0_pay20 (F := Ideal) cq w (ix2 l r) : EReal) = ∑ k : Fin 512, (w (ix2 l k) : EReal) * (cq (ix2 r k) : EReal) := by
  unfold k0_pay20
  rw [shapeCast_self]
  refine (Ideal.matmul_transposedRhs_apply (M := 2048) (K := 512) (N := 512) _ _ _ _ _ _).trans ?_
  refine (congrArg (· + _) (Ideal.ofBits_zero_f32)).trans ?_
  exact zero_add _

/-- Two heads of keys. -/
theorem kAt_apply (x0 : Vec Ideal S512x1024 .f32) (x1 : Vec Ideal S1x1024 .f32) (x2 : Vec Ideal S1024x896 .bf16) (x4 : Vec Ideal S1x256 .f32) (x6 : Vec Ideal S256x3072 .bf16)
    (n : ℕ) (r : Fin 512) (j : Fin 256) :
    (kAt (F := Ideal) x0 x1 x2 x4 x6 n (ix2 r j) : EReal)
      = ∑ k : Fin 256, (ckvAt (F := Ideal) x0 x1 x2 x4 (ix2 r k) : EReal) * (View.ld x6 (wRect n) (ix2 k j) : EReal) := by
  unfold kAt
  refine (Ffn.matmul_zero _ _ _ _).trans (Finset.sum_congr rfl fun k _ => congrArg (fun p : EReal => (ckvAt (F := Ideal) x0 x1 x2 x4 (ix2 r k) : EReal) * p) ?_)
  exact congrFun (shapeCast_self (s := S256x256) (View.ld x6 (wRect n)) _) (ix2 k j)

/-- **One head of queries**, lane by lane. -/
theorem qhead_apply (n : ℕ) (q : FVec Ideal S2048x512 .f32) (c s : Vec Ideal S128x512 .f32) (r : Fin 512) (X : ℕ → EReal)
    (hX : ∀ l : Fin 2048, ho n ≤ l.val → l.val < ho n + 128 → (q (ix2 l r) : EReal) = X (l.val - ho n)) (l : Fin 128) :
    (qhead (F := Ideal) n q c s (ix2 l r) : EReal)
      = (X l.val * (c (ix2 l r) : EReal) + X ((l.val + 64) % 128) * (s (ix2 l r) : EReal)) * rfac (∑ l : Fin 128, X l.val * X l.val) (1 / 96) := by
  have hn : ho n + 128 ≤ 2048 := by unfold ho; omega
  have hx : ∀ l : Fin 128, (extractStridedSlice S128x512 ![ho n, 0] q (slQ n) (ix2 l r) : EReal) = X l.val := fun l => by
    have hl := l.isLt
    refine (extractStridedSlice_apply _ _ _ _ (ix2 (⟨ho n + l.val, by omega⟩ : Fin 2048) r) fun y => ?_).trans ?_
    · fin_cases y
      · rfl
      · show r.val = 0 + r.val; omega
    · refine (hX _ (by simp only; omega) (by simp only; omega)).trans (congrArg X ?_)
      simp only; omega
  have hr : ∀ v : FVec Ideal S1x512 .f32, (broadcastTo S128x512 v broadcasts_S1x512_S128x512 (ix2 l r) : EReal) = (v (ix2 (0 : Fin 1) r) : EReal) := fun v =>
    broadcastTo_1b_ab_apply _ _ _ _
  have hl := l.isLt
  unfold qhead
  rw [shapeCast_self, shapeCast_self]
  refine congrArg₂ (fun p q : EReal => p * q) (congrArg₂ (fun p q : EReal => p + q) (congrArg (fun p : EReal => p * (c (ix2 l r) : EReal)) (hx l))
    (congrArg (fun p : EReal => p * (s (ix2 l r) : EReal)) ?_)) ((hr _).trans ?_)
  · by_cases h : l.val < 64
    · refine (concatenate_apply_piece (t := S128x512) 0 _ _ _ 0 (by show _ < 2; omega) S64x512 _ rfl rfl 0 rfl (ix2 (⟨l.val, h⟩ : Fin 64) r) ?_ ?_).trans ?_
      · intro y hy; fin_cases y <;> first | rfl | exact absurd rfl hy
      · show 0 + l.val = l.val; omega
      · refine (extractStridedSlice_apply _ _ _ _ (ix2 (⟨64 + l.val, by omega⟩ : Fin 128) r) fun y => ?_).trans ((hx _).trans (congrArg X ?_))
        · fin_cases y
          · rfl
          · show r.val = 0 + r.val; omega
        · simp only; omega
    · refine (concatenate_apply_piece (t := S128x512) 0 _ _ _ 1 (by show _ < 2; omega) S64x512 _ rfl rfl 64 rfl (ix2 (⟨l.val - 64, by omega⟩ : Fin 64) r) ?_ ?_).trans ?_
      · intro y hy; fin_cases y <;> first | rfl | exact absurd rfl hy
      · show 64 + (l.val - 64) = l.val; omega
      · refine (extractStridedSlice_apply _ _ _ _ (ix2 (⟨l.val - 64, by omega⟩ : Fin 128) r) fun y => ?_).trans ((hx _).trans (congrArg X ?_))
        · fin_cases y
          · show l.val - 64 = 0 + (l.val - 64); omega
          · show r.val = 0 + r.val; omega
        · simp only; omega
  · unfold rfac
    refine congrArg (fun p : EReal => Ideal.rsqrt (p + Ideal.ofBits .f32 0x358637BD#32)) (congrArg₂ (fun p q : EReal => p * q) ?_ inv96_eq)
    refine (shapeCast_apply _ _ (ix2 (0 : Fin 1) r) (ix1 r) (by rw [Shape.rowMajor_val_one, Shape.rowMajor_val_two]; show r.val = 0 * 512 + r.val; omega)).trans ?_
    refine (Ideal.multiReduction_add_single _ _ _ _ _ _).trans ?_
    refine Finset.sum_congr rfl fun i _ => ?_
    have e : reduces_S128x512_S512.lift (ix1 r) i = (ix2 i r : S128x512.Idx) := by funext y; fin_cases y <;> rfl
    rw [e]
    exact congrArg₂ (fun p q : EReal => p * q) (hx i) (hx i)

/-- The shared features of the keys, -/
theorem pay8_apply (v : FVec Ideal S512x896 .f32) (r : Fin 512) (P : ℕ → EReal)
    (hP : ∀ j : Fin 896, 768 ≤ j.val → (v (ix2 r j) : EReal) = P (j.val - 768)) (l : Fin 128) : (k0_pay8 (F := Ideal) v (ix2 r l) : EReal) = P l.val := by
  have hl := l.isLt
  unfold k0_pay8
  refine (extractStridedSlice_apply _ v _ _ (ix2 r (⟨768 + l.val, by omega⟩ : Fin 896)) fun y => ?_).trans ((hP _ (by simp only; omega)).trans (congrArg P ?_))
  · fin_cases y
    · show r.val = 0 + r.val; omega
    · rfl
  · simp only; omega

/-- rotated, -/
theorem pay9_apply (v : FVec Ideal S512x896 .f32) (c s : Vec Ideal S512x128 .f32) (r : Fin 512) (P : ℕ → EReal)
    (hP : ∀ j : Fin 896, 768 ≤ j.val → (v (ix2 r j) : EReal) = P (j.val - 768)) (l : Fin 128) :
    (k0_pay9 (F := Ideal) v c s (ix2 r l) : EReal) = P l.val * (c (ix2 r l) : EReal) + P ((l.val + 64) % 128) * (s (ix2 r l) : EReal) := by
  have hx := pay8_apply v r P hP
  have hl := l.isLt
  unfold k0_pay9
  rw [shapeCast_self, shapeCast_self]
  refine congrArg₂ (fun p q : EReal => p + q) (congrArg (fun p : EReal => p * (c (ix2 r l) : EReal)) (hx l)) (congrArg (fun p : EReal => p * (s (ix2 r l) : EReal)) ?_)
  refine (dynamicRotate_apply _ _ _ _ _ (ix2 r (⟨(l.val + 64) % 128, Nat.mod_lt _ (by norm_num)⟩ : Fin 128)) (fun y => ?_)).trans (hx _)
  fin_cases y
  · rfl
  · show (l.val + 64) % 128 = (l.val + 128 - (64#32 : BitVec 32).toNat % 128) % 128
    rw [show (64#32 : BitVec 32).toNat % 128 = 64 from rfl]; omega

/-- and the sum of their squares. -/
theorem pay10_apply (v : FVec Ideal S512x896 .f32) (r : Fin 512) (P : ℕ → EReal)
    (hP : ∀ j : Fin 896, 768 ≤ j.val → (v (ix2 r j) : EReal) = P (j.val - 768)) :
    (k0_pay10 (F := Ideal) v (ix2 r (0 : Fin 1)) : EReal) = ∑ l : Fin 128, P l.val * P l.val := by
  have hx := pay8_apply v r P hP
  unfold k0_pay10
  refine (rowsq_apply (k0_pay8 (F := Ideal) v) reduces_S512x128_S512 shapeCasts_S512_S512x1 r).trans ?_
  exact Finset.sum_congr rfl fun l _ => congrArg₂ (fun p q : EReal => p * q) (hx l) (hx l)

/-- **One head of keys**, lane by lane. -/
theorem khead_apply (n : ℕ) (pr : FVec Ideal S512x128 .f32) (ps : FVec Ideal S512x1 .f32) (k : FVec Ideal S512x256 .f32) (c : Vec Ideal S512x128 .f32) (r : Fin 512) (X : ℕ → EReal)
    (hX : ∀ j : Fin 256, pp n ≤ j.val → j.val < pp n + 128 → (k (ix2 r j) : EReal) = X (j.val - pp n)) (l : Fin 128) :
    (khead (F := Ideal) n pr ps k c (ix2 r l) : EReal)
      = (X l.val * (c (ix2 r l) : EReal) + (pr (ix2 r l) : EReal)) * rfac ((∑ l : Fin 128, X l.val * X l.val) + (ps (ix2 r (0 : Fin 1)) : EReal)) (1 / 96) := by
  have hn : pp n + 128 ≤ 256 := by unfold pp; omega
  have hx : ∀ l : Fin 128, (extractStridedSlice S512x128 ![0, pp n] k (slK n) (ix2 r l) : EReal) = X l.val := fun l => by
    have hl := l.isLt
    refine (extractStridedSlice_apply _ _ _ _ (ix2 r (⟨pp n + l.val, by omega⟩ : Fin 256)) fun y => ?_).trans ?_
    · fin_cases y
      · show r.val = 0 + r.val; omega
      · rfl
    · refine (hX _ (by simp only; omega) (by simp only; omega)).trans (congrArg X ?_)
      simp only; omega
  have hr : ∀ v : FVec Ideal S512x1 .f32, (broadcastTo S512x128 v broadcasts_S512x1_S512x128 (ix2 r l) : EReal) = (v (ix2 r (0 : Fin 1)) : EReal) := fun v =>
    broadcastTo_apply v _ _ _ (by intro y; fin_cases y <;> rfl)
  unfold khead
  rw [shapeCast_self]
  refine congrArg₂ (fun p q : EReal => p * q) (congrArg (fun p : EReal => p + (pr (ix2 r l) : EReal)) (congrArg (fun p : EReal => p * (c (ix2 r l) : EReal)) (hx l))) ((hr _).trans ?_)
  unfold rfac
  refine congrArg (fun p : EReal => Ideal.rsqrt (p + Ideal.ofBits .f32 0x358637BD#32)) (congrArg₂ (fun p q : EReal => p * q) ?_ inv96_eq)
  refine congrArg (fun p : EReal => p + (ps (ix2 r (0 : Fin 1)) : EReal)) ?_
  refine (rowsq_apply (extractStridedSlice S512x128 ![0, pp n] k (slK n)) reduces_S512x128_S512 shapeCasts_S512_S512x1 r).trans ?_
  exact Finset.sum_congr rfl fun l _ => congrArg₂ (fun p q : EReal => p * q) (hx l) (hx l)

end Cert.Proj

end
-- ==== Proof.Proj.Arrays.lean ====
/-
  The arrays the third call finds: the weights in the lanes' order, in place, and the tables of the rotation with the gain in them.
-/
module

public import proofs.«01_k».proof.Proof.Gen.Kernel3Ideal.Value

@[expose] public section

set_option maxRecDepth 16384

noncomputable section

namespace Cert.Proj

open Idealize.ShloMosaic Idealize.ShloMosaic.TcCoe
open Cert.Kernel3Ideal Cert.Kernel3Ideal.Gen Cert.Kernel3Ideal.Value

/-- A number in every place. -/
abbrev zc : FVec Ideal S_ .f32 := constant S_ .f32 0x00000000#32
abbrev oc : FVec Ideal S_ .f32 := constant S_ .f32 0x3F800000#32

/-- The first projection: the shared key's columns go to the lanes, the rest is zero. -/
def winArr (w : FVec Ideal S1x1024x800 .f32) : FVec Ideal S1024x896 .bf16 :=
  let w2 : FVec Ideal S1024x800 .f32 := shapeCast S1024x800 w shapeCasts_S1x1024x800_S1024x800
  let pe : FVec Ideal S1024x32 .f32 := extractStridedSlice S1024x32 ![0, 768] w2 slices_S1024x800_S1024x32_0_768
  let z : FVec Ideal S1024x48 .f32 := broadcastInDim S1024x48 ![] bcast_S_S1024x48 zc
  truncf .bf16 (concatenate S1024x896 1 [⟨S1024x768, extractStridedSlice S1024x768 ![0, 0] w2 slices_S1024x800_S1024x768_0_0⟩,
    ⟨S1024x128, concatenate S1024x128 1 [⟨S1024x16, extractStridedSlice S1024x16 ![0, 0] pe slices_S1024x32_S1024x16_0_0⟩, ⟨S1024x48, z⟩,
      ⟨S1024x16, extractStridedSlice S1024x16 ![0, 16] pe slices_S1024x32_S1024x16_0_16⟩, ⟨S1024x48, z⟩] concatenates_S1024x16_S1024x48_S1024x16_S1024x48_S1024x128_d1⟩]
    concatenates_S1024x768_S1024x128_S1024x896_d1) bitsLt_bf16_f32

/-- The queries' projection, lanes down. -/
def wuqArr (w : FVec Ideal S1x512x1536 .f32) : FVec Ideal S2048x512 .bf16 :=
  let w2 : FVec Ideal S512x16x96 .f32 := shapeCast S512x16x96 (shapeCast S512x1536 w shapeCasts_S1x512x1536_S512x1536 : FVec Ideal S512x1536 .f32) shapeCasts_S512x1536_S512x16x96
  truncf .bf16 (transpose S2048x512 [1, 0] (shapeCast S512x2048 (concatenate S512x16x128 2
    [⟨S512x16x16, extractStridedSlice S512x16x16 ![0, 0, 64] w2 slices_S512x16x96_S512x16x16_0_0_64⟩,
      ⟨S512x16x48, extractStridedSlice S512x16x48 ![0, 0, 0] w2 slices_S512x16x96_S512x16x48_0_0_0⟩,
      ⟨S512x16x16, extractStridedSlice S512x16x16 ![0, 0, 80] w2 slices_S512x16x96_S512x16x16_0_0_80⟩,
      ⟨S512x16x16, extractStridedSlice S512x16x16 ![0, 0, 48] w2 slices_S512x16x96_S512x16x16_0_0_48⟩,
      ⟨S512x16x32, broadcastInDim S512x16x32 ![] bcast_S_S512x16x32 zc⟩] concatenates_S512x16x16_S512x16x48_S512x16x16_S512x16x16_S512x16x32_S512x16x128_d2 : FVec Ideal S512x16x128 .f32)
    shapeCasts_S512x16x128_S512x2048 : FVec Ideal S512x2048 .f32) transposes_S512x2048_S2048x512_1_0) bitsLt_bf16_f32

/-- The keys' and values' projection: the keys' own columns in their lanes, then the values' columns. -/
def wukvArr (w : FVec Ideal S1x256x2048 .f32) : FVec Ideal S256x3072 .bf16 :=
  let w2 : FVec Ideal S256x16x128 .f32 := shapeCast S256x16x128 (shapeCast S256x2048 w shapeCasts_S1x256x2048_S256x2048 : FVec Ideal S256x2048 .f32) shapeCasts_S256x2048_S256x16x128
  let k : FVec Ideal S256x16x64 .f32 := extractStridedSlice S256x16x64 ![0, 0, 0] w2 slices_S256x16x128_S256x16x64_0_0_0
  let z : FVec Ideal S256x16x16 .f32 := broadcastInDim S256x16x16 ![] bcast_S_S256x16x16 zc
  truncf .bf16 (concatenate S256x3072 1 [⟨S256x2048, shapeCast S256x2048 (concatenate S256x16x128 2
      [⟨S256x16x16, z⟩, ⟨S256x16x48, extractStridedSlice S256x16x48 ![0, 0, 0] k slices_S256x16x64_S256x16x48_0_0_0⟩, ⟨S256x16x16, z⟩,
        ⟨S256x16x16, extractStridedSlice S256x16x16 ![0, 0, 48] k slices_S256x16x64_S256x16x16_0_0_48⟩,
        ⟨S256x16x32, broadcastInDim S256x16x32 ![] bcast_S_S256x16x32 zc⟩] concatenates_S256x16x16_S256x16x48_S256x16x16_S256x16x16_S256x16x32_S256x16x128_d2 : FVec Ideal S256x16x128 .f32)
      shapeCasts_S256x16x128_S256x2048⟩,
    ⟨S256x1024, shapeCast S256x1024 (extractStridedSlice S256x16x64 ![0, 0, 64] w2 slices_S256x16x128_S256x16x64_0_0_64 : FVec Ideal S256x16x64 .f32) shapeCasts_S256x16x64_S256x1024⟩]
    concatenates_S256x2048_S256x1024_S256x3072_d1) bitsLt_bf16_f32

/-- The angle of each position and pair. -/
def angArr : FVec Ideal S2048x16 .f32 :=
  mulf (broadcastInDim S2048x16 ![0, 1] bcast_S2048x1_S2048x16_0_1 (broadcastInDim S2048x1 ![0] bcast_S2048_S2048x1_0 (sitofp .f32 (iotaInDim S2048 32 0) : FVec Ideal S2048 .f32)))
    (broadcastInDim S2048x16 ![0, 1] bcast_S1x16_S2048x16_0_1 (broadcastInDim S1x16 ![1] bcast_S16_S1x16_1
      (Host.divf (broadcastInDim S16 ![] bcast_S_S16 oc) (Host.powf (broadcastInDim S16 ![] bcast_S_S16 (constant S_ .f32 0x461C4000#32))
        (Host.divf (addf (broadcastInDim S16 ![] bcast_S_S16 zc) (mulf (broadcastInDim S16 ![] bcast_S_S16 (constant S_ .f32 0x40000000#32)) (sitofp .f32 (iotaInDim S16 32 0))))
          (broadcastInDim S16 ![] bcast_S_S16 (constant S_ .f32 0x42000000#32)))) : FVec Ideal S16 .f32)))

/-- A table of features, in the lanes' order. -/
def layArr (t : FVec Ideal S2048x96 .f32) : FVec Ideal S2048x128 .f32 :=
  concatenate S2048x128 1 [⟨S2048x16, extractStridedSlice S2048x16 ![0, 64] t slices_S2048x96_S2048x16_0_64⟩,
    ⟨S2048x48, extractStridedSlice S2048x48 ![0, 0] t slices_S2048x96_S2048x48_0_0⟩,
    ⟨S2048x16, extractStridedSlice S2048x16 ![0, 80] t slices_S2048x96_S2048x16_0_80⟩,
    ⟨S2048x16, extractStridedSlice S2048x16 ![0, 48] t slices_S2048x96_S2048x16_0_48⟩,
    ⟨S2048x32, broadcastInDim S2048x32 ![] bcast_S_S2048x32 zc⟩] concatenates_S2048x16_S2048x48_S2048x16_S2048x16_S2048x32_S2048x128_d1

/-- The table that multiplies a feature: cosines, the gain and a factor, -/
def cosArr (g : FVec Ideal S1x96 .f32) (f : BitVec 32) : FVec Ideal S2048x96 .f32 :=
  mulf (mulf (concatenate S2048x96 1 [⟨S2048x64, broadcastInDim S2048x64 ![] bcast_S_S2048x64 oc⟩, ⟨S2048x16, Host.cos angArr⟩, ⟨S2048x16, Host.cos angArr⟩]
      concatenates_S2048x64_S2048x16_S2048x16_S2048x96_d1)
    (broadcastInDim S2048x96 ![0, 1] bcast_S1x96_S2048x96_0_1 (broadcastInDim S1x96 ![1] bcast_S96_S1x96_1 (shapeCast S96 g shapeCasts_S1x96_S96 : FVec Ideal S96 .f32))))
    (broadcastInDim S2048x96 ![] bcast_S_S2048x96 (constant S_ .f32 f))
/-- and the one that multiplies its partner: sines with their signs, the partner's gain and the factor. -/
def sinArr (g : FVec Ideal S1x96 .f32) (f : BitVec 32) : FVec Ideal S2048x96 .f32 :=
  let g1 : FVec Ideal S96 .f32 := shapeCast S96 g shapeCasts_S1x96_S96
  mulf (mulf (concatenate S2048x96 1 [⟨S2048x64, broadcastInDim S2048x64 ![] bcast_S_S2048x64 zc⟩, ⟨S2048x16, Host.negf (Host.sin angArr)⟩, ⟨S2048x16, Host.sin angArr⟩]
      concatenates_S2048x64_S2048x16_S2048x16_S2048x96_d1)
    (broadcastInDim S2048x96 ![0, 1] bcast_S1x96_S2048x96_0_1 (broadcastInDim S1x96 ![1] bcast_S96_S1x96_1
      (concatenate S96 0 [⟨S64, extractStridedSlice S64 ![0] g1 slices_S96_S64_0⟩, ⟨S16, extractStridedSlice S16 ![80] g1 slices_S96_S16_80⟩,
        ⟨S16, extractStridedSlice S16 ![64] g1 slices_S96_S16_64⟩] concatenates_S64_S16_S16_S96_d0 : FVec Ideal S96 .f32))))
    (broadcastInDim S2048x96 ![] bcast_S_S2048x96 (constant S_ .f32 f))

variable (m : (ℓ : Loc nD τ sig) → Buf (Elt Ideal) ℓ) (c : Dev nD)

/-- The arguments as launched. -/
abbrev aX : FVec Ideal S16x2048x1024 .f32 := m ((c : Thread nD τ).loc main_arg0)
abbrev aN : FVec Ideal S2x1024 .f32 := m ((c : Thread nD τ).loc main_arg1)
abbrev aWin : FVec Ideal S1x1024x800 .f32 := m ((c : Thread nD τ).loc main_arg2)
abbrev aQa : FVec Ideal S1x512 .f32 := m ((c : Thread nD τ).loc main_arg3)
abbrev aWuq : FVec Ideal S1x512x1536 .f32 := m ((c : Thread nD τ).loc main_arg4)
abbrev aKva : FVec Ideal S1x256 .f32 := m ((c : Thread nD τ).loc main_arg5)
abbrev aWukv : FVec Ideal S1x256x2048 .f32 := m ((c : Thread nD τ).loc main_arg6)
abbrev aQn : FVec Ideal S1x96 .f32 := m ((c : Thread nD τ).loc main_arg7)
abbrev aKn : FVec Ideal S1x96 .f32 := m ((c : Thread nD τ).loc main_arg8)

set_option maxHeartbeats 4000000

theorem V_x : V m c main_v0 = shapeCast S32768x1024 (aX m c) shapeCasts_S16x2048x1024_S32768x1024 := by
  show StableHlo.after hostOps0 _ (Proc.devRef .tc main_v0) = _
  after_results <;> rfl
theorem V_n : V m c main_v144 = shapeCast S1x1024 (shapeCast S1024 (extractStridedSlice S1x1024 ![1, 0] (aN m c) slices_S2x1024_S1x1024_1_0 : FVec Ideal S1x1024 .f32) shapeCasts_S1x1024_S1024 : FVec Ideal S1024 .f32) shapeCasts_S1024_S1x1024 := by
  show StableHlo.after hostOps0 _ (Proc.devRef .tc main_v144) = _
  after_results <;> rfl
theorem V_win : V m c main_v10 = winArr (aWin m c) := by
  show StableHlo.after hostOps0 _ (Proc.devRef .tc main_v10) = _
  after_results <;> rfl
theorem V_qa : V m c main_v146 = shapeCast S1x512 (shapeCast S512 (aQa m c) shapeCasts_S1x512_S512 : FVec Ideal S512 .f32) shapeCasts_S512_S1x512 := by
  show StableHlo.after hostOps0 _ (Proc.devRef .tc main_v146) = _
  after_results <;> rfl
theorem V_kva : V m c main_v148 = shapeCast S1x256 (shapeCast S256 (aKva m c) shapeCasts_S1x256_S256 : FVec Ideal S256 .f32) shapeCasts_S256_S1x256 := by
  show StableHlo.after hostOps0 _ (Proc.devRef .tc main_v148) = _
  after_results <;> rfl
theorem V_wuq : V m c main_v21 = wuqArr (aWuq m c) := by
  show StableHlo.after hostOps0 _ (Proc.devRef .tc main_v21) = _
  after_results <;> rfl
theorem V_wukv : V m c main_v35 = wukvArr (aWukv m c) := by
  show StableHlo.after hostOps0 _ (Proc.devRef .tc main_v35) = _
  after_results <;> rfl

end Cert.Proj

end
-- ==== Proof.Proj.Lanes.lean ====
/-
  The lanes' order: what each rearrangement of weights and tables holds, lane by lane.
-/
module

public import proofs.«01_k».proof.Proof.Proj.Arrays
public import proofs.«01_k».proof.Proof.Proj.Spec
public import Idealize.ShloMosaic.Lib.KernelVsHost

@[expose] public section

set_option maxRecDepth 16384

noncomputable section

namespace Cert.Proj

open Idealize.ShloMosaic Idealize.ShloMosaic.TcCoe Idealize.ShloMosaic.ValueIdx
open Cert.Kernel3Ideal Cert.Kernel3Ideal.Gen
section
variable (f : ℕ → EReal) (l : ℕ)
theorem lane_a (h : l < 16) : lane f l = f (64 + l) := by unfold lane Attn.perm; rw [if_pos (by omega), if_pos h]
theorem lane_b (h : 16 ≤ l) (h' : l < 64) : lane f l = f (l - 16) := by
  unfold lane Attn.perm; rw [if_pos (by omega), if_neg (by omega), if_pos h']
theorem lane_c (h : 64 ≤ l) (h' : l < 80) : lane f l = f (l + 16) := by
  unfold lane Attn.perm; rw [if_pos (by omega), if_neg (by omega), if_neg (by omega), if_pos h']
theorem lane_d (h : 80 ≤ l) (h' : l < 96) : lane f l = f (l - 32) := by
  unfold lane Attn.perm; rw [if_pos h', if_neg (by omega), if_neg (by omega), if_neg (by omega)]
theorem lane_e (h : 96 ≤ l) : lane f l = 0 := by unfold lane; rw [if_neg (by omega)]
end

/-- Features of a table, -/
theorem lay_apply (t : FVec Ideal S2048x96 .f32) (s : Fin 2048) (F : ℕ → EReal) (hE : ∀ d : Fin 96, (t (ix2 s d) : EReal) = F d.val) (l : Fin 128) :
    (layArr t (ix2 s l) : EReal) = lane F l.val := by
  have hl := l.isLt
  unfold layArr
  by_cases h0 : l.val < 16
  · refine (concatenate_apply_piece (t := S2048x128) 1 _ _ _ 0 (by show _ < 5; omega) S2048x16 _ rfl rfl 0 rfl (ix2 s (⟨l.val - 0, by omega⟩ : Fin 16)) ?_ ?_).trans ?_
    · intro y hy; fin_cases y <;> first | rfl | exact absurd rfl hy
    · show 0 + (l.val - 0) = l.val; omega
    · refine (extractStridedSlice_apply _ _ _ _ (ix2 s (⟨64 + (l.val - 0), by omega⟩ : Fin 96)) fun y => ?_).trans ((hE _).trans ?_)
      · fin_cases y
        · show s.val = 0 + s.val; omega
        · show 64 + (l.val - 0) = 64 + (l.val - 0); rfl
      · rw [lane_a _ _ (by omega)]
        exact congrArg F (by simp only; omega)
  by_cases h1 : l.val < 64
  · refine (concatenate_apply_piece (t := S2048x128) 1 _ _ _ 1 (by show _ < 5; omega) S2048x48 _ rfl rfl 16 rfl (ix2 s (⟨l.val - 16, by omega⟩ : Fin 48)) ?_ ?_).trans ?_
    · intro y hy; fin_cases y <;> first | rfl | exact absurd rfl hy
    · show 16 + (l.val - 16) = l.val; omega
    · refine (extractStridedSlice_apply _ _ _ _ (ix2 s (⟨0 + (l.val - 16), by omega⟩ : Fin 96)) fun y => ?_).trans ((hE _).trans ?_)
      · fin_cases y
        · show s.val = 0 + s.val; omega
        · show 0 + (l.val - 16) = 0 + (l.val - 16); rfl
      · rw [lane_b _ _ (by omega) (by omega)]
        exact congrArg F (by simp only; omega)
  by_cases h2 : l.val < 80
  · refine (concatenate_apply_piece (t := S2048x128) 1 _ _ _ 2 (by show _ < 5; omega) S2048x16 _ rfl rfl 64 rfl (ix2 s (⟨l.val - 64, by omega⟩ : Fin 16)) ?_ ?_).trans ?_
    · intro y hy; fin_cases y <;> first | rfl | exact absurd rfl hy
    · show 64 + (l.val - 64) = l.val; omega
    · refine (extractStridedSlice_apply _ _ _ _ (ix2 s (⟨80 + (l.val - 64), by omega⟩ : Fin 96)) fun y => ?_).trans ((hE _).trans ?_)
      · fin_cases y
        · show s.val = 0 + s.val; omega
        · show 80 + (l.val - 64) = 80 + (l.val - 64); rfl
      · rw [lane_c _ _ (by omega) (by omega)]
        exact congrArg F (by simp only; omega)
  by_cases h3 : l.val < 96
  · refine (concatenate_apply_piece (t := S2048x128) 1 _ _ _ 3 (by show _ < 5; omega) S2048x16 _ rfl rfl 80 rfl (ix2 s (⟨l.val - 80, by omega⟩ : Fin 16)) ?_ ?_).trans ?_
    · intro y hy; fin_cases y <;> first | rfl | exact absurd rfl hy
    · show 80 + (l.val - 80) = l.val; omega
    · refine (extractStridedSlice_apply _ _ _ _ (ix2 s (⟨48 + (l.val - 80), by omega⟩ : Fin 96)) fun y => ?_).trans ((hE _).trans ?_)
      · fin_cases y
        · show s.val = 0 + s.val; omega
        · show 48 + (l.val - 80) = 48 + (l.val - 80); rfl
      · rw [lane_d _ _ (by omega) (by omega)]
        exact congrArg F (by simp only; omega)
  refine (concatenate_apply_piece (t := S2048x128) 1 _ _ _ 4 (by show _ < 5; omega) S2048x32 _ rfl rfl 96 rfl (ix2 s (⟨l.val - 96, by omega⟩ : Fin 32)) ?_ ?_).trans ?_
  · intro y hy; fin_cases y <;> first | rfl | exact absurd rfl hy
  · show 96 + (l.val - 96) = l.val; omega
  · refine Eq.trans Ideal.ofBits_zero_f32 (Eq.symm ?_)
    rw [lane_e _ _ (by omega)]

/-- of the queries' weights, -/
def layW (t : FVec Ideal S512x16x96 .f32) : FVec Ideal S512x16x128 .f32 :=
  concatenate S512x16x128 2
    [⟨S512x16x16, extractStridedSlice S512x16x16 ![0, 0, 64] t slices_S512x16x96_S512x16x16_0_0_64⟩,
      ⟨S512x16x48, extractStridedSlice S512x16x48 ![0, 0, 0] t slices_S512x16x96_S512x16x48_0_0_0⟩,
      ⟨S512x16x16, extractStridedSlice S512x16x16 ![0, 0, 80] t slices_S512x16x96_S512x16x16_0_0_80⟩,
      ⟨S512x16x16, extractStridedSlice S512x16x16 ![0, 0, 48] t slices_S512x16x96_S512x16x16_0_0_48⟩,
      ⟨S512x16x32, broadcastInDim S512x16x32 ![] bcast_S_S512x16x32 zc⟩] concatenates_S512x16x16_S512x16x48_S512x16x16_S512x16x16_S512x16x32_S512x16x128_d2

theorem layW_apply (t : FVec Ideal S512x16x96 .f32) (k : Fin 512) (h : Fin 16) (F : ℕ → EReal) (hE : ∀ d : Fin 96, (t (ix3 k h d) : EReal) = F d.val) (l : Fin 128) :
    (layW t (ix3 k h l) : EReal) = lane F l.val := by
  have hl := l.isLt
  unfold layW
  by_cases h0 : l.val < 16
  · refine (concatenate_apply_piece (t := S512x16x128) 2 _ _ _ 0 (by show _ < 5; omega) S512x16x16 _ rfl rfl 0 rfl (ix3 k h (⟨l.val - 0, by omega⟩ : Fin 16)) ?_ ?_).trans ?_
    · intro y hy; fin_cases y <;> first | rfl | exact absurd rfl hy
    · show 0 + (l.val - 0) = l.val; omega
    · refine (extractStridedSlice_apply _ _ _ _ (ix3 k h (⟨64 + (l.val - 0), by omega⟩ : Fin 96)) fun y => ?_).trans ((hE _).trans ?_)
      · fin_cases y
        · show k.val = 0 + k.val; omega
        · show h.val = 0 + h.val; omega
        · show 64 + (l.val - 0) = 64 + (l.val - 0); rfl
      · rw [lane_a _ _ (by omega)]
        exact congrArg F (by simp only; omega)
  by_cases h1 : l.val < 64
  · refine (concatenate_apply_piece (t := S512x16x128) 2 _ _ _ 1 (by show _ < 5; omega) S512x16x48 _ rfl rfl 16 rfl (ix3 k h (⟨l.val - 16, by omega⟩ : Fin 48)) ?_ ?_).trans ?_
    · intro y hy; fin_cases y <;> first | rfl | exact absurd rfl hy
    · show 16 + (l.val - 16) = l.val; omega
    · refine (extractStridedSlice_apply _ _ _ _ (ix3 k h (⟨0 + (l.val - 16), by omega⟩ : Fin 96)) fun y => ?_).trans ((hE _).trans ?_)
      · fin_cases y
        · show k.val = 0 + k.val; omega
        · show h.val = 0 + h.val; omega
        · show 0 + (l.val - 16) = 0 + (l.val - 16); rfl
      · rw [lane_b _ _ (by omega) (by omega)]
        exact congrArg F (by simp only; omega)
  by_cases h2 : l.val < 80
  · refine (concatenate_apply_piece (t := S512x16x128) 2 _ _ _ 2 (by show _ < 5; omega) S512x16x16 _ rfl rfl 64 rfl (ix3 k h (⟨l.val - 64, by omega⟩ : Fin 16)) ?_ ?_).trans ?_
    · intro y hy; fin_cases y <;> first | rfl | exact absurd rfl hy
    · show 64 + (l.val - 64) = l.val; omega
    · refine (extractStridedSlice_apply _ _ _ _ (ix3 k h (⟨80 + (l.val - 64), by omega⟩ : Fin 96)) fun y => ?_).trans ((hE _).trans ?_)
      · fin_cases y
        · show k.val = 0 + k.val; omega
        · show h.val = 0 + h.val; omega
        · show 80 + (l.val - 64) = 80 + (l.val - 64); rfl
      · rw [lane_c _ _ (by omega) (by omega)]
        exact congrArg F (by simp only; omega)
  by_cases h3 : l.val < 96
  · refine (concatenate_apply_piece (t := S512x16x128) 2 _ _ _ 3 (by show _ < 5; omega) S512x16x16 _ rfl rfl 80 rfl (ix3 k h (⟨l.val - 80, by omega⟩ : Fin 16)) ?_ ?_).trans ?_
    · intro y hy; fin_cases y <;> first | rfl | exact absurd rfl hy
    · show 80 + (l.val - 80) = l.val; omega
    · refine (extractStridedSlice_apply _ _ _ _ (ix3 k h (⟨48 + (l.val - 80), by omega⟩ : Fin 96)) fun y => ?_).trans ((hE _).trans ?_)
      · fin_cases y
        · show k.val = 0 + k.val; omega
        · show h.val = 0 + h.val; omega
        · show 48 + (l.val - 80) = 48 + (l.val - 80); rfl
      · rw [lane_d _ _ (by omega) (by omega)]
        exact congrArg F (by simp only; omega)
  refine (concatenate_apply_piece (t := S512x16x128) 2 _ _ _ 4 (by show _ < 5; omega) S512x16x32 _ rfl rfl 96 rfl (ix3 k h (⟨l.val - 96, by omega⟩ : Fin 32)) ?_ ?_).trans ?_
  · intro y hy; fin_cases y <;> first | rfl | exact absurd rfl hy
  · show 96 + (l.val - 96) = l.val; omega
  · refine Eq.trans Ideal.ofBits_zero_f32 (Eq.symm ?_)
    rw [lane_e _ _ (by omega)]

/-- of the keys' own weights, -/
def layK (t : FVec Ideal S256x16x64 .f32) : FVec Ideal S256x16x128 .f32 :=
  concatenate S256x16x128 2
      [⟨S256x16x16, broadcastInDim S256x16x16 ![] bcast_S_S256x16x16 zc⟩, ⟨S256x16x48, extractStridedSlice S256x16x48 ![0, 0, 0] t slices_S256x16x64_S256x16x48_0_0_0⟩,
        ⟨S256x16x16, broadcastInDim S256x16x16 ![] bcast_S_S256x16x16 zc⟩,
        ⟨S256x16x16, extractStridedSlice S256x16x16 ![0, 0, 48] t slices_S256x16x64_S256x16x16_0_0_48⟩,
        ⟨S256x16x32, broadcastInDim S256x16x32 ![] bcast_S_S256x16x32 zc⟩] concatenates_S256x16x16_S256x16x48_S256x16x16_S256x16x16_S256x16x32_S256x16x128_d2

theorem layK_apply (t : FVec Ideal S256x16x64 .f32) (k : Fin 256) (h : Fin 16) (F : ℕ → EReal) (hE : ∀ d : Fin 64, (t (ix3 k h d) : EReal) = F d.val) (l : Fin 128) :
    (layK t (ix3 k h l) : EReal) = lane (own F) l.val := by
  have hl := l.isLt
  unfold layK
  by_cases h0 : l.val < 16
  · refine (concatenate_apply_piece (t := S256x16x128) 2 _ _ _ 0 (by show _ < 5; omega) S256x16x16 _ rfl rfl 0 rfl (ix3 k h (⟨l.val - 0, by omega⟩ : Fin 16)) ?_ ?_).trans ?_
    · intro y hy; fin_cases y <;> first | rfl | exact absurd rfl hy
    · show 0 + (l.val - 0) = l.val; omega
    · refine Eq.trans Ideal.ofBits_zero_f32 (Eq.symm ?_)
      rw [lane_a _ _ (by omega)]
      unfold own; rw [if_neg (by omega)]
  by_cases h1 : l.val < 64
  · refine (concatenate_apply_piece (t := S256x16x128) 2 _ _ _ 1 (by show _ < 5; omega) S256x16x48 _ rfl rfl 16 rfl (ix3 k h (⟨l.val - 16, by omega⟩ : Fin 48)) ?_ ?_).trans ?_
    · intro y hy; fin_cases y <;> first | rfl | exact absurd rfl hy
    · show 16 + (l.val - 16) = l.val; omega
    · refine (extractStridedSlice_apply _ _ _ _ (ix3 k h (⟨0 + (l.val - 16), by omega⟩ : Fin 64)) fun y => ?_).trans ((hE _).trans ?_)
      · fin_cases y
        · show k.val = 0 + k.val; omega
        · show h.val = 0 + h.val; omega
        · show 0 + (l.val - 16) = 0 + (l.val - 16); rfl
      · rw [lane_b _ _ (by omega) (by omega)]
        unfold own; rw [if_pos (by omega)]
        exact congrArg F (by simp only; omega)
  by_cases h2 : l.val < 80
  · refine (concatenate_apply_piece (t := S256x16x128) 2 _ _ _ 2 (by show _ < 5; omega) S256x16x16 _ rfl rfl 64 rfl (ix3 k h (⟨l.val - 64, by omega⟩ : Fin 16)) ?_ ?_).trans ?_
    · intro y hy; fin_cases y <;> first | rfl | exact absurd rfl hy
    · show 64 + (l.val - 64) = l.val; omega
    · refine Eq.trans Ideal.ofBits_zero_f32 (Eq.symm ?_)
      rw [lane_c _ _ (by omega) (by omega)]
      unfold own; rw [if_neg (by omega)]
  by_cases h3 : l.val < 96
  · refine (concatenate_apply_piece (t := S256x16x128) 2 _ _ _ 3 (by show _ < 5; omega) S256x16x16 _ rfl rfl 80 rfl (ix3 k h (⟨l.val - 80, by omega⟩ : Fin 16)) ?_ ?_).trans ?_
    · intro y hy; fin_cases y <;> first | rfl | exact absurd rfl hy
    · show 80 + (l.val - 80) = l.val; omega
    · refine (extractStridedSlice_apply _ _ _ _ (ix3 k h (⟨48 + (l.val - 80), by omega⟩ : Fin 64)) fun y => ?_).trans ((hE _).trans ?_)
      · fin_cases y
        · show k.val = 0 + k.val; omega
        · show h.val = 0 + h.val; omega
        · show 48 + (l.val - 80) = 48 + (l.val - 80); rfl
      · rw [lane_d _ _ (by omega) (by omega)]
        unfold own; rw [if_pos (by omega)]
        exact congrArg F (by simp only; omega)
  refine (concatenate_apply_piece (t := S256x16x128) 2 _ _ _ 4 (by show _ < 5; omega) S256x16x32 _ rfl rfl 96 rfl (ix3 k h (⟨l.val - 96, by omega⟩ : Fin 32)) ?_ ?_).trans ?_
  · intro y hy; fin_cases y <;> first | rfl | exact absurd rfl hy
  · show 96 + (l.val - 96) = l.val; omega
  · refine Eq.trans Ideal.ofBits_zero_f32 (Eq.symm ?_)
    rw [lane_e _ _ (by omega)]

/-- and of the shared ones. -/
def layP (t : FVec Ideal S1024x32 .f32) : FVec Ideal S1024x128 .f32 :=
  concatenate S1024x128 1 [⟨S1024x16, extractStridedSlice S1024x16 ![0, 0] t slices_S1024x32_S1024x16_0_0⟩, ⟨S1024x48, broadcastInDim S1024x48 ![] bcast_S_S1024x48 zc⟩,
      ⟨S1024x16, extractStridedSlice S1024x16 ![0, 16] t slices_S1024x32_S1024x16_0_16⟩, ⟨S1024x48, broadcastInDim S1024x48 ![] bcast_S_S1024x48 zc⟩]
    concatenates_S1024x16_S1024x48_S1024x16_S1024x48_S1024x128_d1

theorem layP_apply (t : FVec Ideal S1024x32 .f32) (k : Fin 1024) (F : ℕ → EReal) (hE : ∀ d : Fin 32, (t (ix2 k d) : EReal) = F d.val) (l : Fin 128) :
    (layP t (ix2 k l) : EReal) = lane (shared fun d => F (d - 64)) l.val := by
  have hl := l.isLt
  unfold layP
  by_cases h0 : l.val < 16
  · refine (concatenate_apply_piece (t := S1024x128) 1 _ _ _ 0 (by show _ < 4; omega) S1024x16 _ rfl rfl 0 rfl (ix2 k (⟨l.val - 0, by omega⟩ : Fin 16)) ?_ ?_).trans ?_
    · intro y hy; fin_cases y <;> first | rfl | exact absurd rfl hy
    · show 0 + (l.val - 0) = l.val; omega
    · refine (extractStridedSlice_apply _ _ _ _ (ix2 k (⟨0 + (l.val - 0), by omega⟩ : Fin 32)) fun y => ?_).trans ((hE _).trans ?_)
      · fin_cases y
        · show k.val = 0 + k.val; omega
        · show 0 + (l.val - 0) = 0 + (l.val - 0); rfl
      · rw [lane_a _ _ (by omega)]
        unfold shared; rw [if_neg (by omega)]
        exact congrArg F (by simp only; omega)
  by_cases h1 : l.val < 64
  · refine (concatenate_apply_piece (t := S1024x128) 1 _ _ _ 1 (by show _ < 4; omega) S1024x48 _ rfl rfl 16 rfl (ix2 k (⟨l.val - 16, by omega⟩ : Fin 48)) ?_ ?_).trans ?_
    · intro y hy; fin_cases y <;> first | rfl | exact absurd rfl hy
    · show 16 + (l.val - 16) = l.val; omega
    · refine Eq.trans Ideal.ofBits_zero_f32 (Eq.symm ?_)
      rw [lane_b _ _ (by omega) (by omega)]
      unfold shared; rw [if_pos (by omega)]
  by_cases h2 : l.val < 80
  · refine (concatenate_apply_piece (t := S1024x128) 1 _ _ _ 2 (by show _ < 4; omega) S1024x16 _ rfl rfl 64 rfl (ix2 k (⟨l.val - 64, by omega⟩ : Fin 16)) ?_ ?_).trans ?_
    · intro y hy; fin_cases y <;> first | rfl | exact absurd rfl hy
    · show 64 + (l.val - 64) = l.val; omega
    · refine (extractStridedSlice_apply _ _ _ _ (ix2 k (⟨16 + (l.val - 64), by omega⟩ : Fin 32)) fun y => ?_).trans ((hE _).trans ?_)
      · fin_cases y
        · show k.val = 0 + k.val; omega
        · show 16 + (l.val - 64) = 16 + (l.val - 64); rfl
      · rw [lane_c _ _ (by omega) (by omega)]
        unfold shared; rw [if_neg (by omega)]
        exact congrArg F (by simp only; omega)
  refine (concatenate_apply_piece (t := S1024x128) 1 _ _ _ 3 (by show _ < 4; omega) S1024x48 _ rfl rfl 80 rfl (ix2 k (⟨l.val - 80, by omega⟩ : Fin 48)) ?_ ?_).trans ?_
  · intro y hy; fin_cases y <;> first | rfl | exact absurd rfl hy
  · show 80 + (l.val - 80) = l.val; omega
  · refine Eq.trans Ideal.ofBits_zero_f32 (Eq.symm ?_)
    by_cases h4 : l.val < 96
    · rw [lane_d _ _ (by omega) h4]; unfold shared; rw [if_pos (by omega)]
    · exact lane_e _ _ (by omega)

end Cert.Proj

end
-- ==== Proof.Proj.Layer.lean ====
/-
  The third call's mathematics over its arguments: the projections of a row, and its heads of queries, keys and values.
-/
module

public import proofs.«01_k».proof.Proof.Proj.Values
public import proofs.«01_k».proof.Proof.Proj.Lanes

@[expose] public section

set_option maxRecDepth 16384

noncomputable section

namespace Cert.Proj

open Idealize.ShloMosaic Idealize.ShloMosaic.TcCoe Idealize.ShloMosaic.ValueIdx
open Cert.Kernel3Ideal Cert.Kernel3Ideal.Gen

/-- Entries of weights and gains at a number, zero outside. -/
def winE (w : FVec Ideal S1x1024x800 .f32) (k : Fin 1024) (j : ℕ) : EReal := if h : j < 800 then w (ix3 (0 : Fin 1) k (⟨j, h⟩ : Fin 800)) else 0
def wuqE (w : FVec Ideal S1x512x1536 .f32) (k : Fin 512) (j : ℕ) : EReal := if h : j < 1536 then w (ix3 (0 : Fin 1) k (⟨j, h⟩ : Fin 1536)) else 0
def wukvE (w : FVec Ideal S1x256x2048 .f32) (k : Fin 256) (j : ℕ) : EReal := if h : j < 2048 then w (ix3 (0 : Fin 1) k (⟨j, h⟩ : Fin 2048)) else 0
def gE (g : FVec Ideal S1x96 .f32) (d : ℕ) : EReal := if h : d < 96 then g (ix2 (0 : Fin 1) (⟨d, h⟩ : Fin 96)) else 0
/-- The cosine and sine of a position's angles. -/
def csE (s : Fin 2048) (j : ℕ) : EReal := if h : j < 16 then Host.cos (F := Ideal) angArr (ix2 s (⟨j, h⟩ : Fin 16)) else 0
def snE (s : Fin 2048) (j : ℕ) : EReal := if h : j < 16 then Host.sin (F := Ideal) angArr (ix2 s (⟨j, h⟩ : Fin 16)) else 0

section
variable (x : FVec Ideal S32768x1024 .f32) (nr : FVec Ideal S2x1024 .f32) (win : FVec Ideal S1x1024x800 .f32) (qa : FVec Ideal S1x512 .f32)
  (wuq : FVec Ideal S1x512x1536 .f32) (kva : FVec Ideal S1x256 .f32) (wukv : FVec Ideal S1x256x2048 .f32) (T : Fin 32768)

/-- The row's norm, -/
def NR (k : Fin 1024) : EReal := nrm (fun i => (x (ix2 T i) : EReal)) (1 / 1024) (nr (ix2 (1 : Fin 2) k)) k
/-- its projection, -/
def C (j : ℕ) : EReal := ∑ k : Fin 1024, NR x nr T k * winE win k j
/-- the norms of the projection's two parts, -/
def CQ (k : Fin 512) : EReal := nrm (fun i : Fin 512 => C x nr win T i.val) (1 / 512) (qa (ix2 (0 : Fin 1) k)) k
def CKV (k : Fin 256) : EReal := nrm (fun i : Fin 256 => C x nr win T (512 + i.val)) (1 / 256) (kva (ix2 (0 : Fin 1) k)) k
/-- the queries of all heads, the keys' and values' own features, -/
def Q (j : ℕ) : EReal := ∑ k : Fin 512, CQ x nr win qa T k * wuqE wuq k j
def KV (j : ℕ) : EReal := ∑ k : Fin 256, CKV x nr win kva T k * wukvE wukv k j
/-- and a head of each before its norm. -/
def QF (h d : ℕ) : EReal := Q x nr win qa wuq T (96 * h + d)
def KF (h d : ℕ) : EReal := if d < 64 then KV x nr win kva wukv T (128 * h + d) else C x nr win T (768 + (d - 64))
end

/-- A sum through the lanes' order. -/
theorem sum_lane {n : ℕ} (a : Fin n → EReal) (f : Fin n → ℕ → EReal) (l : ℕ) : ∑ k, a k * lane (f k) l = lane (fun d => ∑ k, a k * f k d) l := by
  unfold lane
  by_cases h : l < 96
  · simp only [if_pos h]
  · simp only [if_neg h, mul_zero]; exact Finset.sum_const_zero
theorem sum_own {n : ℕ} (a : Fin n → EReal) (f : Fin n → ℕ → EReal) : (fun d => ∑ k, a k * own (f k) d) = own fun d => ∑ k, a k * f k d := by
  funext d
  unfold own
  by_cases h : d < 64
  · simp only [if_pos h]
  · simp only [if_neg h, mul_zero]; exact Finset.sum_const_zero
theorem sum_shared {n : ℕ} (a : Fin n → EReal) (f : Fin n → ℕ → EReal) : (fun d => ∑ k, a k * shared (f k) d) = shared fun d => ∑ k, a k * f k d := by
  funext d
  unfold shared
  by_cases h : d < 64
  · simp only [if_pos h, mul_zero]; exact Finset.sum_const_zero
  · simp only [if_neg h]

/-- The arrays, entry by entry. -/
theorem win_apply (w : FVec Ideal S1x1024x800 .f32) (k : Fin 1024) (j : Fin 896) :
    (winArr w (ix2 k j) : EReal) = if j.val < 768 then winE w k j.val else lane (shared fun d => winE w k (768 + (d - 64))) (j.val - 768) := by
  have hj := j.isLt
  have hw : ∀ (i : Fin 800), (shapeCast S1024x800 w shapeCasts_S1x1024x800_S1024x800 (ix2 k i) : EReal) = winE w k i.val := fun i => by
    refine (shapeCast_1ab_ab_apply _ _ _ _).trans (Eq.symm ?_)
    unfold winE
    exact dif_pos i.isLt
  unfold winArr
  refine (Attn.truncf_ideal (b := .bf16) _ bitsLt_bf16_f32 _).trans ?_
  by_cases h : j.val < 768
  · rw [if_pos h]
    refine (concatenate_apply_piece (t := S1024x896) 1 _ _ _ 0 (by show _ < 2; omega) S1024x768 _ rfl rfl 0 rfl (ix2 k (⟨j.val, by omega⟩ : Fin 768)) ?_ ?_).trans ?_
    · intro y hy; fin_cases y <;> first | rfl | exact absurd rfl hy
    · show 0 + j.val = j.val; omega
    · refine (extractStridedSlice_apply _ _ _ _ (ix2 k (⟨j.val, by omega⟩ : Fin 800)) fun y => ?_).trans (hw _)
      fin_cases y
      · show k.val = 0 + k.val; omega
      · show j.val = 0 + j.val; omega
  · rw [if_neg h]
    refine (concatenate_apply_piece (t := S1024x896) 1 _ _ _ 1 (by show _ < 2; omega) S1024x128 _ rfl rfl 768 rfl (ix2 k (⟨j.val - 768, by omega⟩ : Fin 128)) ?_ ?_).trans ?_
    · intro y hy; fin_cases y <;> first | rfl | exact absurd rfl hy
    · show 768 + (j.val - 768) = j.val; omega
    · refine layP_apply _ k (fun e => winE w k (768 + e)) (fun d => ?_) _
      refine (extractStridedSlice_apply _ _ _ _ (ix2 k (⟨768 + d.val, by omega⟩ : Fin 800)) fun y => ?_).trans (hw _)
      fin_cases y
      · show k.val = 0 + k.val; omega
      · rfl

theorem wuq_apply (w : FVec Ideal S1x512x1536 .f32) (n : Fin 2048) (k : Fin 512) (h : Fin 16) (l : Fin 128) (hn : n.val = 128 * h.val + l.val) :
    (wuqArr w (ix2 n k) : EReal) = lane (fun d => wuqE w k (96 * h.val + d)) l.val := by
  have hk := k.isLt
  have hh := h.isLt
  unfold wuqArr
  refine (Attn.truncf_ideal (b := .bf16) _ bitsLt_bf16_f32 _).trans ?_
  refine (transpose_ix2_apply _ _ _ _).trans ?_
  refine (shapeCast_apply _ _ _ (ix3 k h l) ?_).trans (layW_apply _ k h (fun d => wuqE w k (96 * h.val + d)) (fun d => ?_) l)
  · rw [Shape.rowMajor_val_three, Shape.rowMajor_val_two]
    show (k.val * 16 + h.val) * 128 + l.val = k.val * 2048 + n.val; omega
  · have hd := d.isLt
    refine (shapeCast_apply _ _ _ (ix2 k (⟨96 * h.val + d.val, by omega⟩ : Fin 1536)) ?_).trans ((shapeCast_1ab_ab_apply _ _ _ _).trans (Eq.symm ?_))
    · rw [Shape.rowMajor_val_three, Shape.rowMajor_val_two]
      show k.val * 1536 + (96 * h.val + d.val) = (k.val * 16 + h.val) * 96 + d.val; omega
    · unfold wuqE
      exact dif_pos _

theorem wukv2_apply (w : FVec Ideal S1x256x2048 .f32) (k : Fin 256) (h : Fin 16) (e : Fin 128) :
    (shapeCast S256x16x128 (shapeCast S256x2048 w shapeCasts_S1x256x2048_S256x2048 : FVec Ideal S256x2048 .f32) shapeCasts_S256x2048_S256x16x128 (ix3 k h e) : EReal)
      = wukvE w k (128 * h.val + e.val) := by
  have hk := k.isLt
  have hh := h.isLt
  have he := e.isLt
  refine (shapeCast_apply _ _ _ (ix2 k (⟨128 * h.val + e.val, by omega⟩ : Fin 2048)) ?_).trans ((shapeCast_1ab_ab_apply _ _ _ _).trans (Eq.symm ?_))
  · rw [Shape.rowMajor_val_three, Shape.rowMajor_val_two]
    show k.val * 2048 + (128 * h.val + e.val) = (k.val * 16 + h.val) * 128 + e.val; omega
  · unfold wukvE
    exact dif_pos _

theorem wukv_k (w : FVec Ideal S1x256x2048 .f32) (k : Fin 256) (j : Fin 3072) (h : Fin 16) (l : Fin 128) (hj : j.val = 128 * h.val + l.val) :
    (wukvArr w (ix2 k j) : EReal) = lane (own fun d => wukvE w k (128 * h.val + d)) l.val := by
  have hk := k.isLt
  have hh := h.isLt
  have hl := l.isLt
  unfold wukvArr
  refine (Attn.truncf_ideal (b := .bf16) _ bitsLt_bf16_f32 _).trans ?_
  refine (concatenate_apply_piece (t := S256x3072) 1 _ _ _ 0 (by show _ < 2; omega) S256x2048 _ rfl rfl 0 rfl (ix2 k (⟨j.val, by omega⟩ : Fin 2048)) ?_ ?_).trans ?_
  · intro y hy; fin_cases y <;> first | rfl | exact absurd rfl hy
  · show 0 + j.val = j.val; omega
  refine (shapeCast_apply _ _ _ (ix3 k h l) ?_).trans (layK_apply _ k h (fun d => wukvE w k (128 * h.val + d)) (fun d => ?_) l)
  · rw [Shape.rowMajor_val_three, Shape.rowMajor_val_two]
    show (k.val * 16 + h.val) * 128 + l.val = k.val * 2048 + j.val; omega
  · have hd := d.isLt
    refine (extractStridedSlice_apply _ _ _ _ (ix3 k h (⟨d.val, by omega⟩ : Fin 128)) fun y => ?_).trans (wukv2_apply w k h _)
    fin_cases y
    · show k.val = 0 + k.val; omega
    · show h.val = 0 + h.val; omega
    · show d.val = 0 + d.val; omega

theorem wukv_v (w : FVec Ideal S1x256x2048 .f32) (k : Fin 256) (j : Fin 3072) (h : Fin 16) (e : Fin 64) (hj : j.val = 2048 + (64 * h.val + e.val)) :
    (wukvArr w (ix2 k j) : EReal) = wukvE w k (128 * h.val + (64 + e.val)) := by
  have hk := k.isLt
  have hh := h.isLt
  have he := e.isLt
  unfold wukvArr
  refine (Attn.truncf_ideal (b := .bf16) _ bitsLt_bf16_f32 _).trans ?_
  refine (concatenate_apply_piece (t := S256x3072) 1 _ _ _ 1 (by show _ < 2; omega) S256x1024 _ rfl rfl 2048 rfl (ix2 k (⟨64 * h.val + e.val, by omega⟩ : Fin 1024)) ?_ ?_).trans ?_
  · intro y hy; fin_cases y <;> first | rfl | exact absurd rfl hy
  · show 2048 + (64 * h.val + e.val) = j.val; omega
  refine (shapeCast_apply _ _ _ (ix3 k h e) ?_).trans ?_
  · rw [Shape.rowMajor_val_three, Shape.rowMajor_val_two]
    show (k.val * 16 + h.val) * 64 + e.val = k.val * 1024 + (64 * h.val + e.val); omega
  · refine (extractStridedSlice_apply _ _ _ _ (ix3 k h (⟨64 + e.val, by omega⟩ : Fin 128)) fun y => ?_).trans (wukv2_apply w k h _)
    fin_cases y
    · show k.val = 0 + k.val; omega
    · show h.val = 0 + h.val; omega
    · rfl

end Cert.Proj

end
-- ==== Proof.Proj.Trig.lean ====
/-
  The rotation's tables, entry by entry.
-/
module

public import proofs.«01_k».proof.Proof.Proj.Layer

@[expose] public section

set_option maxRecDepth 16384

noncomputable section

namespace Cert.Proj

open Idealize.ShloMosaic Idealize.ShloMosaic.TcCoe Idealize.ShloMosaic.ValueIdx
open Cert.Kernel3Ideal Cert.Kernel3Ideal.Gen

theorem bits_one : Ideal.ofBits .f32 0x3F800000#32 = 1 := by rw [Ffn.one_eq, EReal.coe_one]

/-- A gain along the features, at every position. -/
theorem gain_apply (g : FVec Ideal S96 .f32) (s : Fin 2048) (d : Fin 96) :
    (broadcastInDim S2048x96 ![0, 1] bcast_S1x96_S2048x96_0_1 (broadcastInDim S1x96 ![1] bcast_S96_S1x96_1 g) (ix2 s d) : EReal) = (g (ix1 d) : EReal) := by
  refine (broadcastInDim_apply _ _ _ _ (ix2 (0 : Fin 1) d) fun a => ?_).trans (broadcastInDim_apply _ _ _ _ (ix1 d) fun a => ?_)
  · fin_cases a
    · rfl
    · rfl
  · fin_cases a; rfl

theorem g96_apply (g : FVec Ideal S1x96 .f32) (d : Fin 96) : (shapeCast S96 g shapeCasts_S1x96_S96 (ix1 d) : EReal) = gE g d.val := by
  refine (shapeCast_apply _ _ _ (ix2 (0 : Fin 1) d) ?_).trans (Eq.symm ?_)
  · rw [Shape.rowMajor_val_two, Shape.rowMajor_val_one]
    show 0 * 96 + d.val = d.val; omega
  · unfold gE; exact dif_pos d.isLt

theorem cosArr_apply (g : FVec Ideal S1x96 .f32) (f : BitVec 32) (s : Fin 2048) (l : Fin 96) :
    (cosArr g f (ix2 s l) : EReal) = ctab (csE s) l.val * gE g l.val * Ideal.ofBits .f32 f := by
  have hl := l.isLt
  unfold cosArr
  refine congrArg₂ (fun p q : EReal => p * q) (congrArg₂ (fun p q : EReal => p * q) ?_ ((gain_apply _ s l).trans (g96_apply g l))) rfl
  unfold ctab
  by_cases h0 : l.val < 64
  · refine (concatenate_apply_piece (t := S2048x96) 1 _ _ _ 0 (by show _ < 3; omega) S2048x64 _ rfl rfl 0 rfl (ix2 s (⟨l.val - 0, by omega⟩ : Fin 64)) ?_ ?_).trans ?_
    · intro y hy; fin_cases y <;> first | rfl | exact absurd rfl hy
    · show 0 + (l.val - 0) = l.val; omega
    · rw [if_pos h0]; exact bits_one
  by_cases h1 : l.val < 80
  · refine (concatenate_apply_piece (t := S2048x96) 1 _ _ _ 1 (by show _ < 3; omega) S2048x16 _ rfl rfl 64 rfl (ix2 s (⟨l.val - 64, by omega⟩ : Fin 16)) ?_ ?_).trans ?_
    · intro y hy; fin_cases y <;> first | rfl | exact absurd rfl hy
    · show 64 + (l.val - 64) = l.val; omega
    · rw [if_neg h0, if_pos h1]; unfold csE; rw [dif_pos (show l.val - 64 < 16 by omega)]
  refine (concatenate_apply_piece (t := S2048x96) 1 _ _ _ 2 (by show _ < 3; omega) S2048x16 _ rfl rfl 80 rfl (ix2 s (⟨l.val - 80, by omega⟩ : Fin 16)) ?_ ?_).trans ?_
  · intro y hy; fin_cases y <;> first | rfl | exact absurd rfl hy
  · show 80 + (l.val - 80) = l.val; omega
  · rw [if_neg h0, if_neg h1]; unfold csE; rw [dif_pos (show l.val - 80 < 16 by omega)]

theorem sin_part (s : Fin 2048) (l : Fin 96) :
    (concatenate S2048x96 1 [⟨S2048x64, broadcastInDim S2048x64 ![] bcast_S_S2048x64 zc⟩, ⟨S2048x16, Host.negf (Host.sin angArr)⟩, ⟨S2048x16, Host.sin angArr⟩]
      concatenates_S2048x64_S2048x16_S2048x16_S2048x96_d1 (ix2 s l) : EReal) = stab (snE s) l.val := by
  have hl := l.isLt
  unfold stab
  by_cases h0 : l.val < 64
  · refine (concatenate_apply_piece (t := S2048x96) 1 _ _ _ 0 (by show _ < 3; omega) S2048x64 _ rfl rfl 0 rfl (ix2 s (⟨l.val - 0, by omega⟩ : Fin 64)) ?_ ?_).trans ?_
    · intro y hy; fin_cases y <;> first | rfl | exact absurd rfl hy
    · show 0 + (l.val - 0) = l.val; omega
    · rw [if_pos h0]; exact Ideal.ofBits_zero_f32
  by_cases h1 : l.val < 80
  · refine (concatenate_apply_piece (t := S2048x96) 1 _ _ _ 1 (by show _ < 3; omega) S2048x16 _ rfl rfl 64 rfl (ix2 s (⟨l.val - 64, by omega⟩ : Fin 16)) ?_ ?_).trans ?_
    · intro y hy; fin_cases y <;> first | rfl | exact absurd rfl hy
    · show 64 + (l.val - 64) = l.val; omega
    · rw [if_neg h0, if_pos h1]; unfold snE; rw [dif_pos (show l.val - 64 < 16 by omega)]; rfl
  refine (concatenate_apply_piece (t := S2048x96) 1 _ _ _ 2 (by show _ < 3; omega) S2048x16 _ rfl rfl 80 rfl (ix2 s (⟨l.val - 80, by omega⟩ : Fin 16)) ?_ ?_).trans ?_
  · intro y hy; fin_cases y <;> first | rfl | exact absurd rfl hy
  · show 80 + (l.val - 80) = l.val; omega
  · rw [if_neg h0, if_neg h1]; unfold snE; rw [dif_pos (show l.val - 80 < 16 by omega)]

theorem pgain_part (g : FVec Ideal S96 .f32) (F : ℕ → EReal) (hg : ∀ d : Fin 96, (g (ix1 d) : EReal) = F d.val) (l : Fin 96) :
    (concatenate S96 0 [⟨S64, extractStridedSlice S64 ![0] g slices_S96_S64_0⟩, ⟨S16, extractStridedSlice S16 ![80] g slices_S96_S16_80⟩,
        ⟨S16, extractStridedSlice S16 ![64] g slices_S96_S16_64⟩] concatenates_S64_S16_S16_S96_d0 (ix1 l) : EReal) = F (pt l.val) := by
  have hl := l.isLt
  unfold pt
  by_cases h0 : l.val < 64
  · refine (concatenate_apply_piece (t := S96) 0 _ _ _ 0 (by show _ < 3; omega) S64 _ rfl rfl 0 rfl (ix1  (⟨l.val - 0, by omega⟩ : Fin 64)) ?_ ?_).trans ?_
    · intro y hy; fin_cases y <;> first | rfl | exact absurd rfl hy
    · show 0 + (l.val - 0) = l.val; omega
    · refine (extractStridedSlice_apply _ _ _ _ (ix1 (⟨0 + (l.val - 0), by omega⟩ : Fin 96)) fun y => ?_).trans ((hg _).trans ?_)
      · fin_cases y; rfl
      · rw [if_pos h0]; exact congrArg F (by simp only; omega)
  by_cases h1 : l.val < 80
  · refine (concatenate_apply_piece (t := S96) 0 _ _ _ 1 (by show _ < 3; omega) S16 _ rfl rfl 64 rfl (ix1  (⟨l.val - 64, by omega⟩ : Fin 16)) ?_ ?_).trans ?_
    · intro y hy; fin_cases y <;> first | rfl | exact absurd rfl hy
    · show 64 + (l.val - 64) = l.val; omega
    · refine (extractStridedSlice_apply _ _ _ _ (ix1 (⟨80 + (l.val - 64), by omega⟩ : Fin 96)) fun y => ?_).trans ((hg _).trans ?_)
      · fin_cases y; rfl
      · rw [if_neg h0, if_pos h1]; exact congrArg F (by simp only; omega)
  refine (concatenate_apply_piece (t := S96) 0 _ _ _ 2 (by show _ < 3; omega) S16 _ rfl rfl 80 rfl (ix1  (⟨l.val - 80, by omega⟩ : Fin 16)) ?_ ?_).trans ?_
  · intro y hy; fin_cases y <;> first | rfl | exact absurd rfl hy
  · show 80 + (l.val - 80) = l.val; omega
  · refine (extractStridedSlice_apply _ _ _ _ (ix1 (⟨64 + (l.val - 80), by omega⟩ : Fin 96)) fun y => ?_).trans ((hg _).trans ?_)
    · fin_cases y; rfl
    · rw [if_neg h0, if_neg h1]; exact congrArg F (by simp only; omega)

theorem sinArr_apply (g : FVec Ideal S1x96 .f32) (f : BitVec 32) (s : Fin 2048) (l : Fin 96) :
    (sinArr g f (ix2 s l) : EReal) = stab (snE s) l.val * gE g (pt l.val) * Ideal.ofBits .f32 f := by
  unfold sinArr
  refine congrArg₂ (fun p q : EReal => p * q) (congrArg₂ (fun p q : EReal => p * q) (sin_part s l) ((gain_apply _ s l).trans ?_)) rfl
  exact pgain_part _ (gE g) (g96_apply g) l

/-- The tables in the lanes' order. -/
theorem lay_cos (g : FVec Ideal S1x96 .f32) (f : BitVec 32) (s : Fin 2048) (l : Fin 128) :
    (layArr (cosArr g f) (ix2 s l) : EReal) = lane (fun d => ctab (csE s) d * gE g d * Ideal.ofBits .f32 f) l.val :=
  lay_apply _ s (fun d => ctab (csE s) d * gE g d * Ideal.ofBits .f32 f) (cosArr_apply g f s) l
theorem lay_sin (g : FVec Ideal S1x96 .f32) (f : BitVec 32) (s : Fin 2048) (l : Fin 128) :
    (layArr (sinArr g f) (ix2 s l) : EReal) = lane (fun d => stab (snE s) d * gE g (pt d) * Ideal.ofBits .f32 f) l.val :=
  lay_apply _ s (fun d => stab (snE s) d * gE g (pt d) * Ideal.ofBits .f32 f) (sinArr_apply g f s) l

end Cert.Proj

end
-- ==== Proof.Proj.Block.lean ====
/-
  One grid point of the third call: from the blocks it reads, each entry it stores is the layer's.
-/
module

public import proofs.«01_k».proof.Proof.Proj.Trig

@[expose] public section

set_option maxRecDepth 16384

noncomputable section

namespace Cert.Proj

open Idealize.ShloMosaic Idealize.ShloMosaic.TcCoe Idealize.ShloMosaic.ValueIdx
open Cert.Kernel3Ideal Cert.Kernel3Ideal.Gen

/-- A load of a whole block is the block. -/
theorem ld_0 (x : Vec Ideal S512x1024 .f32) : View.ld x r0_0 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_1 (x : Vec Ideal S1x1024 .f32) : View.ld x r0_1 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_2 (x : Vec Ideal S1024x896 .bf16) : View.ld x r0_2 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_3 (x : Vec Ideal S1x512 .f32) : View.ld x r0_3 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_4 (x : Vec Ideal S1x256 .f32) : View.ld x r0_4 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_5 (x : Vec Ideal S512x128 .f32) : View.ld x r0_5 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_14 (x : Vec Ideal S2048x512 .bf16) : View.ld x r0_14 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega
theorem ld_32 (x : Vec Ideal S128x512 .f32) : View.ld x r0_32 = x := by
  funext i; refine congrArg x (funext fun a => Fin.ext ?_)
  fin_cases a
  · show 0 + 1 * (i (0 : Fin 2)).val = (i (0 : Fin 2)).val; omega
  · show 0 + 1 * (i (1 : Fin 2)).val = (i (1 : Fin 2)).val; omega

/-- A head's block of the stored queries is the head's, -/
theorem qs_after (q : FVec Ideal S2048x512 .f32) (c s : Vec Ideal S128x512 .f32) (p : ℕ) (hp : p < 16) (l : Fin 128) (r : Fin 512) (y : Fin 2048) (hy : y.val = ho p + l.val) :
    ∀ d, p + 1 + d ≤ 16 → View.canon (qs q c s (p + 1 + d)) (ix2 y r) = qhead p q c s (ix2 l r)
  | 0, _ => by
    have he : (ix2 y r : S2048x512.Idx) = (qRect p).emb (ix2 l r) := by
      funext x; apply Fin.ext; fin_cases x
      · show y.val = ho p + 1 * l.val; omega
      · show r.val = 0 + 1 * r.val; omega
    refine (congrArg (View.canon _) he).trans ?_
    exact View.canon_cons_emb _ _ _ _
  | d + 1, hd => by
    refine Eq.trans ?_ (qs_after q c s p hp l r y hy d (by omega))
    have hl := l.isLt
    refine View.canon_cons_of_not_mem _ _ ?_
    intro hm
    obtain ⟨z, hz, he⟩ := (LoadRect.mem_set _).mp hm (0 : Fin 2)
    have hz' : z < 128 := hz
    have he' : y.val = ho (p + 1 + d) + 1 * z := he
    unfold ho at he' hy
    omega
theorem qs_all (q : FVec Ideal S2048x512 .f32) (c s : Vec Ideal S128x512 .f32) (p : ℕ) (hp : p < 16) (l : Fin 128) (r : Fin 512) (y : Fin 2048) (hy : y.val = ho p + l.val) :
    View.canon (qs q c s 16) (ix2 y r) = qhead p q c s (ix2 l r) := by
  have e : 16 = p + 1 + (15 - p) := by omega
  rw [e]
  exact qs_after q c s p hp l r y hy _ (by omega)

/-- and of the stored keys. -/
theorem ks_after (pr : FVec Ideal S512x128 .f32) (ps : FVec Ideal S512x1 .f32) (k : ℕ → FVec Ideal S512x256 .f32) (c : Vec Ideal S512x128 .f32)
    (p : ℕ) (hp : p < 16) (l : Fin 128) (r : Fin 512) (y : Fin 2048) (hy : y.val = ho p + l.val) :
    ∀ d, p + 1 + d ≤ 16 → View.canon (ks pr ps k c (p + 1 + d)) (ix2 r y) = khead p pr ps (k p) c (ix2 r l)
  | 0, _ => by
    have he : (ix2 r y : S512x2048.Idx) = (kRect p).emb (ix2 r l) := by
      funext x; apply Fin.ext; fin_cases x
      · show r.val = 0 + 1 * r.val; omega
      · show y.val = ho p + 1 * l.val; omega
    refine (congrArg (View.canon _) he).trans ?_
    exact View.canon_cons_emb _ _ _ _
  | d + 1, hd => by
    refine Eq.trans ?_ (ks_after pr ps k c p hp l r y hy d (by omega))
    have hl := l.isLt
    refine View.canon_cons_of_not_mem _ _ ?_
    intro hm
    obtain ⟨z, hz, he⟩ := (LoadRect.mem_set _).mp hm (1 : Fin 2)
    have hz' : z < 128 := hz
    have he' : y.val = ho (p + 1 + d) + 1 * z := he
    unfold ho at he' hy
    omega
theorem ks_all (pr : FVec Ideal S512x128 .f32) (ps : FVec Ideal S512x1 .f32) (k : ℕ → FVec Ideal S512x256 .f32) (c : Vec Ideal S512x128 .f32)
    (p : ℕ) (hp : p < 16) (l : Fin 128) (r : Fin 512) (y : Fin 2048) (hy : y.val = ho p + l.val) :
    View.canon (ks pr ps k c 16) (ix2 r y) = khead p pr ps (k p) c (ix2 r l) := by
  have e : 16 = p + 1 + (15 - p) := by omega
  rw [e]
  exact ks_after pr ps k c p hp l r y hy _ (by omega)

section
variable (x0 : Vec Ideal S512x1024 .f32) (x1 : Vec Ideal S1x1024 .f32) (x2 : Vec Ideal S1024x896 .bf16) (x3 : Vec Ideal S1x512 .f32) (x4 : Vec Ideal S1x256 .f32)
  (x5 : Vec Ideal S2048x512 .bf16) (x6 : Vec Ideal S256x3072 .bf16) (x7 x8 : Vec Ideal S128x512 .f32) (x9 x10 : Vec Ideal S512x128 .f32)
variable (x : FVec Ideal S32768x1024 .f32) (nr : FVec Ideal S2x1024 .f32) (win : FVec Ideal S1x1024x800 .f32) (qa : FVec Ideal S1x512 .f32)
  (wuq : FVec Ideal S1x512x1536 .f32) (kva : FVec Ideal S1x256 .f32) (wukv : FVec Ideal S1x256x2048 .f32) (qn kn : FVec Ideal S1x96 .f32)

/-- What a row of a grid point's blocks holds: row `T` of the array, position `s`. -/
structure Reads (r : Fin 512) (T : Fin 32768) (s : Fin 2048) : Prop where
  h0 : ∀ k : Fin 1024, (x0 (ix2 r k) : EReal) = x (ix2 T k)
  h1 : ∀ k : Fin 1024, (x1 (ix2 (0 : Fin 1) k) : EReal) = nr (ix2 (1 : Fin 2) k)
  h2 : ∀ (k : Fin 1024) (j : Fin 896), (x2 (ix2 k j) : EReal) = winArr win (ix2 k j)
  h3 : ∀ k : Fin 512, (x3 (ix2 (0 : Fin 1) k) : EReal) = qa (ix2 (0 : Fin 1) k)
  h4 : ∀ k : Fin 256, (x4 (ix2 (0 : Fin 1) k) : EReal) = kva (ix2 (0 : Fin 1) k)
  h5 : ∀ (n : Fin 2048) (k : Fin 512), (x5 (ix2 n k) : EReal) = wuqArr wuq (ix2 n k)
  h6 : ∀ (k : Fin 256) (j : Fin 3072), (x6 (ix2 k j) : EReal) = wukvArr wukv (ix2 k j)
  h7 : ∀ l : Fin 128, (x7 (ix2 l r) : EReal) = layArr (cosArr qn 0x3E16C740#32) (ix2 s l)
  h8 : ∀ l : Fin 128, (x8 (ix2 l r) : EReal) = layArr (sinArr qn 0x3E16C740#32) (ix2 s l)
  h9 : ∀ l : Fin 128, (x9 (ix2 r l) : EReal) = layArr (cosArr kn 0x3F800000#32) (ix2 s l)
  h10 : ∀ l : Fin 128, (x10 (ix2 r l) : EReal) = layArr (sinArr kn 0x3F800000#32) (ix2 s l)

variable {r : Fin 512} {T : Fin 32768} {s : Fin 2048} (R : Reads x0 x1 x2 x3 x4 x5 x6 x7 x8 x9 x10 x nr win qa wuq kva wukv qn kn r T s)

include R

theorem c_spec (j : Fin 896) : (k0_pay2 (F := Ideal) x0 x1 x2 (ix2 r j) : EReal)
    = if j.val < 768 then C x nr win T j.val else lane (shared fun d => C x nr win T (768 + (d - 64))) (j.val - 768) := by
  have hn : ∀ k : Fin 1024, nrm (fun i => (x0 (ix2 r i) : EReal)) (1 / 1024) (x1 (ix2 (0 : Fin 1) k)) k = NR x nr T k := fun k => by
    unfold NR
    rw [R.h1 k]
    exact congrArg (fun f => nrm f (1 / 1024) (nr (ix2 (1 : Fin 2) k)) k) (funext R.h0)
  refine (pay2_apply x0 x1 x2 r j).trans ?_
  have e : ∀ k : Fin 1024, nrm (fun i => (x0 (ix2 r i) : EReal)) (1 / 1024) (x1 (ix2 (0 : Fin 1) k)) k * (x2 (ix2 k j) : EReal)
      = NR x nr T k * (if j.val < 768 then winE win k j.val else lane (shared fun d => winE win k (768 + (d - 64))) (j.val - 768)) := fun k => by
    rw [hn k, R.h2 k j, win_apply win k j]
  rw [Finset.sum_congr rfl fun k _ => e k]
  by_cases h : j.val < 768
  · simp only [if_pos h]; rfl
  · simp only [if_neg h]
    rw [sum_lane, sum_shared]
    rfl

theorem cq_spec (k : Fin 512) : (cqAt (F := Ideal) x0 x1 x2 x3 (ix2 r k) : EReal) = CQ x nr win qa T k := by
  unfold cqAt CQ
  rw [ld_0, ld_1, ld_2, ld_3]
  refine (pay3_apply x0 x1 x2 x3 r k).trans ?_
  rw [R.h3 k]
  refine congrArg (fun f => nrm f (1 / 512) (qa (ix2 (0 : Fin 1) k)) k) (funext fun i => ?_)
  have hi := i.isLt
  refine (c_spec _ _ _ _ _ _ _ _ _ _ _ _ _ _ _ _ _ _ _ _ R _).trans ?_
  rw [if_pos (by simp only; omega)]

theorem ckv_spec (k : Fin 256) : (ckvAt (F := Ideal) x0 x1 x2 x4 (ix2 r k) : EReal) = CKV x nr win kva T k := by
  unfold ckvAt CKV
  rw [ld_0, ld_1, ld_2, ld_4]
  refine (pay7_apply x0 x1 x2 x4 r k).trans ?_
  rw [R.h4 k]
  refine congrArg (fun f => nrm f (1 / 256) (kva (ix2 (0 : Fin 1) k)) k) (funext fun i => ?_)
  have hi := i.isLt
  refine (c_spec _ _ _ _ _ _ _ _ _ _ _ _ _ _ _ _ _ _ _ _ R _).trans ?_
  rw [if_pos (by simp only; omega)]

theorem q_spec (n : Fin 2048) (h : Fin 16) (l : Fin 128) (hn : n.val = 128 * h.val + l.val) :
    (qAt (F := Ideal) x0 x1 x2 x3 x5 (ix2 n r) : EReal) = lane (QF x nr win qa wuq T h.val) l.val := by
  unfold qAt
  rw [ld_14]
  refine (pay20_apply _ _ n r).trans ?_
  have e : ∀ k : Fin 512, (x5 (ix2 n k) : EReal) * (cqAt (F := Ideal) x0 x1 x2 x3 (ix2 r k) : EReal)
      = CQ x nr win qa T k * lane (fun d => wuqE wuq k (96 * h.val + d)) l.val := fun k => by
    rw [R.h5 n k, cq_spec _ _ _ _ _ _ _ _ _ _ _ _ _ _ _ _ _ _ _ _ R k, wuq_apply wuq n k h l hn, mul_comm]
  rw [Finset.sum_congr rfl fun k _ => e k, sum_lane]
  rfl

/-- **The values.** -/
theorem v_spec (h : Fin 16) (e : Fin 64) (y : Fin 1024) (hy : y.val = 64 * h.val + e.val) :
    (out0_13 (F := Ideal) x0 x1 x2 x3 x4 x5 x6 x7 x8 x9 x10 (ix2 r y) : EReal) = KV x nr win kva wukv T (128 * h.val + (64 + e.val)) := by
  have hy' := y.isLt
  rw [out_v]
  have he : (ix2 r y : S512x1024.Idx) = r0_0.emb (ix2 r y) := by
    funext z; apply Fin.ext; fin_cases z
    · show r.val = 0 + 1 * r.val; omega
    · show y.val = 0 + 1 * y.val; omega
  refine (congrArg (View.canon _) he).trans ((View.canon_cons_emb _ _ _ _).trans ?_)
  refine (pay21_apply _ _ r y).trans ?_
  unfold KV
  refine Finset.sum_congr rfl fun k _ => congrArg₂ (fun p q : EReal => p * q) (ckv_spec _ _ _ _ _ _ _ _ _ _ _ _ _ _ _ _ _ _ _ _ R k) ?_
  have hb : 2048 + y.val < 3072 := by omega
  have hl : (View.ld x6 r0_15 (ix2 k y) : EReal) = x6 (ix2 k (⟨2048 + y.val, hb⟩ : Fin 3072)) := by
    refine congrArg x6 (funext fun a => Fin.ext ?_)
    fin_cases a
    · show 0 + 1 * k.val = k.val; omega
    · show 2048 + 1 * y.val = 2048 + y.val; omega
  exact hl.trans ((R.h6 k _).trans (wukv_v wukv k _ h e (by simp only; omega)))

/-- **The queries.** -/
theorem qout_spec (h : Fin 16) (l : Fin 128) (y : Fin 2048) (hy : y.val = 128 * h.val + l.val) :
    (out0_11 (F := Ideal) x0 x1 x2 x3 x4 x5 x6 x7 x8 x9 x10 (ix2 y r) : EReal)
      = lane (fun d => rot (QF x nr win qa wuq T h.val) (gE qn) (csE s) (snE s) d * Ideal.ofBits .f32 0x3E16C740#32) l.val := by
  have hh := h.isLt
  have hho : ho h.val = 128 * h.val := by unfold ho; omega
  have hK : Ideal.ofBits .f32 0x3E16C740#32 = ((9881408 / 2 ^ 26 : ℝ) : EReal) := by
    simp [Ideal.ofBits, Ideal.ieee, -EReal.coe_mul]; norm_num
  rw [out_q, ld_32, ld_32]
  refine (qs_all _ _ _ h.val hh l r y (by omega)).trans ?_
  refine (qhead_apply h.val _ _ _ r (lane (QF x nr win qa wuq T h.val)) (fun n h1 h2 => ?_) l).trans ?_
  · exact q_spec _ _ _ _ _ _ _ _ _ _ _ _ _ _ _ _ _ _ _ _ R n h (⟨n.val - ho h.val, by omega⟩ : Fin 128) (by simp only; omega)
  · rw [R.h7 l, R.h8 l, lay_cos, lay_sin, lane_sq]
    exact lane_q _ _ _ _ _ (by rw [hK]; exact_mod_cast (by norm_num : (0 : ℝ) ≤ 9881408 / 2 ^ 26)) (by rw [hK]; exact EReal.coe_ne_top _) _

/-- **The keys.** -/
theorem kout_spec (h : Fin 16) (l : Fin 128) (y : Fin 2048) (hy : y.val = 128 * h.val + l.val) :
    (out0_12 (F := Ideal) x0 x1 x2 x3 x4 x5 x6 x7 x8 x9 x10 (ix2 r y) : EReal)
      = lane (rot (KF x nr win kva wukv T h.val) (gE kn) (csE s) (snE s)) l.val := by
  have hh := h.isLt
  have hho : ho h.val = 128 * h.val := by unfold ho; omega
  have hP : ∀ j : Fin 896, 768 ≤ j.val → (cAt (F := Ideal) x0 x1 x2 (ix2 r j) : EReal) = lane (shared (KF x nr win kva wukv T h.val)) (j.val - 768) := fun j hj => by
    unfold cAt
    rw [ld_0, ld_1, ld_2]
    refine (c_spec _ _ _ _ _ _ _ _ _ _ _ _ _ _ _ _ _ _ _ _ R j).trans ?_
    rw [if_neg (by omega)]
    refine congrArg (fun f => lane f (j.val - 768)) (funext fun d => ?_)
    unfold shared KF
    by_cases hd : d < 64
    · rw [if_pos hd, if_pos hd]
    · rw [if_neg hd, if_neg hd, if_neg hd]
  have hX : ∀ j : Fin 256, pp h.val ≤ j.val → j.val < pp h.val + 128 → (kAt (F := Ideal) x0 x1 x2 x4 x6 h.val (ix2 r j) : EReal)
      = lane (own (KF x nr win kva wukv T h.val)) (j.val - pp h.val) := fun j h1 h2 => by
    have hj := j.isLt
    have hb : po h.val + j.val < 3072 := by unfold po; omega
    have hl : ∀ k : Fin 256, (View.ld x6 (wRect h.val) (ix2 k j) : EReal) = x6 (ix2 k (⟨po h.val + j.val, hb⟩ : Fin 3072)) := fun k => by
      refine congrArg x6 (funext fun a => Fin.ext ?_)
      fin_cases a
      · show 0 + 1 * k.val = k.val; omega
      · show po h.val + 1 * j.val = po h.val + j.val; omega
    refine (kAt_apply x0 x1 x2 x4 x6 h.val r j).trans ?_
    have e : ∀ k : Fin 256, (ckvAt (F := Ideal) x0 x1 x2 x4 (ix2 r k) : EReal) * (View.ld x6 (wRect h.val) (ix2 k j) : EReal)
        = CKV x nr win kva T k * lane (own fun d => wukvE wukv k (128 * h.val + d)) (j.val - pp h.val) := fun k => by
      rw [ckv_spec _ _ _ _ _ _ _ _ _ _ _ _ _ _ _ _ _ _ _ _ R k, hl k, R.h6 k _,
        wukv_k wukv k _ h (⟨j.val - pp h.val, by omega⟩ : Fin 128) (by simp only; unfold po pp at *; omega)]
    rw [Finset.sum_congr rfl fun k _ => e k, sum_lane, sum_own]
    refine congrArg (fun f => lane f (j.val - pp h.val)) (funext fun d => ?_)
    unfold own KF
    by_cases hd : d < 64
    · rw [if_pos hd, if_pos hd, if_pos hd]; rfl
    · rw [if_neg hd, if_neg hd]
  rw [out_k, ld_5, ld_5]
  refine (ks_all _ _ _ _ h.val hh l r y (by omega)).trans ?_
  refine (khead_apply h.val _ _ _ _ r (lane (own (KF x nr win kva wukv T h.val))) hX l).trans ?_
  rw [pay9_apply _ _ _ r _ hP l, pay10_apply _ r _ hP, R.h9 l, R.h10 l, lay_cos, lay_sin, lane_sq, lane_sq]
  refine (lane_k _ _ _ _ _ (by rw [bits_one]; exact zero_le_one) (by rw [bits_one]; exact EReal.coe_ne_top 1) _).trans ?_
  refine congrArg (fun f => lane f l.val) (funext fun d => ?_)
  rw [bits_one, mul_one]

end

end Cert.Proj

end
-- ==== Proof.Proj.Tables.lean ====
/-
  The rotation's tables as the third call finds them.
-/
module

public import proofs.«01_k».proof.Proof.Proj.Arrays

@[expose] public section

set_option maxRecDepth 16384

noncomputable section

namespace Cert.Proj

open Idealize.ShloMosaic Idealize.ShloMosaic.TcCoe
open Cert.Kernel3Ideal Cert.Kernel3Ideal.Gen Cert.Kernel3Ideal.Value

variable (m : (ℓ : Loc nD τ sig) → Buf (Elt Ideal) ℓ) (c : Dev nD)

set_option maxHeartbeats 4000000

theorem V_ck : V m c main_v130 = layArr (cosArr (aKn m c) 0x3F800000#32) := by
  show StableHlo.after hostOps0 _ (Proc.devRef .tc main_v130) = _
  after_results <;> rfl
theorem V_sk : V m c main_v141 = layArr (sinArr (aKn m c) 0x3F800000#32) := by
  show StableHlo.after hostOps0 _ (Proc.devRef .tc main_v141) = _
  after_results <;> rfl
theorem V_cq : V m c main_v149 = transpose S128x2048 [1, 0] (layArr (cosArr (aQn m c) 0x3E16C740#32)) transposes_S2048x128_S128x2048_1_0 := by
  show StableHlo.after hostOps0 _ (Proc.devRef .tc main_v149) = _
  after_results <;> rfl
theorem V_sq : V m c main_v150 = transpose S128x2048 [1, 0] (layArr (sinArr (aQn m c) 0x3E16C740#32)) transposes_S2048x128_S128x2048_1_0 := by
  show StableHlo.after hostOps0 _ (Proc.devRef .tc main_v150) = _
  after_results <;> rfl

end Cert.Proj

end
-- ==== Proof.Proj.Host.lean ====
/-
  The blocks a grid point of the third call reads: point `t` has rows `512 t` to `512 t + 511` of the stream, the whole of each
  weight, and the tables at the same positions of its sequence; and where its three results lie.
-/
module

public import proofs.«01_k».proof.Proof.Proj.Block
public import proofs.«01_k».proof.Proof.Proj.Tables

@[expose] public section

set_option maxRecDepth 16384

noncomputable section

namespace Cert.Proj

open Idealize.ShloMosaic Idealize.ShloMosaic.TcCoe Idealize.ShloMosaic.ValueIdx
open Cert.Kernel3Ideal Cert.Kernel3Ideal.Gen Cert.Kernel3Ideal.Value

/-- The block index of each window at a grid point. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = t.val % 4 := (by decide +kernel : ∀ t : Fin grid0.N, _)
theorem index8 : ∀ t : Fin cfg0.N, win0_8.index t (0 : Fin 2) = 0 ∧ win0_8.index t (1 : Fin 2) = t.val % 4 := (by decide +kernel : ∀ t : Fin grid0.N, _)
theorem index9 : ∀ t : Fin cfg0.N, win0_9.index t (0 : Fin 2) = t.val % 4 ∧ win0_9.index t (1 : Fin 2) = 0 := (by decide +kernel : ∀ t : Fin grid0.N, _)
theorem index10 : ∀ t : Fin cfg0.N, win0_10.index t (0 : Fin 2) = t.val % 4 ∧ win0_10.index t (1 : Fin 2) = 0 := (by decide +kernel : ∀ t : Fin grid0.N, _)
theorem index11 : ∀ t : Fin cfg0.N, win0_11.index t (0 : Fin 2) = 0 ∧ win0_11.index t (1 : Fin 2) = t.val := (by decide +kernel : ∀ t : Fin grid0.N, _)
theorem index12 : ∀ t : Fin cfg0.N, win0_12.index t (0 : Fin 2) = t.val ∧ win0_12.index t (1 : Fin 2) = 0 := (by decide +kernel : ∀ t : Fin grid0.N, _)
theorem index13 : ∀ t : Fin cfg0.N, win0_13.index t (0 : Fin 2) = t.val ∧ win0_13.index t (1 : Fin 2) = 0 := (by decide +kernel : ∀ t : Fin grid0.N, _)

section
variable (t : Fin cfg0.N)

theorem emb0 (p : Fin 512) (q : Fin 1024) (T : Fin 32768) (hT : T.val = 512 * (t.val) + p.val) : ((cfg0.win 0).blk t).view.emb (ix2 p q) = ix2 T q := by
  obtain ⟨e0, e1⟩ := index0 t
  funext a; apply Fin.ext
  match a with
  | ⟨0, _⟩ => show win0_0.index t (0 : Fin 2) * 512 + 1 * p.val = T.val; omega
  | ⟨1, _⟩ => show win0_0.index t (1 : Fin 2) * 1024 + 1 * q.val = q.val; omega
theorem emb1 (q : Fin 1024) : ((cfg0.win 1).blk t).view.emb (ix2 (0 : Fin 1) q) = ix2 (0 : Fin 1) q := by
  obtain ⟨e0, e1⟩ := index1 t
  funext a; apply Fin.ext
  match a with
  | ⟨0, _⟩ => show win0_1.index t (0 : Fin 2) * 1 + 1 * 0 = 0; omega
  | ⟨1, _⟩ => show win0_1.index t (1 : Fin 2) * 1024 + 1 * q.val = q.val; omega
theorem emb2 (p : Fin 1024) (q : Fin 896) : ((cfg0.win 2).blk t).view.emb (ix2 p q) = ix2 p q := by
  obtain ⟨e0, e1⟩ := index2 t
  funext a; apply Fin.ext
  match a with
  | ⟨0, _⟩ => show win0_2.index t (0 : Fin 2) * 1024 + 1 * p.val = p.val; omega
  | ⟨1, _⟩ => show win0_2.index t (1 : Fin 2) * 896 + 1 * q.val = q.val; omega
theorem emb3 (q : Fin 512) : ((cfg0.win 3).blk t).view.emb (ix2 (0 : Fin 1) q) = ix2 (0 : Fin 1) q := by
  obtain ⟨e0, e1⟩ := index3 t
  funext a; apply Fin.ext
  match a with
  | ⟨0, _⟩ => show win0_3.index t (0 : Fin 2) * 1 + 1 * 0 = 0; omega
  | ⟨1, _⟩ => show win0_3.index t (1 : Fin 2) * 512 + 1 * q.val = q.val; omega
theorem emb4 (q : Fin 256) : ((cfg0.win 4).blk t).view.emb (ix2 (0 : Fin 1) q) = ix2 (0 : Fin 1) q := by
  obtain ⟨e0, e1⟩ := index4 t
  funext a; apply Fin.ext
  match a with
  | ⟨0, _⟩ => show win0_4.index t (0 : Fin 2) * 1 + 1 * 0 = 0; omega
  | ⟨1, _⟩ => show win0_4.index t (1 : Fin 2) * 256 + 1 * q.val = q.val; omega
theorem emb5 (p : Fin 2048) (q : Fin 512) : ((cfg0.win 5).blk t).view.emb (ix2 p q) = ix2 p q := by
  obtain ⟨e0, e1⟩ := index5 t
  funext a; apply Fin.ext
  match a with
  | ⟨0, _⟩ => show win0_5.index t (0 : Fin 2) * 2048 + 1 * p.val = p.val; omega
  | ⟨1, _⟩ => show win0_5.index t (1 : Fin 2) * 512 + 1 * q.val = q.val; omega
theorem emb6 (p : Fin 256) (q : Fin 3072) : ((cfg0.win 6).blk t).view.emb (ix2 p q) = ix2 p q := by
  obtain ⟨e0, e1⟩ := index6 t
  funext a; apply Fin.ext
  match a with
  | ⟨0, _⟩ => show win0_6.index t (0 : Fin 2) * 256 + 1 * p.val = p.val; omega
  | ⟨1, _⟩ => show win0_6.index t (1 : Fin 2) * 3072 + 1 * q.val = q.val; omega
theorem emb7 (p : Fin 128) (q : Fin 512) (T : Fin 2048) (hT : T.val = 512 * (t.val % 4) + q.val) : ((cfg0.win 7).blk t).view.emb (ix2 p q) = ix2 p T := by
  obtain ⟨e0, e1⟩ := index7 t
  funext a; apply Fin.ext
  match a with
  | ⟨0, _⟩ => show win0_7.index t (0 : Fin 2) * 128 + 1 * p.val = p.val; omega
  | ⟨1, _⟩ => show win0_7.index t (1 : Fin 2) * 512 + 1 * q.val = T.val; omega
theorem emb8 (p : Fin 128) (q : Fin 512) (T : Fin 2048) (hT : T.val = 512 * (t.val % 4) + q.val) : ((cfg0.win 8).blk t).view.emb (ix2 p q) = ix2 p T := by
  obtain ⟨e0, e1⟩ := index8 t
  funext a; apply Fin.ext
  match a with
  | ⟨0, _⟩ => show win0_8.index t (0 : Fin 2) * 128 + 1 * p.val = p.val; omega
  | ⟨1, _⟩ => show win0_8.index t (1 : Fin 2) * 512 + 1 * q.val = T.val; omega
theorem emb9 (p : Fin 512) (q : Fin 128) (T : Fin 2048) (hT : T.val = 512 * (t.val % 4) + p.val) : ((cfg0.win 9).blk t).view.emb (ix2 p q) = ix2 T q := by
  obtain ⟨e0, e1⟩ := index9 t
  funext a; apply Fin.ext
  match a with
  | ⟨0, _⟩ => show win0_9.index t (0 : Fin 2) * 512 + 1 * p.val = T.val; omega
  | ⟨1, _⟩ => show win0_9.index t (1 : Fin 2) * 128 + 1 * q.val = q.val; omega
theorem emb10 (p : Fin 512) (q : Fin 128) (T : Fin 2048) (hT : T.val = 512 * (t.val % 4) + p.val) : ((cfg0.win 10).blk t).view.emb (ix2 p q) = ix2 T q := by
  obtain ⟨e0, e1⟩ := index10 t
  funext a; apply Fin.ext
  match a with
  | ⟨0, _⟩ => show win0_10.index t (0 : Fin 2) * 512 + 1 * p.val = T.val; omega
  | ⟨1, _⟩ => show win0_10.index t (1 : Fin 2) * 128 + 1 * q.val = q.val; omega
theorem emb11 (p : Fin 2048) (q : Fin 512) (T : Fin 32768) (hT : T.val = 512 * (t.val) + q.val) : ((cfg0.win 11).blk t).view.emb (ix2 p q) = ix2 p T := by
  obtain ⟨e0, e1⟩ := index11 t
  funext a; apply Fin.ext
  match a with
  | ⟨0, _⟩ => show win0_11.index t (0 : Fin 2) * 2048 + 1 * p.val = p.val; omega
  | ⟨1, _⟩ => show win0_11.index t (1 : Fin 2) * 512 + 1 * q.val = T.val; omega
theorem emb12 (p : Fin 512) (q : Fin 2048) (T : Fin 32768) (hT : T.val = 512 * (t.val) + p.val) : ((cfg0.win 12).blk t).view.emb (ix2 p q) = ix2 T q := by
  obtain ⟨e0, e1⟩ := index12 t
  funext a; apply Fin.ext
  match a with
  | ⟨0, _⟩ => show win0_12.index t (0 : Fin 2) * 512 + 1 * p.val = T.val; omega
  | ⟨1, _⟩ => show win0_12.index t (1 : Fin 2) * 2048 + 1 * q.val = q.val; omega
theorem emb13 (p : Fin 512) (q : Fin 1024) (T : Fin 32768) (hT : T.val = 512 * (t.val) + p.val) : ((cfg0.win 13).blk t).view.emb (ix2 p q) = ix2 T q := by
  obtain ⟨e0, e1⟩ := index13 t
  funext a; apply Fin.ext
  match a with
  | ⟨0, _⟩ => show win0_13.index t (0 : Fin 2) * 512 + 1 * p.val = T.val; omega
  | ⟨1, _⟩ => show win0_13.index t (1 : Fin 2) * 1024 + 1 * q.val = q.val; omega
end

variable (m : (ℓ : Loc nD τ sig) → Buf (Elt Ideal) ℓ) (c : Dev nD)

/-- Each block's entry is the array's. -/
theorem iblk0 (t : Fin cfg0.N) (p : Fin 512) (q : Fin 1024) (T : Fin 32768) (hT : T.val = 512 * (t.val) + p.val) (A : FVec Ideal S32768x1024 .f32) (hA : V m c main_v0 = A) : (iblk m c 0 t (ix2 p q) : EReal) = (A (ix2 T q) : EReal) := by
  have e : iblk m c 0 t (ix2 p q) = ((cfg0.win 0).blk t).view.read (Elt Ideal) (V m c main_v0) (ix2 p q) := rfl
  have e0 : ∀ X : FVec Ideal S32768x1024 .f32, ((cfg0.win 0).blk t).view.read (Elt Ideal) X (ix2 p q) = X (((cfg0.win 0).blk t).view.emb (ix2 p q)) := fun X => rfl
  exact e.trans ((e0 _).trans ((congrArg (V m c main_v0) (emb0 t p q T hT)).trans (congrFun hA (ix2 T q))))
theorem iblk1 (t : Fin cfg0.N) (q : Fin 1024) (A : FVec Ideal S1x1024 .f32) (hA : V m c main_v144 = A) : (iblk m c 1 t (ix2 (0 : Fin 1) q) : EReal) = (A (ix2 (0 : Fin 1) q) : EReal) := by
  have e : iblk m c 1 t (ix2 (0 : Fin 1) q) = ((cfg0.win 1).blk t).view.read (Elt Ideal) (V m c main_v144) (ix2 (0 : Fin 1) q) := rfl
  have e0 : ∀ X : FVec Ideal S1x1024 .f32, ((cfg0.win 1).blk t).view.read (Elt Ideal) X (ix2 (0 : Fin 1) q) = X (((cfg0.win 1).blk t).view.emb (ix2 (0 : Fin 1) q)) := fun X => rfl
  exact e.trans ((e0 _).trans ((congrArg (V m c main_v144) (emb1 t q)).trans (congrFun hA (ix2 (0 : Fin 1) q))))
theorem iblk2 (t : Fin cfg0.N) (p : Fin 1024) (q : Fin 896) (A : FVec Ideal S1024x896 .bf16) (hA : V m c main_v10 = A) : (iblk m c 2 t (ix2 p q) : EReal) = (A (ix2 p q) : EReal) := by
  have e : iblk m c 2 t (ix2 p q) = ((cfg0.win 2).blk t).view.read (Elt Ideal) (V m c main_v10) (ix2 p q) := rfl
  have e0 : ∀ X : FVec Ideal S1024x896 .bf16, ((cfg0.win 2).blk t).view.read (Elt Ideal) X (ix2 p q) = X (((cfg0.win 2).blk t).view.emb (ix2 p q)) := fun X => rfl
  exact e.trans ((e0 _).trans ((congrArg (V m c main_v10) (emb2 t p q)).trans (congrFun hA (ix2 p q))))
theorem iblk3 (t : Fin cfg0.N) (q : Fin 512) (A : FVec Ideal S1x512 .f32) (hA : V m c main_v146 = A) : (iblk m c 3 t (ix2 (0 : Fin 1) q) : EReal) = (A (ix2 (0 : Fin 1) q) : EReal) := by
  have e : iblk m c 3 t (ix2 (0 : Fin 1) q) = ((cfg0.win 3).blk t).view.read (Elt Ideal) (V m c main_v146) (ix2 (0 : Fin 1) q) := rfl
  have e0 : ∀ X : FVec Ideal S1x512 .f32, ((cfg0.win 3).blk t).view.read (Elt Ideal) X (ix2 (0 : Fin 1) q) = X (((cfg0.win 3).blk t).view.emb (ix2 (0 : Fin 1) q)) := fun X => rfl
  exact e.trans ((e0 _).trans ((congrArg (V m c main_v146) (emb3 t q)).trans (congrFun hA (ix2 (0 : Fin 1) q))))
theorem iblk4 (t : Fin cfg0.N) (q : Fin 256) (A : FVec Ideal S1x256 .f32) (hA : V m c main_v148 = A) : (iblk m c 4 t (ix2 (0 : Fin 1) q) : EReal) = (A (ix2 (0 : Fin 1) q) : EReal) := by
  have e : iblk m c 4 t (ix2 (0 : Fin 1) q) = ((cfg0.win 4).blk t).view.read (Elt Ideal) (V m c main_v148) (ix2 (0 : Fin 1) q) := rfl
  have e0 : ∀ X : FVec Ideal S1x256 .f32, ((cfg0.win 4).blk t).view.read (Elt Ideal) X (ix2 (0 : Fin 1) q) = X (((cfg0.win 4).blk t).view.emb (ix2 (0 : Fin 1) q)) := fun X => rfl
  exact e.trans ((e0 _).trans ((congrArg (V m c main_v148) (emb4 t q)).trans (congrFun hA (ix2 (0 : Fin 1) q))))
theorem iblk5 (t : Fin cfg0.N) (p : Fin 2048) (q : Fin 512) (A : FVec Ideal S2048x512 .bf16) (hA : V m c main_v21 = A) : (iblk m c 5 t (ix2 p q) : EReal) = (A (ix2 p q) : EReal) := by
  have e : iblk m c 5 t (ix2 p q) = ((cfg0.win 5).blk t).view.read (Elt Ideal) (V m c main_v21) (ix2 p q) := rfl
  have e0 : ∀ X : FVec Ideal S2048x512 .bf16, ((cfg0.win 5).blk t).view.read (Elt Ideal) X (ix2 p q) = X (((cfg0.win 5).blk t).view.emb (ix2 p q)) := fun X => rfl
  exact e.trans ((e0 _).trans ((congrArg (V m c main_v21) (emb5 t p q)).trans (congrFun hA (ix2 p q))))
theorem iblk6 (t : Fin cfg0.N) (p : Fin 256) (q : Fin 3072) (A : FVec Ideal S256x3072 .bf16) (hA : V m c main_v35 = A) : (iblk m c 6 t (ix2 p q) : EReal) = (A (ix2 p q) : EReal) := by
  have e : iblk m c 6 t (ix2 p q) = ((cfg0.win 6).blk t).view.read (Elt Ideal) (V m c main_v35) (ix2 p q) := rfl
  have e0 : ∀ X : FVec Ideal S256x3072 .bf16, ((cfg0.win 6).blk t).view.read (Elt Ideal) X (ix2 p q) = X (((cfg0.win 6).blk t).view.emb (ix2 p q)) := fun X => rfl
  exact e.trans ((e0 _).trans ((congrArg (V m c main_v35) (emb6 t p q)).trans (congrFun hA (ix2 p q))))
theorem iblk7 (t : Fin cfg0.N) (p : Fin 128) (q : Fin 512) (T : Fin 2048) (hT : T.val = 512 * (t.val % 4) + q.val) (A : FVec Ideal S128x2048 .f32) (hA : V m c main_v149 = A) : (iblk m c 7 t (ix2 p q) : EReal) = (A (ix2 p T) : EReal) := by
  have e : iblk m c 7 t (ix2 p q) = ((cfg0.win 7).blk t).view.read (Elt Ideal) (V m c main_v149) (ix2 p q) := rfl
  have e0 : ∀ X : FVec Ideal S128x2048 .f32, ((cfg0.win 7).blk t).view.read (Elt Ideal) X (ix2 p q) = X (((cfg0.win 7).blk t).view.emb (ix2 p q)) := fun X => rfl
  exact e.trans ((e0 _).trans ((congrArg (V m c main_v149) (emb7 t p q T hT)).trans (congrFun hA (ix2 p T))))
theorem iblk8 (t : Fin cfg0.N) (p : Fin 128) (q : Fin 512) (T : Fin 2048) (hT : T.val = 512 * (t.val % 4) + q.val) (A : FVec Ideal S128x2048 .f32) (hA : V m c main_v150 = A) : (iblk m c 8 t (ix2 p q) : EReal) = (A (ix2 p T) : EReal) := by
  have e : iblk m c 8 t (ix2 p q) = ((cfg0.win 8).blk t).view.read (Elt Ideal) (V m c main_v150) (ix2 p q) := rfl
  have e0 : ∀ X : FVec Ideal S128x2048 .f32, ((cfg0.win 8).blk t).view.read (Elt Ideal) X (ix2 p q) = X (((cfg0.win 8).blk t).view.emb (ix2 p q)) := fun X => rfl
  exact e.trans ((e0 _).trans ((congrArg (V m c main_v150) (emb8 t p q T hT)).trans (congrFun hA (ix2 p T))))
theorem iblk9 (t : Fin cfg0.N) (p : Fin 512) (q : Fin 128) (T : Fin 2048) (hT : T.val = 512 * (t.val % 4) + p.val) (A : FVec Ideal S2048x128 .f32) (hA : V m c main_v130 = A) : (iblk m c 9 t (ix2 p q) : EReal) = (A (ix2 T q) : EReal) := by
  have e : iblk m c 9 t (ix2 p q) = ((cfg0.win 9).blk t).view.read (Elt Ideal) (V m c main_v130) (ix2 p q) := rfl
  have e0 : ∀ X : FVec Ideal S2048x128 .f32, ((cfg0.win 9).blk t).view.read (Elt Ideal) X (ix2 p q) = X (((cfg0.win 9).blk t).view.emb (ix2 p q)) := fun X => rfl
  exact e.trans ((e0 _).trans ((congrArg (V m c main_v130) (emb9 t p q T hT)).trans (congrFun hA (ix2 T q))))
theorem iblk10 (t : Fin cfg0.N) (p : Fin 512) (q : Fin 128) (T : Fin 2048) (hT : T.val = 512 * (t.val % 4) + p.val) (A : FVec Ideal S2048x128 .f32) (hA : V m c main_v141 = A) : (iblk m c 10 t (ix2 p q) : EReal) = (A (ix2 T q) : EReal) := by
  have e : iblk m c 10 t (ix2 p q) = ((cfg0.win 10).blk t).view.read (Elt Ideal) (V m c main_v141) (ix2 p q) := rfl
  have e0 : ∀ X : FVec Ideal S2048x128 .f32, ((cfg0.win 10).blk t).view.read (Elt Ideal) X (ix2 p q) = X (((cfg0.win 10).blk t).view.emb (ix2 p q)) := fun X => rfl
  exact e.trans ((e0 _).trans ((congrArg (V m c main_v141) (emb10 t p q T hT)).trans (congrFun hA (ix2 T q))))

/-- A gain's row, flattened and back. -/
theorem gain_n (g : FVec Ideal S2x1024 .f32) (k : Fin 1024) :
    (shapeCast S1x1024 (shapeCast S1024 (extractStridedSlice S1x1024 ![1, 0] g slices_S2x1024_S1x1024_1_0 : FVec Ideal S1x1024 .f32) shapeCasts_S1x1024_S1024 : FVec Ideal S1024 .f32) shapeCasts_S1024_S1x1024 (ix2 (0 : Fin 1) k) : EReal)
      = g (ix2 (1 : Fin 2) k) := by
  refine (shapeCast_apply _ _ _ (ix1 k) ?_).trans ((shapeCast_apply _ _ _ (ix2 (0 : Fin 1) k) ?_).trans ?_)
  · rw [Shape.rowMajor_val_one, Shape.rowMajor_val_two]; show k.val = 0 * 1024 + k.val; omega
  · rw [Shape.rowMajor_val_one, Shape.rowMajor_val_two]; show 0 * 1024 + k.val = k.val; omega
  · exact extractStridedSlice_apply ![1, 0] g slices_S2x1024_S1x1024_1_0 (ix2 (0 : Fin 1) k) (ix2 (1 : Fin 2) k) (fun a => match a with
      | ⟨0, _⟩ => by show 1 = 1 + 0; rfl
      | ⟨1, _⟩ => by show k.val = 0 + k.val; omega)
theorem gain_q (g : FVec Ideal S1x512 .f32) (k : Fin 512) :
    (shapeCast S1x512 (shapeCast S512 g shapeCasts_S1x512_S512 : FVec Ideal S512 .f32) shapeCasts_S512_S1x512 (ix2 (0 : Fin 1) k) : EReal) = g (ix2 (0 : Fin 1) k) := by
  refine (shapeCast_apply _ _ _ (ix1 k) ?_).trans (shapeCast_apply _ _ _ (ix2 (0 : Fin 1) k) ?_)
  · rw [Shape.rowMajor_val_one, Shape.rowMajor_val_two]; show k.val = 0 * 512 + k.val; omega
  · rw [Shape.rowMajor_val_one, Shape.rowMajor_val_two]; show 0 * 512 + k.val = k.val; omega
theorem gain_kv (g : FVec Ideal S1x256 .f32) (k : Fin 256) :
    (shapeCast S1x256 (shapeCast S256 g shapeCasts_S1x256_S256 : FVec Ideal S256 .f32) shapeCasts_S256_S1x256 (ix2 (0 : Fin 1) k) : EReal) = g (ix2 (0 : Fin 1) k) := by
  refine (shapeCast_apply _ _ _ (ix1 k) ?_).trans (shapeCast_apply _ _ _ (ix2 (0 : Fin 1) k) ?_)
  · rw [Shape.rowMajor_val_one, Shape.rowMajor_val_two]; show k.val = 0 * 256 + k.val; omega
  · rw [Shape.rowMajor_val_one, Shape.rowMajor_val_two]; show 0 * 256 + k.val = k.val; omega

/-- The stream, its rows in one order. -/
abbrev aRows : FVec Ideal S32768x1024 .f32 := shapeCast S32768x1024 (aX m c) shapeCasts_S16x2048x1024_S32768x1024

/-- **What grid point `t` reads.** -/
theorem reads (t : Fin cfg0.N) (r : Fin 512) (T : Fin 32768) (s : Fin 2048) (hT : T.val = 512 * t.val + r.val) (hs : s.val = 512 * (t.val % 4) + r.val) :
    Reads (iblk m c 0 t) (iblk m c 1 t) (iblk m c 2 t) (iblk m c 3 t) (iblk m c 4 t) (iblk m c 5 t) (iblk m c 6 t) (iblk m c 7 t) (iblk m c 8 t) (iblk m c 9 t) (iblk m c 10 t)
      (aRows m c) (aN m c) (aWin m c) (aQa m c) (aWuq m c) (aKva m c) (aWukv m c) (aQn m c) (aKn m c) r T s where
  h0 k := iblk0 m c t r k T hT _ (V_x m c)
  h1 k := (iblk1 m c t k _ (V_n m c)).trans (gain_n _ _)
  h2 k j := iblk2 m c t k j _ (V_win m c)
  h3 k := (iblk3 m c t k _ (V_qa m c)).trans (gain_q _ _)
  h4 k := (iblk4 m c t k _ (V_kva m c)).trans (gain_kv _ _)
  h5 n k := iblk5 m c t n k _ (V_wuq m c)
  h6 k j := iblk6 m c t k j _ (V_wukv m c)
  h7 l := (iblk7 m c t l r s hs _ (V_cq m c)).trans (transpose_ix2_apply _ _ _ _)
  h8 l := (iblk8 m c t l r s hs _ (V_sq m c)).trans (transpose_ix2_apply _ _ _ _)
  h9 l := iblk9 m c t r l s hs _ (V_ck m c)
  h10 l := iblk10 m c t r l s hs _ (V_sk m c)

end Cert.Proj

end
-- ==== Proof.Proj.Final.lean ====
/-
  The third call's whole results: every row of each lies in one grid point's block, so the arrays hold the layer's entries.
-/
module

public import proofs.«01_k».proof.Proof.Proj.Host

@[expose] public section

set_option maxRecDepth 16384

noncomputable section

namespace Cert.Proj

open Idealize.ShloMosaic Idealize.ShloMosaic.TcCoe Idealize.ShloMosaic.ValueIdx
open Cert.Kernel3Ideal Cert.Kernel3Ideal.Gen Cert.Kernel3Ideal.Value

variable (m : (ℓ : Loc nD τ sig) → Buf (Elt Ideal) ℓ) (c : Dev nD)

/-- A row's grid point, its place in the block, and its position. -/
theorem place (T : Fin 32768) : ∃ (t : Fin cfg0.N) (r : Fin 512), T.val = 512 * t.val + r.val ∧ T.val % 2048 = 512 * (t.val % 4) + r.val := by
  have hT := T.isLt
  exact ⟨⟨T.val / 512, lt_of_lt_of_eq (by omega) N_0.symm⟩, ⟨T.val % 512, Nat.mod_lt _ (by norm_num)⟩, by simp only; omega, by simp only; omega⟩

/-- **The queries.** -/
theorem final_q (T : Fin 32768) (s : Fin 2048) (hs : s.val = T.val % 2048) (h : Fin 16) (l : Fin 128) (y : Fin 2048) (hy : y.val = 128 * h.val + l.val) :
    ((dats m 0 c).arrAt 11 cfg0.N (ix2 y T) : EReal)
      = lane (fun d => rot (QF (aRows m c) (aN m c) (aWin m c) (aQa m c) (aWuq m c) T h.val) (gE (aQn m c)) (csE s) (snE s) d * Ideal.ofBits .f32 0x3E16C740#32) l.val := by
  obtain ⟨t, r, e1, e2⟩ := place T
  refine Eq.trans (b := ((cfg0.win 11).blk t).view.read (Elt Ideal) ((dats m 0 c).arrAt 11 cfg0.N) (ix2 y r)) ?_ ?_
  · show _ = (dats m 0 c).arrAt 11 cfg0.N (((cfg0.win 11).blk t).view.emb (ix2 y r))
    rw [emb11 t y r T e1]
  rw [blocks11 m c t (flush0_11 t), flushed11]
  exact qout_spec _ _ _ _ _ _ _ _ _ _ _ _ _ _ _ _ _ _ _ _ (reads m c t r T s e1 (by omega)) h l y hy

/-- **The keys.** -/
theorem final_k (T : Fin 32768) (s : Fin 2048) (hs : s.val = T.val % 2048) (h : Fin 16) (l : Fin 128) (y : Fin 2048) (hy : y.val = 128 * h.val + l.val) :
    ((dats m 0 c).arrAt 12 cfg0.N (ix2 T y) : EReal)
      = lane (rot (KF (aRows m c) (aN m c) (aWin m c) (aKva m c) (aWukv m c) T h.val) (gE (aKn m c)) (csE s) (snE s)) l.val := by
  obtain ⟨t, r, e1, e2⟩ := place T
  refine Eq.trans (b := ((cfg0.win 12).blk t).view.read (Elt Ideal) ((dats m 0 c).arrAt 12 cfg0.N) (ix2 r y)) ?_ ?_
  · show _ = (dats m 0 c).arrAt 12 cfg0.N (((cfg0.win 12).blk t).view.emb (ix2 r y))
    rw [emb12 t r y T e1]
  rw [blocks12 m c t (flush0_12 t), flushed12]
  exact kout_spec _ _ _ _ _ _ _ _ _ _ _ _ _ _ _ _ _ _ _ _ (reads m c t r T s e1 (by omega)) h l y hy

/-- **The values.** -/
theorem final_v (T : Fin 32768) (s : Fin 2048) (hs : s.val = T.val % 2048) (h : Fin 16) (e : Fin 64) (y : Fin 1024) (hy : y.val = 64 * h.val + e.val) :
    ((dats m 0 c).arrAt 13 cfg0.N (ix2 T y) : EReal)
      = KV (aRows m c) (aN m c) (aWin m c) (aKva m c) (aWukv m c) T (128 * h.val + (64 + e.val)) := by
  obtain ⟨t, r, e1, e2⟩ := place T
  refine Eq.trans (b := ((cfg0.win 13).blk t).view.read (Elt Ideal) ((dats m 0 c).arrAt 13 cfg0.N) (ix2 r y)) ?_ ?_
  · show _ = (dats m 0 c).arrAt 13 cfg0.N (((cfg0.win 13).blk t).view.emb (ix2 r y))
    rw [emb13 t r y T e1]
  rw [blocks13 m c t (flush0_13 t), flushed13]
  exact v_spec _ _ _ _ _ _ _ _ _ _ _ _ _ _ _ _ _ _ _ _ (reads m c t r T s e1 (by omega)) h e y hy

end Cert.Proj

end
-- ==== Proof.Proj.RefBase.lean ====
/-
  The reference of the third call, read as the layer's sums: the row's norm, its projection, the norms of the projection's
  parts, and the queries, keys and values of all heads.
-/
module

public import proofs.«01_k».proof.Proof.Proj.Layer
public import proofs.«01_k».proof.Proof.Ffn.Layer
public import proofs.«01_k».proof.Proof.Gen.Reference3Ideal.Read

@[expose] public section

set_option maxRecDepth 16384

noncomputable section

namespace Cert.Proj

open Idealize.ShloMosaic Idealize.ShloMosaic.TcCoe Idealize.ShloMosaic.ValueIdx
open Cert.Reference3Ideal Cert.Reference3Ideal.Gen Cert.Reference3Ideal.Read
open Cert.Ffn (flat flat_apply c1024_eq)

theorem c512_eq : Ideal.ofBits .f32 0x44000000#32 = ((512 : ℝ) : EReal) := by
  simp [Ideal.ofBits, Ideal.ieee, -EReal.coe_mul]; norm_num
theorem c256_eq : Ideal.ofBits .f32 0x43800000#32 = ((256 : ℝ) : EReal) := by
  simp [Ideal.ofBits, Ideal.ieee, -EReal.coe_mul]; norm_num
theorem c96_eq : Ideal.ofBits .f32 0x42C00000#32 = ((96 : ℝ) : EReal) := by
  simp [Ideal.ofBits, Ideal.ieee, -EReal.coe_mul]; norm_num

variable (x : FVec Ideal S16x2048x1024 .f32) (nr : FVec Ideal S2x1024 .f32) (win : FVec Ideal S1x1024x800 .f32) (qa : FVec Ideal S1x512 .f32)
  (wuq : FVec Ideal S1x512x1536 .f32) (kva : FVec Ideal S1x256 .f32) (wukv : FVec Ideal S1x256x2048 .f32)
variable (b : Fin 16) (s : Fin 2048) (T : Fin 32768) (hT : T.val = 2048 * b.val + s.val)

include hT

theorem ref_nr (k : Fin 1024) : (val_main_v14 (F := Ideal) x nr (ix3 b s k) : EReal) = NR (flat x) nr T k := by
  have hk := k.isLt
  unfold NR nrm rfac
  beta_reduce
  rw [val_main_v14_apply, val_main_v11_apply, val_main_v10_apply, val_main_v9_apply, val_main_v8_apply, val_main_v6_apply, val_main_v4_apply,
    val_main_v3_apply, val_main_v5_apply, val_main_v7_apply, val_main_cst_apply, val_main_cst_0_apply, val_main_cst_1_apply,
    val_main_v13_apply, val_main_v12_apply, val_main_v1_apply, val_main_v0_apply, flat_apply x b s T hT k]
  have hsum : ∀ i : Fin 1024, (val_main_v2 (F := Ideal) x (idx_main_v3 (idx_main_v4 (idx_main_v10 (ix3 b s k))) i) : EReal)
      = (flat x (ix2 T i) : EReal) * (flat x (ix2 T i) : EReal) := fun i => by
    have e : idx_main_v3 (idx_main_v4 (idx_main_v10 (ix3 b s k))) i = ix3 b s i := by funext a; fin_cases a <;> rfl
    rw [e, val_main_v2_apply, flat_apply x b s T hT i]; rfl
  rw [Finset.sum_congr rfl fun i _ => hsum i]
  show (x (ix3 b s k) : EReal) * Ideal.rsqrt (Ideal.div (Ideal.ofBits .f32 0x00000000#32 + ∑ i : Fin 1024, (flat x (ix2 T i) : EReal) * (flat x (ix2 T i) : EReal)) (Ideal.ofBits .f32 0x44800000#32)
    + Ideal.ofBits .f32 0x358637BD#32) * (nr _ : EReal) = _
  rw [Ideal.ofBits_zero_f32, zero_add, c1024_eq, Ideal.div_coe (by norm_num)]
  refine congrArg (fun q : EReal => _ * q) (congrArg nr ?_)
  funext a; apply Fin.ext; fin_cases a
  · rfl
  · show k.val % 1024 = k.val; omega

theorem ref_c (j : Fin 800) : (val_main_v16 (F := Ideal) x nr win (ix3 b s j) : EReal) = C (flat x) nr win T j.val := by
  have hj := j.isLt
  unfold C
  rw [val_main_v16_apply]
  refine Finset.sum_congr rfl fun k _ => ?_
  have hk := k.isLt
  rw [val_main_v15_apply]
  unfold winE
  rw [dif_pos hj]
  refine congrArg₂ (fun p q : EReal => p * q) ?_ (congrArg win ?_)
  · have e : lidx_main_v16 (ix3 b s j) k = ix3 b s k := by funext a; fin_cases a <;> rfl
    rw [e]; exact ref_nr x nr b s T hT k
  · funext a; apply Fin.ext; fin_cases a
    · rfl
    · show (k.val * 800 + j.val) / 800 % 1024 = k.val; omega
    · show (k.val * 800 + j.val) % 800 = j.val; omega

theorem ref_c17 (k : Fin 512) : (val_main_v17 (F := Ideal) x nr win (ix3 b s k) : EReal) = C (flat x) nr win T k.val := by
  rw [val_main_v17_apply]
  refine Eq.trans (congrArg _ ?_) (ref_c x nr win b s T hT (⟨k.val, by omega⟩ : Fin 800))
  funext a; apply Fin.ext; fin_cases a <;> rfl
theorem ref_c18 (k : Fin 256) : (val_main_v18 (F := Ideal) x nr win (ix3 b s k) : EReal) = C (flat x) nr win T (512 + k.val) := by
  rw [val_main_v18_apply]
  refine Eq.trans (congrArg _ ?_) (ref_c x nr win b s T hT (⟨512 + k.val, by omega⟩ : Fin 800))
  funext a; apply Fin.ext; fin_cases a <;> rfl
theorem ref_c19 (k : Fin 32) : (val_main_v19 (F := Ideal) x nr win (ix3 b s k) : EReal) = C (flat x) nr win T (768 + k.val) := by
  rw [val_main_v19_apply]
  refine Eq.trans (congrArg _ ?_) (ref_c x nr win b s T hT (⟨768 + k.val, by omega⟩ : Fin 800))
  funext a; apply Fin.ext; fin_cases a <;> rfl

theorem ref_cq (k : Fin 512) : (val_main_v33 (F := Ideal) x nr win qa (ix3 b s k) : EReal) = CQ (flat x) nr win qa T k := by
  have hk := k.isLt
  unfold CQ nrm rfac
  rw [val_main_v33_apply, val_main_v30_apply, val_main_v29_apply, val_main_v28_apply, val_main_v27_apply, val_main_v25_apply, val_main_v23_apply,
    val_main_v22_apply, val_main_v24_apply, val_main_v26_apply, val_main_cst_2_apply, val_main_cst_3_apply, val_main_cst_4_apply,
    val_main_v32_apply, val_main_v31_apply, val_main_v20_apply, ref_c17 x nr win b s T hT k]
  have hsum : ∀ i : Fin 512, (val_main_v21 (F := Ideal) x nr win (idx_main_v22 (idx_main_v23 (idx_main_v29 (ix3 b s k))) i) : EReal)
      = C (flat x) nr win T i.val * C (flat x) nr win T i.val := fun i => by
    have e : idx_main_v22 (idx_main_v23 (idx_main_v29 (ix3 b s k))) i = ix3 b s i := by funext a; fin_cases a <;> rfl
    rw [e, val_main_v21_apply, ref_c17 x nr win b s T hT i]; rfl
  rw [Finset.sum_congr rfl fun i _ => hsum i]
  show C (flat x) nr win T k.val * Ideal.rsqrt (Ideal.div (Ideal.ofBits .f32 0x00000000#32 + ∑ i : Fin 512, C (flat x) nr win T i.val * C (flat x) nr win T i.val) (Ideal.ofBits .f32 0x44000000#32)
    + Ideal.ofBits .f32 0x358637BD#32) * (qa _ : EReal) = _
  rw [Ideal.ofBits_zero_f32, zero_add, c512_eq, Ideal.div_coe (by norm_num)]
  refine congrArg (fun q : EReal => _ * q) (congrArg qa ?_)
  funext a; apply Fin.ext; fin_cases a
  · rfl
  · show k.val % 512 = k.val; omega

theorem ref_ckv (k : Fin 256) : (val_main_v50 (F := Ideal) x nr win kva (ix3 b s k) : EReal) = CKV (flat x) nr win kva T k := by
  have hk := k.isLt
  unfold CKV nrm rfac
  rw [val_main_v50_apply, val_main_v47_apply, val_main_v46_apply, val_main_v45_apply, val_main_v44_apply, val_main_v42_apply, val_main_v40_apply,
    val_main_v39_apply, val_main_v41_apply, val_main_v43_apply, val_main_cst_5_apply, val_main_cst_6_apply, val_main_cst_7_apply,
    val_main_v49_apply, val_main_v48_apply, val_main_v37_apply, ref_c18 x nr win b s T hT k]
  have hsum : ∀ i : Fin 256, (val_main_v38 (F := Ideal) x nr win (idx_main_v39 (idx_main_v40 (idx_main_v46 (ix3 b s k))) i) : EReal)
      = C (flat x) nr win T (512 + i.val) * C (flat x) nr win T (512 + i.val) := fun i => by
    have e : idx_main_v39 (idx_main_v40 (idx_main_v46 (ix3 b s k))) i = ix3 b s i := by funext a; fin_cases a <;> rfl
    rw [e, val_main_v38_apply, ref_c18 x nr win b s T hT i]; rfl
  rw [Finset.sum_congr rfl fun i _ => hsum i]
  show C (flat x) nr win T (512 + k.val) * Ideal.rsqrt (Ideal.div (Ideal.ofBits .f32 0x00000000#32 + ∑ i : Fin 256, C (flat x) nr win T (512 + i.val) * C (flat x) nr win T (512 + i.val)) (Ideal.ofBits .f32 0x43800000#32)
    + Ideal.ofBits .f32 0x358637BD#32) * (kva _ : EReal) = _
  rw [Ideal.ofBits_zero_f32, zero_add, c256_eq, Ideal.div_coe (by norm_num)]
  refine congrArg (fun q : EReal => _ * q) (congrArg kva ?_)
  funext a; apply Fin.ext; fin_cases a
  · rfl
  · show k.val % 256 = k.val; omega

theorem ref_q (j : Fin 1536) : (val_main_v35 (F := Ideal) x nr win qa wuq (ix3 b s j) : EReal) = Q (flat x) nr win qa wuq T j.val := by
  have hj := j.isLt
  unfold Q
  rw [val_main_v35_apply]
  refine Finset.sum_congr rfl fun k _ => ?_
  have hk := k.isLt
  rw [val_main_v34_apply]
  unfold wuqE
  rw [dif_pos hj]
  refine congrArg₂ (fun p q : EReal => p * q) ?_ (congrArg wuq ?_)
  · have e : lidx_main_v35 (ix3 b s j) k = ix3 b s k := by funext a; fin_cases a <;> rfl
    rw [e]; exact ref_cq x nr win qa b s T hT k
  · funext a; apply Fin.ext; fin_cases a
    · rfl
    · show (k.val * 1536 + j.val) / 1536 % 512 = k.val; omega
    · show (k.val * 1536 + j.val) % 1536 = j.val; omega

theorem ref_kv (j : Fin 2048) : (val_main_v52 (F := Ideal) x nr win kva wukv (ix3 b s j) : EReal) = KV (flat x) nr win kva wukv T j.val := by
  have hj := j.isLt
  unfold KV
  rw [val_main_v52_apply]
  refine Finset.sum_congr rfl fun k _ => ?_
  have hk := k.isLt
  rw [val_main_v51_apply]
  unfold wukvE
  rw [dif_pos hj]
  refine congrArg₂ (fun p q : EReal => p * q) ?_ (congrArg wukv ?_)
  · have e : lidx_main_v52 (ix3 b s j) k = ix3 b s k := by funext a; fin_cases a <;> rfl
    rw [e]; exact ref_ckv x nr win kva b s T hT k
  · funext a; apply Fin.ext; fin_cases a
    · rfl
    · show (k.val * 2048 + j.val) / 2048 % 256 = k.val; omega
    · show (k.val * 2048 + j.val) % 2048 = j.val; omega

/-- The heads. -/
theorem ref_q36 (h : Fin 16) (d : Fin 96) : (val_main_v36 (F := Ideal) x nr win qa wuq (ix4 b s h d) : EReal) = QF (flat x) nr win qa wuq T h.val d.val := by
  have hh := h.isLt; have hd := d.isLt; have hb := b.isLt; have hs := s.isLt
  rw [val_main_v36_apply]
  refine Eq.trans (congrArg _ ?_) (ref_q x nr win qa wuq b s T hT (⟨96 * h.val + d.val, by omega⟩ : Fin 1536))
  funext a; apply Fin.ext; fin_cases a
  · show (((b.val * 2048 + s.val) * 16 + h.val) * 96 + d.val) / 3145728 = b.val; omega
  · show (((b.val * 2048 + s.val) * 16 + h.val) * 96 + d.val) / 1536 % 2048 = s.val; omega
  · show (((b.val * 2048 + s.val) * 16 + h.val) * 96 + d.val) % 1536 = 96 * h.val + d.val; omega
theorem ref_kv53 (h : Fin 16) (d : Fin 128) : (val_main_v53 (F := Ideal) x nr win kva wukv (ix4 b s h d) : EReal) = KV (flat x) nr win kva wukv T (128 * h.val + d.val) := by
  have hh := h.isLt; have hd := d.isLt; have hb := b.isLt; have hs := s.isLt
  rw [val_main_v53_apply]
  refine Eq.trans (congrArg _ ?_) (ref_kv x nr win kva wukv b s T hT (⟨128 * h.val + d.val, by omega⟩ : Fin 2048))
  funext a; apply Fin.ext; fin_cases a
  · show (((b.val * 2048 + s.val) * 16 + h.val) * 128 + d.val) / 4194304 = b.val; omega
  · show (((b.val * 2048 + s.val) * 16 + h.val) * 128 + d.val) / 2048 % 2048 = s.val; omega
  · show (((b.val * 2048 + s.val) * 16 + h.val) * 128 + d.val) % 2048 = 128 * h.val + d.val; omega

theorem ref_k58 (h : Fin 16) (d : Fin 96) : (val_main_v58 (F := Ideal) x nr win kva wukv (ix4 b s h d) : EReal) = KF (flat x) nr win kva wukv T h.val d.val := by
  have hd := d.isLt
  unfold KF val_main_v58
  by_cases h1 : d.val < 64
  · rw [if_pos h1]
    refine (concatenate_apply_piece (t := S16x2048x16x96) 3 _ _ _ 0 (by show 0 < 2; omega) S16x2048x16x64 _ rfl rfl 0 rfl (ix4 b s h (⟨d.val, h1⟩ : Fin 64)) ?_ ?_).trans ?_
    · intro y hy; fin_cases y <;> first | rfl | exact absurd rfl hy
    · show 0 + d.val = d.val; omega
    · rw [val_main_v54_apply]
      refine Eq.trans (congrArg _ ?_) (ref_kv53 x nr win kva wukv b s T hT h (⟨d.val, by omega⟩ : Fin 128))
      funext a; apply Fin.ext; fin_cases a <;> rfl
  · rw [if_neg h1]
    refine (concatenate_apply_piece (t := S16x2048x16x96) 3 _ _ _ 1 (by show 1 < 2; omega) S16x2048x16x32 _ rfl rfl 64 rfl (ix4 b s h (⟨d.val - 64, by omega⟩ : Fin 32)) ?_ ?_).trans ?_
    · intro y hy; fin_cases y <;> first | rfl | exact absurd rfl hy
    · show 64 + (d.val - 64) = d.val; omega
    · rw [val_main_v57_apply, val_main_v56_apply]
      refine Eq.trans (congrArg _ ?_) (ref_c19 x nr win b s T hT (⟨d.val - 64, by omega⟩ : Fin 32))
      funext a; apply Fin.ext; fin_cases a <;> rfl

/-- **The values.** -/
theorem ref_v (h : Fin 16) (e : Fin 64) (y : Fin 1024) (hy : y.val = 64 * h.val + e.val) :
    (val_main_v180 (F := Ideal) x nr win kva wukv (ix2 T y) : EReal) = KV (flat x) nr win kva wukv T (128 * h.val + (64 + e.val)) := by
  have hh := h.isLt; have he := e.isLt; have hb := b.isLt; have hs := s.isLt
  rw [val_main_v180_apply]
  refine (Attn.truncf_ideal (b := .bf16) _ bitsLt_bf16_f32 _).trans ?_
  rw [val_main_v179_apply, val_main_v55_apply]
  refine Eq.trans (congrArg _ ?_) (ref_kv53 x nr win kva wukv b s T hT h (⟨64 + e.val, by omega⟩ : Fin 128))
  funext a; apply Fin.ext; fin_cases a
  · show (T.val * 1024 + y.val) / 2097152 = b.val; omega
  · show (T.val * 1024 + y.val) / 1024 % 2048 = s.val; omega
  · show (T.val * 1024 + y.val) / 64 % 16 = h.val; omega
  · show 64 + (T.val * 1024 + y.val) % 64 = 64 + e.val; omega

end Cert.Proj

end
-- ==== Proof.Proj.RefQ.lean ====
/-
  The reference's queries: a head's norm, and its last 32 features rotated in pairs.
-/
module

public import proofs.«01_k».proof.Proof.Proj.RefBase
public import proofs.«01_k».proof.Proof.Proj.Lanes

@[expose] public section

set_option maxRecDepth 16384

noncomputable section

namespace Cert.Proj

open Idealize.ShloMosaic Idealize.ShloMosaic.TcCoe Idealize.ShloMosaic.ValueIdx
open Cert.Reference3Ideal Cert.Reference3Ideal.Gen Cert.Reference3Ideal.Read
open Cert.Ffn (flat flat_apply)

variable (x : FVec Ideal S16x2048x1024 .f32) (nr : FVec Ideal S2x1024 .f32) (win : FVec Ideal S1x1024x800 .f32) (qa : FVec Ideal S1x512 .f32)
  (wuq : FVec Ideal S1x512x1536 .f32) (qn : FVec Ideal S1x96 .f32)
variable (b : Fin 16) (s : Fin 2048) (T : Fin 32768) (hT : T.val = 2048 * b.val + s.val) (h : Fin 16)

theorem ref_ang_q : val_main_v105 (F := Ideal) = angArr := rfl
theorem ref_cos_q (i : S1x2048x1x16.Idx) (j : Fin 16) (h1 : (i 1).val = s.val) (h3 : (i 3).val = j.val) : (val_main_v107 (F := Ideal) i : EReal) = csE s j.val := by
  have hj := j.isLt
  unfold csE
  rw [dif_pos hj, val_main_v107_apply]
  unfold val_main_v106
  rw [ref_ang_q]
  refine congrArg (Host.cos (F := Ideal) angArr) ?_
  funext a; apply Fin.ext; fin_cases a
  · exact h1
  · exact h3
theorem ref_sin_q (i : S1x2048x1x16.Idx) (j : Fin 16) (h1 : (i 1).val = s.val) (h3 : (i 3).val = j.val) : (val_main_v109 (F := Ideal) i : EReal) = snE s j.val := by
  have hj := j.isLt
  unfold snE
  rw [dif_pos hj, val_main_v109_apply]
  unfold val_main_v108
  rw [ref_ang_q]
  refine congrArg (Host.sin (F := Ideal) angArr) ?_
  funext a; apply Fin.ext; fin_cases a
  · exact h1
  · exact h3

include hT

theorem ref_n_q (d : Fin 96) : (val_main_v72 (F := Ideal) x nr win qa wuq qn (ix4 b s h d) : EReal) = nf (QF (flat x) nr win qa wuq T h.val) (gE qn) d.val := by
  have hd := d.isLt
  unfold nf rfac sqs gE
  rw [dif_pos hd, Finset.sum_range]
  rw [val_main_v72_apply, val_main_v69_apply, val_main_v68_apply, val_main_v67_apply, val_main_v66_apply, val_main_v64_apply, val_main_v62_apply, val_main_v61_apply, val_main_v63_apply, val_main_v65_apply, val_main_cst_8_apply, val_main_cst_9_apply, val_main_cst_10_apply, val_main_v71_apply, val_main_v70_apply, val_main_v59_apply, ref_q36 x nr win qa wuq b s T hT h d]
  have hsum : ∀ i : Fin 96, (val_main_v60 (F := Ideal) x nr win qa wuq (idx_main_v61 (idx_main_v62 (idx_main_v68 (ix4 b s h d))) i) : EReal)
      = (QF (flat x) nr win qa wuq T h.val) i.val * (QF (flat x) nr win qa wuq T h.val) i.val := fun i => by
    have e : idx_main_v61 (idx_main_v62 (idx_main_v68 (ix4 b s h d))) i = ix4 b s h i := by funext a; fin_cases a <;> rfl
    rw [e, val_main_v60_apply, ref_q36 x nr win qa wuq b s T hT h i]; rfl
  rw [Finset.sum_congr rfl fun i _ => hsum i]
  show (QF (flat x) nr win qa wuq T h.val) d.val * Ideal.rsqrt (Ideal.div (Ideal.ofBits .f32 0x00000000#32 + ∑ i : Fin 96, (QF (flat x) nr win qa wuq T h.val) i.val * (QF (flat x) nr win qa wuq T h.val) i.val) (Ideal.ofBits .f32 0x42C00000#32)
    + Ideal.ofBits .f32 0x358637BD#32) * (qn _ : EReal) = _
  rw [Ideal.ofBits_zero_f32, zero_add, c96_eq, Ideal.div_coe (by norm_num)]
  refine congrArg (fun q : EReal => _ * q) (congrArg qn ?_)
  funext a; apply Fin.ext; fin_cases a
  · rfl
  · show d.val % 96 = d.val; omega

theorem ref_x1_q (j : Fin 16) : (val_main_v110 (F := Ideal) x nr win qa wuq qn (ix4 b s h j) : EReal) = nf (QF (flat x) nr win qa wuq T h.val) (gE qn) (64 + j.val) := by
  rw [val_main_v110_apply, val_main_v88_apply]
  refine Eq.trans (congrArg _ ?_) (ref_n_q x nr win qa wuq qn b s T hT h (⟨64 + j.val, by omega⟩ : Fin 96))
  funext a; apply Fin.ext; fin_cases a <;> rfl
theorem ref_x2_q (j : Fin 16) : (val_main_v111 (F := Ideal) x nr win qa wuq qn (ix4 b s h j) : EReal) = nf (QF (flat x) nr win qa wuq T h.val) (gE qn) (80 + j.val) := by
  rw [val_main_v111_apply, val_main_v88_apply]
  refine Eq.trans (congrArg _ ?_) (ref_n_q x nr win qa wuq qn b s T hT h (⟨80 + j.val, by omega⟩ : Fin 96))
  funext a; apply Fin.ext; fin_cases a
  · rfl
  · rfl
  · rfl
  · show 64 + (16 + j.val) = 80 + j.val; omega

theorem ref_lo_q (j : Fin 16) : (val_main_v116 (F := Ideal) x nr win qa wuq qn (ix4 b s h j) : EReal)
    = nf (QF (flat x) nr win qa wuq T h.val) (gE qn) (64 + j.val) * csE s j.val - nf (QF (flat x) nr win qa wuq T h.val) (gE qn) (80 + j.val) * snE s j.val := by
  rw [val_main_v116_apply, val_main_v113_apply, val_main_v115_apply, ref_x1_q x nr win qa wuq qn b s T hT h j, ref_x2_q x nr win qa wuq qn b s T hT h j,
    val_main_v112_apply, val_main_v114_apply, ref_cos_q s _ j rfl rfl, ref_sin_q s _ j rfl rfl]
  rfl
theorem ref_hi_q (j : Fin 16) : (val_main_v121 (F := Ideal) x nr win qa wuq qn (ix4 b s h j) : EReal)
    = nf (QF (flat x) nr win qa wuq T h.val) (gE qn) (64 + j.val) * snE s j.val + nf (QF (flat x) nr win qa wuq T h.val) (gE qn) (80 + j.val) * csE s j.val := by
  rw [val_main_v121_apply, val_main_v118_apply, val_main_v120_apply, ref_x1_q x nr win qa wuq qn b s T hT h j, ref_x2_q x nr win qa wuq qn b s T hT h j,
    val_main_v117_apply, val_main_v119_apply, ref_cos_q s _ j rfl rfl, ref_sin_q s _ j rfl rfl]
  rfl

theorem ref_rot_q (d : Fin 96) : (val_main_v123 (F := Ideal) x nr win qa wuq qn (ix4 b s h d) : EReal) = rot (QF (flat x) nr win qa wuq T h.val) (gE qn) (csE s) (snE s) d.val := by
  have hd := d.isLt
  unfold rot val_main_v123
  by_cases h1 : d.val < 64
  · rw [if_pos h1]
    refine (concatenate_apply_piece (t := S16x2048x16x96) 3 _ _ _ 0 (by show 0 < 2; omega) S16x2048x16x64 _ rfl rfl 0 rfl (ix4 b s h (⟨d.val, h1⟩ : Fin 64)) ?_ ?_).trans ?_
    · intro y hy; fin_cases y <;> first | rfl | exact absurd rfl hy
    · show 0 + d.val = d.val; omega
    · rw [val_main_v87_apply]
      refine Eq.trans (congrArg _ ?_) (ref_n_q x nr win qa wuq qn b s T hT h d)
      funext a; apply Fin.ext; fin_cases a <;> rfl
  rw [if_neg h1]
  refine (concatenate_apply_piece (t := S16x2048x16x96) 3 _ _ _ 1 (by show 1 < 2; omega) S16x2048x16x32 _ rfl rfl 64 rfl (ix4 b s h (⟨d.val - 64, by omega⟩ : Fin 32)) ?_ ?_).trans ?_
  · intro y hy; fin_cases y <;> first | rfl | exact absurd rfl hy
  · show 64 + (d.val - 64) = d.val; omega
  unfold val_main_v122
  by_cases h2 : d.val < 80
  · rw [if_pos h2]
    refine (concatenate_apply_piece (t := S16x2048x16x32) 3 _ _ _ 0 (by show 0 < 2; omega) S16x2048x16x16 _ rfl rfl 0 rfl (ix4 b s h (⟨d.val - 64, by omega⟩ : Fin 16)) ?_ ?_).trans ?_
    · intro y hy; fin_cases y <;> first | rfl | exact absurd rfl hy
    · show 0 + (d.val - 64) = d.val - 64; omega
    · refine (ref_lo_q x nr win qa wuq qn b s T hT h _).trans ?_
      simp only
      rw [show 64 + (d.val - 64) = d.val by omega, show 80 + (d.val - 64) = d.val + 16 by omega]
  · rw [if_neg h2]
    refine (concatenate_apply_piece (t := S16x2048x16x32) 3 _ _ _ 1 (by show 1 < 2; omega) S16x2048x16x16 _ rfl rfl 16 rfl (ix4 b s h (⟨d.val - 80, by omega⟩ : Fin 16)) ?_ ?_).trans ?_
    · intro y hy; fin_cases y <;> first | rfl | exact absurd rfl hy
    · show 16 + (d.val - 80) = d.val - 64; omega
    · refine (ref_hi_q x nr win qa wuq qn b s T hT h _).trans ?_
      simp only
      rw [show 64 + (d.val - 80) = d.val - 16 by omega, show 80 + (d.val - 80) = d.val by omega]

theorem ref_src_q (d : Fin 96) : (val_main_v162 (F := Ideal) x nr win qa wuq qn (ix4 b s h d) : EReal) = (fun d => rot (QF (flat x) nr win qa wuq T h.val) (gE qn) (csE s) (snE s) d * Ideal.ofBits .f32 0x3E16C740#32) d.val := by
  rw [val_main_v162_apply, val_main_v161_apply, val_main_cst_24_apply, ref_rot_q x nr win qa wuq qn b s T hT h d]
  rfl

theorem ref_lane_q (l : Fin 128) : (val_main_v168 (F := Ideal) x nr win qa wuq qn (ix4 b s h l) : EReal) = lane (fun d => rot (QF (flat x) nr win qa wuq T h.val) (gE qn) (csE s) (snE s) d * Ideal.ofBits .f32 0x3E16C740#32) l.val := by
  have hl := l.isLt
  unfold val_main_v168
  by_cases h1 : l.val < 16
  · rw [lane_a _ _ h1]
    refine (concatenate_apply_piece (t := S16x2048x16x128) 3 _ _ _ 0 (by show 0 < 5; omega) S16x2048x16x16 _ rfl rfl 0 rfl (ix4 b s h (⟨l.val, h1⟩ : Fin 16)) ?_ ?_).trans ?_
    · intro y hy; fin_cases y <;> first | rfl | exact absurd rfl hy
    · show 0 + l.val = l.val; omega
    · rw [val_main_v164_apply]
      refine Eq.trans (congrArg _ ?_) (ref_src_q x nr win qa wuq qn b s T hT h (⟨64 + l.val, by omega⟩ : Fin 96))
      funext a; apply Fin.ext; fin_cases a
      · rfl
      · rfl
      · rfl
      · show 64 + l.val = 64 + l.val; omega
  by_cases h2 : l.val < 64
  · rw [lane_b _ _ (by omega) h2]
    refine (concatenate_apply_piece (t := S16x2048x16x128) 3 _ _ _ 1 (by show 1 < 5; omega) S16x2048x16x48 _ rfl rfl 16 rfl (ix4 b s h (⟨l.val - 16, by omega⟩ : Fin 48)) ?_ ?_).trans ?_
    · intro y hy; fin_cases y <;> first | rfl | exact absurd rfl hy
    · show 16 + (l.val - 16) = l.val; omega
    · rw [val_main_v165_apply]
      refine Eq.trans (congrArg _ ?_) (ref_src_q x nr win qa wuq qn b s T hT h (⟨l.val - 16, by omega⟩ : Fin 96))
      funext a; apply Fin.ext; fin_cases a
      · rfl
      · rfl
      · rfl
      · show l.val - 16 = l.val - 16; omega
  by_cases h3 : l.val < 80
  · rw [lane_c _ _ (by omega) h3]
    refine (concatenate_apply_piece (t := S16x2048x16x128) 3 _ _ _ 2 (by show 2 < 5; omega) S16x2048x16x16 _ rfl rfl 64 rfl (ix4 b s h (⟨l.val - 64, by omega⟩ : Fin 16)) ?_ ?_).trans ?_
    · intro y hy; fin_cases y <;> first | rfl | exact absurd rfl hy
    · show 64 + (l.val - 64) = l.val; omega
    · rw [val_main_v166_apply]
      refine Eq.trans (congrArg _ ?_) (ref_src_q x nr win qa wuq qn b s T hT h (⟨l.val + 16, by omega⟩ : Fin 96))
      funext a; apply Fin.ext; fin_cases a
      · rfl
      · rfl
      · rfl
      · show 80 + (l.val - 64) = l.val + 16; omega
  by_cases h4 : l.val < 96
  · rw [lane_d _ _ (by omega) h4]
    refine (concatenate_apply_piece (t := S16x2048x16x128) 3 _ _ _ 3 (by show 3 < 5; omega) S16x2048x16x16 _ rfl rfl 80 rfl (ix4 b s h (⟨l.val - 80, by omega⟩ : Fin 16)) ?_ ?_).trans ?_
    · intro y hy; fin_cases y <;> first | rfl | exact absurd rfl hy
    · show 80 + (l.val - 80) = l.val; omega
    · rw [val_main_v167_apply]
      refine Eq.trans (congrArg _ ?_) (ref_src_q x nr win qa wuq qn b s T hT h (⟨l.val - 32, by omega⟩ : Fin 96))
      funext a; apply Fin.ext; fin_cases a
      · rfl
      · rfl
      · rfl
      · show 48 + (l.val - 80) = l.val - 32; omega
  rw [lane_e _ _ (by omega)]
  refine (concatenate_apply_piece (t := S16x2048x16x128) 3 _ _ _ 4 (by show 4 < 5; omega) S16x2048x16x32 _ rfl rfl 96 rfl (ix4 b s h (⟨l.val - 96, by omega⟩ : Fin 32)) ?_ ?_).trans ?_
  · intro y hy; fin_cases y <;> first | rfl | exact absurd rfl hy
  · show 96 + (l.val - 96) = l.val; omega
  · rw [val_main_v163_apply, val_main_cst_25_apply]
    exact Ideal.ofBits_zero_f32

/-- **The queries.** -/
theorem ref_out_q (l : Fin 128) (y : Fin 2048) (hy : y.val = 128 * h.val + l.val) :
    (val_main_v176 (F := Ideal) x nr win qa wuq qn (ix2 y T) : EReal) = lane (fun d => rot (QF (flat x) nr win qa wuq T h.val) (gE qn) (csE s) (snE s) d * Ideal.ofBits .f32 0x3E16C740#32) l.val := by
  have hh := h.isLt; have hl := l.isLt; have hb := b.isLt; have hs := s.isLt
  rw [val_main_v176_apply]
  refine (Attn.truncf_ideal (b := .bf16) _ bitsLt_bf16_f32 _).trans ?_
  rw [val_main_v175_apply, val_main_v174_apply]
  refine Eq.trans (congrArg _ ?_) (ref_lane_q x nr win qa wuq qn b s T hT h l)
  funext a; apply Fin.ext; fin_cases a
  · show (T.val * 2048 + y.val) / 4194304 = b.val; omega
  · show (T.val * 2048 + y.val) / 2048 % 2048 = s.val; omega
  · show (T.val * 2048 + y.val) / 128 % 16 = h.val; omega
  · show (T.val * 2048 + y.val) % 128 = l.val; omega

end Cert.Proj

end
-- ==== Proof.Proj.RefK.lean ====
/-
  The reference's keys: a head's norm, and its last 32 features rotated in pairs.
-/
module

public import proofs.«01_k».proof.Proof.Proj.RefBase
public import proofs.«01_k».proof.Proof.Proj.Lanes

@[expose] public section

set_option maxRecDepth 16384

noncomputable section

namespace Cert.Proj

open Idealize.ShloMosaic Idealize.ShloMosaic.TcCoe Idealize.ShloMosaic.ValueIdx
open Cert.Reference3Ideal Cert.Reference3Ideal.Gen Cert.Reference3Ideal.Read
open Cert.Ffn (flat flat_apply)

variable (x : FVec Ideal S16x2048x1024 .f32) (nr : FVec Ideal S2x1024 .f32) (win : FVec Ideal S1x1024x800 .f32) (kva : FVec Ideal S1x256 .f32)
  (wukv : FVec Ideal S1x256x2048 .f32) (kn : FVec Ideal S1x96 .f32)
variable (b : Fin 16) (s : Fin 2048) (T : Fin 32768) (hT : T.val = 2048 * b.val + s.val) (h : Fin 16)

theorem ref_ang_k : val_main_v142 (F := Ideal) = angArr := rfl
theorem ref_cos_k (i : S1x2048x1x16.Idx) (j : Fin 16) (h1 : (i 1).val = s.val) (h3 : (i 3).val = j.val) : (val_main_v144 (F := Ideal) i : EReal) = csE s j.val := by
  have hj := j.isLt
  unfold csE
  rw [dif_pos hj, val_main_v144_apply]
  unfold val_main_v143
  rw [ref_ang_k]
  refine congrArg (Host.cos (F := Ideal) angArr) ?_
  funext a; apply Fin.ext; fin_cases a
  · exact h1
  · exact h3
theorem ref_sin_k (i : S1x2048x1x16.Idx) (j : Fin 16) (h1 : (i 1).val = s.val) (h3 : (i 3).val = j.val) : (val_main_v146 (F := Ideal) i : EReal) = snE s j.val := by
  have hj := j.isLt
  unfold snE
  rw [dif_pos hj, val_main_v146_apply]
  unfold val_main_v145
  rw [ref_ang_k]
  refine congrArg (Host.sin (F := Ideal) angArr) ?_
  funext a; apply Fin.ext; fin_cases a
  · exact h1
  · exact h3

include hT

theorem ref_n_k (d : Fin 96) : (val_main_v86 (F := Ideal) x nr win kva wukv kn (ix4 b s h d) : EReal) = nf (KF (flat x) nr win kva wukv T h.val) (gE kn) d.val := by
  have hd := d.isLt
  unfold nf rfac sqs gE
  rw [dif_pos hd, Finset.sum_range]
  rw [val_main_v86_apply, val_main_v83_apply, val_main_v82_apply, val_main_v81_apply, val_main_v80_apply, val_main_v78_apply, val_main_v76_apply, val_main_v75_apply, val_main_v77_apply, val_main_v79_apply, val_main_cst_11_apply, val_main_cst_12_apply, val_main_cst_13_apply, val_main_v85_apply, val_main_v84_apply, val_main_v73_apply, ref_k58 x nr win kva wukv b s T hT h d]
  have hsum : ∀ i : Fin 96, (val_main_v74 (F := Ideal) x nr win kva wukv (idx_main_v75 (idx_main_v76 (idx_main_v82 (ix4 b s h d))) i) : EReal)
      = (KF (flat x) nr win kva wukv T h.val) i.val * (KF (flat x) nr win kva wukv T h.val) i.val := fun i => by
    have e : idx_main_v75 (idx_main_v76 (idx_main_v82 (ix4 b s h d))) i = ix4 b s h i := by funext a; fin_cases a <;> rfl
    rw [e, val_main_v74_apply, ref_k58 x nr win kva wukv b s T hT h i]; rfl
  rw [Finset.sum_congr rfl fun i _ => hsum i]
  show (KF (flat x) nr win kva wukv T h.val) d.val * Ideal.rsqrt (Ideal.div (Ideal.ofBits .f32 0x00000000#32 + ∑ i : Fin 96, (KF (flat x) nr win kva wukv T h.val) i.val * (KF (flat x) nr win kva wukv T h.val) i.val) (Ideal.ofBits .f32 0x42C00000#32)
    + Ideal.ofBits .f32 0x358637BD#32) * (kn _ : EReal) = _
  rw [Ideal.ofBits_zero_f32, zero_add, c96_eq, Ideal.div_coe (by norm_num)]
  refine congrArg (fun q : EReal => _ * q) (congrArg kn ?_)
  funext a; apply Fin.ext; fin_cases a
  · rfl
  · show d.val % 96 = d.val; omega

theorem ref_x1_k (j : Fin 16) : (val_main_v147 (F := Ideal) x nr win kva wukv kn (ix4 b s h j) : EReal) = nf (KF (flat x) nr win kva wukv T h.val) (gE kn) (64 + j.val) := by
  rw [val_main_v147_apply, val_main_v125_apply]
  refine Eq.trans (congrArg _ ?_) (ref_n_k x nr win kva wukv kn b s T hT h (⟨64 + j.val, by omega⟩ : Fin 96))
  funext a; apply Fin.ext; fin_cases a <;> rfl
theorem ref_x2_k (j : Fin 16) : (val_main_v148 (F := Ideal) x nr win kva wukv kn (ix4 b s h j) : EReal) = nf (KF (flat x) nr win kva wukv T h.val) (gE kn) (80 + j.val) := by
  rw [val_main_v148_apply, val_main_v125_apply]
  refine Eq.trans (congrArg _ ?_) (ref_n_k x nr win kva wukv kn b s T hT h (⟨80 + j.val, by omega⟩ : Fin 96))
  funext a; apply Fin.ext; fin_cases a
  · rfl
  · rfl
  · rfl
  · show 64 + (16 + j.val) = 80 + j.val; omega

theorem ref_lo_k (j : Fin 16) : (val_main_v153 (F := Ideal) x nr win kva wukv kn (ix4 b s h j) : EReal)
    = nf (KF (flat x) nr win kva wukv T h.val) (gE kn) (64 + j.val) * csE s j.val - nf (KF (flat x) nr win kva wukv T h.val) (gE kn) (80 + j.val) * snE s j.val := by
  rw [val_main_v153_apply, val_main_v150_apply, val_main_v152_apply, ref_x1_k x nr win kva wukv kn b s T hT h j, ref_x2_k x nr win kva wukv kn b s T hT h j,
    val_main_v149_apply, val_main_v151_apply, ref_cos_k s _ j rfl rfl, ref_sin_k s _ j rfl rfl]
  rfl
theorem ref_hi_k (j : Fin 16) : (val_main_v158 (F := Ideal) x nr win kva wukv kn (ix4 b s h j) : EReal)
    = nf (KF (flat x) nr win kva wukv T h.val) (gE kn) (64 + j.val) * snE s j.val + nf (KF (flat x) nr win kva wukv T h.val) (gE kn) (80 + j.val) * csE s j.val := by
  rw [val_main_v158_apply, val_main_v155_apply, val_main_v157_apply, ref_x1_k x nr win kva wukv kn b s T hT h j, ref_x2_k x nr win kva wukv kn b s T hT h j,
    val_main_v154_apply, val_main_v156_apply, ref_cos_k s _ j rfl rfl, ref_sin_k s _ j rfl rfl]
  rfl

theorem ref_rot_k (d : Fin 96) : (val_main_v160 (F := Ideal) x nr win kva wukv kn (ix4 b s h d) : EReal) = rot (KF (flat x) nr win kva wukv T h.val) (gE kn) (csE s) (snE s) d.val := by
  have hd := d.isLt
  unfold rot val_main_v160
  by_cases h1 : d.val < 64
  · rw [if_pos h1]
    refine (concatenate_apply_piece (t := S16x2048x16x96) 3 _ _ _ 0 (by show 0 < 2; omega) S16x2048x16x64 _ rfl rfl 0 rfl (ix4 b s h (⟨d.val, h1⟩ : Fin 64)) ?_ ?_).trans ?_
    · intro y hy; fin_cases y <;> first | rfl | exact absurd rfl hy
    · show 0 + d.val = d.val; omega
    · rw [val_main_v124_apply]
      refine Eq.trans (congrArg _ ?_) (ref_n_k x nr win kva wukv kn b s T hT h d)
      funext a; apply Fin.ext; fin_cases a <;> rfl
  rw [if_neg h1]
  refine (concatenate_apply_piece (t := S16x2048x16x96) 3 _ _ _ 1 (by show 1 < 2; omega) S16x2048x16x32 _ rfl rfl 64 rfl (ix4 b s h (⟨d.val - 64, by omega⟩ : Fin 32)) ?_ ?_).trans ?_
  · intro y hy; fin_cases y <;> first | rfl | exact absurd rfl hy
  · show 64 + (d.val - 64) = d.val; omega
  unfold val_main_v159
  by_cases h2 : d.val < 80
  · rw [if_pos h2]
    refine (concatenate_apply_piece (t := S16x2048x16x32) 3 _ _ _ 0 (by show 0 < 2; omega) S16x2048x16x16 _ rfl rfl 0 rfl (ix4 b s h (⟨d.val - 64, by omega⟩ : Fin 16)) ?_ ?_).trans ?_
    · intro y hy; fin_cases y <;> first | rfl | exact absurd rfl hy
    · show 0 + (d.val - 64) = d.val - 64; omega
    · refine (ref_lo_k x nr win kva wukv kn b s T hT h _).trans ?_
      simp only
      rw [show 64 + (d.val - 64) = d.val by omega, show 80 + (d.val - 64) = d.val + 16 by omega]
  · rw [if_neg h2]
    refine (concatenate_apply_piece (t := S16x2048x16x32) 3 _ _ _ 1 (by show 1 < 2; omega) S16x2048x16x16 _ rfl rfl 16 rfl (ix4 b s h (⟨d.val - 80, by omega⟩ : Fin 16)) ?_ ?_).trans ?_
    · intro y hy; fin_cases y <;> first | rfl | exact absurd rfl hy
    · show 16 + (d.val - 80) = d.val - 64; omega
    · refine (ref_hi_k x nr win kva wukv kn b s T hT h _).trans ?_
      simp only
      rw [show 64 + (d.val - 80) = d.val - 16 by omega, show 80 + (d.val - 80) = d.val by omega]

theorem ref_lane_k (l : Fin 128) : (val_main_v173 (F := Ideal) x nr win kva wukv kn (ix4 b s h l) : EReal) = lane (rot (KF (flat x) nr win kva wukv T h.val) (gE kn) (csE s) (snE s)) l.val := by
  have hl := l.isLt
  unfold val_main_v173
  by_cases h1 : l.val < 16
  · rw [lane_a _ _ h1]
    refine (concatenate_apply_piece (t := S16x2048x16x128) 3 _ _ _ 0 (by show 0 < 5; omega) S16x2048x16x16 _ rfl rfl 0 rfl (ix4 b s h (⟨l.val, h1⟩ : Fin 16)) ?_ ?_).trans ?_
    · intro y hy; fin_cases y <;> first | rfl | exact absurd rfl hy
    · show 0 + l.val = l.val; omega
    · rw [val_main_v169_apply]
      refine Eq.trans (congrArg _ ?_) (ref_rot_k x nr win kva wukv kn b s T hT h (⟨64 + l.val, by omega⟩ : Fin 96))
      funext a; apply Fin.ext; fin_cases a
      · rfl
      · rfl
      · rfl
      · show 64 + l.val = 64 + l.val; omega
  by_cases h2 : l.val < 64
  · rw [lane_b _ _ (by omega) h2]
    refine (concatenate_apply_piece (t := S16x2048x16x128) 3 _ _ _ 1 (by show 1 < 5; omega) S16x2048x16x48 _ rfl rfl 16 rfl (ix4 b s h (⟨l.val - 16, by omega⟩ : Fin 48)) ?_ ?_).trans ?_
    · intro y hy; fin_cases y <;> first | rfl | exact absurd rfl hy
    · show 16 + (l.val - 16) = l.val; omega
    · rw [val_main_v170_apply]
      refine Eq.trans (congrArg _ ?_) (ref_rot_k x nr win kva wukv kn b s T hT h (⟨l.val - 16, by omega⟩ : Fin 96))
      funext a; apply Fin.ext; fin_cases a
      · rfl
      · rfl
      · rfl
      · show l.val - 16 = l.val - 16; omega
  by_cases h3 : l.val < 80
  · rw [lane_c _ _ (by omega) h3]
    refine (concatenate_apply_piece (t := S16x2048x16x128) 3 _ _ _ 2 (by show 2 < 5; omega) S16x2048x16x16 _ rfl rfl 64 rfl (ix4 b s h (⟨l.val - 64, by omega⟩ : Fin 16)) ?_ ?_).trans ?_
    · intro y hy; fin_cases y <;> first | rfl | exact absurd rfl hy
    · show 64 + (l.val - 64) = l.val; omega
    · rw [val_main_v171_apply]
      refine Eq.trans (congrArg _ ?_) (ref_rot_k x nr win kva wukv kn b s T hT h (⟨l.val + 16, by omega⟩ : Fin 96))
      funext a; apply Fin.ext; fin_cases a
      · rfl
      · rfl
      · rfl
      · show 80 + (l.val - 64) = l.val + 16; omega
  by_cases h4 : l.val < 96
  · rw [lane_d _ _ (by omega) h4]
    refine (concatenate_apply_piece (t := S16x2048x16x128) 3 _ _ _ 3 (by show 3 < 5; omega) S16x2048x16x16 _ rfl rfl 80 rfl (ix4 b s h (⟨l.val - 80, by omega⟩ : Fin 16)) ?_ ?_).trans ?_
    · intro y hy; fin_cases y <;> first | rfl | exact absurd rfl hy
    · show 80 + (l.val - 80) = l.val; omega
    · rw [val_main_v172_apply]
      refine Eq.trans (congrArg _ ?_) (ref_rot_k x nr win kva wukv kn b s T hT h (⟨l.val - 32, by omega⟩ : Fin 96))
      funext a; apply Fin.ext; fin_cases a
      · rfl
      · rfl
      · rfl
      · show 48 + (l.val - 80) = l.val - 32; omega
  rw [lane_e _ _ (by omega)]
  refine (concatenate_apply_piece (t := S16x2048x16x128) 3 _ _ _ 4 (by show 4 < 5; omega) S16x2048x16x32 _ rfl rfl 96 rfl (ix4 b s h (⟨l.val - 96, by omega⟩ : Fin 32)) ?_ ?_).trans ?_
  · intro y hy; fin_cases y <;> first | rfl | exact absurd rfl hy
  · show 96 + (l.val - 96) = l.val; omega
  · rw [val_main_v163_apply, val_main_cst_25_apply]
    exact Ideal.ofBits_zero_f32

/-- **The keys.** -/
theorem ref_out_k (l : Fin 128) (y : Fin 2048) (hy : y.val = 128 * h.val + l.val) :
    (val_main_v178 (F := Ideal) x nr win kva wukv kn (ix2 T y) : EReal) = lane (rot (KF (flat x) nr win kva wukv T h.val) (gE kn) (csE s) (snE s)) l.val := by
  have hh := h.isLt; have hl := l.isLt; have hb := b.isLt; have hs := s.isLt
  rw [val_main_v178_apply]
  refine (Attn.truncf_ideal (b := .bf16) _ bitsLt_bf16_f32 _).trans ?_
  rw [val_main_v177_apply]
  refine Eq.trans (congrArg _ ?_) (ref_lane_k x nr win kva wukv kn b s T hT h l)
  funext a; apply Fin.ext; fin_cases a
  · show (T.val * 2048 + y.val) / 4194304 = b.val; omega
  · show (T.val * 2048 + y.val) / 2048 % 2048 = s.val; omega
  · show (T.val * 2048 + y.val) / 128 % 16 = h.val; omega
  · show (T.val * 2048 + y.val) % 128 = l.val; omega

end Cert.Proj

end
-- ==== Proof.Proj.Claims.lean ====
/-
  The third call's claims: the runs, the named constant, and the value.
-/
module

public import proofs.«01_k».proof.Defs
public import proofs.«01_k».proof.Proof.Proj.Final
public import proofs.«01_k».proof.Proof.Proj.RefQ
public import proofs.«01_k».proof.Proof.Proj.RefK
public import proofs.«01_k».proof.Proof.Gen.Kernel3
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Proj

open Idealize.ShloMosaic Idealize.ShloMosaic.TcCoe Idealize.ShloMosaic.ValueIdx Idealize.SL.Sem
open Cert.Kernel3Ideal.Gen

/-- A thread of the reference. -/
abbrev RThread := Thread Cert.Reference3Ideal.nD Cert.Reference3Ideal.τ

theorem frame_kernel : Cert.quiescent_Kernel3 := fun m g _ => Cert.Kernel3.Gen.frame m g

theorem frame_ideal : Cert.quiescent_Kernel3Ideal := fun m g _ => Cert.Kernel3Ideal.Gen.frame m g

/-- The reference declares no semaphore, so its counters read zero. -/
theorem frame_reference : Cert.quiescent_Reference3Ideal := by
  intro m g _
  exact (θ_run Cert.Reference3Ideal.defs _ _).mono (fun r h => ⟨fun c => (h c).2.2.2, sem_eq_zero_of_no_sems (by decide) r.2⟩)
    (Cert.Reference3Ideal.Value.run m g)

/-- The constant one writes for 1/96 is named. -/
theorem inv_named : Cert.preserves_Kernel3_Kernel3Ideal :=
  IdealRules.named_const.statement Cert.Kernel3Ideal.κ "inv96" .f32 0x3C2AAAAB#32 ((1 / 96 : ℝ) : EReal) rfl

/-- **The value**: the call's three results are the reference's. -/
theorem value : Cert.algebraic_Kernel3Ideal_Reference3Ideal := by
  intro m g m' g' _ hag
  refine ⟨fun c => Cert.Reference3Ideal.Read.val_main_v176 (F := Ideal) (aX m c) (aN m c) (aWin m c) (aQa m c) (aWuq m c) (aQn m c),
    fun c => Cert.Reference3Ideal.Read.val_main_v178 (F := Ideal) (aX m c) (aN m c) (aWin m c) (aKva m c) (aWukv m c) (aKn m c),
    fun c => Cert.Reference3Ideal.Read.val_main_v180 (F := Ideal) (aX m c) (aN m c) (aWin m c) (aKva m c) (aWukv m c), ?_, ?_⟩
  · refine (θ_run Cert.Kernel3Ideal.defs _ _).mono (fun r h c => ⟨(h c).1.trans ?_, (h c).2.1.trans ?_, (h c).2.2.1.trans ?_, (h c).2.2.2⟩) (Cert.Kernel3Ideal.Value.run_blocks m g)
    · funext i
      obtain ⟨y, T, rfl⟩ : ∃ (y : Fin 2048) (T : Fin 32768), i = ix2 y T := ⟨i 0, i 1, by funext a; fin_cases a <;> rfl⟩
      refine (final_q m c T (⟨T.val % 2048, by omega⟩ : Fin 2048) rfl (⟨y.val / 128, by omega⟩ : Fin 16) (⟨y.val % 128, by omega⟩ : Fin 128) y (by simp only; omega)).trans (Eq.symm ?_)
      exact ref_out_q (aX m c) (aN m c) (aWin m c) (aQa m c) (aWuq m c) (aQn m c) (⟨T.val / 2048, by omega⟩ : Fin 16) (⟨T.val % 2048, by omega⟩ : Fin 2048) T (by simp only; omega) _ _ y (by simp only; omega)
    · funext i
      obtain ⟨T, y, rfl⟩ : ∃ (T : Fin 32768) (y : Fin 2048), i = ix2 T y := ⟨i 0, i 1, by funext a; fin_cases a <;> rfl⟩
      refine (final_k m c T (⟨T.val % 2048, by omega⟩ : Fin 2048) rfl (⟨y.val / 128, by omega⟩ : Fin 16) (⟨y.val % 128, by omega⟩ : Fin 128) y (by simp only; omega)).trans (Eq.symm ?_)
      exact ref_out_k (aX m c) (aN m c) (aWin m c) (aKva m c) (aWukv m c) (aKn m c) (⟨T.val / 2048, by omega⟩ : Fin 16) (⟨T.val % 2048, by omega⟩ : Fin 2048) T (by simp only; omega) _ _ y (by simp only; omega)
    · funext i
      obtain ⟨T, y, rfl⟩ : ∃ (T : Fin 32768) (y : Fin 1024), i = ix2 T y := ⟨i 0, i 1, by funext a; fin_cases a <;> rfl⟩
      refine (final_v m c T (⟨T.val % 2048, by omega⟩ : Fin 2048) rfl (⟨y.val / 64, by omega⟩ : Fin 16) (⟨y.val % 64, by omega⟩ : Fin 64) y (by simp only; omega)).trans (Eq.symm ?_)
      exact ref_v (aX m c) (aN m c) (aWin m c) (aKva m c) (aWukv m c) (⟨T.val / 2048, by omega⟩ : Fin 16) (⟨T.val % 2048, by omega⟩ : Fin 2048) T (by simp only; omega) _ _ y (by simp only; omega)
  · refine (θ_run Cert.Reference3Ideal.defs _ _).mono (fun r h c => ⟨(h c).1.trans ?_, (h c).2.1.trans ?_, (h c).2.2.1.trans ?_, (h c).2.2.2⟩) (Cert.Reference3Ideal.Value.run m' g')
    all_goals obtain ⟨h0, h1, h2, h3, h4, h5, h6, h7, h8⟩ := hag c
    · refine (Cert.Reference3Ideal.Read.val_main_v176_eq (F := Ideal) (StableHlo.launchContents m' c)).trans ?_
      show Cert.Reference3Ideal.Read.val_main_v176 (F := Ideal) (m' ((c.tc : RThread).loc Cert.Reference3Ideal.main_arg0)) (m' ((c.tc : RThread).loc Cert.Reference3Ideal.main_arg1)) (m' ((c.tc : RThread).loc Cert.Reference3Ideal.main_arg2)) (m' ((c.tc : RThread).loc Cert.Reference3Ideal.main_arg3)) (m' ((c.tc : RThread).loc Cert.Reference3Ideal.main_arg4)) (m' ((c.tc : RThread).loc Cert.Reference3Ideal.main_arg7)) = _
      rw [h0, h1, h2, h3, h4, h7]
    · refine (Cert.Reference3Ideal.Read.val_main_v178_eq (F := Ideal) (StableHlo.launchContents m' c)).trans ?_
      show Cert.Reference3Ideal.Read.val_main_v178 (F := Ideal) (m' ((c.tc : RThread).loc Cert.Reference3Ideal.main_arg0)) (m' ((c.tc : RThread).loc Cert.Reference3Ideal.main_arg1)) (m' ((c.tc : RThread).loc Cert.Reference3Ideal.main_arg2)) (m' ((c.tc : RThread).loc Cert.Reference3Ideal.main_arg5)) (m' ((c.tc : RThread).loc Cert.Reference3Ideal.main_arg6)) (m' ((c.tc : RThread).loc Cert.Reference3Ideal.main_arg8)) = _
      rw [h0, h1, h2, h5, h6, h8]
    · refine (Cert.Reference3Ideal.Read.val_main_v180_eq (F := Ideal) (StableHlo.launchContents m' c)).trans ?_
      show Cert.Reference3Ideal.Read.val_main_v180 (F := Ideal) (m' ((c.tc : RThread).loc Cert.Reference3Ideal.main_arg0)) (m' ((c.tc : RThread).loc Cert.Reference3Ideal.main_arg1)) (m' ((c.tc : RThread).loc Cert.Reference3Ideal.main_arg2)) (m' ((c.tc : RThread).loc Cert.Reference3Ideal.main_arg5)) (m' ((c.tc : RThread).loc Cert.Reference3Ideal.main_arg6)) = _
      rw [h0, h1, h2, h5, h6]

end Cert.Proj

end
-- ==== Proof.Ffn0.Model.lean ====
/-
  The body of one grid point of the fourth call, written as a loop. The kernel unrolls eleven chunks of 256 columns of the
  hidden width; for each chunk it takes the gate's columns and then the value's, so twenty-two pieces of columns in all. A piece
  is up-projected, its last eight rows are kept for the next grid point, and it is convolved along the rows with the eight rows
  that the grid point before kept. Here every step is a definition in the piece's number.
-/
module

public import proofs.«01_k».proof.Proof.Gen.Kernel4Ideal.Frame

@[expose] public section

set_option maxRecDepth 16384

noncomputable section

namespace Cert.Ffn0

open Idealize.ShloMosaic Idealize.ShloMosaic.TcCoe
open Cert.Kernel4Ideal Cert.Kernel4Ideal.Gen

/-- The first column of piece `n`: gates are the even pieces, values the odd ones. -/
def lo (n : ℕ) : ℕ := 256 * min (n / 2) 10 + 2816 * (n % 2)
/-- The first column of chunk `c` of the products of gates and values. -/
def co (c : ℕ) : ℕ := 256 * min c 10

theorem lo_le (n : ℕ) : lo n + 256 ≤ 5632 := by unfold lo; omega
theorem co_le (c : ℕ) : co c + 256 ≤ 2816 := by unfold co; omega

theorem inb3 {d off size : Fin 3 → ℕ} (h0 : off 0 + size 0 ≤ d 0) (h1 : off 1 + size 1 ≤ d 1) (h2 : off 2 + size 2 ≤ d 2) :
    ∀ a, off a + size a ≤ (⟨3, d⟩ : Shape).size a := by
  intro a; fin_cases a; exacts [h0, h1, h2]

variable {F : FTy → Type} [FloatOps F]

/-- The residual after the output projection, -/
def resid (a : Vec F S512x512 .bf16) (wa : Vec F S512x1024 .bf16) (b : Vec F S512x512 .bf16) (wb : Vec F S512x1024 .bf16)
    (x : Vec F S512x1024 .f32) : FVec F S512x1024 .f32 := k0_pay4 a wa b wb x
/-- and its norm. -/
def normed (a : Vec F S512x512 .bf16) (wa : Vec F S512x1024 .bf16) (b : Vec F S512x512 .bf16) (wb : Vec F S512x1024 .bf16)
    (x : Vec F S512x1024 .f32) (g : Vec F S1x1x1024 .f32) : FVec F S512x1024 .bf16 :=
  k0_pay8 (k0_pay4 a wa b wb x) (k0_pay5 g) (k0_pay6 a wa b wb x) k0_pay7

/-- The up-projection onto 256 columns. -/
def up (h : FVec F S512x1024 .bf16) (w : Vec F S1x1024x256 .bf16) : FVec F S512x256 .f32 := k0_pay15 h w

/-- The last eight rows, which the next grid point needs. -/
def keep (u : FVec F S512x256 .f32) : FVec F S8x256 .f32 :=
  shapeCast S8x256 (extractStridedSlice S8x256 ![504, 0] u slices_S512x256_o504_0_S8x256) shapeCasts_S8x256_S8x256

/-- The rows `k` before, the first `k` of them taken from the rows kept by the grid point before. -/
def shift (k : BitVec 32) (u : FVec F S512x256 .f32) (tl : Vec F S8x256 .f32) : FVec F S512x256 .f32 :=
  concatenate S512x256 0
    [⟨S8x256, select (cmpi .slt (iota .tc S8x256 32 [0] iota_S8x256_d0_w32) (broadcast S8x256 k))
        (dynamicRotate 0 k none tl rotates_S8x256_d0)
        (extractStridedSlice S8x256 ![0, 0] (dynamicRotate 0 k none u rotates_S512x256_d0) slices_S512x256_o0_0_S8x256)⟩,
      ⟨S504x256, extractStridedSlice S504x256 ![8, 0] (dynamicRotate 0 k none u rotates_S512x256_d0) slices_S512x256_o8_0_S504x256⟩]
    concatenates_S8x256_S504x256_S512x256_d0

/-- The convolution of a piece along its rows. -/
def conv (u : FVec F S512x256 .f32) (tl : Vec F S8x256 .f32) (cw : Vec F S1x3x256 .f32) (cb : Vec F S1x1x256 .f32) : FVec F S512x256 .f32 :=
  addf (addf (addf (broadcastTo S512x256 (shapeCast S1x256 cb shapeCasts_S1x1x256_S1x256) broadcasts_S1x256_S512x256)
      (mulf (broadcastTo S512x256 (extractStridedSlice S1x256 ![2, 0] (shapeCast S3x256 cw shapeCasts_S1x3x256_S3x256) slices_S3x256_o2_0_S1x256)
        broadcasts_S1x256_S512x256) u))
    (mulf (broadcastTo S512x256 (extractStridedSlice S1x256 ![1, 0] (shapeCast S3x256 cw shapeCasts_S1x3x256_S3x256) slices_S3x256_o1_0_S1x256)
        broadcasts_S1x256_S512x256) (shift 1#32 u tl)))
    (mulf (broadcastTo S512x256 (extractStridedSlice S1x256 ![0, 0] (shapeCast S3x256 cw shapeCasts_S1x3x256_S3x256) slices_S3x256_o0_0_S1x256)
        broadcasts_S1x256_S512x256) (shift 2#32 u tl))

/-- The gated product. -/
def act (g v : FVec F S512x256 .f32) : FVec F S512x256 .bf16 :=
  k0_pay1 g v (broadcast S512x256 (Scalar.ofBits .f32 0x3F000000#32 : F .f32))

/-- The columns of piece `n` in the kept rows, -/
@[implicit_reducible] def cRect (n : ℕ) : Rect S8x5632 :=
  Rect.unit (s := S8x5632) ![0, lo n] S8x256.size (Rect.inb₂ (le_refl 8) (lo_le n))
/-- and the columns of chunk `c` in the products. -/
@[implicit_reducible] def aRect (c : ℕ) : Rect S512x2816 :=
  Rect.unit (s := S512x2816) ![0, co c] S512x256.size (Rect.inb₂ (le_refl 512) (co_le c))

section
variable (h : FVec F S512x1024 .bf16) (w : ℕ → Vec F S1x1024x256 .bf16)

/-- The kept rows after the first `n` pieces, over what was there before. -/
def kept (L : List (View.Piece (Elt F) S8x5632 .f32)) : ℕ → List (View.Piece (Elt F) S8x5632 .f32)
  | 0 => L
  | n + 1 => ⟨cRect n, keep (up h (w n))⟩ :: kept L n

variable (tl : ℕ → Vec F S8x256 .f32) (cw : ℕ → Vec F S1x3x256 .f32) (cb : ℕ → Vec F S1x1x256 .f32)

/-- Piece `n` convolved. -/
def branch (n : ℕ) : FVec F S512x256 .f32 := conv (up h (w n)) (tl n) (cw n) (cb n)

/-- The products of the first `n` chunks. -/
def acts : ℕ → List (View.Piece (Elt F) S512x2816 .bf16)
  | 0 => []
  | n + 1 => ⟨aRect n, act (branch h w tl cw cb (2 * n)) (branch h w tl cw cb (2 * n + 1))⟩ :: acts n

end

end Cert.Ffn0

end
-- ==== Proof.Ffn0.Tie.lean ====
/-
  The unrolled body is the loop.
-/
module

public import proofs.«01_k».proof.Proof.Ffn0.Model

@[expose] public section

set_option maxRecDepth 100000

noncomputable section

namespace Cert.Ffn0

open Idealize.ShloMosaic Idealize.ShloMosaic.TcCoe
open Cert.Kernel4Ideal Cert.Kernel4Ideal.Gen

variable {F : FTy → Type} [FloatOps F]
variable (c : Dev nD) (i : grid0.Coords)
variable (arg1 : Memref sig .tc .vmem S512x512 .bf16) (harg1 : arg1.IsWhole)
variable (arg2 : Memref sig .tc .vmem S512x512 .bf16) (harg2 : arg2.IsWhole)
variable (arg3 : Memref sig .tc .vmem S512x1024 .f32) (harg3 : arg3.IsWhole)
variable (arg4 : Memref sig .tc .vmem S1024x1024 .bf16) (harg4 : arg4.IsWhole)
variable (arg5 : Memref sig .tc .vmem S1x1x1024 .f32) (harg5 : arg5.IsWhole)
variable (arg6 : Memref sig .tc .vmem S1x1024x5632 .bf16) (harg6 : arg6.IsWhole)
variable (arg7 : Memref sig .tc .vmem S1x3x5632 .f32) (harg7 : arg7.IsWhole)
variable (arg8 : Memref sig .tc .vmem S1x1x5632 .f32) (harg8 : arg8.IsWhole)
variable (arg9 : Memref sig .tc .vmem S1x2816x1024 .bf16) (harg9 : arg9.IsWhole)
variable (arg10 : Memref sig .tc .vmem S512x1024 .f32) (harg10 : arg10.IsWhole)
variable (arg11 : Memref sig .tc .vmem S512x2816 .bf16) (harg11 : arg11.IsWhole)
variable (arg12 : Memref sig .tc .vmem S8x5632 .f32) (harg12 : arg12.IsWhole)
variable (x0 : Vec F S512x512 .bf16) (x1 : Vec F S512x512 .bf16) (x2 : Vec F S512x1024 .f32) (x3 : Vec F S1024x1024 .bf16) (x4 : Vec F S1x1x1024 .f32) (x5 : Vec F S1x1024x5632 .bf16) (x6 : Vec F S1x3x5632 .f32) (x7 : Vec F S1x1x5632 .f32) (x8 : Vec F S1x2816x1024 .bf16)
  (xs1 : Vec F S8x5632 .f32)

/-- What the body loads: the two halves of the mixer's output and of the projection, the residual, the gain, -/
def a0 : Vec F S512x512 .bf16 := View.readAt (Elt F) arg1.view (Rect.unit ![0, 0] S512x512.size inb_S512x512_S512x512_0_0).toLoadRect (harg1.unread x0)
def b0 : Vec F S512x512 .bf16 := View.readAt (Elt F) arg2.view (Rect.unit ![0, 0] S512x512.size inb_S512x512_S512x512_0_0).toLoadRect (harg2.unread x1)
def wa : Vec F S512x1024 .bf16 := View.readAt (Elt F) arg4.view (Rect.unit (s := S1024x1024) ![0, 0] S512x1024.size inb_S1024x1024_S512x1024_0_0).toLoadRect (harg4.unread x3)
def wb : Vec F S512x1024 .bf16 := View.readAt (Elt F) arg4.view (Rect.unit (s := S1024x1024) ![512, 0] S512x1024.size inb_S1024x1024_S512x1024_512_0).toLoadRect (harg4.unread x3)
def r0 : Vec F S512x1024 .f32 := View.readAt (Elt F) arg3.view (Rect.unit ![0, 0] S512x1024.size inb_S512x1024_S512x1024_0_0).toLoadRect (harg3.unread x2)
def g0 : Vec F S1x1x1024 .f32 := View.readAt (Elt F) arg5.view (Rect.unit ![0, 0, 0] S1x1x1024.size inb_S1x1x1024_S1x1x1024_0_0_0).toLoadRect (harg5.unread x4)
/-- and of piece `n` the up-projection, the taps, the bias and the kept rows; -/
def wAt (n : ℕ) : Vec F S1x1024x256 .bf16 := View.readAt (Elt F) arg6.view
  (Rect.unit (s := S1x1024x5632) ![0, 0, lo n] S1x1024x256.size (inb3 (le_refl 1) (le_refl 1024) (lo_le n))).toLoadRect (harg6.unread x5)
def cwAt (n : ℕ) : Vec F S1x3x256 .f32 := View.readAt (Elt F) arg7.view
  (Rect.unit (s := S1x3x5632) ![0, 0, lo n] S1x3x256.size (inb3 (le_refl 1) (le_refl 3) (lo_le n))).toLoadRect (harg7.unread x6)
def cbAt (n : ℕ) : Vec F S1x1x256 .f32 := View.readAt (Elt F) arg8.view
  (Rect.unit (s := S1x1x5632) ![0, 0, lo n] S1x1x256.size (inb3 (le_refl 1) (le_refl 1) (lo_le n))).toLoadRect (harg8.unread x7)
def tlAt (n : ℕ) : Vec F S8x256 .f32 := View.readAt (Elt F) arg12.view (cRect n).toLoadRect (harg12.unread xs1)
def wd : Vec F S1x2816x1024 .bf16 := View.readAt (Elt F) arg9.view (Rect.unit ![0, 0, 0] S1x2816x1024.size inb_S1x2816x1024_S1x2816x1024_0_0_0).toLoadRect (harg9.unread x8)

/-- the residual and the norm of them. -/
def xAt : FVec F S512x1024 .f32 := resid (a0 arg1 harg1 x0) (wa arg4 harg4 x3) (b0 arg2 harg2 x1) (wb arg4 harg4 x3) (r0 arg3 harg3 x2)
def hAt : FVec F S512x1024 .bf16 := normed (a0 arg1 harg1 x0) (wa arg4 harg4 x3) (b0 arg2 harg2 x1) (wb arg4 harg4 x3) (r0 arg3 harg3 x2) (g0 arg5 harg5 x4)

/-- The zeros that the first grid point of a sequence starts from. -/
def zeros : List (View.Piece (Elt F) S8x5632 .f32) := [⟨Rect.unit ![0, 0] S8x5632.size inb_S8x5632_S8x5632_0_0, k0_pay3⟩]

theorem kept_A (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 = kept (hAt arg1 harg1 arg2 harg2 arg3 harg3 arg4 harg4 arg5 harg5 x0 x1 x2 x3 x4) (wAt arg6 harg6 x5) zeros 22 := rfl

theorem out_A (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 =
    [⟨Rect.unit ![0, 0] S512x1024.size inb_S512x1024_S512x1024_0_0,
      k0_pay2 (xAt arg1 harg1 arg2 harg2 arg3 harg3 arg4 harg4 x0 x1 x2 x3) (arg11.view.readCov (acts (hAt arg1 harg1 arg2 harg2 arg3 harg3 arg4 harg4 arg5 harg5 x0 x1 x2 x3 x4) (wAt arg6 harg6 x5) (fun n => arg12.view.readCov (kept (hAt arg1 harg1 arg2 harg2 arg3 harg3 arg4 harg4 arg5 harg5 x0 x1 x2 x3 x4) (wAt arg6 harg6 x5) zeros n) (cRect n).toLoadRect) (cwAt arg7 harg7 x6) (cbAt arg8 harg8 x7) 11)
        (Rect.unit ![0, 0] S512x2816.size inb_S512x2816_S512x2816_0_0).toLoadRect) (wd arg9 harg9 x8)⟩] := rfl

theorem kept_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs1).2.1 = kept (hAt arg1 harg1 arg2 harg2 arg3 harg3 arg4 harg4 arg5 harg5 x0 x1 x2 x3 x4) (wAt arg6 harg6 x5) [] 22 := rfl

theorem out_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs1).1 =
    [⟨Rect.unit ![0, 0] S512x1024.size inb_S512x1024_S512x1024_0_0,
      k0_pay2 (xAt arg1 harg1 arg2 harg2 arg3 harg3 arg4 harg4 x0 x1 x2 x3) (arg11.view.readCov (acts (hAt arg1 harg1 arg2 harg2 arg3 harg3 arg4 harg4 arg5 harg5 x0 x1 x2 x3 x4) (wAt arg6 harg6 x5) (tlAt arg12 harg12 xs1) (cwAt arg7 harg7 x6) (cbAt arg8 harg8 x7) 11)
        (Rect.unit ![0, 0] S512x2816.size inb_S512x2816_S512x2816_0_0).toLoadRect) (wd arg9 harg9 x8)⟩] := rfl

end Cert.Ffn0

end
-- ==== Proof.Ffn0.Ring.lean ====
/-
  What the two scratch buffers hold: each column of the kept rows comes from the piece that covers it, or is what was there
  before if that piece has not been stored; each column of the products comes from its chunk.
-/
module

public import proofs.«01_k».proof.Proof.Ffn0.Model
public import Idealize.ShloMosaic.Lib.ValueIdx

@[expose] public section

set_option maxRecDepth 16384

noncomputable section

namespace Cert.Ffn0

open Idealize.ShloMosaic Idealize.ShloMosaic.TcCoe Idealize.ShloMosaic.ValueIdx
open Cert.Kernel4Ideal Cert.Kernel4Ideal.Gen

variable {F : FTy → Type} [FloatOps F]

/-- Two of the twenty-two pieces share no column. -/
theorem lo_disjoint {n p : ℕ} (hn : n < 22) (hp : p < 22) (hne : n ≠ p) : lo n + 256 ≤ lo p ∨ lo p + 256 ≤ lo n := by
  unfold lo; omega

section
variable (h : FVec F S512x1024 .bf16) (w : ℕ → Vec F S1x1024x256 .bf16) (L : List (View.Piece (Elt F) S8x5632 .f32))

/-- A piece's store leaves the other pieces' columns. -/
theorem kept_skip {n p : ℕ} (hn : n < 22) (hp : p < 22) (hne : n ≠ p) (a : Fin 8) (j : Fin 256) (y : Fin 5632) (hy : y.val = lo p + j.val) :
    View.canon (kept h w L (n + 1)) (ix2 a y) = View.canon (kept h w L n) (ix2 a y) := by
  have hj := j.isLt
  refine View.canon_cons_of_not_mem _ _ ?_
  intro hm
  obtain ⟨z, hz, he⟩ := (LoadRect.mem_set _).mp hm (1 : Fin 2)
  have hz' : z < 256 := hz
  have he' : y.val = lo n + 1 * z := he
  rcases lo_disjoint hn hp hne with hd | hd <;> omega

/-- Before piece `p` its columns are what was there. -/
theorem kept_before (p : ℕ) (hp : p < 22) (a : Fin 8) (j : Fin 256) (y : Fin 5632) (hy : y.val = lo p + j.val) :
    ∀ n, n ≤ p → View.canon (kept h w L n) (ix2 a y) = View.canon L (ix2 a y)
  | 0, _ => rfl
  | n + 1, hn => (kept_skip h w L (by omega) hp (by omega) a j y hy).trans (kept_before p hp a j y hy n (by omega))

/-- After piece `p` its columns are its own. -/
theorem kept_after (p : ℕ) (hp : p < 22) (a : Fin 8) (j : Fin 256) (y : Fin 5632) (hy : y.val = lo p + j.val) :
    ∀ d, p + 1 + d ≤ 22 → View.canon (kept h w L (p + 1 + d)) (ix2 a y) = keep (up h (w p)) (ix2 a j)
  | 0, _ => by
    have he : (ix2 a y : S8x5632.Idx) = (cRect p).emb (ix2 a j) := by
      funext x; apply Fin.ext; fin_cases x
      · show a.val = 0 + 1 * a.val; omega
      · show y.val = lo p + 1 * j.val; omega
    refine (congrArg (View.canon _) he).trans ?_
    exact View.canon_cons_emb _ _ _ _
  | d + 1, hd => (kept_skip h w L (n := p + 1 + d) (by omega) hp (by omega) a j y hy).trans (kept_after p hp a j y hy d (by omega))

/-- All the kept rows after the grid point. -/
theorem kept_all (p : ℕ) (hp : p < 22) (a : Fin 8) (j : Fin 256) (y : Fin 5632) (hy : y.val = lo p + j.val) :
    View.canon (kept h w L 22) (ix2 a y) = keep (up h (w p)) (ix2 a j) := by
  have e : 22 = p + 1 + (21 - p) := by omega
  rw [e]
  exact kept_after h w L p hp a j y hy _ (by omega)

variable (tl : ℕ → Vec F S8x256 .f32) (cw : ℕ → Vec F S1x3x256 .f32) (cb : ℕ → Vec F S1x1x256 .f32)

/-- After chunk `p` its columns are its own. -/
theorem acts_after (p : ℕ) (hp : p < 11) (r : Fin 512) (j : Fin 256) (y : Fin 2816) (hy : y.val = co p + j.val) :
    ∀ d, p + 1 + d ≤ 11 → View.canon (acts h w tl cw cb (p + 1 + d)) (ix2 r y)
      = act (branch h w tl cw cb (2 * p)) (branch h w tl cw cb (2 * p + 1)) (ix2 r j)
  | 0, _ => by
    have he : (ix2 r y : S512x2816.Idx) = (aRect p).emb (ix2 r j) := by
      funext x; apply Fin.ext; fin_cases x
      · show r.val = 0 + 1 * r.val; omega
      · show y.val = co p + 1 * j.val; omega
    refine (congrArg (View.canon _) he).trans ?_
    exact View.canon_cons_emb _ _ _ _
  | d + 1, hd => by
    refine Eq.trans ?_ (acts_after p hp r j y hy d (by omega))
    have hj := j.isLt
    refine View.canon_cons_of_not_mem _ _ ?_
    intro hm
    obtain ⟨z, hz, he⟩ := (LoadRect.mem_set _).mp hm (1 : Fin 2)
    have hz' : z < 256 := hz
    have he' : y.val = co (p + 1 + d) + 1 * z := he
    unfold co at he' hy
    omega

/-- All the products. -/
theorem acts_all (p : ℕ) (hp : p < 11) (r : Fin 512) (j : Fin 256) (y : Fin 2816) (hy : y.val = co p + j.val) :
    View.canon (acts h w tl cw cb 11) (ix2 r y) = act (branch h w tl cw cb (2 * p)) (branch h w tl cw cb (2 * p + 1)) (ix2 r j) := by
  have e : 11 = p + 1 + (10 - p) := by omega
  rw [e]
  exact acts_after h w tl cw cb p hp r j y hy _ (by omega)

end

end Cert.Ffn0

end
-- ==== Proof.Ffn0.Values.lean ====
/-
  The fourth call's arithmetic, read entry by entry at the ideal values.
-/
module

public import proofs.«01_k».proof.Proof.Ffn0.Ring
public import proofs.«01_k».proof.Proof.Ffn.Spec
public import Idealize.ShloMosaic.Lib.WordCmp
public import Idealize.ShloMosaic.Lib.ValueLayout
public import Idealize.ShloMosaic.Lib.KernelVsHost
public import Idealize.ShloMosaic.Lib.MatmulPlain

@[expose] public section

set_option maxRecDepth 16384

noncomputable section

namespace Cert.Ffn0

open Cert.Ffn

open Idealize.ShloMosaic Idealize.ShloMosaic.TcCoe Idealize.ShloMosaic.ValueIdx
open Cert.Kernel4Ideal Cert.Kernel4Ideal.Gen

/-- A product into a zero accumulator. -/
theorem matmul_zero {M K N : ℕ} (l : FVec Ideal ⟨2, ![M, K]⟩ .bf16) (w : FVec Ideal ⟨2, ![K, N]⟩ .bf16) (r : Fin M) (n : Fin N) :
    (FloatOps.matmul (DotDims.plain M K N) none l w (constant (⟨2, ![M, N]⟩ : Shape) .f32 0x00000000#32) (ix2 r n) : EReal)
      = ∑ k : Fin K, (l (ix2 r k) : EReal) * (w (ix2 k n) : EReal) := by
  refine (Ideal.matmul_plain_apply _ _ _ _ _ _).trans ?_
  refine (congrArg (· + _) (Ideal.ofBits_zero_f32)).trans ?_
  exact zero_add _

/-- The residual. -/
theorem resid_apply (a : Vec Ideal S512x512 .bf16) (wa : Vec Ideal S512x1024 .bf16) (b : Vec Ideal S512x512 .bf16) (wb : Vec Ideal S512x1024 .bf16)
    (x : Vec Ideal S512x1024 .f32) (r : Fin 512) (n : Fin 1024) :
    (resid (F := Ideal) a wa b wb x (ix2 r n) : EReal) = (x (ix2 r n) : EReal) + (∑ k : Fin 512, (a (ix2 r k) : EReal) * (wa (ix2 k n) : EReal)
      + ∑ k : Fin 512, (b (ix2 r k) : EReal) * (wb (ix2 k n) : EReal)) := by
  unfold resid k0_pay4
  rw [shapeCast_self, shapeCast_self, shapeCast_self, shapeCast_self, shapeCast_self]
  exact congrArg₂ (fun p q : EReal => (x (ix2 r n) : EReal) + (p + q)) (matmul_zero _ _ _ _) (matmul_zero _ _ _ _)

/-- The sum of the squares of a row. -/
theorem pay6_apply (a : Vec Ideal S512x512 .bf16) (wa : Vec Ideal S512x1024 .bf16) (b : Vec Ideal S512x512 .bf16) (wb : Vec Ideal S512x1024 .bf16)
    (x : Vec Ideal S512x1024 .f32) (r : Fin 512) :
    (k0_pay6 (F := Ideal) a wa b wb x (ix2 r (0 : Fin 1)) : EReal)
      = ∑ i : Fin 1024, (resid (F := Ideal) a wa b wb x (ix2 r i) : EReal) * (resid (F := Ideal) a wa b wb x (ix2 r i) : EReal) := by
  unfold k0_pay6
  refine (shapeCast_apply _ _ (ix2 r (0 : Fin 1)) (ix1 r) (by rw [Shape.rowMajor_val_one, Shape.rowMajor_val_two]; show r.val = r.val * 1 + 0; omega)).trans ?_
  refine (Ideal.multiReduction_add_single _ _ _ _ _ _).trans ?_
  refine Finset.sum_congr rfl fun i _ => ?_
  have e : reduces_S512x1024_S512.lift (ix1 r) i = (ix2 r i : S512x1024.Idx) := by funext y; fin_cases y <;> rfl
  rw [e]; rfl

/-- The norm. -/
theorem normed_apply (a : Vec Ideal S512x512 .bf16) (wa : Vec Ideal S512x1024 .bf16) (b : Vec Ideal S512x512 .bf16) (wb : Vec Ideal S512x1024 .bf16)
    (x : Vec Ideal S512x1024 .f32) (g : Vec Ideal S1x1x1024 .f32) (r : Fin 512) (k : Fin 1024) :
    (normed (F := Ideal) a wa b wb x g (ix2 r k) : EReal)
      = rms (fun i => (resid (F := Ideal) a wa b wb x (ix2 r i) : EReal)) (g (ix3 (0 : Fin 1) (0 : Fin 1) k)) k := by
  unfold normed k0_pay8 k0_pay7 rms
  have hms := pay6_apply a wa b wb x r
  have hg : (broadcastTo S512x1024 (k0_pay5 (F := Ideal) g) broadcasts_S1x1024_S512x1024 (ix2 r k) : EReal) = (g (ix3 (0 : Fin 1) (0 : Fin 1) k) : EReal) := by
    refine (broadcastTo_1b_ab_apply _ _ _ _).trans ?_
    unfold k0_pay5
    exact shapeCast_1ab_ab_apply _ _ _ _
  have hr : ∀ v : FVec Ideal S512x1 .f32, (broadcastTo S512x1024 v broadcasts_S512x1_S512x1024 (ix2 r k) : EReal) = (v (ix2 r (0 : Fin 1)) : EReal) := fun v =>
    broadcastTo_apply v _ _ _ (by intro y; fin_cases y <;> rfl)
  show (k0_pay4 (F := Ideal) a wa b wb x (ix2 r k) : EReal) * (broadcastTo S512x1024 _ broadcasts_S512x1_S512x1024 (ix2 r k) : EReal)
    * (broadcastTo S512x1024 (k0_pay5 (F := Ideal) g) broadcasts_S1x1024_S512x1024 (ix2 r k) : EReal) = _
  rw [hg, hr]
  show _ * Ideal.rsqrt ((k0_pay6 (F := Ideal) a wa b wb x (ix2 r (0 : Fin 1)) : EReal) * Ideal.ofBits .f32 0x3A800000#32 + _) * _ = _
  rw [hms, inv1024_eq]
  rfl

/-- The up-projection. -/
theorem up_apply (h : FVec Ideal S512x1024 .bf16) (w : Vec Ideal S1x1024x256 .bf16) (r : Fin 512) (j : Fin 256) :
    (up (F := Ideal) h w (ix2 r j) : EReal) = ∑ k : Fin 1024, (h (ix2 r k) : EReal) * (w (ix3 (0 : Fin 1) k j) : EReal) := by
  unfold up k0_pay15
  refine (matmul_zero _ _ _ _).trans ?_
  exact Finset.sum_congr rfl fun k _ => congrArg (fun q : EReal => (h (ix2 r k) : EReal) * q) (shapeCast_1ab_ab_apply _ _ _ _)

/-- The kept rows. -/
theorem keep_apply (u : FVec Ideal S512x256 .f32) (a : Fin 8) (j : Fin 256) (y : Fin 512) (hy : y.val = 504 + a.val) :
    (keep (F := Ideal) u (ix2 a j) : EReal) = (u (ix2 y j) : EReal) := by
  unfold keep
  rw [shapeCast_self]
  refine extractStridedSlice_apply _ _ _ _ _ (fun x => ?_)
  fin_cases x
  · show y.val = 504 + a.val; exact hy
  · show j.val = 0 + j.val; omega

/-- A rotation of a block of rows. -/
theorem rot_apply {n : ℕ} (k : ℕ) (hk : k < n) (hk' : k < 2 ^ 32) (u : FVec Ideal (⟨2, ![n, 256]⟩ : Shape) .f32) (h : (⟨2, ![n, 256]⟩ : Shape).Rotates 0 none)
    (i : Fin n) (j : Fin 256) (y : Fin n) (hy : y.val = if i.val < k then n + i.val - k else i.val - k) :
    dynamicRotate 0 (BitVec.ofNat 32 k) none u h (ix2 i j) = u (ix2 y j) := by
  have hi := i.isLt
  have hkn : (BitVec.ofNat 32 k).toNat = k := by simp only [BitVec.toNat_ofNat]; exact Nat.mod_eq_of_lt hk'
  refine dynamicRotate_apply _ _ _ _ _ _ (fun x => ?_)
  fin_cases x
  · show y.val = (i.val + n - (BitVec.ofNat 32 k).toNat % n) % n
    rw [hkn, Nat.mod_eq_of_lt hk]
    by_cases hc : i.val < k
    · rw [if_pos hc] at hy; rw [Nat.mod_eq_of_lt (by omega)]; omega
    · rw [if_neg hc] at hy; rw [show i.val + n - k = (i.val - k) + n by omega, Nat.add_mod_right, Nat.mod_eq_of_lt (by omega)]; omega
  · rfl

/-- Rows `k` before, for the first `k` rows, -/
theorem shift_lt (k : ℕ) (hk : k < 8) (u : FVec Ideal S512x256 .f32) (tl : Vec Ideal S8x256 .f32) (i : Fin 512) (j : Fin 256)
    (hi : i.val < k) (y : Fin 8) (hy : y.val = 8 + i.val - k) :
    (shift (F := Ideal) (BitVec.ofNat 32 k) u tl (ix2 i j) : EReal) = (tl (ix2 y j) : EReal) := by
  unfold shift
  refine (concatenate_apply_piece (t := S512x256) 0 _ _ _ 0 (by show _ < 2; omega) S8x256 _ rfl rfl 0 rfl
      (ix2 (⟨i.val, by omega⟩ : Fin 8) j) ?_ ?_).trans ?_
  · intro y hy; fin_cases y <;> first | rfl | exact absurd rfl hy
  · show 0 + i.val = i.val; omega
  have h0 : iota .tc S8x256 32 [0] iota_S8x256_d0_w32 (ix2 (⟨i.val, by omega⟩ : Fin 8) j) = BitVec.ofNat 32 i.val := iota_single_apply ..
  have hc := WordCmp.cmpi_slt_ofNat_eq_one_iff (w := 32) (a := i.val) (b := k) (by norm_num; omega) (by norm_num; omega)
  show (if IntOp.cmpi .slt (iota .tc S8x256 32 [0] iota_S8x256_d0_w32 (ix2 (⟨i.val, by omega⟩ : Fin 8) j)) (BitVec.ofNat 32 k) = 1#1 then _ else _) = _
  rw [h0, if_pos (hc.mpr hi)]
  exact rot_apply k hk (by omega) _ _ _ _ y (by simp only; rw [if_pos hi]; exact hy)

/-- and for the others. -/
theorem shift_ge (k : ℕ) (hk : k < 8) (u : FVec Ideal S512x256 .f32) (tl : Vec Ideal S8x256 .f32) (i : Fin 512) (j : Fin 256)
    (hi : k ≤ i.val) (y : Fin 512) (hy : y.val = i.val - k) :
    (shift (F := Ideal) (BitVec.ofNat 32 k) u tl (ix2 i j) : EReal) = (u (ix2 y j) : EReal) := by
  have hi' := i.isLt
  have hr := rot_apply k (n := 512) (by omega) (by omega) u rotates_S512x256_d0 i j y (by rw [if_neg (by omega)]; exact hy)
  unfold shift
  by_cases h8 : i.val < 8
  · refine (concatenate_apply_piece (t := S512x256) 0 _ _ _ 0 (by show _ < 2; omega) S8x256 _ rfl rfl 0 rfl
        (ix2 (⟨i.val, h8⟩ : Fin 8) j) ?_ ?_).trans ?_
    · intro y hy; fin_cases y <;> first | rfl | exact absurd rfl hy
    · show 0 + i.val = i.val; omega
    have h0 : iota .tc S8x256 32 [0] iota_S8x256_d0_w32 (ix2 (⟨i.val, h8⟩ : Fin 8) j) = BitVec.ofNat 32 i.val := iota_single_apply ..
    have hc := WordCmp.cmpi_slt_ofNat_eq_one_iff (w := 32) (a := i.val) (b := k) (by norm_num; omega) (by norm_num; omega)
    show (if IntOp.cmpi .slt (iota .tc S8x256 32 [0] iota_S8x256_d0_w32 (ix2 (⟨i.val, h8⟩ : Fin 8) j)) (BitVec.ofNat 32 k) = 1#1 then _ else _) = _
    rw [h0, if_neg (fun e => absurd (hc.mp e) (by omega))]
    refine (extractStridedSlice_apply _ _ _ _ (ix2 i j) (fun x => ?_)).trans hr
    fin_cases x
    · show i.val = 0 + i.val; omega
    · show j.val = 0 + j.val; omega
  · refine (concatenate_apply_piece (t := S512x256) 0 _ _ _ 1 (by show _ < 2; omega) S504x256 _ rfl rfl 8 rfl
        (ix2 (⟨i.val - 8, by omega⟩ : Fin 504) j) ?_ ?_).trans ?_
    · intro y hy; fin_cases y <;> first | rfl | exact absurd rfl hy
    · show 8 + (i.val - 8) = i.val; omega
    refine (extractStridedSlice_apply _ _ _ _ (ix2 i j) (fun x => ?_)).trans hr
    fin_cases x
    · show i.val = 8 + (i.val - 8); omega
    · show j.val = 0 + j.val; omega

/-- A tap of the convolution. -/
theorem tap_apply (o : ℕ) (ho : S3x256.Slices ![o, 0] S1x256) (cw : Vec Ideal S1x3x256 .f32) (i : Fin 512) (j : Fin 256) (y : Fin 3) (hy : y.val = o) :
    (broadcastTo S512x256 (extractStridedSlice S1x256 ![o, 0] (shapeCast S3x256 cw shapeCasts_S1x3x256_S3x256) ho)
        broadcasts_S1x256_S512x256 (ix2 i j) : EReal) = (cw (ix3 (0 : Fin 1) y j) : EReal) := by
  refine (broadcastTo_1b_ab_apply _ _ _ _).trans ?_
  refine (extractStridedSlice_apply _ _ _ _ (ix2 y j) (fun x => ?_)).trans (shapeCast_1ab_ab_apply _ _ _ _)
  fin_cases x
  · show y.val = o + 0; omega
  · show j.val = 0 + j.val; omega

/-- The convolution. -/
theorem conv_apply (u : FVec Ideal S512x256 .f32) (tl : Vec Ideal S8x256 .f32) (cw : Vec Ideal S1x3x256 .f32) (cb : Vec Ideal S1x1x256 .f32)
    (i : Fin 512) (j : Fin 256) :
    (conv (F := Ideal) u tl cw cb (ix2 i j) : EReal)
      = (((cb (ix3 (0 : Fin 1) (0 : Fin 1) j) : EReal) + (cw (ix3 (0 : Fin 1) (2 : Fin 3) j) : EReal) * (u (ix2 i j) : EReal))
        + (cw (ix3 (0 : Fin 1) (1 : Fin 3) j) : EReal) * (shift (F := Ideal) (BitVec.ofNat 32 1) u tl (ix2 i j) : EReal))
        + (cw (ix3 (0 : Fin 1) (0 : Fin 3) j) : EReal) * (shift (F := Ideal) (BitVec.ofNat 32 2) u tl (ix2 i j) : EReal) := by
  have hb : (broadcastTo S512x256 (shapeCast S1x256 cb shapeCasts_S1x1x256_S1x256) broadcasts_S1x256_S512x256 (ix2 i j) : EReal)
      = (cb (ix3 (0 : Fin 1) (0 : Fin 1) j) : EReal) := (broadcastTo_1b_ab_apply _ _ _ _).trans (shapeCast_1ab_ab_apply _ _ _ _)
  rw [← hb, ← tap_apply 2 slices_S3x256_o2_0_S1x256 cw i j 2 rfl, ← tap_apply 1 slices_S3x256_o1_0_S1x256 cw i j 1 rfl,
    ← tap_apply 0 slices_S3x256_o0_0_S1x256 cw i j 0 rfl]
  rfl

/-- The gated product. -/
theorem act_apply (g v : FVec Ideal S512x256 .f32) (i : S512x256.Idx) : (act (F := Ideal) g v i : EReal) = gateK (g i) * (v i : EReal) := by
  unfold act k0_pay1
  rw [shapeCast_self]
  rfl

/-- The block written. -/
theorem pay2_apply (x : FVec Ideal S512x1024 .f32) (a : Vec Ideal S512x2816 .bf16) (w : Vec Ideal S1x2816x1024 .bf16) (r : Fin 512) (n : Fin 1024) :
    (k0_pay2 (F := Ideal) x a w (ix2 r n) : EReal) = (x (ix2 r n) : EReal) + ∑ k : Fin 2816, (a (ix2 r k) : EReal) * (w (ix3 (0 : Fin 1) k n) : EReal) := by
  unfold k0_pay2
  refine congrArg (fun q : EReal => (x (ix2 r n) : EReal) + q) ?_
  refine (matmul_zero _ _ _ _).trans ?_
  exact Finset.sum_congr rfl fun k _ => congrArg (fun q : EReal => (a (ix2 r k) : EReal) * q) (shapeCast_1ab_ab_apply _ _ _ _)

end Cert.Ffn0

end
-- ==== Proof.Ffn0.Layer.lean ====
/-
  What the fourth call computes, as sums over the arguments: the residual after the output projection, its norm, the
  up-projection, the convolution over the positions of a sequence, and the gated product's down-projection.
-/
module

public import proofs.«01_k».proof.Proof.Gen.Kernel4Ideal
public import proofs.«01_k».proof.Proof.Ffn.Spec
public import Idealize.ShloMosaic.Lib.ValueIdx
public import Idealize.ShloMosaic.Lib.ValueLayout

@[expose] public section

noncomputable section

namespace Cert.Ffn0

open Cert.Ffn

open Idealize.ShloMosaic Idealize.ShloMosaic.ValueIdx
open Cert.Kernel4Ideal Cert.Kernel4Ideal.Gen

variable (o x : FVec Ideal S32768x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)

/-- The residual of row `T`. -/
def X1 (T : Fin 32768) (n : Fin 1024) : EReal := (x (ix2 T n) : EReal) + ∑ k : Fin 1024, (o (ix2 T k) : EReal) * (wout (ix3 (0 : Fin 1) k n) : EReal)
/-- Its norm. -/
def HN (T : Fin 32768) (k : Fin 1024) : EReal := rms (X1 o x wout T) (nrm (ix2 (0 : Fin 2) k)) k
/-- The up-projection. -/
def U (T : Fin 32768) (col : Fin 5632) : EReal := ∑ k : Fin 1024, HN o x nrm wout T k * (wup (ix3 (0 : Fin 2) k col) : EReal)
/-- The up-projection `k` positions before, zero before the sequence's first. -/
def UB (k : ℕ) (T : Fin 32768) (col : Fin 5632) : EReal :=
  if k ≤ T.val % 2048 then U o x nrm wout wup ⟨T.val - k, lt_of_le_of_lt (Nat.sub_le _ _) T.isLt⟩ col else 0
/-- The convolution. -/
def CV (T : Fin 32768) (col : Fin 5632) : EReal :=
  (((cb (ix2 (0 : Fin 2) col) : EReal) + (cw (ix3 (0 : Fin 2) (2 : Fin 3) col) : EReal) * U o x nrm wout wup T col)
    + (cw (ix3 (0 : Fin 2) (1 : Fin 3) col) : EReal) * UB o x nrm wout wup 1 T col)
    + (cw (ix3 (0 : Fin 2) (0 : Fin 3) col) : EReal) * UB o x nrm wout wup 2 T col
/-- The gate's column and the value's. -/
def gcol (j : Fin 2816) : Fin 5632 := ⟨j.val, by omega⟩
def vcol (j : Fin 2816) : Fin 5632 := ⟨2816 + j.val, by omega⟩
/-- The result. -/
def OUT (T : Fin 32768) (n : Fin 1024) : EReal :=
  X1 o x wout T n + ∑ j : Fin 2816, gateR (CV o x nrm wout wup cw cb T (gcol j)) * CV o x nrm wout wup cw cb T (vcol j) * (wdn (ix3 (0 : Fin 2) j n) : EReal)

/-- The rows of all sequences, one after the other. -/
def flat (y : FVec Ideal S16x2048x1024 .f32) : FVec Ideal S32768x1024 .f32 := shapeCast S32768x1024 y shapeCasts_S16x2048x1024_S32768x1024
theorem flat_apply (y : FVec Ideal S16x2048x1024 .f32) (b : Fin 16) (s : Fin 2048) (T : Fin 32768) (hT : T.val = 2048 * b.val + s.val) (k : Fin 1024) :
    (flat y (ix2 T k) : EReal) = (y (ix3 b s k) : EReal) := by
  unfold flat
  refine shapeCast_apply _ _ _ _ ?_
  rw [Shape.rowMajor_val_two, Shape.rowMajor_val_three]
  show (b.val * 2048 + s.val) * 1024 + k.val = T.val * 1024 + k.val; omega

/-- The two halves of the mixer's output, side by side. -/
def cat (y z : FVec Ideal S16x2048x512 .f32) : FVec Ideal S16x2048x1024 .f32 := fun i =>
  if h : (i 2).val < 512 then y (ix3 (i 0 : Fin 16) (i 1 : Fin 2048) (⟨(i 2).val, h⟩ : Fin 512))
  else z (ix3 (i 0 : Fin 16) (i 1 : Fin 2048) (⟨(i 2).val - 512, by have h2 : (i 2).val < 1024 := (i 2).isLt; omega⟩ : Fin 512))

def flatHalf (y : FVec Ideal S16x2048x512 .f32) : FVec Ideal S32768x512 .f32 := shapeCast S32768x512 y shapeCasts_S16x2048x512_S32768x512
theorem flatHalf_apply (y : FVec Ideal S16x2048x512 .f32) (b : Fin 16) (s : Fin 2048) (T : Fin 32768) (hT : T.val = 2048 * b.val + s.val) (k : Fin 512) :
    (flatHalf y (ix2 T k) : EReal) = (y (ix3 b s k) : EReal) := by
  unfold flatHalf
  refine shapeCast_apply _ _ _ _ ?_
  rw [Shape.rowMajor_val_two, Shape.rowMajor_val_three]
  show (b.val * 2048 + s.val) * 512 + k.val = T.val * 512 + k.val; omega

theorem cat_left (y z : FVec Ideal S16x2048x512 .f32) (T : Fin 32768) (k : Fin 512) (k' : Fin 1024) (hk : k'.val = k.val) :
    (flatHalf y (ix2 T k) : EReal) = (flat (cat y z) (ix2 T k') : EReal) := by
  have hT := T.isLt
  have e : T.val = 2048 * (⟨T.val / 2048, by omega⟩ : Fin 16).val + (⟨T.val % 2048, by omega⟩ : Fin 2048).val := by simp only; omega
  rw [flatHalf_apply y _ _ T e k, flat_apply (cat y z) _ _ T e k']
  unfold cat
  have hl : k'.val < 512 := by have := k.isLt; omega
  refine Eq.symm ((dif_pos hl).trans (congrArg y ?_))
  funext a; apply Fin.ext; fin_cases a
  · rfl
  · rfl
  · exact hk

theorem cat_right (y z : FVec Ideal S16x2048x512 .f32) (T : Fin 32768) (k : Fin 512) (k' : Fin 1024) (hk : k'.val = 512 + k.val) :
    (flatHalf z (ix2 T k) : EReal) = (flat (cat y z) (ix2 T k') : EReal) := by
  have hT := T.isLt
  have e : T.val = 2048 * (⟨T.val / 2048, by omega⟩ : Fin 16).val + (⟨T.val % 2048, by omega⟩ : Fin 2048).val := by simp only; omega
  rw [flatHalf_apply z _ _ T e k, flat_apply (cat y z) _ _ T e k']
  unfold cat
  have hl : ¬ k'.val < 512 := by omega
  refine Eq.symm ((dif_neg hl).trans (congrArg z ?_))
  funext a; apply Fin.ext; fin_cases a
  · rfl
  · rfl
  · show k'.val - 512 = k.val; omega

/-- What is asked of the weights: those before the gate are real. -/
structure Finite : Prop where
  hn (k : Fin 1024) : IsR (nrm (ix2 (0 : Fin 2) k))
  hu (k : Fin 1024) (j : Fin 2816) : IsR (wup (ix3 (0 : Fin 2) k (gcol j)))
  hw (k : Fin 3) (j : Fin 2816) : IsR (cw (ix3 (0 : Fin 2) k (gcol j)))
  hb (j : Fin 2816) : IsR (cb (ix2 (0 : Fin 2) (gcol j)))

section
variable (f : Finite nrm wup cw cb)

include f in
theorem U_real (T : Fin 32768) (j : Fin 2816) : IsR (U o x nrm wout wup T (gcol j)) :=
  IsR.sum fun k => (rms_real _ _ (f.hn _) _).mul (f.hu _ _)

include f in
theorem UB_real (k : ℕ) (T : Fin 32768) (j : Fin 2816) : IsR (UB o x nrm wout wup k T (gcol j)) := by
  unfold UB
  split_ifs
  · exact U_real o x nrm wout wup cw cb f _ _
  · exact IsR.zero

include f in
/-- What goes into the gate is real. -/
theorem CV_real (T : Fin 32768) (j : Fin 2816) : IsR (CV o x nrm wout wup cw cb T (gcol j)) :=
  (((f.hb _).add ((f.hw _ _).mul (U_real o x nrm wout wup cw cb f _ _))).add ((f.hw _ _).mul (UB_real o x nrm wout wup cw cb f _ _ _))).add
    ((f.hw _ _).mul (UB_real o x nrm wout wup cw cb f _ _ _))
end

end Cert.Ffn0

end
-- ==== Proof.Ffn0.Block.lean ====
/-
  One grid point of the fourth call computes its 512 rows of the result from its blocks of the arguments, given that the rows
  carried in are the up-projection's last eight rows before them, or zero at a sequence's first rows; and it carries out its own
  last eight rows of the up-projection.
-/
module

public import proofs.«01_k».proof.Proof.Ffn0.Tie
public import proofs.«01_k».proof.Proof.Ffn0.Values
public import proofs.«01_k».proof.Proof.Ffn0.Layer
public import Idealize.ShloMosaic.Lib.WholeRead

@[expose] public section

set_option maxRecDepth 16384

noncomputable section

namespace Cert.Ffn0

open Cert.Ffn

open Idealize.ShloMosaic Idealize.ShloMosaic.TcCoe Idealize.ShloMosaic.ValueIdx
open Cert.Kernel4Ideal Cert.Kernel4Ideal.Gen

/-- A sum over 1024 is the sum over its halves. -/
theorem sum_halves (f : Fin 1024 → EReal) : ∑ k : Fin 1024, f k
    = ∑ k : Fin 512, f ⟨k.val, by omega⟩ + ∑ k : Fin 512, f ⟨512 + k.val, by omega⟩ :=
  Fin.sum_univ_add (a := 512) (b := 512) f

section
variable (t : ℕ) (o x : FVec Ideal S32768x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)
variable (x0 : Vec Ideal S512x512 .bf16) (x1 : Vec Ideal S512x512 .bf16) (x2 : Vec Ideal S512x1024 .f32) (x3 : Vec Ideal S1024x1024 .bf16)
  (x4 : Vec Ideal S1x1x1024 .f32) (x5 : Vec Ideal S1x1024x5632 .bf16) (x6 : Vec Ideal S1x3x5632 .f32) (x7 : Vec Ideal S1x1x5632 .f32)
  (x8 : Vec Ideal S1x2816x1024 .bf16)

/-- The nine blocks of grid point `t` are the arguments' entries. -/
structure Reads : Prop where
  h0 : ∀ (r k : Fin 512) (T : Fin 32768) (k' : Fin 1024), T.val = 512 * t + r.val → k'.val = k.val → (x0 (ix2 r k) : EReal) = (o (ix2 T k') : EReal)
  h1 : ∀ (r k : Fin 512) (T : Fin 32768) (k' : Fin 1024), T.val = 512 * t + r.val → k'.val = 512 + k.val → (x1 (ix2 r k) : EReal) = (o (ix2 T k') : EReal)
  h2 : ∀ (r : Fin 512) (n : Fin 1024) (T : Fin 32768), T.val = 512 * t + r.val → (x2 (ix2 r n) : EReal) = (x (ix2 T n) : EReal)
  h3 : ∀ (k n : Fin 1024), (x3 (ix2 k n) : EReal) = (wout (ix3 (0 : Fin 1) k n) : EReal)
  h4 : ∀ (k : Fin 1024), (x4 (ix3 (0 : Fin 1) (0 : Fin 1) k) : EReal) = (nrm (ix2 (0 : Fin 2) k) : EReal)
  h5 : ∀ (k : Fin 1024) (col : Fin 5632), (x5 (ix3 (0 : Fin 1) k col) : EReal) = (wup (ix3 (0 : Fin 2) k col) : EReal)
  h6 : ∀ (y : Fin 3) (col : Fin 5632), (x6 (ix3 (0 : Fin 1) y col) : EReal) = (cw (ix3 (0 : Fin 2) y col) : EReal)
  h7 : ∀ (col : Fin 5632), (x7 (ix3 (0 : Fin 1) (0 : Fin 1) col) : EReal) = (cb (ix2 (0 : Fin 2) col) : EReal)
  h8 : ∀ (j : Fin 2816) (n : Fin 1024), (x8 (ix3 (0 : Fin 1) j n) : EReal) = (wdn (ix3 (0 : Fin 2) j n) : EReal)

/-- What the grid point finds of the rows before its own. -/
def TL (a : Fin 8) (col : Fin 5632) : EReal :=
  if t % 4 = 0 then 0 else if h : 512 * t - 8 + a.val < 32768 then U o x nrm wout wup ⟨512 * t - 8 + a.val, h⟩ col else 0
end

variable (arg1 : Memref sig .tc .vmem S512x512 .bf16) (harg1 : arg1.IsWhole)
variable (arg2 : Memref sig .tc .vmem S512x512 .bf16) (harg2 : arg2.IsWhole)
variable (arg3 : Memref sig .tc .vmem S512x1024 .f32) (harg3 : arg3.IsWhole)
variable (arg4 : Memref sig .tc .vmem S1024x1024 .bf16) (harg4 : arg4.IsWhole)
variable (arg5 : Memref sig .tc .vmem S1x1x1024 .f32) (harg5 : arg5.IsWhole)
variable (arg6 : Memref sig .tc .vmem S1x1024x5632 .bf16) (harg6 : arg6.IsWhole)
variable (arg7 : Memref sig .tc .vmem S1x3x5632 .f32) (harg7 : arg7.IsWhole)
variable (arg8 : Memref sig .tc .vmem S1x1x5632 .f32) (harg8 : arg8.IsWhole)
variable (arg9 : Memref sig .tc .vmem S1x2816x1024 .bf16) (harg9 : arg9.IsWhole)
variable (arg10 : Memref sig .tc .vmem S512x1024 .f32) (harg10 : arg10.IsWhole)
variable (arg11 : Memref sig .tc .vmem S512x2816 .bf16) (harg11 : arg11.IsWhole)
variable (arg12 : Memref sig .tc .vmem S8x5632 .f32) (harg12 : arg12.IsWhole)
variable (t : ℕ) (ht : t < 64) (o x : FVec Ideal S32768x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)
variable (x0 : Vec Ideal S512x512 .bf16) (x1 : Vec Ideal S512x512 .bf16) (x2 : Vec Ideal S512x1024 .f32) (x3 : Vec Ideal S1024x1024 .bf16)
  (x4 : Vec Ideal S1x1x1024 .f32) (x5 : Vec Ideal S1x1024x5632 .bf16) (x6 : Vec Ideal S1x3x5632 .f32) (x7 : Vec Ideal S1x1x5632 .f32)
  (x8 : Vec Ideal S1x2816x1024 .bf16)
variable (R : Reads t o x nrm wout wup cw cb wdn x0 x1 x2 x3 x4 x5 x6 x7 x8)

theorem a0_apply (r k : Fin 512) : a0 (F := Ideal) arg1 harg1 x0 (ix2 r k) = x0 (ix2 r k) := by
  unfold a0
  refine (harg1.readAt_unread _ _ _).trans (congrArg x0 ?_)
  funext y; apply Fin.ext; fin_cases y
  · show 0 + 1 * r.val = r.val; omega
  · show 0 + 1 * k.val = k.val; omega
theorem b0_apply (r k : Fin 512) : b0 (F := Ideal) arg2 harg2 x1 (ix2 r k) = x1 (ix2 r k) := by
  unfold b0
  refine (harg2.readAt_unread _ _ _).trans (congrArg x1 ?_)
  funext y; apply Fin.ext; fin_cases y
  · show 0 + 1 * r.val = r.val; omega
  · show 0 + 1 * k.val = k.val; omega
theorem r0_apply (r : Fin 512) (k : Fin 1024) : r0 (F := Ideal) arg3 harg3 x2 (ix2 r k) = x2 (ix2 r k) := by
  unfold r0
  refine (harg3.readAt_unread _ _ _).trans (congrArg x2 ?_)
  funext y; apply Fin.ext; fin_cases y
  · show 0 + 1 * r.val = r.val; omega
  · show 0 + 1 * k.val = k.val; omega
theorem wa_apply (k : Fin 512) (n k' : Fin 1024) (hk : k'.val = k.val) : wa (F := Ideal) arg4 harg4 x3 (ix2 k n) = x3 (ix2 k' n) := by
  unfold wa
  refine (harg4.readAt_unread _ _ _).trans (congrArg x3 ?_)
  funext y; apply Fin.ext; fin_cases y
  · show 0 + 1 * k.val = k'.val; omega
  · show 0 + 1 * n.val = n.val; omega
theorem wb_apply (k : Fin 512) (n k' : Fin 1024) (hk : k'.val = 512 + k.val) : wb (F := Ideal) arg4 harg4 x3 (ix2 k n) = x3 (ix2 k' n) := by
  unfold wb
  refine (harg4.readAt_unread _ _ _).trans (congrArg x3 ?_)
  funext y; apply Fin.ext; fin_cases y
  · show 512 + 1 * k.val = k'.val; omega
  · show 0 + 1 * n.val = n.val; omega
theorem g0_apply (k : Fin 1024) : g0 (F := Ideal) arg5 harg5 x4 (ix3 (0 : Fin 1) (0 : Fin 1) k) = x4 (ix3 (0 : Fin 1) (0 : Fin 1) k) := by
  unfold g0
  refine (harg5.readAt_unread _ _ _).trans (congrArg x4 ?_)
  funext y; apply Fin.ext; fin_cases y
  · rfl
  · rfl
  · show 0 + 1 * k.val = k.val; omega
theorem wAt_apply (n : ℕ) (k : Fin 1024) (j : Fin 256) (col : Fin 5632) (hc : col.val = lo n + j.val) :
    wAt (F := Ideal) arg6 harg6 x5 n (ix3 (0 : Fin 1) k j) = x5 (ix3 (0 : Fin 1) k col) := by
  unfold wAt
  refine (harg6.readAt_unread _ _ _).trans (congrArg x5 ?_)
  funext y; apply Fin.ext; fin_cases y
  · rfl
  · show 0 + 1 * k.val = k.val; omega
  · show lo n + 1 * j.val = col.val; omega
theorem cwAt_apply (n : ℕ) (k : Fin 3) (j : Fin 256) (col : Fin 5632) (hc : col.val = lo n + j.val) :
    cwAt (F := Ideal) arg7 harg7 x6 n (ix3 (0 : Fin 1) k j) = x6 (ix3 (0 : Fin 1) k col) := by
  unfold cwAt
  refine (harg7.readAt_unread _ _ _).trans (congrArg x6 ?_)
  funext y; apply Fin.ext; fin_cases y
  · rfl
  · show 0 + 1 * k.val = k.val; omega
  · show lo n + 1 * j.val = col.val; omega
theorem cbAt_apply (n : ℕ) (j : Fin 256) (col : Fin 5632) (hc : col.val = lo n + j.val) :
    cbAt (F := Ideal) arg8 harg8 x7 n (ix3 (0 : Fin 1) (0 : Fin 1) j) = x7 (ix3 (0 : Fin 1) (0 : Fin 1) col) := by
  unfold cbAt
  refine (harg8.readAt_unread _ _ _).trans (congrArg x7 ?_)
  funext y; apply Fin.ext; fin_cases y
  · rfl
  · rfl
  · show lo n + 1 * j.val = col.val; omega
theorem wd_apply (j : Fin 2816) (n : Fin 1024) : wd (F := Ideal) arg9 harg9 x8 (ix3 (0 : Fin 1) j n) = x8 (ix3 (0 : Fin 1) j n) := by
  unfold wd
  refine (harg9.readAt_unread _ _ _).trans (congrArg x8 ?_)
  funext y; apply Fin.ext; fin_cases y
  · rfl
  · show 0 + 1 * j.val = j.val; omega
  · show 0 + 1 * n.val = n.val; omega

include R in
theorem xAt_spec (r : Fin 512) (n : Fin 1024) (T : Fin 32768) (hT : T.val = 512 * t + r.val) :
    ((xAt (F := Ideal) arg1 harg1 arg2 harg2 arg3 harg3 arg4 harg4 x0 x1 x2 x3) (ix2 r n) : EReal) = X1 o x wout T n := by
  unfold xAt X1
  refine (resid_apply _ _ _ _ _ _ _).trans ?_
  rw [sum_halves]
  refine congrArg₂ (fun p q : EReal => p + q) ((r0_apply arg3 harg3 x2 r n).trans (R.h2 r n T hT)) (congrArg₂ (fun p q : EReal => p + q) ?_ ?_)
  · refine Finset.sum_congr rfl fun k _ => congrArg₂ (fun p q : EReal => p * q) ?_ ?_
    · exact (a0_apply arg1 harg1 x0 r k).trans (R.h0 r k T _ hT rfl)
    · exact (wa_apply arg4 harg4 x3 k n ⟨k.val, by omega⟩ rfl).trans (R.h3 _ _)
  · refine Finset.sum_congr rfl fun k _ => congrArg₂ (fun p q : EReal => p * q) ?_ ?_
    · exact (b0_apply arg2 harg2 x1 r k).trans (R.h1 r k T _ hT rfl)
    · exact (wb_apply arg4 harg4 x3 k n ⟨512 + k.val, by omega⟩ rfl).trans (R.h3 _ _)

include R in
theorem hAt_spec (r : Fin 512) (k : Fin 1024) (T : Fin 32768) (hT : T.val = 512 * t + r.val) :
    ((hAt (F := Ideal) arg1 harg1 arg2 harg2 arg3 harg3 arg4 harg4 arg5 harg5 x0 x1 x2 x3 x4) (ix2 r k) : EReal) = HN o x nrm wout T k := by
  unfold hAt HN
  refine (normed_apply _ _ _ _ _ _ _ _).trans ?_
  refine congrArg₂ (fun p q => rms p q k) (funext fun i => xAt_spec arg1 harg1 arg2 harg2 arg3 harg3 arg4 harg4 t o x nrm wout wup cw cb wdn x0 x1 x2 x3 x4 x5 x6 x7 x8 R r i T hT) ?_
  exact (g0_apply arg5 harg5 x4 k).trans (R.h4 k)

include R in
theorem upAt_spec (n : ℕ) (r : Fin 512) (j : Fin 256) (col : Fin 5632) (hc : col.val = lo n + j.val) (T : Fin 32768) (hT : T.val = 512 * t + r.val) :
    (up (F := Ideal) (hAt (F := Ideal) arg1 harg1 arg2 harg2 arg3 harg3 arg4 harg4 arg5 harg5 x0 x1 x2 x3 x4) ((wAt arg6 harg6 x5) n) (ix2 r j) : EReal) = U o x nrm wout wup T col := by
  unfold U
  refine (up_apply _ _ _ _).trans ?_
  refine Finset.sum_congr rfl fun k _ => congrArg₂ (fun p q : EReal => p * q) ?_ ?_
  · exact hAt_spec arg1 harg1 arg2 harg2 arg3 harg3 arg4 harg4 arg5 harg5 t o x nrm wout wup cw cb wdn x0 x1 x2 x3 x4 x5 x6 x7 x8 R r k T hT
  · exact (wAt_apply arg6 harg6 x5 n k j col hc).trans (R.h5 k col)

/-- The piece and the column in it. -/
theorem piece_of (col : Fin 5632) : ∃ n, n < 22 ∧ ∃ j : Fin 256, col.val = lo n + j.val := by
  have hc := col.isLt
  by_cases h : col.val < 2816
  · exact ⟨2 * (col.val / 256), by omega, ⟨col.val % 256, Nat.mod_lt _ (by norm_num)⟩, by unfold lo; simp only; omega⟩
  · exact ⟨2 * ((col.val - 2816) / 256) + 1, by omega, ⟨(col.val - 2816) % 256, Nat.mod_lt _ (by norm_num)⟩, by unfold lo; simp only; omega⟩

include R in
/-- **What the grid point carries out.** -/
theorem kept_spec (L : List (View.Piece (Elt Ideal) S8x5632 .f32)) (a : Fin 8) (col : Fin 5632) (T : Fin 32768) (hT : T.val = 512 * t + 504 + a.val) :
    (View.canon (kept (F := Ideal) (hAt (F := Ideal) arg1 harg1 arg2 harg2 arg3 harg3 arg4 harg4 arg5 harg5 x0 x1 x2 x3 x4) (wAt arg6 harg6 x5) L 22) (ix2 a col) : EReal) = U o x nrm wout wup T col := by
  obtain ⟨n, hn, j, hj⟩ := piece_of col
  refine (kept_all _ _ L n hn a j col hj).trans ?_
  refine (keep_apply _ a j ⟨504 + a.val, by omega⟩ rfl).trans ?_
  exact upAt_spec arg1 harg1 arg2 harg2 arg3 harg3 arg4 harg4 arg5 harg5 arg6 harg6 t o x nrm wout wup cw cb wdn x0 x1 x2 x3 x4 x5 x6 x7 x8 R n _ j col hj T (by simp only; omega)

section
variable (tl : ℕ → Vec Ideal S8x256 .f32)
  (htl : ∀ n, n < 22 → ∀ (a : Fin 8) (j : Fin 256) (col : Fin 5632), col.val = lo n + j.val → (tl n (ix2 a j) : EReal) = TL t o x nrm wout wup a col)

include R ht htl in
theorem shift_spec (k : ℕ) (hk : k < 8) (n : ℕ) (hn : n < 22) (r : Fin 512) (j : Fin 256) (col : Fin 5632) (hc : col.val = lo n + j.val) (T : Fin 32768) (hT : T.val = 512 * t + r.val) :
    (shift (F := Ideal) (BitVec.ofNat 32 k) (up (F := Ideal) (hAt (F := Ideal) arg1 harg1 arg2 harg2 arg3 harg3 arg4 harg4 arg5 harg5 x0 x1 x2 x3 x4) ((wAt arg6 harg6 x5) n)) (tl n) (ix2 r j) : EReal) = UB o x nrm wout wup k T col := by
  have hr := r.isLt
  unfold UB
  by_cases h : r.val < k
  · refine (shift_lt k hk _ _ r j h ⟨8 + r.val - k, by omega⟩ rfl).trans ((htl n hn _ j col hc).trans ?_)
    unfold TL
    by_cases h4 : t % 4 = 0
    · rw [if_pos h4, if_neg (by omega)]
    · rw [if_neg h4, if_pos (by omega), dif_pos (by simp only; omega)]
      exact congrArg (fun T => U o x nrm wout wup T col) (Fin.ext (by simp only; omega))
  · rw [if_pos (by omega)]
    refine (shift_ge k hk _ _ r j (by omega) ⟨r.val - k, by omega⟩ rfl).trans ?_
    exact upAt_spec arg1 harg1 arg2 harg2 arg3 harg3 arg4 harg4 arg5 harg5 arg6 harg6 t o x nrm wout wup cw cb wdn x0 x1 x2 x3 x4 x5 x6 x7 x8 R n _ j col hc _ (by simp only; omega)

include R ht htl in
theorem branch_spec (n : ℕ) (hn : n < 22) (r : Fin 512) (j : Fin 256) (col : Fin 5632) (hc : col.val = lo n + j.val) (T : Fin 32768) (hT : T.val = 512 * t + r.val) :
    (branch (F := Ideal) (hAt (F := Ideal) arg1 harg1 arg2 harg2 arg3 harg3 arg4 harg4 arg5 harg5 x0 x1 x2 x3 x4) (wAt arg6 harg6 x5) tl (cwAt arg7 harg7 x6) (cbAt arg8 harg8 x7) n (ix2 r j) : EReal) = CV o x nrm wout wup cw cb T col := by
  unfold branch CV
  refine (conv_apply _ _ _ _ _ _).trans ?_
  rw [shift_spec arg1 harg1 arg2 harg2 arg3 harg3 arg4 harg4 arg5 harg5 arg6 harg6 t ht o x nrm wout wup cw cb wdn x0 x1 x2 x3 x4 x5 x6 x7 x8 R tl htl 1 (by omega) n hn r j col hc T hT,
    shift_spec arg1 harg1 arg2 harg2 arg3 harg3 arg4 harg4 arg5 harg5 arg6 harg6 t ht o x nrm wout wup cw cb wdn x0 x1 x2 x3 x4 x5 x6 x7 x8 R tl htl 2 (by omega) n hn r j col hc T hT,
    upAt_spec arg1 harg1 arg2 harg2 arg3 harg3 arg4 harg4 arg5 harg5 arg6 harg6 t o x nrm wout wup cw cb wdn x0 x1 x2 x3 x4 x5 x6 x7 x8 R n r j col hc T hT,
    cwAt_apply arg7 harg7 x6 n 0 j col hc, cwAt_apply arg7 harg7 x6 n 1 j col hc, cwAt_apply arg7 harg7 x6 n 2 j col hc, cbAt_apply arg8 harg8 x7 n j col hc,
    R.h6, R.h6, R.h6, R.h7]

variable (f : Finite nrm wup cw cb)

include R ht htl f in
theorem acts_spec (r : Fin 512) (J : Fin 2816) (T : Fin 32768) (hT : T.val = 512 * t + r.val) :
    (View.canon (acts (F := Ideal) (hAt (F := Ideal) arg1 harg1 arg2 harg2 arg3 harg3 arg4 harg4 arg5 harg5 x0 x1 x2 x3 x4) (wAt arg6 harg6 x5) tl (cwAt arg7 harg7 x6) (cbAt arg8 harg8 x7) 11) (ix2 r J) : EReal)
      = gateR (CV o x nrm wout wup cw cb T (gcol J)) * CV o x nrm wout wup cw cb T (vcol J) := by
  have hJ := J.isLt
  refine (acts_all _ _ _ _ _ (J.val / 256) (by omega) r ⟨J.val % 256, Nat.mod_lt _ (by norm_num)⟩ J (by unfold co; simp only; omega)).trans ?_
  refine (act_apply _ _ _).trans ?_
  rw [branch_spec arg1 harg1 arg2 harg2 arg3 harg3 arg4 harg4 arg5 harg5 arg6 harg6 arg7 harg7 arg8 harg8 t ht o x nrm wout wup cw cb wdn x0 x1 x2 x3 x4 x5 x6 x7 x8 R tl htl (2 * (J.val / 256)) (by omega) r _ (gcol J) (by unfold lo gcol; simp only; omega) T hT,
    branch_spec arg1 harg1 arg2 harg2 arg3 harg3 arg4 harg4 arg5 harg5 arg6 harg6 arg7 harg7 arg8 harg8 t ht o x nrm wout wup cw cb wdn x0 x1 x2 x3 x4 x5 x6 x7 x8 R tl htl (2 * (J.val / 256) + 1) (by omega) r _ (vcol J) (by unfold lo vcol; simp only; omega) T hT,
    gate_eq _ (CV_real o x nrm wout wup cw cb f _ _)]

include R ht htl f in
/-- **What the grid point writes.** -/
theorem out_spec (r : Fin 512) (n : Fin 1024) (T : Fin 32768) (hT : T.val = 512 * t + r.val) :
    (k0_pay2 (F := Ideal) (xAt (F := Ideal) arg1 harg1 arg2 harg2 arg3 harg3 arg4 harg4 x0 x1 x2 x3) (arg11.view.readCov (acts (F := Ideal) (hAt (F := Ideal) arg1 harg1 arg2 harg2 arg3 harg3 arg4 harg4 arg5 harg5 x0 x1 x2 x3 x4) (wAt arg6 harg6 x5) tl (cwAt arg7 harg7 x6) (cbAt arg8 harg8 x7) 11)
        (Rect.unit ![0, 0] S512x2816.size inb_S512x2816_S512x2816_0_0).toLoadRect) (wd arg9 harg9 x8) (ix2 r n) : EReal)
      = OUT o x nrm wout wup cw cb wdn T n := by
  unfold OUT
  refine (pay2_apply _ _ _ _ _).trans ?_
  refine congrArg₂ (fun p q : EReal => p + q) (xAt_spec arg1 harg1 arg2 harg2 arg3 harg3 arg4 harg4 t o x nrm wout wup cw cb wdn x0 x1 x2 x3 x4 x5 x6 x7 x8 R r n T hT) ?_
  refine Finset.sum_congr rfl fun J _ => congrArg₂ (fun p q : EReal => p * q) ?_ ((wd_apply arg9 harg9 x8 J n).trans (R.h8 J n))
  rw [View.readCov_eq_canon']
  have he : (Rect.unit (s := S512x2816) ![0, 0] S512x2816.size inb_S512x2816_S512x2816_0_0).toLoadRect.idx (ix2 r J) = (ix2 r J : S512x2816.Idx) := by
    funext y; apply Fin.ext; fin_cases y
    · show 0 + 1 * r.val = r.val; omega
    · show 0 + 1 * J.val = J.val; omega
  refine (congrArg (View.canon _) he).trans ?_
  exact acts_spec arg1 harg1 arg2 harg2 arg3 harg3 arg4 harg4 arg5 harg5 arg6 harg6 arg7 harg7 arg8 harg8 t ht o x nrm wout wup cw cb wdn x0 x1 x2 x3 x4 x5 x6 x7 x8 R tl htl f r J T hT
end

/-- The rows carried in at a sequence's first grid point are zero, -/
theorem zeros_spec (hT : t % 4 = 0) (h : FVec Ideal S512x1024 .bf16) (w : ℕ → Vec Ideal S1x1024x256 .bf16) (n : ℕ) (hn : n < 22) (a : Fin 8) (j : Fin 256) (col : Fin 5632)
    (hc : col.val = lo n + j.val) : (arg12.view.readCov (kept (F := Ideal) h w zeros n) (cRect n).toLoadRect (ix2 a j) : EReal) = TL t o x nrm wout wup a col := by
  unfold TL
  rw [if_pos hT, View.readCov_eq_canon']
  have he : (cRect n).toLoadRect.idx (ix2 a j) = (ix2 a col : S8x5632.Idx) := by
    funext y; apply Fin.ext; fin_cases y
    · show 0 + 1 * a.val = a.val; omega
    · show lo n + 1 * j.val = col.val; omega
  refine (congrArg (View.canon _) he).trans ?_
  refine (kept_before h w zeros n hn a j col hc n le_rfl).trans ?_
  have he2 : (ix2 a col : S8x5632.Idx) = (Rect.unit (s := S8x5632) ![0, 0] S8x5632.size inb_S8x5632_S8x5632_0_0).emb (ix2 a col) := by
    funext y; apply Fin.ext; fin_cases y
    · show a.val = 0 + 1 * a.val; omega
    · show col.val = 0 + 1 * col.val; omega
  refine (congrArg (View.canon _) he2).trans ?_
  refine (View.canon_cons_emb _ _ _ _).trans ?_
  unfold k0_pay3
  rw [shapeCast_self]
  exact Ideal.ofBits_zero_f32

/-- and at the others what the grid point before left. -/
theorem tlAt_spec (xs1 : Vec Ideal S8x5632 .f32) (n : ℕ) (a : Fin 8) (j : Fin 256) (col : Fin 5632) (hc : col.val = lo n + j.val) :
    tlAt (F := Ideal) arg12 harg12 xs1 n (ix2 a j) = xs1 (ix2 a col) := by
  unfold tlAt
  refine (harg12.readAt_unread _ _ _).trans (congrArg xs1 ?_)
  funext y; apply Fin.ext; fin_cases y
  · show 0 + 1 * a.val = a.val; omega
  · show lo n + 1 * j.val = col.val; omega

end Cert.Ffn0

end
-- ==== Proof.Ffn0.Host.lean ====
/-
  The arrays the fourth call finds, and the block of each that a grid point reads: grid point `t` has rows `512 t` to
  `512 t + 511` of the mixer's output and of the residual, and the first layer's weights.
-/
module

public import proofs.«01_k».proof.Proof.Ffn0.Block
public import proofs.«01_k».proof.Proof.Gen.Kernel4Ideal.Value

@[expose] public section

set_option maxRecDepth 16384

noncomputable section

namespace Cert.Ffn0

open Cert.Ffn

open Idealize.ShloMosaic Idealize.ShloMosaic.TcCoe Idealize.ShloMosaic.ValueIdx
open Cert.Kernel4Ideal Cert.Kernel4Ideal.Gen Cert.Kernel4Ideal.Value

/-- The block index of each window at a grid point. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 3) = 0 ∧ win0_4.index t (1 : Fin 3) = 0 ∧ win0_4.index t (2 : Fin 3) = 0 := (by decide +kernel : ∀ t : Fin grid0.N, _)
theorem index5 : ∀ t : Fin cfg0.N, win0_5.index t (0 : Fin 3) = 0 ∧ win0_5.index t (1 : Fin 3) = 0 ∧ win0_5.index t (2 : Fin 3) = 0 := (by decide +kernel : ∀ t : Fin grid0.N, _)
theorem index6 : ∀ t : Fin cfg0.N, win0_6.index t (0 : Fin 3) = 0 ∧ win0_6.index t (1 : Fin 3) = 0 ∧ win0_6.index t (2 : Fin 3) = 0 := (by decide +kernel : ∀ t : Fin grid0.N, _)
theorem index7 : ∀ t : Fin cfg0.N, win0_7.index t (0 : Fin 3) = 0 ∧ win0_7.index t (1 : Fin 3) = 0 ∧ win0_7.index t (2 : Fin 3) = 0 := (by decide +kernel : ∀ t : Fin grid0.N, _)
theorem index8 : ∀ t : Fin cfg0.N, win0_8.index t (0 : Fin 3) = 0 ∧ win0_8.index t (1 : Fin 3) = 0 ∧ win0_8.index t (2 : Fin 3) = 0 := (by decide +kernel : ∀ t : Fin grid0.N, _)
theorem index9 : ∀ t : Fin cfg0.N, win0_9.index t (0 : Fin 2) = t.val ∧ win0_9.index t (1 : Fin 2) = 0 := (by decide +kernel : ∀ t : Fin grid0.N, _)

section
variable (t : Fin cfg0.N)

theorem emb0 (r k : Fin 512) (T : Fin 32768) (hT : T.val = 512 * t.val + r.val) :
    ((cfg0.win 0).blk t).view.emb (ix2 r k) = ix2 T k := by
  obtain ⟨e0, e1⟩ := index0 t
  funext a; apply Fin.ext
  match a with
  | ⟨0, _⟩ => show win0_0.index t (0 : Fin 2) * 512 + 1 * r.val = T.val; omega
  | ⟨1, _⟩ => show win0_0.index t (1 : Fin 2) * 512 + 1 * k.val = k.val; omega
theorem emb1 (r k : Fin 512) (T : Fin 32768) (hT : T.val = 512 * t.val + r.val) :
    ((cfg0.win 1).blk t).view.emb (ix2 r k) = ix2 T k := by
  obtain ⟨e0, e1⟩ := index1 t
  funext a; apply Fin.ext
  match a with
  | ⟨0, _⟩ => show win0_1.index t (0 : Fin 2) * 512 + 1 * r.val = T.val; omega
  | ⟨1, _⟩ => show win0_1.index t (1 : Fin 2) * 512 + 1 * k.val = k.val; omega
theorem emb2 (r : Fin 512) (k : Fin 1024) (T : Fin 32768) (hT : T.val = 512 * t.val + r.val) :
    ((cfg0.win 2).blk t).view.emb (ix2 r k) = ix2 T k := by
  obtain ⟨e0, e1⟩ := index2 t
  funext a; apply Fin.ext
  match a with
  | ⟨0, _⟩ => show win0_2.index t (0 : Fin 2) * 512 + 1 * r.val = T.val; omega
  | ⟨1, _⟩ => show win0_2.index t (1 : Fin 2) * 1024 + 1 * k.val = k.val; omega
theorem emb3 (k n : Fin 1024) : ((cfg0.win 3).blk t).view.emb (ix2 k n) = ix2 k n := by
  obtain ⟨e0, e1⟩ := index3 t
  funext a; apply Fin.ext
  match a with
  | ⟨0, _⟩ => show win0_3.index t (0 : Fin 2) * 1024 + 1 * k.val = k.val; omega
  | ⟨1, _⟩ => show win0_3.index t (1 : Fin 2) * 1024 + 1 * n.val = n.val; omega
theorem emb4 (k : Fin 1024) : ((cfg0.win 4).blk t).view.emb (ix3 (0 : Fin 1) (0 : Fin 1) k) = ix3 (0 : Fin 2) (0 : Fin 1) k := by
  obtain ⟨e0, e1, e2⟩ := index4 t
  funext a; apply Fin.ext
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 1024 + 1 * k.val = k.val; omega
theorem emb5 (k : Fin 1024) (n : Fin 5632) : ((cfg0.win 5).blk t).view.emb (ix3 (0 : Fin 1) k n) = ix3 (0 : Fin 2) k n := by
  obtain ⟨e0, e1, e2⟩ := index5 t
  funext a; apply Fin.ext
  match a with
  | ⟨0, _⟩ => show win0_5.index t (0 : Fin 3) * 1 + 1 * 0 = 0; omega
  | ⟨1, _⟩ => show win0_5.index t (1 : Fin 3) * 1024 + 1 * k.val = k.val; omega
  | ⟨2, _⟩ => show win0_5.index t (2 : Fin 3) * 5632 + 1 * n.val = n.val; omega
theorem emb6 (k : Fin 3) (n : Fin 5632) : ((cfg0.win 6).blk t).view.emb (ix3 (0 : Fin 1) k n) = ix3 (0 : Fin 2) k n := by
  obtain ⟨e0, e1, e2⟩ := index6 t
  funext a; apply Fin.ext
  match a with
  | ⟨0, _⟩ => show win0_6.index t (0 : Fin 3) * 1 + 1 * 0 = 0; omega
  | ⟨1, _⟩ => show win0_6.index t (1 : Fin 3) * 3 + 1 * k.val = k.val; omega
  | ⟨2, _⟩ => show win0_6.index t (2 : Fin 3) * 5632 + 1 * n.val = n.val; omega
theorem emb7 (n : Fin 5632) : ((cfg0.win 7).blk t).view.emb (ix3 (0 : Fin 1) (0 : Fin 1) n) = ix3 (0 : Fin 2) (0 : Fin 1) n := by
  obtain ⟨e0, e1, e2⟩ := index7 t
  funext a; apply Fin.ext
  match a with
  | ⟨0, _⟩ => show win0_7.index t (0 : Fin 3) * 1 + 1 * 0 = 0; omega
  | ⟨1, _⟩ => show win0_7.index t (1 : Fin 3) * 1 + 1 * 0 = 0; omega
  | ⟨2, _⟩ => show win0_7.index t (2 : Fin 3) * 5632 + 1 * n.val = n.val; omega
theorem emb8 (k : Fin 2816) (n : Fin 1024) : ((cfg0.win 8).blk t).view.emb (ix3 (0 : Fin 1) k n) = ix3 (0 : Fin 2) k n := by
  obtain ⟨e0, e1, e2⟩ := index8 t
  funext a; apply Fin.ext
  match a with
  | ⟨0, _⟩ => show win0_8.index t (0 : Fin 3) * 1 + 1 * 0 = 0; omega
  | ⟨1, _⟩ => show win0_8.index t (1 : Fin 3) * 2816 + 1 * k.val = k.val; omega
  | ⟨2, _⟩ => show win0_8.index t (2 : Fin 3) * 1024 + 1 * n.val = n.val; omega
theorem emb9 (r : Fin 512) (k : Fin 1024) (T : Fin 32768) (hT : T.val = 512 * t.val + r.val) :
    ((cfg0.win 9).blk t).view.emb (ix2 r k) = ix2 T k := by
  obtain ⟨e0, e1⟩ := index9 t
  funext a; apply Fin.ext
  match a with
  | ⟨0, _⟩ => show win0_9.index t (0 : Fin 2) * 512 + 1 * r.val = T.val; omega
  | ⟨1, _⟩ => show win0_9.index t (1 : Fin 2) * 1024 + 1 * k.val = k.val; omega
end

variable (m : (ℓ : Loc nD τ sig) → Buf (Elt Ideal) ℓ) (c : Dev nD)

/-- The arguments as launched. -/
abbrev argA3 : FVec Ideal S16x2048x512 .f32 := m ((c : Thread nD τ).loc main_arg0)
abbrev argB3 : FVec Ideal S16x2048x512 .f32 := m ((c : Thread nD τ).loc main_arg1)
abbrev argX3 : FVec Ideal S16x2048x1024 .f32 := m ((c : Thread nD τ).loc main_arg2)
abbrev argO : FVec Ideal S32768x1024 .f32 := flat (cat (argA3 m c) (argB3 m c))
abbrev argX : FVec Ideal S32768x1024 .f32 := flat (argX3 m c)
abbrev argN : FVec Ideal S2x1024 .f32 := m ((c : Thread nD τ).loc main_arg3)
abbrev argWo : FVec Ideal S1x1024x1024 .f32 := m ((c : Thread nD τ).loc main_arg4)
abbrev argWu : FVec Ideal S2x1024x5632 .f32 := m ((c : Thread nD τ).loc main_arg5)
abbrev argCw : FVec Ideal S2x3x5632 .f32 := m ((c : Thread nD τ).loc main_arg6)
abbrev argCb : FVec Ideal S2x5632 .f32 := m ((c : Thread nD τ).loc main_arg7)
abbrev argWd : FVec Ideal S2x2816x1024 .f32 := m ((c : Thread nD τ).loc main_arg8)

/-- The arrays the call finds. -/
def oArr (o : FVec Ideal S32768x512 .f32) : FVec Ideal S32768x512 .bf16 := truncf .bf16 o bitsLt_bf16_f32
def woArr (w : FVec Ideal S1x1024x1024 .f32) : FVec Ideal S1024x1024 .bf16 := truncf .bf16 (shapeCast S1024x1024 w shapeCasts_S1x1024x1024_S1024x1024) bitsLt_bf16_f32
def nArr (g : FVec Ideal S2x1024 .f32) : FVec Ideal S2x1x1024 .f32 := shapeCast S2x1x1024 g shapeCasts_S2x1024_S2x1x1024
def wuArr (w : FVec Ideal S2x1024x5632 .f32) : FVec Ideal S2x1024x5632 .bf16 := truncf .bf16 w bitsLt_bf16_f32
def cbArr (b : FVec Ideal S2x5632 .f32) : FVec Ideal S2x1x5632 .f32 := shapeCast S2x1x5632 b shapeCasts_S2x5632_S2x1x5632
def wdArr (w : FVec Ideal S2x2816x1024 .f32) : FVec Ideal S2x2816x1024 .bf16 := truncf .bf16 w bitsLt_bf16_f32

theorem V_a : V m c main_v5 = oArr (flatHalf (argA3 m c)) := by
  show StableHlo.after hostOps0 _ (Proc.devRef .tc main_v5) = _
  after_results <;> rfl
theorem V_b : V m c main_v7 = oArr (flatHalf (argB3 m c)) := by
  show StableHlo.after hostOps0 _ (Proc.devRef .tc main_v7) = _
  after_results <;> rfl
theorem V_x : V m c main_v8 = argX m c := by
  show StableHlo.after hostOps0 _ (Proc.devRef .tc main_v8) = _
  after_results <;> rfl
theorem V_wo : V m c main_v10 = woArr (argWo m c) := by
  show StableHlo.after hostOps0 _ (Proc.devRef .tc main_v10) = _
  after_results <;> rfl
theorem V_n : V m c main_v0 = nArr (argN m c) := by
  show StableHlo.after hostOps0 _ (Proc.devRef .tc main_v0) = _
  after_results <;> rfl
theorem V_wu : V m c main_v1 = wuArr (argWu m c) := by
  show StableHlo.after hostOps0 _ (Proc.devRef .tc main_v1) = _
  after_results <;> rfl
theorem V_cw : V m c main_arg6 = argCw m c := by
  show StableHlo.after hostOps0 _ (Proc.devRef .tc main_arg6) = _
  after_results <;> rfl
theorem V_cb : V m c main_v2 = cbArr (argCb m c) := by
  show StableHlo.after hostOps0 _ (Proc.devRef .tc main_v2) = _
  after_results <;> rfl
theorem V_wd : V m c main_v3 = wdArr (argWd m c) := by
  show StableHlo.after hostOps0 _ (Proc.devRef .tc main_v3) = _
  after_results <;> rfl

theorem woArr_apply (w : FVec Ideal S1x1024x1024 .f32) (k n : Fin 1024) : (woArr w (ix2 k n) : EReal) = (w (ix3 (0 : Fin 1) k n) : EReal) := by
  unfold woArr
  exact shapeCast_1ab_ab_apply w _ k n
theorem nArr_apply (g : FVec Ideal S2x1024 .f32) (k : Fin 1024) : (nArr g (ix3 (0 : Fin 2) (0 : Fin 1) k) : EReal) = (g (ix2 (0 : Fin 2) k) : EReal) := by
  unfold nArr
  refine shapeCast_apply _ _ _ _ ?_
  rw [Shape.rowMajor_val_two, Shape.rowMajor_val_three]
  show 0 * 1024 + k.val = (0 * 1 + 0) * 1024 + k.val; omega
theorem cbArr_apply (g : FVec Ideal S2x5632 .f32) (k : Fin 5632) : (cbArr g (ix3 (0 : Fin 2) (0 : Fin 1) k) : EReal) = (g (ix2 (0 : Fin 2) k) : EReal) := by
  unfold cbArr
  refine shapeCast_apply _ _ _ _ ?_
  rw [Shape.rowMajor_val_two, Shape.rowMajor_val_three]
  show 0 * 5632 + k.val = (0 * 1 + 0) * 5632 + k.val; omega

section
variable (t : Fin cfg0.N)

theorem iblk0 (r k : Fin 512) (T : Fin 32768) (k' : Fin 1024) (hT : T.val = 512 * t.val + r.val) (hk : k'.val = k.val) :
    (iblk m c 0 t (ix2 r k) : EReal) = (argO m c (ix2 T k') : EReal) := by
  have e : iblk m c 0 t (ix2 r k) = ((cfg0.win 0).blk t).view.read (Elt Ideal) (V m c main_v5) (ix2 r k) := rfl
  have e0 : ∀ X : FVec Ideal S32768x512 .bf16, ((cfg0.win 0).blk t).view.read (Elt Ideal) X (ix2 r k) = X (((cfg0.win 0).blk t).view.emb (ix2 r k)) := fun X => rfl
  exact e.trans ((e0 _).trans ((congrArg (V m c main_v5) (emb0 t r k T hT)).trans ((congrFun (V_a m c) (ix2 T k)).trans (cat_left _ _ T k k' hk))))
theorem iblk1 (r k : Fin 512) (T : Fin 32768) (k' : Fin 1024) (hT : T.val = 512 * t.val + r.val) (hk : k'.val = 512 + k.val) :
    (iblk m c 1 t (ix2 r k) : EReal) = (argO m c (ix2 T k') : EReal) := by
  have e : iblk m c 1 t (ix2 r k) = ((cfg0.win 1).blk t).view.read (Elt Ideal) (V m c main_v7) (ix2 r k) := rfl
  have e0 : ∀ X : FVec Ideal S32768x512 .bf16, ((cfg0.win 1).blk t).view.read (Elt Ideal) X (ix2 r k) = X (((cfg0.win 1).blk t).view.emb (ix2 r k)) := fun X => rfl
  exact e.trans ((e0 _).trans ((congrArg (V m c main_v7) (emb1 t r k T hT)).trans ((congrFun (V_b m c) (ix2 T k)).trans (cat_right _ _ T k k' hk))))
theorem iblk2 (r : Fin 512) (k : Fin 1024) (T : Fin 32768) (hT : T.val = 512 * t.val + r.val) :
    (iblk m c 2 t (ix2 r k) : EReal) = (argX m c (ix2 T k) : EReal) := by
  have e : iblk m c 2 t (ix2 r k) = ((cfg0.win 2).blk t).view.read (Elt Ideal) (V m c main_v8) (ix2 r k) := rfl
  have e0 : ∀ X : FVec Ideal S32768x1024 .f32, ((cfg0.win 2).blk t).view.read (Elt Ideal) X (ix2 r k) = X (((cfg0.win 2).blk t).view.emb (ix2 r k)) := fun X => rfl
  exact e.trans ((e0 _).trans ((congrArg (V m c main_v8) (emb2 t r k T hT)).trans (congrFun (V_x m c) (ix2 T k))))
theorem iblk3 (k n : Fin 1024) : (iblk m c 3 t (ix2 k n) : EReal) = (argWo m c (ix3 (0 : Fin 1) k n) : EReal) := by
  have e : iblk m c 3 t (ix2 k n) = ((cfg0.win 3).blk t).view.read (Elt Ideal) (V m c main_v10) (ix2 k n) := rfl
  have e0 : ∀ X : FVec Ideal S1024x1024 .bf16, ((cfg0.win 3).blk t).view.read (Elt Ideal) X (ix2 k n) = X (((cfg0.win 3).blk t).view.emb (ix2 k n)) := fun X => rfl
  exact e.trans ((e0 _).trans ((congrArg (V m c main_v10) (emb3 t k n)).trans ((congrFun (V_wo m c) (ix2 k n)).trans (woArr_apply _ _ _))))
theorem iblk4 (k : Fin 1024) : (iblk m c 4 t (ix3 (0 : Fin 1) (0 : Fin 1) k) : EReal) = (argN m c (ix2 (0 : Fin 2) k) : EReal) := by
  have e : iblk m c 4 t (ix3 (0 : Fin 1) (0 : Fin 1) k) = ((cfg0.win 4).blk t).view.read (Elt Ideal) (V m c main_v0) (ix3 (0 : Fin 1) (0 : Fin 1) k) := rfl
  have e0 : ∀ X : FVec Ideal S2x1x1024 .f32, ((cfg0.win 4).blk t).view.read (Elt Ideal) X (ix3 (0 : Fin 1) (0 : Fin 1) k) = X (((cfg0.win 4).blk t).view.emb (ix3 (0 : Fin 1) (0 : Fin 1) k)) := fun X => rfl
  exact e.trans ((e0 _).trans ((congrArg (V m c main_v0) (emb4 t k)).trans ((congrFun (V_n m c) (ix3 (0 : Fin 2) (0 : Fin 1) k)).trans (nArr_apply _ _))))
theorem iblk5 (k : Fin 1024) (n : Fin 5632) : (iblk m c 5 t (ix3 (0 : Fin 1) k n) : EReal) = (argWu m c (ix3 (0 : Fin 2) k n) : EReal) := by
  have e : iblk m c 5 t (ix3 (0 : Fin 1) k n) = ((cfg0.win 5).blk t).view.read (Elt Ideal) (V m c main_v1) (ix3 (0 : Fin 1) k n) := rfl
  have e0 : ∀ X : FVec Ideal S2x1024x5632 .bf16, ((cfg0.win 5).blk t).view.read (Elt Ideal) X (ix3 (0 : Fin 1) k n) = X (((cfg0.win 5).blk t).view.emb (ix3 (0 : Fin 1) k n)) := fun X => rfl
  exact e.trans ((e0 _).trans ((congrArg (V m c main_v1) (emb5 t k n)).trans (congrFun (V_wu m c) (ix3 (0 : Fin 2) k n))))
theorem iblk6 (k : Fin 3) (n : Fin 5632) : (iblk m c 6 t (ix3 (0 : Fin 1) k n) : EReal) = (argCw m c (ix3 (0 : Fin 2) k n) : EReal) := by
  have e : iblk m c 6 t (ix3 (0 : Fin 1) k n) = ((cfg0.win 6).blk t).view.read (Elt Ideal) (V m c main_arg6) (ix3 (0 : Fin 1) k n) := rfl
  have e0 : ∀ X : FVec Ideal S2x3x5632 .f32, ((cfg0.win 6).blk t).view.read (Elt Ideal) X (ix3 (0 : Fin 1) k n) = X (((cfg0.win 6).blk t).view.emb (ix3 (0 : Fin 1) k n)) := fun X => rfl
  exact e.trans ((e0 _).trans ((congrArg (V m c main_arg6) (emb6 t k n)).trans (congrFun (V_cw m c) (ix3 (0 : Fin 2) k n))))
theorem iblk7 (n : Fin 5632) : (iblk m c 7 t (ix3 (0 : Fin 1) (0 : Fin 1) n) : EReal) = (argCb m c (ix2 (0 : Fin 2) n) : EReal) := by
  have e : iblk m c 7 t (ix3 (0 : Fin 1) (0 : Fin 1) n) = ((cfg0.win 7).blk t).view.read (Elt Ideal) (V m c main_v2) (ix3 (0 : Fin 1) (0 : Fin 1) n) := rfl
  have e0 : ∀ X : FVec Ideal S2x1x5632 .f32, ((cfg0.win 7).blk t).view.read (Elt Ideal) X (ix3 (0 : Fin 1) (0 : Fin 1) n) = X (((cfg0.win 7).blk t).view.emb (ix3 (0 : Fin 1) (0 : Fin 1) n)) := fun X => rfl
  exact e.trans ((e0 _).trans ((congrArg (V m c main_v2) (emb7 t n)).trans ((congrFun (V_cb m c) (ix3 (0 : Fin 2) (0 : Fin 1) n)).trans (cbArr_apply _ _))))
theorem iblk8 (k : Fin 2816) (n : Fin 1024) : (iblk m c 8 t (ix3 (0 : Fin 1) k n) : EReal) = (argWd m c (ix3 (0 : Fin 2) k n) : EReal) := by
  have e : iblk m c 8 t (ix3 (0 : Fin 1) k n) = ((cfg0.win 8).blk t).view.read (Elt Ideal) (V m c main_v3) (ix3 (0 : Fin 1) k n) := rfl
  have e0 : ∀ X : FVec Ideal S2x2816x1024 .bf16, ((cfg0.win 8).blk t).view.read (Elt Ideal) X (ix3 (0 : Fin 1) k n) = X (((cfg0.win 8).blk t).view.emb (ix3 (0 : Fin 1) k n)) := fun X => rfl
  exact e.trans ((e0 _).trans ((congrArg (V m c main_v3) (emb8 t k n)).trans (congrFun (V_wd m c) (ix3 (0 : Fin 2) k n))))

/-- **What grid point `t` reads.** -/
theorem reads : Reads t.val (argO m c) (argX m c) (argN m c) (argWo m c) (argWu m c) (argCw m c) (argCb m c) (argWd m c)
    (iblk m c 0 t) (iblk m c 1 t) (iblk m c 2 t) (iblk m c 3 t) (iblk m c 4 t) (iblk m c 5 t) (iblk m c 6 t) (iblk m c 7 t) (iblk m c 8 t) :=
  ⟨iblk0 m c t, iblk1 m c t, iblk2 m c t, iblk3 m c t, iblk4 m c t, iblk5 m c t, iblk6 m c t, iblk7 m c t, iblk8 m c t⟩
end

end Cert.Ffn0

end
-- ==== Proof.Ffn0.Final.lean ====
/-
  The fourth call's whole result: by the grid's order the rows each grid point finds kept are the up-projection of the rows
  before its own, so each point's block holds the layer's entries, and every row of the result lies in one point's block.
-/
module

public import proofs.«01_k».proof.Proof.Ffn0.Host

@[expose] public section

set_option maxRecDepth 16384

noncomputable section

namespace Cert.Ffn0

open Cert.Ffn

open Idealize.ShloMosaic Idealize.ShloMosaic.TcCoe Idealize.ShloMosaic.ValueIdx
open Cert.Kernel4Ideal Cert.Kernel4Ideal.Gen Cert.Kernel4Ideal.Value

variable (m : (ℓ : Loc nD τ sig) → Buf (Elt Ideal) ℓ) (c : Dev nD)

/-- The up-projection of the arguments. -/
abbrev argU (T : Fin 32768) (col : Fin 5632) : EReal := U (argO m c) (argX m c) (argN m c) (argWo m c) (argWu m c) T col

/-- **What a grid point leaves for the next**: the up-projection of its last eight rows. -/
theorem carry (t : Fin cfg0.N) (a : Fin 8) (col : Fin 5632) (T : Fin 32768) (hT : T.val = 512 * t.val + 504 + a.val) :
    ((outsAt0 m c t.val t.isLt).2 (ix2 a col) : EReal) = argU m c T col := by
  by_cases h0 : t.val % 4 = 0
  · rw [outsAt0_A m c t h0]
    dsimp only
    unfold sout0_A_1
    rw [View.read_writes_junk_eq_canon, kept_A]
    exact kept_spec _ _ _ _ _ _ _ _ _ _ _ _ t.val _ _ _ _ _ _ _ _ _ _ _ _ _ _ _ _ _ (reads m c t) _ a col T hT
  · rw [outsAt0_B m c t h0]
    dsimp only
    unfold sout0_B_1
    rw [View.read_writes_junk_eq_canon, kept_B]
    exact kept_spec _ _ _ _ _ _ _ _ _ _ _ _ t.val _ _ _ _ _ _ _ _ _ _ _ _ _ _ _ _ _ (reads m c t) _ a col T hT

section
variable (f : Finite (argN m c) (argWu m c) (argCw m c) (argCb m c))

/-- The layer's entry. -/
abbrev argOUT (T : Fin 32768) (n : Fin 1024) : EReal :=
  OUT (argO m c) (argX m c) (argN m c) (argWo m c) (argWu m c) (argCw m c) (argCb m c) (argWd m c) T n

include f in
/-- **What a grid point writes.** -/
theorem point (t : Fin cfg0.N) (r : Fin 512) (n : Fin 1024) (T : Fin 32768) (hT : T.val = 512 * t.val + r.val) :
    ((outsAt0 m c t.val t.isLt).1 (ix2 r n) : EReal) = argOUT m c T n := by
  have hN : t.val < 64 := lt_of_lt_of_eq t.isLt N_0
  have he : (ix2 r n : S512x1024.Idx) = (Rect.unit (s := S512x1024) ![0, 0] S512x1024.size inb_S512x1024_S512x1024_0_0).emb (ix2 r n) := by
    funext y; apply Fin.ext; fin_cases y
    · show r.val = 0 + 1 * r.val; omega
    · show n.val = 0 + 1 * n.val; omega
  by_cases h0 : t.val % 4 = 0
  · rw [outsAt0_A m c t h0]
    dsimp only
    unfold out0_A_9
    rw [View.read_writes_junk_eq_canon, out_A]
    refine (congrArg (View.canon _) he).trans ((View.canon_cons_emb _ _ _ _).trans ?_)
    exact out_spec _ _ _ _ _ _ _ _ _ _ _ _ _ _ _ _ _ _ _ t.val hN _ _ _ _ _ _ _ _ _ _ _ _ _ _ _ _ _ (reads m c t) _
      (fun p hp a j col hc => zeros_spec _ t.val _ _ _ _ _ h0 _ _ p hp a j col hc) f r n T hT
  · rw [outsAt0_B m c t h0]
    dsimp only
    unfold out0_B_9
    rw [View.read_writes_junk_eq_canon, out_B]
    refine (congrArg (View.canon _) he).trans ((View.canon_cons_emb _ _ _ _).trans ?_)
    refine out_spec _ _ _ _ _ _ _ _ _ _ _ _ _ _ _ _ _ _ _ t.val hN _ _ _ _ _ _ _ _ _ _ _ _ _ _ _ _ _ (reads m c t) _
      (fun p hp a j col hc => ?_) f r n T hT
    have ha := a.isLt
    refine (tlAt_spec _ _ _ p a j col hc).trans ?_
    unfold TL
    rw [if_neg h0, dif_pos (by omega)]
    exact carry m c ⟨t.val - 1, lt_of_le_of_lt (Nat.sub_le _ _) t.isLt⟩ a col _ (by simp only; omega)

include f in
/-- **The whole result.** -/
theorem final (T : Fin 32768) (n : Fin 1024) : ((dats m 0 c).arrAt 9 cfg0.N (ix2 T n) : EReal) = argOUT m c T n := by
  have hT := T.isLt
  obtain ⟨r, hr⟩ : ∃ r : Fin 512, r.val = T.val % 512 := ⟨⟨T.val % 512, Nat.mod_lt _ (by norm_num)⟩, rfl⟩
  obtain ⟨t, ht⟩ : ∃ t : Fin cfg0.N, t.val = T.val / 512 := ⟨⟨T.val / 512, lt_of_lt_of_eq (by omega) N_0.symm⟩, rfl⟩
  refine Eq.trans (b := ((cfg0.win 9).blk t).view.read (Elt Ideal) ((dats m 0 c).arrAt 9 cfg0.N) (ix2 r n)) ?_ ?_
  · show _ = (dats m 0 c).arrAt 9 cfg0.N (((cfg0.win 9).blk t).view.emb (ix2 r n))
    rw [emb9 t r n T (by omega)]
  rw [blocks9 m c t (flush0_9 t), flushed9]
  exact point m c f t r n T (by omega)
end

end Cert.Ffn0

end
-- ==== Proof.Ffn0.Ref.lean ====
/-
  The reference of the fourth call, read as the same sums over the arguments.
-/
module

public import proofs.«01_k».proof.Proof.Ffn0.Layer
public import proofs.«01_k».proof.Proof.Attn.Ref
public import proofs.«01_k».proof.Proof.Gen.Reference4Ideal.Read
public import proofs.«01_k».proof.Proof.Gen.Pre_finite_ffn0
public import Idealize.ShloMosaic.Lib.KernelVsHost

@[expose] public section

set_option maxRecDepth 16384

noncomputable section

namespace Cert.Ffn0

open Cert.Ffn

open Idealize.ShloMosaic Idealize.ShloMosaic.TcCoe Idealize.ShloMosaic.ValueIdx
open Cert.Reference4Ideal Cert.Reference4Ideal.Gen Cert.Reference4Ideal.Read

variable (o o₂ : FVec Ideal S16x2048x512 .f32) (x : FVec Ideal S16x2048x1024 .f32) (nrm : FVec Ideal S2x1024 .f32) (wout : FVec Ideal S1x1024x1024 .f32)
  (wup : FVec Ideal S2x1024x5632 .f32) (cw : FVec Ideal S2x3x5632 .f32) (cb : FVec Ideal S2x5632 .f32) (wdn : FVec Ideal S2x2816x1024 .f32)
variable (b : Fin 16) (s : Fin 2048) (T : Fin 32768) (hT : T.val = 2048 * b.val + s.val)

/-- The reference joins the two halves. -/
theorem ref_cat : val_main_v0 (F := Ideal) o o₂ = cat o o₂ := by
  funext i
  have h2 : (i 2).val < 1024 := (i 2).isLt
  unfold cat val_main_v0
  by_cases h : (i 2).val < 512
  · rw [dif_pos h]
    refine (concatenate_apply_piece (t := S16x2048x1024) 2 _ _ i 0 (by show _ < 2; omega) S16x2048x512 _ rfl rfl 0 rfl
      (ix3 (i 0 : Fin 16) (i 1 : Fin 2048) (⟨(i 2).val, h⟩ : Fin 512)) ?_ ?_)
    · intro a ha; fin_cases a <;> first | rfl | exact absurd rfl ha
    · show 0 + (i 2).val = (i 2).val; omega
  · rw [dif_neg h]
    refine (concatenate_apply_piece (t := S16x2048x1024) 2 _ _ i 1 (by show _ < 2; omega) S16x2048x512 _ rfl rfl 512 rfl
      (ix3 (i 0 : Fin 16) (i 1 : Fin 2048) (⟨(i 2).val - 512, by omega⟩ : Fin 512)) ?_ ?_)
    · intro a ha; fin_cases a <;> first | rfl | exact absurd rfl ha
    · show 512 + ((i 2).val - 512) = (i 2).val; omega

include hT in
theorem ref_x1 (n : Fin 1024) : (val_main_v3 (F := Ideal) o o₂ x wout (ix3 b s n) : EReal) = X1 (flat (cat o o₂)) (flat x) wout T n := by
  have hn := n.isLt
  have hs := s.isLt
  unfold X1
  rw [val_main_v3_apply, val_main_v2_apply, flat_apply x b s T hT n]
  refine congrArg (fun q : EReal => (x (ix3 b s n) : EReal) + q) (Finset.sum_congr rfl fun k _ => ?_)
  have hk := k.isLt
  rw [val_main_v1_apply, flat_apply (cat o o₂) b s T hT k, ref_cat o o₂]
  refine congrArg₂ (fun p q : EReal => p * q) (congrArg (cat o o₂) ?_) (congrArg wout ?_)
  · funext a; fin_cases a <;> rfl
  · funext a; apply Fin.ext; fin_cases a
    · rfl
    · show (k.val * 1024 + n.val) / 1024 % 1024 = k.val; omega
    · show (k.val * 1024 + n.val) % 1024 = n.val; omega

include hT in
theorem ref_hn (k : Fin 1024) : (val_main_v18 (F := Ideal) o o₂ x nrm wout (ix3 b s k) : EReal) = HN (flat (cat o o₂)) (flat x) nrm wout T k := by
  have hk := k.isLt
  unfold HN rms
  rw [val_main_v18_apply, val_main_v15_apply, val_main_v14_apply, val_main_v13_apply, val_main_v12_apply, val_main_v10_apply, val_main_v8_apply,
    val_main_v7_apply, val_main_v9_apply, val_main_v11_apply, val_main_cst_apply, val_main_cst_0_apply, val_main_cst_1_apply,
    val_main_v17_apply, val_main_v16_apply, val_main_v5_apply, val_main_v4_apply, ref_x1 o o₂ x wout b s T hT k]
  have hsum : ∀ i : Fin 1024, (val_main_v6 (F := Ideal) o o₂ x wout (idx_main_v7 (idx_main_v8 (idx_main_v14 (ix3 b s k))) i) : EReal)
      = X1 (flat (cat o o₂)) (flat x) wout T i * X1 (flat (cat o o₂)) (flat x) wout T i := fun i => by
    have e : idx_main_v7 (idx_main_v8 (idx_main_v14 (ix3 b s k))) i = ix3 b s i := by funext a; fin_cases a <;> rfl
    rw [e, val_main_v6_apply, ref_x1 o o₂ x wout b s T hT i]; rfl
  rw [Finset.sum_congr rfl fun i _ => hsum i]
  show X1 (flat (cat o o₂)) (flat x) wout T k * Ideal.rsqrt (Ideal.div (Ideal.ofBits .f32 0x00000000#32 + ∑ i : Fin 1024, X1 (flat (cat o o₂)) (flat x) wout T i * X1 (flat (cat o o₂)) (flat x) wout T i) (Ideal.ofBits .f32 0x44800000#32)
    + Ideal.ofBits .f32 0x358637BD#32) * (nrm _ : EReal) = _
  rw [Ideal.ofBits_zero_f32, zero_add, c1024_eq, Ideal.div_coe (by norm_num)]
  refine congrArg (fun q : EReal => _ * q) (congrArg nrm ?_)
  funext a; apply Fin.ext; fin_cases a
  · rfl
  · show k.val % 1024 = k.val; omega

include hT in
theorem ref_u (col : Fin 5632) : (val_main_v21 (F := Ideal) o o₂ x nrm wout wup (ix3 b s col) : EReal) = U (flat (cat o o₂)) (flat x) nrm wout wup T col := by
  have hc := col.isLt
  unfold U
  rw [val_main_v21_apply]
  refine Finset.sum_congr rfl fun k _ => ?_
  have hk := k.isLt
  rw [val_main_v20_apply, val_main_v19_apply]
  refine congrArg₂ (fun p q : EReal => p * q) ?_ (congrArg wup ?_)
  · have e : lidx_main_v21 (ix3 b s col) k = ix3 b s k := by funext a; fin_cases a <;> rfl
    rw [e]; exact ref_hn o o₂ x nrm wout b s T hT k
  · funext a; apply Fin.ext; fin_cases a
    · rfl
    · show (k.val * 5632 + col.val) / 5632 % 1024 = k.val; omega
    · show (k.val * 5632 + col.val) % 5632 = col.val; omega

include hT in
/-- The padded up-projection at row `s + 2 - k`. -/
theorem ref_pad (k : ℕ) (hk : k ≤ 2) (col : Fin 5632) (y : Fin 2050) (hy : y.val = s.val + 2 - k) :
    (val_main_v26 (F := Ideal) o o₂ x nrm wout wup (ix3 b y col) : EReal) = UB (flat (cat o o₂)) (flat x) nrm wout wup k T col := by
  have hs := s.isLt
  unfold val_main_v26 UB
  by_cases h : k ≤ s.val
  · rw [if_pos (by omega)]
    refine (pad_apply_of_inside _ _ _ _ _ _ _ _ (ix3 b (⟨s.val - k, by omega⟩ : Fin 2048) col) (fun a => ?_)).trans ?_
    · fin_cases a
      · show b.val = 0 + b.val * (0 + 1); omega
      · show y.val = 2 + (s.val - k) * (0 + 1); omega
      · show col.val = 0 + col.val * (0 + 1); omega
    · exact ref_u o o₂ x nrm wout wup b _ _ (by simp only; omega) col
  · rw [if_neg (by omega)]
    refine (pad_apply_of_not_inside _ _ _ _ _ _ _ _ (1 : Fin 3) (fun hin => ?_)).trans ?_
    · have : 2 ≤ y.val := hin.1
      omega
    · rw [val_main_call0_v0_apply, val_main_c_apply]
      show (((0#32 : BitVec 32).toInt : ℝ) : EReal) = 0
      simp

theorem tap_idx (k : Fin 3) (col : Fin 5632) (i : S2x3x5632.Idx) (h0 : (i 0).val = 0) (h1 : (i 1).val = k.val) (h2 : (i 2).val = col.val) :
    i = ix3 (0 : Fin 2) k col := by
  funext a; apply Fin.ext; fin_cases a
  · exact h0
  · exact h1
  · exact h2

include hT in
theorem ref_cv (col : Fin 5632) : (val_main_v49 (F := Ideal) o o₂ x nrm wout wup cw cb (ix3 b s col) : EReal) = CV (flat (cat o o₂)) (flat x) nrm wout wup cw cb T col := by
  have hc := col.isLt
  have hs := s.isLt
  have u2 : (val_main_v27 (F := Ideal) o o₂ x nrm wout wup (ix3 b s col) : EReal) = UB (flat (cat o o₂)) (flat x) nrm wout wup 2 T col := by
    have e : idx_main_v27 (ix3 b s col) = ix3 b (⟨s.val, by omega⟩ : Fin 2050) col := by funext a; fin_cases a <;> rfl
    rw [val_main_v27_apply, e]
    exact ref_pad o o₂ x nrm wout wup b s T hT 2 le_rfl col ⟨s.val, by omega⟩ (by simp only; omega)
  have u1 : (val_main_v36 (F := Ideal) o o₂ x nrm wout wup (ix3 b s col) : EReal) = UB (flat (cat o o₂)) (flat x) nrm wout wup 1 T col := by
    have e : idx_main_v36 (ix3 b s col) = ix3 b (⟨1 + s.val, by omega⟩ : Fin 2050) col := by funext a; fin_cases a <;> rfl
    rw [val_main_v36_apply, e]
    exact ref_pad o o₂ x nrm wout wup b s T hT 1 (by omega) col ⟨1 + s.val, by omega⟩ (by simp only; omega)
  have u0 : (val_main_v43 (F := Ideal) o o₂ x nrm wout wup (ix3 b s col) : EReal) = U (flat (cat o o₂)) (flat x) nrm wout wup T col := by
    have e : idx_main_v43 (ix3 b s col) = ix3 b (⟨2 + s.val, by omega⟩ : Fin 2050) col := by funext a; fin_cases a <;> rfl
    rw [val_main_v43_apply, e]
    refine (ref_pad o o₂ x nrm wout wup b s T hT 0 (by omega) col ⟨2 + s.val, by omega⟩ (by simp only; omega)).trans ?_
    unfold UB
    rw [if_pos (Nat.zero_le _)]; rfl
  have w0 : (val_main_v31 (F := Ideal) cw (ix3 b s col) : EReal) = (cw (ix3 (0 : Fin 2) (0 : Fin 3) col) : EReal) := by
    rw [val_main_v31_apply, val_main_v30_apply, val_main_v29_apply, val_main_v28_apply, val_main_v23_apply, val_main_v22_apply]
    refine congrArg cw (tap_idx _ _ _ rfl ?_ ?_)
    · show (0 * 5632 + col.val % 5632) / 5632 % 3 = 0; omega
    · show (0 * 5632 + col.val % 5632) % 5632 = col.val; omega
  have w1 : (val_main_v40 (F := Ideal) cw (ix3 b s col) : EReal) = (cw (ix3 (0 : Fin 2) (1 : Fin 3) col) : EReal) := by
    rw [val_main_v40_apply, val_main_v39_apply, val_main_v38_apply, val_main_v37_apply, val_main_v23_apply, val_main_v22_apply]
    refine congrArg cw (tap_idx _ _ _ rfl ?_ ?_)
    · show ((1 + 0) * 5632 + col.val % 5632) / 5632 % 3 = 1; omega
    · show ((1 + 0) * 5632 + col.val % 5632) % 5632 = col.val; omega
  have w2 : (val_main_v47 (F := Ideal) cw (ix3 b s col) : EReal) = (cw (ix3 (0 : Fin 2) (2 : Fin 3) col) : EReal) := by
    rw [val_main_v47_apply, val_main_v46_apply, val_main_v45_apply, val_main_v44_apply, val_main_v23_apply, val_main_v22_apply]
    refine congrArg cw (tap_idx _ _ _ rfl ?_ ?_)
    · show ((2 + 0) * 5632 + col.val % 5632) / 5632 % 3 = 2; omega
    · show ((2 + 0) * 5632 + col.val % 5632) % 5632 = col.val; omega
  have hb : (val_main_v34 (F := Ideal) cb (ix3 b s col) : EReal) = (cb (ix2 (0 : Fin 2) col) : EReal) := by
    rw [val_main_v34_apply, val_main_v33_apply, val_main_v25_apply, val_main_v24_apply]
    refine congrArg cb ?_
    funext a; apply Fin.ext; fin_cases a
    · rfl
    · show col.val % 5632 = col.val; omega
  rw [val_main_v49_apply, val_main_v42_apply, val_main_v35_apply, val_main_v32_apply, val_main_v41_apply, val_main_v48_apply, u0, u1, u2, w0, w1, w2, hb]
  unfold CV
  show ((cb (ix2 (0 : Fin 2) col) : EReal) + UB (flat (cat o o₂)) (flat x) nrm wout wup 2 T col * (cw (ix3 (0 : Fin 2) (0 : Fin 3) col) : EReal)
    + UB (flat (cat o o₂)) (flat x) nrm wout wup 1 T col * (cw (ix3 (0 : Fin 2) (1 : Fin 3) col) : EReal)
    + U (flat (cat o o₂)) (flat x) nrm wout wup T col * (cw (ix3 (0 : Fin 2) (2 : Fin 3) col) : EReal)) = _
  rw [mul_comm (UB (flat (cat o o₂)) (flat x) nrm wout wup 2 T col), mul_comm (UB (flat (cat o o₂)) (flat x) nrm wout wup 1 T col), mul_comm (U (flat (cat o o₂)) (flat x) nrm wout wup T col)]
  rw [add_right_comm, add_right_comm (cb (ix2 (0 : Fin 2) col) : EReal), add_right_comm _ _ ((cw (ix3 (0 : Fin 2) (1 : Fin 3) col) : EReal) * _)]

include hT in
theorem ref_act (j : Fin 2816) : (val_main_v53 (F := Ideal) o o₂ x nrm wout wup cw cb (ix3 b s j) : EReal)
    = gateR (CV (flat (cat o o₂)) (flat x) nrm wout wup cw cb T (gcol j)) * CV (flat (cat o o₂)) (flat x) nrm wout wup cw cb T (vcol j) := by
  have g : (val_main_v50 (F := Ideal) o o₂ x nrm wout wup cw cb (ix3 b s j) : EReal) = CV (flat (cat o o₂)) (flat x) nrm wout wup cw cb T (gcol j) := by
    rw [val_main_v50_apply]
    have e : idx_main_v50 (ix3 b s j) = ix3 b s (gcol j) := by funext a; fin_cases a <;> rfl
    rw [e]; exact ref_cv o o₂ x nrm wout wup cw cb b s T hT _
  have v : (val_main_v51 (F := Ideal) o o₂ x nrm wout wup cw cb (ix3 b s j) : EReal) = CV (flat (cat o o₂)) (flat x) nrm wout wup cw cb T (vcol j) := by
    rw [val_main_v51_apply]
    have e : idx_main_v51 (ix3 b s j) = ix3 b s (vcol j) := by funext a; fin_cases a <;> rfl
    rw [e]; exact ref_cv o o₂ x nrm wout wup cw cb b s T hT _
  rw [val_main_v53_apply, val_main_v52_apply, val_main_call1_v5_apply, val_main_call1_v4_apply, val_main_call1_v3_apply, val_main_call1_v2_apply,
    val_main_call1_v1_apply, val_main_call1_v0_apply, val_main_call1_cst_apply, val_main_call1_cst_0_apply, g, v]
  rfl

include hT in
theorem ref_out (n : Fin 1024) : (val_main_v58 (F := Ideal) o o₂ x nrm wout wup cw cb wdn (ix2 T n) : EReal) = OUT (flat (cat o o₂)) (flat x) nrm wout wup cw cb wdn T n := by
  have hn := n.isLt
  have hs := s.isLt
  unfold OUT
  rw [val_main_v58_apply]
  have e : idx_main_v58 (ix2 T n) = ix3 b s n := by
    funext a; apply Fin.ext; fin_cases a
    · show (T.val * 1024 + n.val) / 2097152 = b.val; omega
    · show (T.val * 1024 + n.val) / 1024 % 2048 = s.val; omega
    · show (T.val * 1024 + n.val) % 1024 = n.val; omega
  rw [e, val_main_v57_apply, val_main_v56_apply, ref_x1 o o₂ x wout b s T hT n]
  refine congrArg (fun q : EReal => X1 (flat (cat o o₂)) (flat x) wout T n + q) (Finset.sum_congr rfl fun j _ => ?_)
  have hj := j.isLt
  rw [val_main_v55_apply, val_main_v54_apply]
  refine congrArg₂ (fun p q : EReal => p * q) ?_ (congrArg wdn ?_)
  · have e : lidx_main_v56 (ix3 b s n) j = ix3 b s j := by funext a; fin_cases a <;> rfl
    rw [e]; exact ref_act o o₂ x nrm wout wup cw cb b s T hT j
  · funext a; apply Fin.ext; fin_cases a
    · rfl
    · show (j.val * 1024 + n.val) / 1024 % 2816 = j.val; omega
    · show (j.val * 1024 + n.val) % 1024 = n.val; omega

instance : Subsingleton Cert.Pre_finite_ffn0.S_.Idx := ⟨fun _ _ => funext fun a => a.elim0⟩

/-- The precondition makes the first layer's gains, and the gate's weights, taps and biases, real. -/
theorem finite_ffn0_real (h : Cert.Pre_finite_ffn0.fn (F := Ideal) o o₂ x nrm wout wup cw cb wdn = fun _ => 1#1) : Finite nrm wup cw cb := by
  have h0 := congrFun h (fun a => a.elim0)
  unfold Cert.Pre_finite_ffn0.fn Cert.Pre_finite_ffn0.fn_part1 at h0
  obtain ⟨h1, hb⟩ := Attn.and_one h0
  obtain ⟨h2, hw⟩ := Attn.and_one h1
  obtain ⟨hn, hu⟩ := Attn.and_one h2
  refine ⟨fun k => ?_, fun k j => ?_, fun k j => ?_, fun j => ?_⟩
  · have e := (Attn.real_of_abs_lt (Host.reduce_andi_all _ _ _ _ _ hn (ix1 k))).symm
    refine ⟨_, Eq.trans (Eq.symm ?_) e⟩
    refine (shapeCast_apply _ _ _ (ix2 (0 : Fin 1) k) ?_).trans (extractStridedSlice_apply _ nrm _ _ _ fun a => ?_)
    · rw [Shape.rowMajor_val_two, Shape.rowMajor_val_one]
      show 0 * 1024 + k.val = k.val; omega
    · fin_cases a
      · rfl
      · show k.val = 0 + k.val; omega
  · have e := (Attn.real_of_abs_lt (Host.reduce_andi_all _ _ _ _ _ hu (ix2 k j))).symm
    refine ⟨_, Eq.trans (Eq.symm ?_) e⟩
    refine (shapeCast_apply _ _ _ (ix3 (0 : Fin 1) k j) ?_).trans (extractStridedSlice_apply _ wup _ _ _ fun a => ?_)
    · rw [Shape.rowMajor_val_two, Shape.rowMajor_val_three]
      show (0 * 1024 + k.val) * 2816 + j.val = k.val * 2816 + j.val; omega
    · fin_cases a
      · rfl
      · show k.val = 0 + k.val; omega
      · show j.val = 0 + j.val; omega
  · have e := (Attn.real_of_abs_lt (Host.reduce_andi_all _ _ _ _ _ hw (ix2 k j))).symm
    refine ⟨_, Eq.trans (Eq.symm ?_) e⟩
    refine (shapeCast_apply _ _ _ (ix3 (0 : Fin 1) k j) ?_).trans (extractStridedSlice_apply _ cw _ _ _ fun a => ?_)
    · rw [Shape.rowMajor_val_two, Shape.rowMajor_val_three]
      show (0 * 3 + k.val) * 2816 + j.val = k.val * 2816 + j.val; omega
    · fin_cases a
      · rfl
      · show k.val = 0 + k.val; omega
      · show j.val = 0 + j.val; omega
  · have e := (Attn.real_of_abs_lt (Host.reduce_andi_all _ _ _ _ _ hb (ix1 j))).symm
    refine ⟨_, Eq.trans (Eq.symm ?_) e⟩
    refine (shapeCast_apply _ _ _ (ix2 (0 : Fin 1) j) ?_).trans (extractStridedSlice_apply _ cb _ _ _ fun a => ?_)
    · rw [Shape.rowMajor_val_two, Shape.rowMajor_val_one]
      show 0 * 2816 + j.val = j.val; omega
    · fin_cases a
      · rfl
      · show j.val = 0 + j.val; omega

end Cert.Ffn0

end
-- ==== Proof.Ffn0.Claims.lean ====
/-
  The fourth call's claims: the runs and the value.
-/
module

public import proofs.«01_k».proof.Defs
public import proofs.«01_k».proof.Proof.Ffn0.Final
public import proofs.«01_k».proof.Proof.Ffn0.Ref
public import proofs.«01_k».proof.Proof.Gen.Kernel4
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Ffn0

open Idealize.ShloMosaic Idealize.ShloMosaic.TcCoe Idealize.ShloMosaic.ValueIdx Idealize.SL.Sem

theorem frame_kernel : Cert.quiescent_Kernel4 := fun m g _ => Cert.Kernel4.Gen.frame m g

theorem frame_ideal : Cert.quiescent_Kernel4Ideal := fun m g _ => Cert.Kernel4Ideal.Gen.frame m g

theorem frame_ideal_finite : Cert.quiescent_Kernel4Ideal_pre_finite_ffn0 := fun m g _ => Cert.Kernel4Ideal.Gen.frame m g

/-- The reference declares no semaphore, so its counters read zero. -/
theorem frame_reference : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

theorem frame_reference_finite : Cert.quiescent_Reference4Ideal_pre_finite_ffn0 := fun m g _ => frame_reference m g trivial

/-- Nothing is rewritten. -/
theorem same_program : Cert.preserves_Kernel4_Kernel4Ideal := trivial

/-- **The value**: from finite gains, and finite gate weights, taps and biases, the call's result is the reference's. -/
theorem value : Cert.algebraic_Kernel4Ideal_Reference4Ideal_pre_finite_ffn0 := by
  intro m g m' g' hpre hag
  refine ⟨fun c => Cert.Reference4Ideal.Read.val_main_v58 (F := Ideal) (argA3 m c) (argB3 m c) (argX3 m c) (argN m c) (argWo m c) (argWu m c)
    (argCw m c) (argCb m c) (argWd m c), ?_, ?_⟩
  · refine (θ_run Cert.Kernel4Ideal.defs _ _).mono (fun r h c => ⟨(h c).1.trans ?_, (h c).2⟩) (Cert.Kernel4Ideal.Value.run_blocks m g)
    have f := finite_ffn0_real _ _ _ _ _ _ _ _ _ (hpre c)
    funext i
    obtain ⟨T, n, rfl⟩ : ∃ (T : Fin 32768) (n : Fin 1024), i = ix2 T n := ⟨i 0, i 1, by funext a; fin_cases a <;> rfl⟩
    refine (final m c f T n).trans (Eq.symm ?_)
    exact ref_out _ _ _ _ _ _ _ _ _ (⟨T.val / 2048, by omega⟩ : Fin 16) (⟨T.val % 2048, by omega⟩ : Fin 2048) T (by simp only; omega) n
  · refine (θ_run Cert.Reference4Ideal.defs _ _).mono (fun r h c => ⟨(h c).1.trans ?_, (h c).2⟩) (Cert.Reference4Ideal.Value.run m' g')
    obtain ⟨h0, h1, h2, h3, h4, h5, h6, h7, h8⟩ := hag c
    rw [Cert.Reference4Ideal.Read.val_main_v58_eq, h0, h1, h2, h3, h4, h5, h6, h7, h8]

end Cert.Ffn0

end
-- ==== Proof.lean ====
module

public import proofs.«01_k».proof.Defs
public import proofs.«01_k».proof.Proof.Attn.Claims
public import proofs.«01_k».proof.Proof.Ffn.Claims
public import proofs.«01_k».proof.Proof.Proj.Claims
public import proofs.«01_k».proof.Proof.Ffn0.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_qk.Gen.facts, Cert.Pre_finite_ffn.Gen.facts, Cert.Pre_finite_ffn0.Gen.facts,
    Cert.Attn.frame_kernel, Cert.Attn.frame_ideal, Cert.Attn.frame_ideal_finite,
    Cert.Attn.frame_reference, Cert.Attn.frame_reference_finite,
    Cert.Ffn.frame_kernel, Cert.Ffn.frame_ideal, Cert.Ffn.frame_ideal_finite,
    Cert.Ffn.frame_reference, Cert.Ffn.frame_reference_finite,
    Cert.Proj.frame_kernel, Cert.Proj.frame_ideal, Cert.Proj.frame_reference,
    Cert.Ffn0.frame_kernel, Cert.Ffn0.frame_ideal, Cert.Ffn0.frame_ideal_finite,
    Cert.Ffn0.frame_reference, Cert.Ffn0.frame_reference_finite,
    Cert.Attn.mask_named, Cert.Attn.value, Cert.Ffn.same_program, Cert.Ffn.value,
    Cert.Proj.inv_named, Cert.Proj.value,
    Cert.Ffn0.same_program, Cert.Ffn0.value⟩

end Cert.Proof

end
